-- ==== Defs.lean ====
def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_finite_sample [hPre_finite_sample : Cert.Pre_finite_sample.Facts] (m : (ℓ : Loc Cert.PreIdeal.nD Cert.PreIdeal.τ Cert.PreIdeal.sig) → Buf (Elt Ideal) ℓ) : Prop :=
  ∀ c : Dev Cert.PreIdeal.nD,
    (Cert.Pre_finite_sample.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).1 = (fun _ => 1#1)
    ∧ (Cert.Pre_finite_sample.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2 = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_finite_sample [hPre_finite_sample : Cert.Pre_finite_sample.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_finite_sample.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6))).1 = (fun _ => 1#1)
    ∧ (Cert.Pre_finite_sample.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_finite_args [hPre_finite_args : Cert.Pre_finite_args.Facts] (m : (ℓ : Loc Cert.KvIdeal.nD Cert.KvIdeal.τ Cert.KvIdeal.sig) → Buf (Elt Ideal) ℓ) : Prop :=
  ∀ c : Dev Cert.KvIdeal.nD,
    (Cert.Pre_finite_args.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7))).1 = (fun _ => 1#1)
    ∧ (Cert.Pre_finite_args.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7))).2.1 = (fun _ => 1#1)
    ∧ (Cert.Pre_finite_args.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7))).2.2.1 = (fun _ => 1#1)
    ∧ (Cert.Pre_finite_args.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4)) (m ((c.tc : Thread Cert.KvIdeal.nD Cert.KvIdeal.τ).loc Cert.KvIdeal.main_arg5)) (m ((c.tc : Thread Cert.KvIdeal.nD Cert.KvIdeal.τ).loc Cert.KvIdeal.main_arg6)) (m ((c.tc : Thread Cert.KvIdeal.nD Cert.KvIdeal.τ).loc Cert.KvIdeal.main_arg7))).2.2.2 = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_finite_args [hPre_finite_args : Cert.Pre_finite_args.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_finite_args.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7))).1 = (fun _ => 1#1)
    ∧ (Cert.Pre_finite_args.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7))).2.1 = (fun _ => 1#1)
    ∧ (Cert.Pre_finite_args.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7))).2.2.1 = (fun _ => 1#1)
    ∧ (Cert.Pre_finite_args.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6)) (m ((c.tc : Thread Cert.KvRefIdeal.nD Cert.KvRefIdeal.τ).loc Cert.KvRefIdeal.main_arg7))).2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3)
      ∧ r.2.mem ((c.tc : Thread Cert.Nsa.nD Cert.Nsa.τ).loc Cert.Nsa.main_arg4) = m ((c.tc : Thread Cert.Nsa.nD Cert.Nsa.τ).loc Cert.Nsa.main_arg4)
      ∧ r.2.mem ((c.tc : Thread Cert.Nsa.nD Cert.Nsa.τ).loc Cert.Nsa.main_arg5) = m ((c.tc : Thread Cert.Nsa.nD Cert.Nsa.τ).loc Cert.Nsa.main_arg5)
      ∧ r.2.mem ((c.tc : Thread Cert.Nsa.nD Cert.Nsa.τ).loc Cert.Nsa.main_arg6) = m ((c.tc : Thread Cert.Nsa.nD Cert.Nsa.τ).loc Cert.Nsa.main_arg6))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3)
      ∧ r.2.mem ((c.tc : Thread Cert.NsaIdeal.nD Cert.NsaIdeal.τ).loc Cert.NsaIdeal.main_arg4) = m ((c.tc : Thread Cert.NsaIdeal.nD Cert.NsaIdeal.τ).loc Cert.NsaIdeal.main_arg4)
      ∧ r.2.mem ((c.tc : Thread Cert.NsaIdeal.nD Cert.NsaIdeal.τ).loc Cert.NsaIdeal.main_arg5) = m ((c.tc : Thread Cert.NsaIdeal.nD Cert.NsaIdeal.τ).loc Cert.NsaIdeal.main_arg5)
      ∧ r.2.mem ((c.tc : Thread Cert.NsaIdeal.nD Cert.NsaIdeal.τ).loc Cert.NsaIdeal.main_arg6) = m ((c.tc : Thread Cert.NsaIdeal.nD Cert.NsaIdeal.τ).loc Cert.NsaIdeal.main_arg6))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreIdeal_pre_finite_sample [hPreIdeal : Cert.PreIdeal.Facts] [hPre_finite_sample : Cert.Pre_finite_sample.Facts] : Prop :=
  ∀ (m : (ℓ : Loc Cert.PreIdeal.nD Cert.PreIdeal.τ Cert.PreIdeal.sig) → Buf (Elt Ideal) ℓ) (g : Dev Cert.PreIdeal.nD → PrngReg), Pre_PreIdeal_finite_sample m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_PreRefIdeal_pre_finite_sample [hPreRefIdeal : Cert.PreRefIdeal.Facts] [hPre_finite_sample : Cert.Pre_finite_sample.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_finite_sample m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5)
      ∧ r.2.mem ((c.tc : Thread Cert.Kv.nD Cert.Kv.τ).loc Cert.Kv.main_arg6) = m ((c.tc : Thread Cert.Kv.nD Cert.Kv.τ).loc Cert.Kv.main_arg6)
      ∧ r.2.mem ((c.tc : Thread Cert.Kv.nD Cert.Kv.τ).loc Cert.Kv.main_arg7) = m ((c.tc : Thread Cert.Kv.nD Cert.Kv.τ).loc Cert.Kv.main_arg7))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7))
      ∧ r.2.sem = fun _ => 0)

def quiescent_KvIdeal_pre_finite_args [hKvIdeal : Cert.KvIdeal.Facts] [hPre_finite_args : Cert.Pre_finite_args.Facts] : Prop :=
  ∀ (m : (ℓ : Loc Cert.KvIdeal.nD Cert.KvIdeal.τ Cert.KvIdeal.sig) → Buf (Elt Ideal) ℓ) (g : Dev Cert.KvIdeal.nD → PrngReg), Pre_KvIdeal_finite_args m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
      ∧ r.2.mem ((c.tc : Thread Cert.KvIdeal.nD Cert.KvIdeal.τ).loc Cert.KvIdeal.main_arg7) = m ((c.tc : Thread Cert.KvIdeal.nD Cert.KvIdeal.τ).loc Cert.KvIdeal.main_arg7))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7))
      ∧ r.2.sem = fun _ => 0)

def quiescent_KvRefIdeal_pre_finite_args [hKvRefIdeal : Cert.KvRefIdeal.Facts] [hPre_finite_args : Cert.Pre_finite_args.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_finite_args m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6)
      ∧ r.2.mem ((c.tc : Thread Cert.KvRefIdeal.nD Cert.KvRefIdeal.τ).loc Cert.KvRefIdeal.main_arg7) = m ((c.tc : Thread Cert.KvRefIdeal.nD Cert.KvRefIdeal.τ).loc Cert.KvRefIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Nsa_NsaIdeal : Prop :=
  True

def preserves_Pre_PreIdeal : Prop :=
  True

def algebraic_PreIdeal_PreRefIdeal_pre_finite_sample [hPreIdeal : Cert.PreIdeal.Facts] [hPreRefIdeal : Cert.PreRefIdeal.Facts] [hPre_finite_sample : Cert.Pre_finite_sample.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal_finite_sample m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v8_0)) (v1 : (c : Dev Cert.PreIdeal.nD) → Buf (Elt Ideal) ((c.tc : Thread Cert.PreIdeal.nD Cert.PreIdeal.τ).loc Cert.PreIdeal.main_v8_1)) (v2 : (c : Dev Cert.PreIdeal.nD) → Buf (Elt Ideal) ((c.tc : Thread Cert.PreIdeal.nD Cert.PreIdeal.τ).loc Cert.PreIdeal.main_v8_2)) (v3 : (c : Dev Cert.PreIdeal.nD) → Buf (Elt Ideal) ((c.tc : Thread Cert.PreIdeal.nD Cert.PreIdeal.τ).loc Cert.PreIdeal.main_v8_3)) (v4 : (c : Dev Cert.PreIdeal.nD) → Buf (Elt Ideal) ((c.tc : Thread Cert.PreIdeal.nD Cert.PreIdeal.τ).loc Cert.PreIdeal.main_v8_4)) (v5 : (c : Dev Cert.PreIdeal.nD) → Buf (Elt Ideal) ((c.tc : Thread Cert.PreIdeal.nD Cert.PreIdeal.τ).loc Cert.PreIdeal.main_v8_5)) (v6 : (c : Dev Cert.PreIdeal.nD) → Buf (Elt Ideal) ((c.tc : Thread Cert.PreIdeal.nD Cert.PreIdeal.τ).loc Cert.PreIdeal.main_v8_6)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v8_0) = v0 c
          ∧ r.2.mem ((c.tc : Thread Cert.PreIdeal.nD Cert.PreIdeal.τ).loc Cert.PreIdeal.main_v8_1) = v1 c
          ∧ r.2.mem ((c.tc : Thread Cert.PreIdeal.nD Cert.PreIdeal.τ).loc Cert.PreIdeal.main_v8_2) = v2 c
          ∧ r.2.mem ((c.tc : Thread Cert.PreIdeal.nD Cert.PreIdeal.τ).loc Cert.PreIdeal.main_v8_3) = v3 c
          ∧ r.2.mem ((c.tc : Thread Cert.PreIdeal.nD Cert.PreIdeal.τ).loc Cert.PreIdeal.main_v8_4) = v4 c
          ∧ r.2.mem ((c.tc : Thread Cert.PreIdeal.nD Cert.PreIdeal.τ).loc Cert.PreIdeal.main_v8_5) = v5 c
          ∧ r.2.mem ((c.tc : Thread Cert.PreIdeal.nD Cert.PreIdeal.τ).loc Cert.PreIdeal.main_v8_6) = v6 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v161) = v0 c
          ∧ r.2.mem ((c.tc : Thread Cert.PreRefIdeal.nD Cert.PreRefIdeal.τ).loc Cert.PreRefIdeal.main_v162) = v1 c
          ∧ r.2.mem ((c.tc : Thread Cert.PreRefIdeal.nD Cert.PreRefIdeal.τ).loc Cert.PreRefIdeal.main_v167) = v2 c
          ∧ r.2.mem ((c.tc : Thread Cert.PreRefIdeal.nD Cert.PreRefIdeal.τ).loc Cert.PreRefIdeal.main_v168) = v3 c
          ∧ r.2.mem ((c.tc : Thread Cert.PreRefIdeal.nD Cert.PreRefIdeal.τ).loc Cert.PreRefIdeal.main_v170) = v4 c
          ∧ r.2.mem ((c.tc : Thread Cert.PreRefIdeal.nD Cert.PreRefIdeal.τ).loc Cert.PreRefIdeal.main_v171) = v5 c
          ∧ r.2.mem ((c.tc : Thread Cert.PreRefIdeal.nD Cert.PreRefIdeal.τ).loc Cert.PreRefIdeal.main_v152) = v6 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)) (v3 : (c : Dev Cert.ProjIdeal.nD) → Buf (Elt Ideal) ((c.tc : Thread Cert.ProjIdeal.nD Cert.ProjIdeal.τ).loc Cert.ProjIdeal.main_v15_3)) (v4 : (c : Dev Cert.ProjIdeal.nD) → Buf (Elt Ideal) ((c.tc : Thread Cert.ProjIdeal.nD Cert.ProjIdeal.τ).loc Cert.ProjIdeal.main_v15_4)) (v5 : (c : Dev Cert.ProjIdeal.nD) → Buf (Elt Ideal) ((c.tc : Thread Cert.ProjIdeal.nD Cert.ProjIdeal.τ).loc Cert.ProjIdeal.main_v15_5)) (v6 : (c : Dev Cert.ProjIdeal.nD) → Buf (Elt Ideal) ((c.tc : Thread Cert.ProjIdeal.nD Cert.ProjIdeal.τ).loc Cert.ProjIdeal.main_v15_6)) (v7 : (c : Dev Cert.ProjIdeal.nD) → Buf (Elt Ideal) ((c.tc : Thread Cert.ProjIdeal.nD Cert.ProjIdeal.τ).loc Cert.ProjIdeal.main_v15_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_v15_3) = v3 c
          ∧ r.2.mem ((c.tc : Thread Cert.ProjIdeal.nD Cert.ProjIdeal.τ).loc Cert.ProjIdeal.main_v15_4) = v4 c
          ∧ r.2.mem ((c.tc : Thread Cert.ProjIdeal.nD Cert.ProjIdeal.τ).loc Cert.ProjIdeal.main_v15_5) = v5 c
          ∧ r.2.mem ((c.tc : Thread Cert.ProjIdeal.nD Cert.ProjIdeal.τ).loc Cert.ProjIdeal.main_v15_6) = v6 c
          ∧ r.2.mem ((c.tc : Thread Cert.ProjIdeal.nD Cert.ProjIdeal.τ).loc Cert.ProjIdeal.main_v15_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v76) = v0 c
          ∧ r.2.mem ((c.tc : Thread Cert.ProjRefIdeal.nD Cert.ProjRefIdeal.τ).loc Cert.ProjRefIdeal.main_v100) = v1 c
          ∧ r.2.mem ((c.tc : Thread Cert.ProjRefIdeal.nD Cert.ProjRefIdeal.τ).loc Cert.ProjRefIdeal.main_v108) = v2 c
          ∧ r.2.mem ((c.tc : Thread Cert.ProjRefIdeal.nD Cert.ProjRefIdeal.τ).loc Cert.ProjRefIdeal.main_v110) = v3 c
          ∧ r.2.mem ((c.tc : Thread Cert.ProjRefIdeal.nD Cert.ProjRefIdeal.τ).loc Cert.ProjRefIdeal.main_v112) = v4 c
          ∧ r.2.mem ((c.tc : Thread Cert.ProjRefIdeal.nD Cert.ProjRefIdeal.τ).loc Cert.ProjRefIdeal.main_v113) = v5 c
          ∧ r.2.mem ((c.tc : Thread Cert.ProjRefIdeal.nD Cert.ProjRefIdeal.τ).loc Cert.ProjRefIdeal.main_v115) = v6 c
          ∧ r.2.mem ((c.tc : Thread Cert.ProjRefIdeal.nD Cert.ProjRefIdeal.τ).loc Cert.ProjRefIdeal.main_v118) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_v39) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)) →
    ∃ (v0 : (c : Dev Cert.MkvIdeal.nD) → Buf (Elt Ideal) ((c.tc : Thread Cert.MkvIdeal.nD Cert.MkvIdeal.τ).loc Cert.MkvIdeal.main_v4)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v4) = v0 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v16) = v0 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2))

def preserves_Kv_KvIdeal : Prop :=
  True

def algebraic_KvIdeal_KvRefIdeal_pre_finite_args [hKvIdeal : Cert.KvIdeal.Facts] [hKvRefIdeal : Cert.KvRefIdeal.Facts] [hPre_finite_args : Cert.Pre_finite_args.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_finite_args m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)
      ∧ m' ((c.tc : Thread Cert.KvRefIdeal.nD Cert.KvRefIdeal.τ).loc Cert.KvRefIdeal.main_arg6) = m ((c.tc : Thread Cert.KvIdeal.nD Cert.KvIdeal.τ).loc Cert.KvIdeal.main_arg6)
      ∧ m' ((c.tc : Thread Cert.KvRefIdeal.nD Cert.KvRefIdeal.τ).loc Cert.KvRefIdeal.main_arg7) = m ((c.tc : Thread Cert.KvIdeal.nD Cert.KvIdeal.τ).loc Cert.KvIdeal.main_arg7)) →
    ∃ (v0 : (c : Dev Cert.KvIdeal.nD) → Buf (Elt Ideal) ((c.tc : Thread Cert.KvIdeal.nD Cert.KvIdeal.τ).loc Cert.KvIdeal.main_v23_0)) (v1 : (c : Dev Cert.KvIdeal.nD) → Buf (Elt Ideal) ((c.tc : Thread Cert.KvIdeal.nD Cert.KvIdeal.τ).loc Cert.KvIdeal.main_v23_1)) (v2 : (c : Dev Cert.KvIdeal.nD) → Buf (Elt Ideal) ((c.tc : Thread Cert.KvIdeal.nD Cert.KvIdeal.τ).loc Cert.KvIdeal.main_v23_2)) (v3 : (c : Dev Cert.KvIdeal.nD) → Buf (Elt Ideal) ((c.tc : Thread Cert.KvIdeal.nD Cert.KvIdeal.τ).loc Cert.KvIdeal.main_v23_3)) (v4 : (c : Dev Cert.KvIdeal.nD) → Buf (Elt Ideal) ((c.tc : Thread Cert.KvIdeal.nD Cert.KvIdeal.τ).loc Cert.KvIdeal.main_v23_4)) (v5 : (c : Dev Cert.KvIdeal.nD) → Buf (Elt Ideal) ((c.tc : Thread Cert.KvIdeal.nD Cert.KvIdeal.τ).loc Cert.KvIdeal.main_v23_5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v23_0) = v0 c
          ∧ r.2.mem ((c.tc : Thread Cert.KvIdeal.nD Cert.KvIdeal.τ).loc Cert.KvIdeal.main_v23_1) = v1 c
          ∧ r.2.mem ((c.tc : Thread Cert.KvIdeal.nD Cert.KvIdeal.τ).loc Cert.KvIdeal.main_v23_2) = v2 c
          ∧ r.2.mem ((c.tc : Thread Cert.KvIdeal.nD Cert.KvIdeal.τ).loc Cert.KvIdeal.main_v23_3) = v3 c
          ∧ r.2.mem ((c.tc : Thread Cert.KvIdeal.nD Cert.KvIdeal.τ).loc Cert.KvIdeal.main_v23_4) = v4 c
          ∧ r.2.mem ((c.tc : Thread Cert.KvIdeal.nD Cert.KvIdeal.τ).loc Cert.KvIdeal.main_v23_5) = v5 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
          ∧ r.2.mem ((c.tc : Thread Cert.KvIdeal.nD Cert.KvIdeal.τ).loc Cert.KvIdeal.main_arg6) = m ((c.tc : Thread Cert.KvIdeal.nD Cert.KvIdeal.τ).loc Cert.KvIdeal.main_arg6)
          ∧ r.2.mem ((c.tc : Thread Cert.KvIdeal.nD Cert.KvIdeal.τ).loc Cert.KvIdeal.main_arg7) = m ((c.tc : Thread Cert.KvIdeal.nD Cert.KvIdeal.τ).loc Cert.KvIdeal.main_arg7))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v145) = v0 c
          ∧ r.2.mem ((c.tc : Thread Cert.KvRefIdeal.nD Cert.KvRefIdeal.τ).loc Cert.KvRefIdeal.main_v147) = v1 c
          ∧ r.2.mem ((c.tc : Thread Cert.KvRefIdeal.nD Cert.KvRefIdeal.τ).loc Cert.KvRefIdeal.main_v149) = v2 c
          ∧ r.2.mem ((c.tc : Thread Cert.KvRefIdeal.nD Cert.KvRefIdeal.τ).loc Cert.KvRefIdeal.main_v150) = v3 c
          ∧ r.2.mem ((c.tc : Thread Cert.KvRefIdeal.nD Cert.KvRefIdeal.τ).loc Cert.KvRefIdeal.main_v152) = v4 c
          ∧ r.2.mem ((c.tc : Thread Cert.KvRefIdeal.nD Cert.KvRefIdeal.τ).loc Cert.KvRefIdeal.main_v154) = v5 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6)
          ∧ r.2.mem ((c.tc : Thread Cert.KvRefIdeal.nD Cert.KvRefIdeal.τ).loc Cert.KvRefIdeal.main_arg7) = m' ((c.tc : Thread Cert.KvRefIdeal.nD Cert.KvRefIdeal.τ).loc Cert.KvRefIdeal.main_arg7))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v36) = v0 c
          ∧ r.2.mem ((c.tc : Thread Cert.ConvRefIdeal.nD Cert.ConvRefIdeal.τ).loc Cert.ConvRefIdeal.main_v37) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hNsa : Cert.Nsa.Facts) (hNsaIdeal : Cert.NsaIdeal.Facts) (hPre : Cert.Pre.Facts) (hPreIdeal : Cert.PreIdeal.Facts) (hPreRefIdeal : Cert.PreRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hMkv : Cert.Mkv.Facts) (hMkvIdeal : Cert.MkvIdeal.Facts) (hMkvRefIdeal : Cert.MkvRefIdeal.Facts) (hKv : Cert.Kv.Facts) (hKvIdeal : Cert.KvIdeal.Facts) (hKvRefIdeal : Cert.KvRefIdeal.Facts) (hConv : Cert.Conv.Facts) (hConvIdeal : Cert.ConvIdeal.Facts) (hConvRefIdeal : Cert.ConvRefIdeal.Facts) (hPre_finite_sample : Cert.Pre_finite_sample.Facts) (hPre_finite_args : Cert.Pre_finite_args.Facts),
    quiescent_Nsa (hNsa := hNsa)
    ∧ quiescent_NsaIdeal (hNsaIdeal := hNsaIdeal)
    ∧ quiescent_Pre (hPre := hPre)
    ∧ quiescent_PreIdeal (hPreIdeal := hPreIdeal)
    ∧ quiescent_PreIdeal_pre_finite_sample (hPreIdeal := hPreIdeal) (hPre_finite_sample := hPre_finite_sample)
    ∧ quiescent_PreRefIdeal (hPreRefIdeal := hPreRefIdeal)
    ∧ quiescent_PreRefIdeal_pre_finite_sample (hPreRefIdeal := hPreRefIdeal) (hPre_finite_sample := hPre_finite_sample)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Mkv (hMkv := hMkv)
    ∧ quiescent_MkvIdeal (hMkvIdeal := hMkvIdeal)
    ∧ quiescent_MkvRefIdeal (hMkvRefIdeal := hMkvRefIdeal)
    ∧ quiescent_Kv (hKv := hKv)
    ∧ quiescent_KvIdeal (hKvIdeal := hKvIdeal)
    ∧ quiescent_KvIdeal_pre_finite_args (hKvIdeal := hKvIdeal) (hPre_finite_args := hPre_finite_args)
    ∧ quiescent_KvRefIdeal (hKvRefIdeal := hKvRefIdeal)
    ∧ quiescent_KvRefIdeal_pre_finite_args (hKvRefIdeal := hKvRefIdeal) (hPre_finite_args := hPre_finite_args)
    ∧ quiescent_Conv (hConv := hConv)
    ∧ quiescent_ConvIdeal (hConvIdeal := hConvIdeal)
    ∧ quiescent_ConvRefIdeal (hConvRefIdeal := hConvRefIdeal)
    ∧ preserves_Nsa_NsaIdeal
    ∧ preserves_Pre_PreIdeal
    ∧ algebraic_PreIdeal_PreRefIdeal_pre_finite_sample (hPreIdeal := hPreIdeal) (hPreRefIdeal := hPreRefIdeal) (hPre_finite_sample := hPre_finite_sample)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Mkv_MkvIdeal
    ∧ algebraic_MkvIdeal_MkvRefIdeal (hMkvIdeal := hMkvIdeal) (hMkvRefIdeal := hMkvRefIdeal)
    ∧ preserves_Kv_KvIdeal
    ∧ algebraic_KvIdeal_KvRefIdeal_pre_finite_args (hKvIdeal := hKvIdeal) (hKvRefIdeal := hKvRefIdeal) (hPre_finite_args := hPre_finite_args)
    ∧ preserves_Conv_ConvIdeal
    ∧ algebraic_ConvIdeal_ConvRefIdeal (hConvIdeal := hConvIdeal) (hConvRefIdeal := hConvRefIdeal)
-- ==== Pre_finite_args.lean ====
abbrev S4x2048x2048 : Shape := ⟨3, ![4, 2048, 2048]⟩
abbrev S8x4x2048 : Shape := ⟨3, ![8, 4, 2048]⟩
abbrev S1x2048 : Shape := ⟨2, ![1, 2048]⟩
abbrev S1x2048x6680 : Shape := ⟨3, ![1, 2048, 6680]⟩
abbrev S1x2x64x128 : Shape := ⟨4, ![1, 2, 64, 128]⟩
abbrev S2048x16 : Shape := ⟨2, ![2048, 16]⟩
abbrev S4x2048x128 : Shape := ⟨3, ![4, 2048, 128]⟩
abbrev S_ : Shape := ⟨0, ![]⟩

class Facts : Prop where
  bcast_S_S4x2048x2048 : S_.BroadcastsInDim S4x2048x2048 (![] : Fin 0 → Fin S4x2048x2048.rank)
  bcast_S_S1x2048 : S_.BroadcastsInDim S1x2048 (![] : Fin 0 → Fin S1x2048.rank)
  bcast_S_S1x2048x6680 : S_.BroadcastsInDim S1x2048x6680 (![] : Fin 0 → Fin S1x2048x6680.rank)
  bcast_S_S4x2048x128 : S_.BroadcastsInDim S4x2048x128 (![] : Fin 0 → Fin S4x2048x128.rank)

variable [Facts]

def fn {F : FTy → Type} [FloatOps F] (main_arg0 : FVec F S4x2048x2048 .f32) (main_arg1 : FVec F S8x4x2048 .f32) (main_arg2 : FVec F S1x2048 .f32) (main_arg3 : FVec F S1x2048x6680 .f32) (main_arg4 : FVec F S1x2x64x128 .f32) (main_arg5 : FVec F S2048x16 .f32) (main_arg6 : FVec F S2048x16 .f32) (main_arg7 : FVec F S4x2048x128 .f32) : IVec S4x2048x2048 1 × IVec S1x2048 1 × IVec S1x2048x6680 1 × IVec S4x2048x128 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S1x2048 .f32 := Host.absf main_arg2
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x6680 .f32 := Host.absf main_arg3
  let main_cst_1 : FVec F S_ .f32 := constant S_ .f32 0x7F800000#32
  let main_v7 : FVec F S1x2048x6680 .f32 := broadcastInDim S1x2048x6680 ![] bcast_S_S1x2048x6680 main_cst_1
  let main_v8 : IVec S1x2048x6680 1 := cmpf .olt main_v6 main_v7
  let main_v9 : FVec F S4x2048x128 .f32 := Host.absf main_arg7
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  (main_v2, main_v5, main_v8, main_v11)
-- ==== Pre_finite_sample.lean ====
abbrev S8x8x4096 : Shape := ⟨3, ![8, 8, 4096]⟩
abbrev S8x8x2560 : Shape := ⟨3, ![8, 8, 2560]⟩
abbrev S8x8x128 : Shape := ⟨3, ![8, 8, 128]⟩
abbrev S8x16 : Shape := ⟨2, ![8, 16]⟩
abbrev S8x2x256x128 : Shape := ⟨4, ![8, 2, 256, 128]⟩
abbrev S_ : Shape := ⟨0, ![]⟩

class Facts : Prop where
  bcast_S_S8x8x4096 : S_.BroadcastsInDim S8x8x4096 (![] : Fin 0 → Fin S8x8x4096.rank)
  bitsLt_bf16_f32 : FTy.bits .bf16 < FTy.bits .f32
  bcast_S_S8x2x256x128 : S_.BroadcastsInDim S8x2x256x128 (![] : Fin 0 → Fin S8x2x256x128.rank)

variable [Facts]

def fn {F : FTy → Type} [FloatOps F] (main_arg0 : FVec F S8x8x4096 .f32) (main_arg1 : FVec F S8x8x2560 .f32) (main_arg2 : FVec F S8x8x128 .f32) (main_arg3 : FVec F S8x16 .f32) (main_arg4 : FVec F S8x16 .f32) (main_arg5 : FVec F S8x2x256x128 .bf16) (main_arg6 : FVec F S8x2x256x128 .bf16) : IVec S8x8x4096 1 × IVec S8x2x256x128 1 :=
  let main_v0 : FVec F S8x8x4096 .f32 := Host.absf main_arg0
  let main_cst : FVec F S_ .f32 := constant S_ .f32 0x7F800000#32
  let main_v1 : FVec F S8x8x4096 .f32 := broadcastInDim S8x8x4096 ![] bcast_S_S8x8x4096 main_cst
  let main_v2 : IVec S8x8x4096 1 := cmpf .olt main_v0 main_v1
  let main_v3 : FVec F S8x2x256x128 .f32 := (extf .f32 · bitsLt_bf16_f32) main_arg5
  let main_v4 : FVec F S8x2x256x128 .f32 := Host.absf main_v3
  let main_cst_0 : FVec F S_ .f32 := constant S_ .f32 0x7F800000#32
  let main_v5 : FVec F S8x2x256x128 .f32 := broadcastInDim S8x2x256x128 ![] bcast_S_S8x2x256x128 main_cst_0
  let main_v6 : IVec S8x2x256x128 1 := cmpf .olt main_v4 main_v5
  (main_v2, main_v6)
-- ==== Nsa.lean ====
abbrev S4x2048x1024 : Shape := ⟨3, ![4, 2048, 1024]⟩
abbrev S4x2048x128 : Shape := ⟨3, ![4, 2048, 128]⟩
abbrev S4x2x128x128 : Shape := ⟨4, ![4, 2, 128, 128]⟩
abbrev S1x256x512 : Shape := ⟨3, ![1, 256, 512]⟩
abbrev S1x256x128 : Shape := ⟨3, ![1, 256, 128]⟩
abbrev S1x2048x128 : Shape := ⟨3, ![1, 2048, 128]⟩
abbrev S1x1x128x128 : Shape := ⟨4, ![1, 1, 128, 128]⟩
abbrev S1024x128 : Shape := ⟨2, ![1024, 128]⟩
abbrev S1024x256 : Shape := ⟨2, ![1024, 256]⟩
abbrev S1024x512 : Shape := ⟨2, ![1024, 512]⟩
abbrev S256x512 : Shape := ⟨2, ![256, 512]⟩
abbrev S1024x768 : Shape := ⟨2, ![1024, 768]⟩
abbrev S256x768 : Shape := ⟨2, ![256, 768]⟩
abbrev S256x128 : Shape := ⟨2, ![256, 128]⟩
abbrev S1x768x128 : Shape := ⟨3, ![1, 768, 128]⟩
abbrev S768x128 : Shape := ⟨2, ![768, 128]⟩
abbrev S64x768 : Shape := ⟨2, ![64, 768]⟩
abbrev S64x128 : Shape := ⟨2, ![64, 128]⟩
abbrev S64 : Shape := ⟨1, ![64]⟩
abbrev S64x1 : Shape := ⟨2, ![64, 1]⟩
abbrev S128x128 : Shape := ⟨2, ![128, 128]⟩
abbrev S256 : Shape := ⟨1, ![256]⟩
abbrev S256x1 : Shape := ⟨2, ![256, 1]⟩
abbrev S128x256 : Shape := ⟨2, ![128, 256]⟩
abbrev S32x256 : Shape := ⟨2, ![32, 256]⟩
abbrev S1x256 : Shape := ⟨2, ![1, 256]⟩
abbrev S96x256 : Shape := ⟨2, ![96, 256]⟩
abbrev S1x512x128 : Shape := ⟨3, ![1, 512, 128]⟩
abbrev S512x128 : Shape := ⟨2, ![512, 128]⟩
abbrev S512x256 : Shape := ⟨2, ![512, 256]⟩
abbrev S64x512 : Shape := ⟨2, ![64, 512]⟩

abbrev nBuf : Space → Nat
  | .hbm => 8
  | .vmem => 37
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x1024, .f32⟩
  | .hbm, ⟨3, _⟩ => ⟨S4x2048x128, .f32⟩
  | .hbm, ⟨4, _⟩ => ⟨S4x2048x1024, .bf16⟩
  | .hbm, ⟨5, _⟩ => ⟨S4x2x128x128, .bf16⟩
  | .hbm, ⟨6, _⟩ => ⟨S4x2x128x128, .bf16⟩
  | .hbm, ⟨7, _⟩ => ⟨S4x2048x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x128, .f32⟩
  | .local _ .vmem, ⟨7, _⟩ => ⟨S1x256x128, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x1x128x128, .bf16⟩
  | .local _ .vmem, ⟨17, _⟩ => ⟨S1x1x128x128, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S1x256x512, .bf16⟩
  | .local _ .vmem, ⟨21, _⟩ => ⟨S1x256x512, .bf16⟩
  | .local _ .vmem, ⟨22, _⟩ => ⟨S1024x128, .bf16⟩
  | .local _ .vmem, ⟨23, _⟩ => ⟨S1024x256, .bf16⟩
  | .local _ .vmem, ⟨24, _⟩ => ⟨S1024x512, .f32⟩
  | .local _ .vmem, ⟨25, _⟩ => ⟨S1024x512, .bf16⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S256x512, .f32⟩
  | .local _ .vmem, ⟨32, _⟩ => ⟨S1024x768, .f32⟩
  | .local _ .vmem, ⟨33, _⟩ => ⟨S1024x768, .bf16⟩
  | .local _ .vmem, ⟨34, _⟩ => ⟨S256x768, .f32⟩
  | .local _ .vmem, ⟨35, _⟩ => ⟨S1024x128, .f32⟩
  | .local _ .vmem, ⟨36, _⟩ => ⟨S1024x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let c1280_i32 : BitVec 32 := 1280#32
  let c0_i32 : BitVec 32 := 0#32
  let arg2 : BitVec 32 := BitVec.ofNat 32 (i 2).val
  let c256_i32 : BitVec 32 := 256#32
  let v40 : BitVec 32 := Scalar.muli arg2 c256_i32
  let c256_i32_34 : BitVec 32 := 256#32
  let v41 : BitVec 32 := Scalar.addi v40 c256_i32_34
  let c768_i32 : BitVec 32 := 768#32
  let v42 : BitVec 32 := Scalar.subi v41 c768_i32
  let v43 : BitVec 32 := Scalar.maxsi c0_i32 v42
  let v44 : BitVec 32 := Scalar.minsi c1280_i32 v43
  v44
def k0_off1 (i : grid0.Coords) : Fin 3 → Nat :=
  let c0_41 : Index := 0#32
  let c1280_i32 : BitVec 32 := 1280#32
  let c0_i32 : BitVec 32 := 0#32
  let arg2 : BitVec 32 := BitVec.ofNat 32 (i 2).val
  let c256_i32 : BitVec 32 := 256#32
  let v40 : BitVec 32 := Scalar.muli arg2 c256_i32
  let c256_i32_34 : BitVec 32 := 256#32
  let v41 : BitVec 32 := Scalar.addi v40 c256_i32_34
  let c768_i32 : BitVec 32 := 768#32
  let v42 : BitVec 32 := Scalar.subi v41 c768_i32
  let v43 : BitVec 32 := Scalar.maxsi c0_i32 v42
  let v44 : BitVec 32 := Scalar.minsi c1280_i32 v43
  let v45 : BitVec 32 := v44
  let v65 : Index := Scalar.indexCast v45
  let c0_42 : Index := 0#32
  ![0, v65.toNat, 0]
@[reducible] def k0_t1_loop (i : grid0.Coords) : Scf.Loop 32 :=
  let c0_i32_385 : BitVec 32 := 0#32
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_383 : BitVec 32 := 1#32
  let v1541 : BitVec 32 := Scalar.subi v1540 c1_i32_383
  let v1542 : BitVec 32 := Scalar.subi v1541 c0_i32_385
  let c1_i32_386 : BitVec 32 := 1#32
  let v1544 : BitVec 32 := Scalar.divsi v1542 c1_i32_386
  let v1545 : BitVec 32 := Scalar.muli v1544 c1_i32_386
  let v1546 : BitVec 32 := Scalar.addi c0_i32_385 v1545
  let c1_i32_387 : BitVec 32 := 1#32
  ⟨c0_i32_385, v1546, c1_i32_387⟩
def k0_mult2 (i : grid0.Coords) (k0_t1 : Fin (k0_t1_loop i).trips) : BitVec 32 :=
  let c0_i32_385 : BitVec 32 := 0#32
  let c1_i32_387 : BitVec 32 := 1#32
  let arg29 : BitVec 32 := Scf.iv c0_i32_385 c1_i32_387 k0_t1
  let c512_i32_654 : BitVec 32 := 512#32
  let v2341 : BitVec 32 := Scalar.muli arg29 c512_i32_654
  v2341
def k0_off2 (i : grid0.Coords) (k0_t1 : Fin (k0_t1_loop i).trips) : Fin 3 → Nat :=
  let c0_655 : Index := 0#32
  let c0_i32_385 : BitVec 32 := 0#32
  let c1_i32_387 : BitVec 32 := 1#32
  let arg29 : BitVec 32 := Scf.iv c0_i32_385 c1_i32_387 k0_t1
  let c512_i32_654 : BitVec 32 := 512#32
  let v2341 : BitVec 32 := Scalar.muli arg29 c512_i32_654
  let v2342 : BitVec 32 := v2341
  let v2343 : Index := Scalar.indexCast v2342
  let c0_656 : Index := 0#32
  ![0, v2343.toNat, 0]
@[reducible] def k0_t2_loop (i : grid0.Coords) : Scf.Loop 32 :=
  let c0_i32_385 : BitVec 32 := 0#32
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_383 : BitVec 32 := 1#32
  let v1541 : BitVec 32 := Scalar.subi v1540 c1_i32_383
  let v1542 : BitVec 32 := Scalar.subi v1541 c0_i32_385
  let c1_i32_386 : BitVec 32 := 1#32
  let v1544 : BitVec 32 := Scalar.divsi v1542 c1_i32_386
  let v1545 : BitVec 32 := Scalar.muli v1544 c1_i32_386
  let v1546 : BitVec 32 := Scalar.addi c0_i32_385 v1545
  let v1543 : BitVec 32 := Scalar.addi c0_i32_385 v1542
  let c1_i32_388 : BitVec 32 := 1#32
  ⟨v1546, v1543, c1_i32_388⟩
def k0_mult3 (i : grid0.Coords) (k0_t2 : Fin (k0_t2_loop i).trips) : BitVec 32 :=
  let c0_i32_385 : BitVec 32 := 0#32
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_383 : BitVec 32 := 1#32
  let v1541 : BitVec 32 := Scalar.subi v1540 c1_i32_383
  let v1542 : BitVec 32 := Scalar.subi v1541 c0_i32_385
  let c1_i32_386 : BitVec 32 := 1#32
  let v1544 : BitVec 32 := Scalar.divsi v1542 c1_i32_386
  let v1545 : BitVec 32 := Scalar.muli v1544 c1_i32_386
  let v1546 : BitVec 32 := Scalar.addi c0_i32_385 v1545
  let c1_i32_388 : BitVec 32 := 1#32
  let arg29 : BitVec 32 := Scf.iv v1546 c1_i32_388 k0_t2
  let c512_i32_654 : BitVec 32 := 512#32
  let v2341 : BitVec 32 := Scalar.muli arg29 c512_i32_654
  v2341
def k0_off3 (i : grid0.Coords) (k0_t2 : Fin (k0_t2_loop i).trips) : Fin 3 → Nat :=
  let c0_655 : Index := 0#32
  let c0_i32_385 : BitVec 32 := 0#32
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_383 : BitVec 32 := 1#32
  let v1541 : BitVec 32 := Scalar.subi v1540 c1_i32_383
  let v1542 : BitVec 32 := Scalar.subi v1541 c0_i32_385
  let c1_i32_386 : BitVec 32 := 1#32
  let v1544 : BitVec 32 := Scalar.divsi v1542 c1_i32_386
  let v1545 : BitVec 32 := Scalar.muli v1544 c1_i32_386
  let v1546 : BitVec 32 := Scalar.addi c0_i32_385 v1545
  let c1_i32_388 : BitVec 32 := 1#32
  let arg29 : BitVec 32 := Scf.iv v1546 c1_i32_388 k0_t2
  let c512_i32_654 : BitVec 32 := 512#32
  let v2341 : BitVec 32 := Scalar.muli arg29 c512_i32_654
  let v2342 : BitVec 32 := v2341
  let v2343 : Index := Scalar.indexCast v2342
  let c0_656 : Index := 0#32
  ![0, v2343.toNat, 0]
def k0_mult4 (i : grid0.Coords) : BitVec 32 :=
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_389 : BitVec 32 := 1#32
  let v1547 : BitVec 32 := Scalar.subi v1540 c1_i32_389
  let c512_i32_390 : BitVec 32 := 512#32
  let v1548 : BitVec 32 := Scalar.muli v1547 c512_i32_390
  v1548
def k0_off4 (i : grid0.Coords) : Fin 3 → Nat :=
  let c0_391 : Index := 0#32
  let arg2 : BitVec 32 := BitVec.ofNat 32 (i 2).val
  let c256_i32_372 : BitVec 32 := 256#32
  let v1520 : BitVec 32 := Scalar.muli arg2 c256_i32_372
  let c256_i32_373 : BitVec 32 := 256#32
  let v1521 : BitVec 32 := Scalar.addi v1520 c256_i32_373
  let c512_i32_374 : BitVec 32 := 512#32
  let v1522 : BitVec 32 := Scalar.addi v1521 c512_i32_374
  let c1_i32_375 : BitVec 32 := 1#32
  let v1523 : BitVec 32 := Scalar.subi v1522 c1_i32_375
  let c0_i32_377 : BitVec 32 := 0#32
  let v1525 : BitVec 1 := Scalar.cmpi .sgt v1523 c0_i32_377
  let v1526 : BitVec 32 := Scalar.extui v1525
  let c0_i32_378 : BitVec 32 := 0#32
  let v1527 : BitVec 1 := Scalar.cmpi .slt v1523 c0_i32_378
  let v1528 : BitVec 32 := Scalar.extui v1527
  let v1529 : BitVec 32 := Scalar.subi v1526 v1528
  let c512_i32_376 : BitVec 32 := 512#32
  let c0_i32_379 : BitVec 32 := 0#32
  let v1530 : BitVec 1 := Scalar.cmpi .sgt c512_i32_376 c0_i32_379
  let v1531 : BitVec 32 := Scalar.extui v1530
  let c0_i32_380 : BitVec 32 := 0#32
  let v1532 : BitVec 1 := Scalar.cmpi .slt c512_i32_376 c0_i32_380
  let v1533 : BitVec 32 := Scalar.extui v1532
  let v1534 : BitVec 32 := Scalar.subi v1531 v1533
  let v1535 : BitVec 1 := Scalar.cmpi .ne v1529 v1534
  let v1536 : BitVec 32 := Scalar.remsi v1523 c512_i32_376
  let c0_i32_381 : BitVec 32 := 0#32
  let v1537 : BitVec 1 := Scalar.cmpi .ne v1536 c0_i32_381
  let v1538 : BitVec 1 := Scalar.andi v1535 v1537
  let v1524 : BitVec 32 := Scalar.divsi v1523 c512_i32_376
  let c1_i32_382 : BitVec 32 := 1#32
  let v1539 : BitVec 32 := Scalar.subi v1524 c1_i32_382
  let v1540 : BitVec 32 := Scalar.select v1538 v1539 v1524
  let c1_i32_389 : BitVec 32 := 1#32
  let v1547 : BitVec 32 := Scalar.subi v1540 c1_i32_389
  let c512_i32_390 : BitVec 32 := 512#32
  let v1548 : BitVec 32 := Scalar.muli v1547 c512_i32_390
  let v1549 : BitVec 32 := v1548
  let v1550 : Index := Scalar.indexCast v1549
  let c0_392 : Index := 0#32
  ![0, v1550.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Pre.lean ====
abbrev S8x8x4096 : Shape := ⟨3, ![8, 8, 4096]⟩
abbrev S8x8x2560 : Shape := ⟨3, ![8, 8, 2560]⟩
abbrev S8x8x128 : Shape := ⟨3, ![8, 8, 128]⟩
abbrev S8x16 : Shape := ⟨2, ![8, 16]⟩
abbrev S8x2x256x128 : Shape := ⟨4, ![8, 2, 256, 128]⟩
abbrev S_ : Shape := ⟨0, ![]⟩
abbrev S8x96 : Shape := ⟨2, ![8, 96]⟩
abbrev S8x128 : Shape := ⟨2, ![8, 128]⟩
abbrev S8x8x1024 : Shape := ⟨3, ![8, 8, 1024]⟩
abbrev S8x8x512 : Shape := ⟨3, ![8, 8, 512]⟩
abbrev S8x2x32x128 : Shape := ⟨4, ![8, 2, 32, 128]⟩
abbrev S8x2x3x32x128 : Shape := ⟨5, ![8, 2, 3, 32, 128]⟩
abbrev S8x2x8x256 : Shape := ⟨4, ![8, 2, 8, 256]⟩
abbrev S1x8x1024 : Shape := ⟨3, ![1, 8, 1024]⟩
abbrev S1x8x128 : Shape := ⟨3, ![1, 8, 128]⟩
abbrev S1x8x512 : Shape := ⟨3, ![1, 8, 512]⟩
abbrev S1x2x256x128 : Shape := ⟨4, ![1, 2, 256, 128]⟩
abbrev S1x2x32x128 : Shape := ⟨4, ![1, 2, 32, 128]⟩
abbrev S1x2x3x32x128 : Shape := ⟨5, ![1, 2, 3, 32, 128]⟩
abbrev S1x2x8x256 : Shape := ⟨4, ![1, 2, 8, 256]⟩
abbrev S8x512 : Shape := ⟨2, ![8, 512]⟩
abbrev S8x256 : Shape := ⟨2, ![8, 256]⟩
abbrev S1x8x256 : Shape := ⟨3, ![1, 8, 256]⟩
abbrev S8x1024 : Shape := ⟨2, ![8, 1024]⟩
abbrev S1x1x8x128 : Shape := ⟨4, ![1, 1, 8, 128]⟩
abbrev S8x1 : Shape := ⟨2, ![8, 1]⟩
abbrev S1x1x1x8x128 : Shape := ⟨5, ![1, 1, 1, 8, 128]⟩
abbrev S32x128 : Shape := ⟨2, ![32, 128]⟩
abbrev S1x1x32x128 : Shape := ⟨4, ![1, 1, 32, 128]⟩
abbrev S1x1x256x128 : Shape := ⟨4, ![1, 1, 256, 128]⟩
abbrev S256x128 : Shape := ⟨2, ![256, 128]⟩
abbrev S32x256 : Shape := ⟨2, ![32, 256]⟩
abbrev S32 : Shape := ⟨1, ![32]⟩
abbrev S32x1 : Shape := ⟨2, ![32, 1]⟩
abbrev S4x8x256 : Shape := ⟨3, ![4, 8, 256]⟩
abbrev S1x1x8x256 : Shape := ⟨4, ![1, 1, 8, 256]⟩

abbrev nBuf : Space → Nat
  | .hbm => 26
  | .vmem => 33
  | .smem => 0
  | _ => 0

abbrev bufTy : (tb : Table) → Fin (tcTables nBuf tb) → BufTy
  | .hbm, ⟨0, _⟩ => ⟨S8x8x4096, .f32⟩
  | .hbm, ⟨1, _⟩ => ⟨S8x8x2560, .f32⟩
  | .hbm, ⟨2, _⟩ => ⟨S8x8x128, .f32⟩
  | .hbm, ⟨3, _⟩ => ⟨S8x16, .f32⟩
  | .hbm, ⟨4, _⟩ => ⟨S8x16, .f32⟩
  | .hbm, ⟨5, _⟩ => ⟨S8x2x256x128, .bf16⟩
  | .hbm, ⟨6, _⟩ => ⟨S8x2x256x128, .bf16⟩
  | .hbm, ⟨7, _⟩ => ⟨S_, .f32⟩
  | .hbm, ⟨8, _⟩ => ⟨S8x16, .f32⟩
  | .hbm, ⟨9, _⟩ => ⟨S_, .f32⟩
  | .hbm, ⟨10, _⟩ => ⟨S8x96, .f32⟩
  | .hbm, ⟨11, _⟩ => ⟨S8x128, .f32⟩
  | .hbm, ⟨12, _⟩ => ⟨S_, .f32⟩
  | .hbm, ⟨13, _⟩ => ⟨S8x96, .f32⟩
  | .hbm, ⟨14, _⟩ => ⟨S8x128, .f32⟩
  | .hbm, ⟨15, _⟩ => ⟨S8x16, .f32⟩
  | .hbm, ⟨16, _⟩ => ⟨S_, .f32⟩
  | .hbm, ⟨17, _⟩ => ⟨S8x96, .f32⟩
  | .hbm, ⟨18, _⟩ => ⟨S8x128, .f32⟩
  | .hbm, ⟨19, _⟩ => ⟨S8x8x1024, .f32⟩
  | .hbm, ⟨20, _⟩ => ⟨S8x8x512, .f32⟩
  | .hbm, ⟨21, _⟩ => ⟨S8x2x32x128, .f32⟩
  | .hbm, ⟨22, _⟩ => ⟨S8x2x32x128, .f32⟩
  | .hbm, ⟨23, _⟩ => ⟨S8x2x32x128, .f32⟩
  | .hbm, ⟨24, _⟩ => ⟨S8x2x3x32x128, .f32⟩
  | .hbm, ⟨25, _⟩ => ⟨S8x2x8x256, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x128, .f32⟩
  | .local _ .vmem, ⟨5, _⟩ => ⟨S1x8x128, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S1x2x256x128, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x2x256x128, .bf16⟩
  | .local _ .vmem, ⟨19, _⟩ => ⟨S1x8x1024, .f32⟩
  | .local _ .vmem, ⟨20, _⟩ => ⟨S1x8x1024, .f32⟩
  | .local _ .vmem, ⟨21, _⟩ => ⟨S1x8x512, .f32⟩
  | .local _ .vmem, ⟨22, _⟩ => ⟨S1x8x512, .f32⟩
  | .local _ .vmem, ⟨23, _⟩ => ⟨S1x2x32x128, .f32⟩
  | .local _ .vmem, ⟨24, _⟩ => ⟨S1x2x32x128, .f32⟩
  | .local _ .vmem, ⟨25, _⟩ => ⟨S1x2x32x128, .f32⟩
  | .local _ .vmem, ⟨26, _⟩ => ⟨S1x2x32x128, .f32⟩
  | .local _ .vmem, ⟨27, _⟩ => ⟨S1x2x32x128, .f32⟩
  | .local _ .vmem, ⟨28, _⟩ => ⟨S1x2x32x128, .f32⟩
  | .local _ .vmem, ⟨29, _⟩ => ⟨S1x2x3x32x128, .f32⟩
  | .local _ .vmem, ⟨30, _⟩ => ⟨S1x2x3x32x128, .f32⟩
  | .local _ .vmem, ⟨31, _⟩ => ⟨S1x2x8x256, .f32⟩
  | .local _ .vmem, ⟨32, _⟩ => ⟨S1x2x8x256, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x3x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PreRefIdeal.lean ====
abbrev S8x8x4096 : Shape := ⟨3, ![8, 8, 4096]⟩
abbrev S8x8x2560 : Shape := ⟨3, ![8, 8, 2560]⟩
abbrev S8x8x128 : Shape := ⟨3, ![8, 8, 128]⟩
abbrev S8x16 : Shape := ⟨2, ![8, 16]⟩
abbrev S8x2x256x128 : Shape := ⟨4, ![8, 2, 256, 128]⟩
abbrev S8x8x1024 : Shape := ⟨3, ![8, 8, 1024]⟩
abbrev S8x8x8x128 : Shape := ⟨4, ![8, 8, 8, 128]⟩
abbrev S8x8x2x4x128 : Shape := ⟨5, ![8, 8, 2, 4, 128]⟩
abbrev S8x8x24 : Shape := ⟨3, ![8, 8, 24]⟩
abbrev S8x8x2x4x3 : Shape := ⟨5, ![8, 8, 2, 4, 3]⟩
abbrev S8x8x1536 : Shape := ⟨3, ![8, 8, 1536]⟩
abbrev S8x8x6x2x128 : Shape := ⟨5, ![8, 8, 6, 2, 128]⟩
abbrev S8x1x16 : Shape := ⟨3, ![8, 1, 16]⟩
abbrev S8x8x8x16 : Shape := ⟨4, ![8, 8, 8, 16]⟩
abbrev S1x8x1x16 : Shape := ⟨4, ![1, 8, 1, 16]⟩
abbrev S8x8x8x96 : Shape := ⟨4, ![8, 8, 8, 96]⟩
abbrev S8x8x1x2x128 : Shape := ⟨5, ![8, 8, 1, 2, 128]⟩
abbrev S8x8x2x128 : Shape := ⟨4, ![8, 8, 2, 128]⟩
abbrev S8x8x2x16 : Shape := ⟨4, ![8, 8, 2, 16]⟩
abbrev S8x8x2x96 : Shape := ⟨4, ![8, 8, 2, 96]⟩
abbrev S8x8x4x2x128 : Shape := ⟨5, ![8, 8, 4, 2, 128]⟩
abbrev S8x8x2x2x128 : Shape := ⟨5, ![8, 8, 2, 2, 128]⟩
abbrev S8 : Shape := ⟨1, ![8]⟩
abbrev S_ : Shape := ⟨0, ![]⟩
abbrev S8x2x256x8x4 : Shape := ⟨5, ![8, 2, 256, 8, 4]⟩
abbrev S8x2x4x8x256 : Shape := ⟨5, ![8, 2, 4, 8, 256]⟩
abbrev S256 : Shape := ⟨1, ![256]⟩
abbrev S1x256 : Shape := ⟨2, ![1, 256]⟩
abbrev S8x1 : Shape := ⟨2, ![8, 1]⟩
abbrev S8x256 : Shape := ⟨2, ![8, 256]⟩
abbrev S1x1x1x8x256 : Shape := ⟨5, ![1, 1, 1, 8, 256]⟩
abbrev S8x2x4x8 : Shape := ⟨4, ![8, 2, 4, 8]⟩
abbrev S8x2x4x8x1 : Shape := ⟨5, ![8, 2, 4, 8, 1]⟩
abbrev S8x2x4x8x128 : Shape := ⟨5, ![8, 2, 4, 8, 128]⟩
abbrev S8x2x8x256 : Shape := ⟨4, ![8, 2, 8, 256]⟩
abbrev S1x1x8x256 : Shape := ⟨4, ![1, 1, 8, 256]⟩
abbrev S8x2x3x4x8 : Shape := ⟨5, ![8, 2, 3, 4, 8]⟩
abbrev S8x2x3x32x1 : Shape := ⟨5, ![8, 2, 3, 32, 1]⟩
abbrev S8x8x512 : Shape := ⟨3, ![8, 8, 512]⟩
abbrev S8x2x32x128 : Shape := ⟨4, ![8, 2, 32, 128]⟩
abbrev S8x2x3x32x128 : Shape := ⟨5, ![8, 2, 3, 32, 128]⟩

abbrev nBuf : Space → Nat
  | .hbm => 226
  | .vmem => 0
  | .smem => 0
  | _ => 0

abbrev hbmTy0_0 (i : Nat) : BufTy := match i % 128 with
  | 0 => ⟨S8x8x4096, .f32⟩
  | 1 => ⟨S8x8x2560, .f32⟩
  | 2 => ⟨S8x8x128, .f32⟩
  | 3 => ⟨S8x16, .f32⟩
  | 4 => ⟨S8x16, .f32⟩
  | 5 => ⟨S8x2x256x128, .bf16⟩
  | 6 => ⟨S8x2x256x128, .bf16⟩
  | 7 => ⟨S8x8x1024, .f32⟩
  | 8 => ⟨S8x8x8x128, .f32⟩
  | 9 => ⟨S8x8x1024, .f32⟩
  | 10 => ⟨S8x8x2x4x128, .f32⟩
  | 11 => ⟨S8x8x24, .f32⟩
  | 12 => ⟨S8x8x2x4x3, .f32⟩
  | 13 => ⟨S8x8x1536, .f32⟩
  | 14 => ⟨S8x8x6x2x128, .f32⟩
  | 15 => ⟨S8x1x16, .f32⟩
  | 16 => ⟨S8x1x16, .f32⟩
  | 17 => ⟨S8x8x8x16, .f32⟩
  | 18 => ⟨S8x8x8x16, .f32⟩
  | 19 => ⟨S1x8x1x16, .f32⟩
  | 20 => ⟨S8x8x8x16, .f32⟩
  | 21 => ⟨S8x8x8x16, .f32⟩
  | 22 => ⟨S1x8x1x16, .f32⟩
  | 23 => ⟨S8x8x8x16, .f32⟩
  | 24 => ⟨S8x8x8x16, .f32⟩
  | 25 => ⟨S8x8x8x16, .f32⟩
  | 26 => ⟨S1x8x1x16, .f32⟩
  | 27 => ⟨S8x8x8x16, .f32⟩
  | 28 => ⟨S8x8x8x16, .f32⟩
  | 29 => ⟨S1x8x1x16, .f32⟩
  | 30 => ⟨S8x8x8x16, .f32⟩
  | 31 => ⟨S8x8x8x16, .f32⟩
  | 32 => ⟨S8x8x8x16, .f32⟩
  | 33 => ⟨S8x8x8x96, .f32⟩
  | 34 => ⟨S8x8x8x128, .f32⟩
  | 35 => ⟨S8x8x1x2x128, .f32⟩
  | 36 => ⟨S8x8x2x128, .f32⟩
  | 37 => ⟨S8x8x1x2x128, .f32⟩
  | 38 => ⟨S8x8x2x128, .f32⟩
  | 39 => ⟨S8x8x1x2x128, .f32⟩
  | 40 => ⟨S8x8x2x128, .f32⟩
  | 41 => ⟨S8x1x16, .f32⟩
  | 42 => ⟨S8x1x16, .f32⟩
  | 43 => ⟨S8x8x2x16, .f32⟩
  | 44 => ⟨S8x8x2x16, .f32⟩
  | 45 => ⟨S1x8x1x16, .f32⟩
  | 46 => ⟨S8x8x2x16, .f32⟩
  | 47 => ⟨S8x8x2x16, .f32⟩
  | 48 => ⟨S1x8x1x16, .f32⟩
  | 49 => ⟨S8x8x2x16, .f32⟩
  | 50 => ⟨S8x8x2x16, .f32⟩
  | 51 => ⟨S8x8x2x16, .f32⟩
  | 52 => ⟨S1x8x1x16, .f32⟩
  | 53 => ⟨S8x8x2x16, .f32⟩
  | 54 => ⟨S8x8x2x16, .f32⟩
  | 55 => ⟨S1x8x1x16, .f32⟩
  | 56 => ⟨S8x8x2x16, .f32⟩
  | 57 => ⟨S8x8x2x16, .f32⟩
  | 58 => ⟨S8x8x2x16, .f32⟩
  | 59 => ⟨S8x8x2x96, .f32⟩
  | 60 => ⟨S8x8x2x128, .f32⟩
  | 61 => ⟨S8x8x1x2x128, .f32⟩
  | 62 => ⟨S8x8x2x128, .f32⟩
  | 63 => ⟨S8x8x1x2x128, .f32⟩
  | 64 => ⟨S8x8x1x2x128, .f32⟩
  | 65 => ⟨S8x8x1x2x128, .f32⟩
  | 66 => ⟨S8x8x1x2x128, .f32⟩
  | 67 => ⟨S8x8x4x2x128, .f32⟩
  | 68 => ⟨S8x8x1x2x128, .f32⟩
  | 69 => ⟨S8x8x2x128, .f32⟩
  | 70 => ⟨S8x1x16, .f32⟩
  | 71 => ⟨S8x1x16, .f32⟩
  | 72 => ⟨S8x8x2x16, .f32⟩
  | 73 => ⟨S8x8x2x16, .f32⟩
  | 74 => ⟨S1x8x1x16, .f32⟩
  | 75 => ⟨S8x8x2x16, .f32⟩
  | 76 => ⟨S8x8x2x16, .f32⟩
  | 77 => ⟨S1x8x1x16, .f32⟩
  | 78 => ⟨S8x8x2x16, .f32⟩
  | 79 => ⟨S8x8x2x16, .f32⟩
  | 80 => ⟨S8x8x2x16, .f32⟩
  | 81 => ⟨S1x8x1x16, .f32⟩
  | 82 => ⟨S8x8x2x16, .f32⟩
  | 83 => ⟨S8x8x2x16, .f32⟩
  | 84 => ⟨S1x8x1x16, .f32⟩
  | 85 => ⟨S8x8x2x16, .f32⟩
  | 86 => ⟨S8x8x2x16, .f32⟩
  | 87 => ⟨S8x8x2x16, .f32⟩
  | 88 => ⟨S8x8x2x96, .f32⟩
  | 89 => ⟨S8x8x2x128, .f32⟩
  | 90 => ⟨S8x8x1x2x128, .f32⟩
  | 91 => ⟨S8x8x2x128, .f32⟩
  | 92 => ⟨S8x8x1x2x128, .f32⟩
  | 93 => ⟨S8x8x1x2x128, .f32⟩
  | 94 => ⟨S8x8x2x2x128, .f32⟩
  | 95 => ⟨S8, .i32⟩
  | 96 => ⟨S_, .i32⟩
  | 97 => ⟨S8, .i32⟩
  | 98 => ⟨S8, .i32⟩
  | 99 => ⟨S8x2x256x128, .f32⟩
  | 100 => ⟨S8x2x256x128, .f32⟩
  | 101 => ⟨S8x8x2x4x128, .f32⟩
  | 102 => ⟨S8x2x256x8x4, .f32⟩
  | 103 => ⟨S8x2x4x8x256, .f32⟩
  | 104 => ⟨S_, .f32⟩
  | 105 => ⟨S8x2x4x8x256, .f32⟩
  | 106 => ⟨S8x2x4x8x256, .f32⟩
  | 107 => ⟨S256, .i32⟩
  | 108 => ⟨S_, .i32⟩
  | 109 => ⟨S256, .i32⟩
  | 110 => ⟨S256, .i32⟩
  | 111 => ⟨S_, .i32⟩
  | 112 => ⟨S256, .i32⟩
  | 113 => ⟨S256, .i32⟩
  | 114 => ⟨S1x256, .i32⟩
  | 115 => ⟨S8x1, .i32⟩
  | 116 => ⟨S_, .i32⟩
  | 117 => ⟨S8x1, .i32⟩
  | 118 => ⟨S8x1, .i32⟩
  | 119 => ⟨S8x256, .i32⟩
  | 120 => ⟨S8x256, .i32⟩
  | 121 => ⟨S8x256, .i1⟩
  | 122 => ⟨S1x1x1x8x256, .i1⟩
  | 123 => ⟨S_, .f32⟩
  | 124 => ⟨S_, .f32⟩
  | 125 => ⟨S8x2x4x8x256, .i1⟩
  | 126 => ⟨S8x2x4x8x256, .f32⟩
  | 127 => ⟨S8x2x4x8x256, .f32⟩
  | _ => ⟨S8x8x4096, .f32⟩

abbrev hbmTy0_1 (i : Nat) : BufTy := match i % 128 with
  | 0 => ⟨S_, .f32⟩
  | 1 => ⟨S8x2x4x8, .f32⟩
  | 2 => ⟨S_, .f32⟩
  | 3 => ⟨S8x2x4x8, .f32⟩
  | 4 => ⟨S8x2x4x8, .f32⟩
  | 5 => ⟨S8x2x4x8x1, .f32⟩
  | 6 => ⟨S8x2x4x8x256, .f32⟩
  | 7 => ⟨S8x2x4x8x256, .f32⟩
  | 8 => ⟨S8x2x4x8x256, .f32⟩
  | 9 => ⟨S_, .f32⟩
  | 10 => ⟨S8x2x4x8, .f32⟩
  | 11 => ⟨S8x2x4x8x1, .f32⟩
  | 12 => ⟨S8x2x4x8x256, .f32⟩
  | 13 => ⟨S8x2x4x8x256, .f32⟩
  | 14 => ⟨S_, .f32⟩
  | 15 => ⟨S_, .f32⟩
  | 16 => ⟨S8x2x4x8x256, .i1⟩
  | 17 => ⟨S8x2x4x8x256, .f32⟩
  | 18 => ⟨S8x2x4x8x256, .f32⟩
  | 19 => ⟨S8x2x4x8x128, .f32⟩
  | 20 => ⟨S_, .f32⟩
  | 21 => ⟨S8x2x8x256, .f32⟩
  | 22 => ⟨S256, .i32⟩
  | 23 => ⟨S_, .i32⟩
  | 24 => ⟨S_, .i32⟩
  | 25 => ⟨S8, .i32⟩
  | 26 => ⟨S8, .i32⟩
  | 27 => ⟨S8, .i32⟩
  | 28 => ⟨S_, .i32⟩
  | 29 => ⟨S8, .i32⟩
  | 30 => ⟨S8, .i1⟩
  | 31 => ⟨S8, .i32⟩
  | 32 => ⟨S8, .i32⟩
  | 33 => ⟨S_, .i32⟩
  | 34 => ⟨S8, .i32⟩
  | 35 => ⟨S8, .i1⟩
  | 36 => ⟨S8, .i1⟩
  | 37 => ⟨S_, .i32⟩
  | 38 => ⟨S8, .i32⟩
  | 39 => ⟨S8, .i32⟩
  | 40 => ⟨S8, .i32⟩
  | 41 => ⟨S8x1, .i32⟩
  | 42 => ⟨S1x256, .i32⟩
  | 43 => ⟨S_, .i32⟩
  | 44 => ⟨S1x256, .i32⟩
  | 45 => ⟨S1x256, .i1⟩
  | 46 => ⟨S1x256, .i32⟩
  | 47 => ⟨S8x256, .i32⟩
  | 48 => ⟨S8x256, .i32⟩
  | 49 => ⟨S8x256, .i1⟩
  | 50 => ⟨S8x256, .i1⟩
  | 51 => ⟨S8x256, .i1⟩
  | 52 => ⟨S1x256, .i32⟩
  | 53 => ⟨S_, .i32⟩
  | 54 => ⟨S8x1, .i32⟩
  | 55 => ⟨S8x1, .i32⟩
  | 56 => ⟨S8x256, .i32⟩
  | 57 => ⟨S8x256, .i32⟩
  | 58 => ⟨S8x256, .i1⟩
  | 59 => ⟨S8x256, .i1⟩
  | 60 => ⟨S1x1x8x256, .i1⟩
  | 61 => ⟨S_, .f32⟩
  | 62 => ⟨S_, .f32⟩
  | 63 => ⟨S8x2x8x256, .i1⟩
  | 64 => ⟨S8x2x8x256, .f32⟩
  | 65 => ⟨S8x2x8x256, .f32⟩
  | 66 => ⟨S1x256, .i32⟩
  | 67 => ⟨S8x256, .i32⟩
  | 68 => ⟨S8x256, .i32⟩
  | 69 => ⟨S8x256, .i1⟩
  | 70 => ⟨S1x1x8x256, .i1⟩
  | 71 => ⟨S_, .f32⟩
  | 72 => ⟨S_, .f32⟩
  | 73 => ⟨S8x2x8x256, .i1⟩
  | 74 => ⟨S8x2x8x256, .f32⟩
  | 75 => ⟨S8x2x8x256, .f32⟩
  | 76 => ⟨S8x8x2x4x3, .f32⟩
  | 77 => ⟨S8x8x2x4x3, .f32⟩
  | 78 => ⟨S_, .f32⟩
  | 79 => ⟨S8x8x2x4x3, .f32⟩
  | 80 => ⟨S8x8x2x4x3, .f32⟩
  | 81 => ⟨S_, .f32⟩
  | 82 => ⟨S8x8x2x4x3, .f32⟩
  | 83 => ⟨S8x8x2x4x3, .f32⟩
  | 84 => ⟨S8x2x3x4x8, .f32⟩
  | 85 => ⟨S8x2x3x32x1, .f32⟩
  | 86 => ⟨S8x8x1024, .f32⟩
  | 87 => ⟨S8x8x512, .f32⟩
  | 88 => ⟨S8x8x2x4x128, .f32⟩
  | 89 => ⟨S_, .f32⟩
  | 90 => ⟨S8x8x2x4x128, .f32⟩
  | 91 => ⟨S8x8x2x4x128, .f32⟩
  | 92 => ⟨S8x2x4x8x128, .f32⟩
  | 93 => ⟨S8x2x32x128, .f32⟩
  | 94 => ⟨S8x2x32x128, .f32⟩
  | 95 => ⟨S8x2x4x8x128, .f32⟩
  | 96 => ⟨S8x2x32x128, .f32⟩
  | 97 => ⟨S8x2x3x32x128, .f32⟩
  | _ => ⟨S8x8x4096, .f32⟩

abbrev hbmTy (i : Nat) : BufTy := match i / 128 with
  | 0 => hbmTy0_0 i
  | 1 => hbmTy0_1 i
  | _ => ⟨S8x8x4096, .f32⟩

abbrev bufTy : (tb : Table) → Fin (tcTables nBuf tb) → BufTy
  | .hbm, ⟨i, _⟩ => hbmTy i
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_c : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_cst : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_c_0 : Ref sig .tc := ⟨.hbm, 108, rfl⟩
abbrev main_v99 : Ref sig .tc := ⟨.hbm, 109, rfl⟩
abbrev main_v100 : Ref sig .tc := ⟨.hbm, 110, rfl⟩
abbrev main_c_1 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_c_2 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_cst_3 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v111 : Ref sig .tc := ⟨.hbm, 127, rfl⟩
abbrev main_cst_4 : Ref sig .tc := ⟨.hbm, 128, rfl⟩
abbrev main_v112 : Ref sig .tc := ⟨.hbm, 129, rfl⟩
abbrev main_cst_5 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_6 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_7 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_v123 : Ref sig .tc := ⟨.hbm, 146, rfl⟩
abbrev main_v124 : Ref sig .tc := ⟨.hbm, 147, rfl⟩
abbrev main_cst_8 : Ref sig .tc := ⟨.hbm, 148, rfl⟩
abbrev main_v125 : Ref sig .tc := ⟨.hbm, 149, rfl⟩
abbrev main_v126 : Ref sig .tc := ⟨.hbm, 150, rfl⟩
abbrev main_c_9 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_call2_v5 : Ref sig .tc := ⟨.hbm, 157, rfl⟩
abbrev main_call2_v6 : Ref sig .tc := ⟨.hbm, 158, rfl⟩
abbrev main_call2_v7 : Ref sig .tc := ⟨.hbm, 159, rfl⟩
abbrev main_call2_v8 : Ref sig .tc := ⟨.hbm, 160, rfl⟩
abbrev main_call2_c : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_c_0 : Ref sig .tc := ⟨.hbm, 165, rfl⟩
abbrev main_call2_v12 : Ref sig .tc := ⟨.hbm, 166, rfl⟩
abbrev main_call2_v13 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_10 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_c_11 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_12 : Ref sig .tc := ⟨.hbm, 189, rfl⟩
abbrev main_call3_v0 : Ref sig .tc := ⟨.hbm, 190, rfl⟩
abbrev main_call3_v1 : Ref sig .tc := ⟨.hbm, 191, rfl⟩
abbrev main_call3_v2 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_13 : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_14 : Ref sig .tc := ⟨.hbm, 206, rfl⟩
abbrev main_v155 : Ref sig .tc := ⟨.hbm, 207, rfl⟩
abbrev main_v156 : Ref sig .tc := ⟨.hbm, 208, rfl⟩
abbrev main_cst_15 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_16 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩

abbrev nD : Nat := 1
abbrev τ : Topo := Topo.v7x

variable {F : FTy → Type} [FloatOps F]
-- ==== Proj.lean ====
abbrev S4x2048x2048 : Shape := ⟨3, ![4, 2048, 2048]⟩
abbrev S8x4x2048 : Shape := ⟨3, ![8, 4, 2048]⟩
abbrev S1x2048 : Shape := ⟨2, ![1, 2048]⟩
abbrev S1x2048x6680 : Shape := ⟨3, ![1, 2048, 6680]⟩
abbrev S1x3x512 : Shape := ⟨3, ![1, 3, 512]⟩
abbrev S2048x16 : Shape := ⟨2, ![2048, 16]⟩
abbrev S_ : Shape := ⟨0, ![]⟩
abbrev S8x8x2048 : Shape := ⟨3, ![8, 8, 2048]⟩
abbrev S8192x2048 : Shape := ⟨2, ![8192, 2048]⟩
abbrev S2048 : Shape := ⟨1, ![2048]⟩
abbrev S1x6680x2048 : Shape := ⟨3, ![1, 6680, 2048]⟩
abbrev S3x512 : Shape := ⟨2, ![3, 512]⟩
abbrev S2048x96 : Shape := ⟨2, ![2048, 96]⟩
abbrev S2048x128 : Shape := ⟨2, ![2048, 128]⟩
abbrev S64x2048 : Shape := ⟨2, ![64, 2048]⟩
abbrev S8192x1024 : Shape := ⟨2, ![8192, 1024]⟩
abbrev S8192x128 : Shape := ⟨2, ![8192, 128]⟩
abbrev S8192x512 : Shape := ⟨2, ![8192, 512]⟩
abbrev S4x2x512 : Shape := ⟨3, ![4, 2, 512]⟩
abbrev S64x4096 : Shape := ⟨2, ![64, 4096]⟩
abbrev S64x128 : Shape := ⟨2, ![64, 128]⟩
abbrev S512x2048 : Shape := ⟨2, ![512, 2048]⟩
abbrev S512x128 : Shape := ⟨2, ![512, 128]⟩
abbrev S512x1024 : Shape := ⟨2, ![512, 1024]⟩
abbrev S512x512 : Shape := ⟨2, ![512, 512]⟩
abbrev S1x2x512 : Shape := ⟨3, ![1, 2, 512]⟩
abbrev S520x512 : Shape := ⟨2, ![520, 512]⟩
abbrev S4096x2048 : Shape := ⟨2, ![4096, 2048]⟩
abbrev S128x2048 : Shape := ⟨2, ![128, 2048]⟩
abbrev S2x512x2048 : Shape := ⟨3, ![2, 512, 2048]⟩
abbrev S2 : Shape := ⟨1, ![2]⟩
abbrev S1 : Shape := ⟨1, ![1]⟩
abbrev S1x512x2048 : Shape := ⟨3, ![1, 512, 2048]⟩
abbrev S1x24x2048 : Shape := ⟨3, ![1, 24, 2048]⟩
abbrev S24x2048 : Shape := ⟨2, ![24, 2048]⟩
abbrev S512 : Shape := ⟨1, ![512]⟩
abbrev S512x1 : Shape := ⟨2, ![512, 1]⟩
abbrev S2x512 : Shape := ⟨2, ![2, 512]⟩
abbrev S1x512 : Shape := ⟨2, ![1, 512]⟩
abbrev S64 : Shape := ⟨1, ![64]⟩
abbrev S64x1 : Shape := ⟨2, ![64, 1]⟩
abbrev S64x512 : Shape := ⟨2, ![64, 512]⟩

abbrev nBuf : Space → Nat
  | .hbm => 36
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S1x2048, .f32⟩
  | .hbm, ⟨3, _⟩ => ⟨S1x2048x6680, .f32⟩
  | .hbm, ⟨4, _⟩ => ⟨S1x3x512, .f32⟩
  | .hbm, ⟨5, _⟩ => ⟨S2048x16, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S8x8x2048, .f32⟩
  | .hbm, ⟨10, _⟩ => ⟨S8192x2048, .f32⟩
  | .hbm, ⟨11, _⟩ => ⟨S2048, .f32⟩
  | .hbm, ⟨12, _⟩ => ⟨S1x6680x2048, .f32⟩
  | .hbm, ⟨13, _⟩ => ⟨S3x512, .f32⟩
  | .hbm, ⟨14, _⟩ => ⟨S_, .f32⟩
  | .hbm, ⟨15, _⟩ => ⟨S2048x16, .f32⟩
  | .hbm, ⟨16, _⟩ => ⟨S_, .f32⟩
  | .hbm, ⟨17, _⟩ => ⟨S2048x96, .f32⟩
  | .hbm, ⟨18, _⟩ => ⟨S2048x128, .f32⟩
  | .hbm, ⟨19, _⟩ => ⟨S_, .f32⟩
  | .hbm, ⟨20, _⟩ => ⟨S2048x96, .f32⟩
  | .hbm, ⟨21, _⟩ => ⟨S2048x128, .f32⟩
  | .hbm, ⟨22, _⟩ => ⟨S2048x16, .f32⟩
  | .hbm, ⟨23, _⟩ => ⟨S_, .f32⟩
  | .hbm, ⟨24, _⟩ => ⟨S2048x96, .f32⟩
  | .hbm, ⟨25, _⟩ => ⟨S2048x128, .f32⟩
  | .hbm, ⟨26, _⟩ => ⟨S64x2048, .f32⟩
  | .hbm, ⟨27, _⟩ => ⟨S1x2048, .f32⟩
  | .hbm, ⟨28, _⟩ => ⟨S8192x1024, .bf16⟩
  | .hbm, ⟨29, _⟩ => ⟨S8192x1024, .bf16⟩
  | .hbm, ⟨30, _⟩ => ⟨S8192x1024, .f32⟩
  | .hbm, ⟨31, _⟩ => ⟨S8192x128, .f32⟩
  | .hbm, ⟨32, _⟩ => ⟨S8192x512, .bf16⟩
  | .hbm, ⟨33, _⟩ => ⟨S4x2x512, .f32⟩
  | .hbm, ⟨34, _⟩ => ⟨S64x4096, .f32⟩
  | .hbm, ⟨35, _⟩ => ⟨S64x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S64x2048, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S1x2x512, .f32⟩
  | .local _ .vmem, ⟨22, _⟩ => ⟨S1x2x512, .f32⟩
  | .local _ .vmem, ⟨23, _⟩ => ⟨S64x4096, .f32⟩
  | .local _ .vmem, ⟨24, _⟩ => ⟨S64x128, .f32⟩
  | .local _ .vmem, ⟨25, _⟩ => ⟨S512x2048, .bf16⟩
  | .local _ .vmem, ⟨26, _⟩ => ⟨S520x512, .f32⟩
  | .local _ .vmem, ⟨27, _⟩ => ⟨S4096x2048, .bf16⟩
  | .local _ .vmem, ⟨28, _⟩ => ⟨S128x2048, .bf16⟩
  | .local _ .vmem, ⟨29, _⟩ => ⟨S2x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v237 : BitVec 1 := Scalar.cmpi .eq arg0 c15_i32
  let v238 : BitVec 32 := Scalar.extui v237
  let c0_i32_135 : BitVec 32 := 0#32
  let v239 : BitVec 1 := Scalar.cmpi .ne v238 c0_i32_135
  v239

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S64x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjRefIdeal.lean ====
abbrev S4x2048x2048 : Shape := ⟨3, ![4, 2048, 2048]⟩
abbrev S8x4x2048 : Shape := ⟨3, ![8, 4, 2048]⟩
abbrev S1x2048 : Shape := ⟨2, ![1, 2048]⟩
abbrev S1x2048x6680 : Shape := ⟨3, ![1, 2048, 6680]⟩
abbrev S1x3x512 : Shape := ⟨3, ![1, 3, 512]⟩
abbrev S2048x16 : Shape := ⟨2, ![2048, 16]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6680 : Shape := ⟨2, ![2048, 6680]⟩
abbrev S4x2048x6680 : Shape := ⟨3, ![4, 2048, 6680]⟩
abbrev S4x2048x512 : Shape := ⟨3, ![4, 2048, 512]⟩
abbrev S4x2048x1024 : Shape := ⟨3, ![4, 2048, 1024]⟩
abbrev S4x2048x24 : Shape := ⟨3, ![4, 2048, 24]⟩
abbrev S4x2048x8x128 : Shape := ⟨4, ![4, 2048, 8, 128]⟩
abbrev S4x2x512 : Shape := ⟨3, ![4, 2, 512]⟩
abbrev S4x2050x512 : Shape := ⟨3, ![4, 2050, 512]⟩
abbrev S1x1x512 : Shape := ⟨3, ![1, 1, 512]⟩
abbrev S512 : Shape := ⟨1, ![512]⟩
abbrev S8x8x2048 : Shape := ⟨3, ![8, 8, 2048]⟩
abbrev S8x8 : Shape := ⟨2, ![8, 8]⟩
abbrev S8x8x1 : Shape := ⟨3, ![8, 8, 1]⟩
abbrev S8x8x6680 : Shape := ⟨3, ![8, 8, 6680]⟩
abbrev S8192x1024 : Shape := ⟨2, ![8192, 1024]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x8x96 : Shape := ⟨4, ![4, 2048, 8, 96]⟩
abbrev S4x2048x128 : Shape := ⟨3, ![4, 2048, 128]⟩
abbrev S8192x128 : Shape := ⟨2, ![8192, 128]⟩
abbrev S8192x512 : Shape := ⟨2, ![8192, 512]⟩
abbrev S8x8x4096 : Shape := ⟨3, ![8, 8, 4096]⟩
abbrev S64x4096 : Shape := ⟨2, ![64, 4096]⟩
abbrev S8x8x24 : Shape := ⟨3, ![8, 8, 24]⟩
abbrev S8x8x128 : Shape := ⟨3, ![8, 8, 128]⟩
abbrev S64x128 : Shape := ⟨2, ![64, 128]⟩

abbrev nBuf : Space → Nat
  | .hbm => 145
  | .vmem => 0
  | .smem => 0
  | _ => 0

abbrev hbmTy0_0 (i : Nat) : BufTy := match i % 128 with
  | 0 => ⟨S4x2048x2048, .f32⟩
  | 1 => ⟨S8x4x2048, .f32⟩
  | 2 => ⟨S1x2048, .f32⟩
  | 3 => ⟨S1x2048x6680, .f32⟩
  | 4 => ⟨S1x3x512, .f32⟩
  | 5 => ⟨S2048x16, .f32⟩
  | 6 => ⟨S2048x16, .f32⟩
  | 7 => ⟨S2048, .f32⟩
  | 8 => ⟨S4x2048x2048, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x2048, .f32⟩
  | 20 => ⟨S4x2048x2048, .f32⟩
  | 21 => ⟨S1x1x2048, .f32⟩
  | 22 => ⟨S4x2048x2048, .f32⟩
  | 23 => ⟨S4x2048x2048, .f32⟩
  | 24 => ⟨S2048x6680, .f32⟩
  | 25 => ⟨S4x2048x6680, .f32⟩
  | 26 => ⟨S4x2048x512, .f32⟩
  | 27 => ⟨S4x2048x512, .f32⟩
  | 28 => ⟨S4x2048x512, .f32⟩
  | 29 => ⟨S4x2048x512, .f32⟩
  | 30 => ⟨S4x2048x1024, .f32⟩
  | 31 => ⟨S4x2048x1024, .f32⟩
  | 32 => ⟨S4x2048x24, .f32⟩
  | 33 => ⟨S4x2048x8x128, .f32⟩
  | 34 => ⟨S4x2048x512, .f32⟩
  | 35 => ⟨S_, .f32⟩
  | 36 => ⟨S4x2x512, .f32⟩
  | 37 => ⟨S4x2050x512, .f32⟩
  | 38 => ⟨S1x1x512, .f32⟩
  | 39 => ⟨S512, .f32⟩
  | 40 => ⟨S4x2048x512, .f32⟩
  | 41 => ⟨S1x1x512, .f32⟩
  | 42 => ⟨S4x2048x512, .f32⟩
  | 43 => ⟨S4x2048x512, .f32⟩
  | 44 => ⟨S1x1x512, .f32⟩
  | 45 => ⟨S512, .f32⟩
  | 46 => ⟨S4x2048x512, .f32⟩
  | 47 => ⟨S1x1x512, .f32⟩
  | 48 => ⟨S4x2048x512, .f32⟩
  | 49 => ⟨S4x2048x512, .f32⟩
  | 50 => ⟨S4x2048x512, .f32⟩
  | 51 => ⟨S1x1x512, .f32⟩
  | 52 => ⟨S512, .f32⟩
  | 53 => ⟨S4x2048x512, .f32⟩
  | 54 => ⟨S1x1x512, .f32⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S_, .f32⟩
  | 61 => ⟨S4x2048x512, .f32⟩
  | 62 => ⟨S4x2048x512, .f32⟩
  | 63 => ⟨S_, .f32⟩
  | 64 => ⟨S4x2048x512, .f32⟩
  | 65 => ⟨S4x2048x512, .f32⟩
  | 66 => ⟨S4x2048x512, .f32⟩
  | 67 => ⟨S4x2048x512, .f32⟩
  | 68 => ⟨S4x2048x512, .f32⟩
  | 69 => ⟨S_, .i32⟩
  | 70 => ⟨S_, .f32⟩
  | 71 => ⟨S8x8x2048, .f32⟩
  | 72 => ⟨S2048, .f32⟩
  | 73 => ⟨S8x8x2048, .f32⟩
  | 74 => ⟨S_, .f32⟩
  | 75 => ⟨S8x8, .f32⟩
  | 76 => ⟨S8x8x1, .f32⟩
  | 77 => ⟨S_, .f32⟩
  | 78 => ⟨S8x8x1, .f32⟩
  | 79 => ⟨S8x8x1, .f32⟩
  | 80 => ⟨S_, .f32⟩
  | 81 => ⟨S8x8x1, .f32⟩
  | 82 => ⟨S8x8x1, .f32⟩
  | 83 => ⟨S8x8x1, .f32⟩
  | 84 => ⟨S8x8x2048, .f32⟩
  | 85 => ⟨S8x8x2048, .f32⟩
  | 86 => ⟨S1x1x2048, .f32⟩
  | 87 => ⟨S8x8x2048, .f32⟩
  | 88 => ⟨S8x8x2048, .f32⟩
  | 89 => ⟨S2048x6680, .f32⟩
  | 90 => ⟨S8x8x6680, .f32⟩
  | 91 => ⟨S_, .f32⟩
  | 92 => ⟨S4x2048x8x128, .f32⟩
  | 93 => ⟨S4x2048x8x128, .f32⟩
  | 94 => ⟨S8192x1024, .f32⟩
  | 95 => ⟨S8192x1024, .bf16⟩
  | 96 => ⟨S2048x1x16, .f32⟩
  | 97 => ⟨S2048x1x16, .f32⟩
  | 98 => ⟨S4x2048x8x16, .f32⟩
  | 99 => ⟨S4x2048x8x16, .f32⟩
  | 100 => ⟨S1x2048x1x16, .f32⟩
  | 101 => ⟨S4x2048x8x16, .f32⟩
  | 102 => ⟨S4x2048x8x16, .f32⟩
  | 103 => ⟨S1x2048x1x16, .f32⟩
  | 104 => ⟨S4x2048x8x16, .f32⟩
  | 105 => ⟨S4x2048x8x16, .f32⟩
  | 106 => ⟨S4x2048x8x16, .f32⟩
  | 107 => ⟨S1x2048x1x16, .f32⟩
  | 108 => ⟨S4x2048x8x16, .f32⟩
  | 109 => ⟨S4x2048x8x16, .f32⟩
  | 110 => ⟨S1x2048x1x16, .f32⟩
  | 111 => ⟨S4x2048x8x16, .f32⟩
  | 112 => ⟨S4x2048x8x16, .f32⟩
  | 113 => ⟨S4x2048x8x16, .f32⟩
  | 114 => ⟨S4x2048x8x96, .f32⟩
  | 115 => ⟨S4x2048x8x128, .f32⟩
  | 116 => ⟨S_, .f32⟩
  | 117 => ⟨S4x2048x8x128, .f32⟩
  | 118 => ⟨S4x2048x8x128, .f32⟩
  | 119 => ⟨S8192x1024, .f32⟩
  | 120 => ⟨S8192x1024, .bf16⟩
  | 121 => ⟨S4x2048x1024, .f32⟩
  | 122 => ⟨S4x2048x1024, .f32⟩
  | 123 => ⟨S_, .f32⟩
  | 124 => ⟨S4x2048x1024, .f32⟩
  | 125 => ⟨S4x2048x1024, .f32⟩
  | 126 => ⟨S_, .f32⟩
  | 127 => ⟨S4x2048x1024, .f32⟩
  | _ => ⟨S4x2048x2048, .f32⟩

abbrev hbmTy0_1 (i : Nat) : BufTy := match i % 128 with
  | 0 => ⟨S4x2048x1024, .f32⟩
  | 1 => ⟨S4x2048x1024, .f32⟩
  | 2 => ⟨S8192x1024, .f32⟩
  | 3 => ⟨S_, .i32⟩
  | 4 => ⟨S_, .f32⟩
  | 5 => ⟨S4x2048x128, .f32⟩
  | 6 => ⟨S8192x128, .f32⟩
  | 7 => ⟨S8192x512, .f32⟩
  | 8 => ⟨S8192x512, .bf16⟩
  | 9 => ⟨S4x2x512, .f32⟩
  | 10 => ⟨S8x8x4096, .f32⟩
  | 11 => ⟨S64x4096, .f32⟩
  | 12 => ⟨S8x8x24, .f32⟩
  | 13 => ⟨S_, .i32⟩
  | 14 => ⟨S_, .f32⟩
  | 15 => ⟨S8x8x128, .f32⟩
  | 16 => ⟨S64x128, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c : Ref sig .tc := ⟨.hbm, 69, rfl⟩
abbrev main_call0_v0 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_9 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_10 : Ref sig .tc := ⟨.hbm, 123, rfl⟩
abbrev main_v103 : Ref sig .tc := ⟨.hbm, 124, rfl⟩
abbrev main_v104 : Ref sig .tc := ⟨.hbm, 125, rfl⟩
abbrev main_cst_11 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_12 : Ref sig .tc := ⟨.hbm, 131, rfl⟩
abbrev main_call1_v0 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_c_13 : Ref sig .tc := ⟨.hbm, 141, rfl⟩
abbrev main_call2_v0 : Ref sig .tc := ⟨.hbm, 142, rfl⟩
abbrev main_v117 : Ref sig .tc := ⟨.hbm, 143, rfl⟩
abbrev main_v118 : Ref sig .tc := ⟨.hbm, 144, rfl⟩

abbrev nD : Nat := 1
abbrev τ : Topo := Topo.v7x

variable {F : FTy → Type} [FloatOps F]
-- ==== Out.lean ====
abbrev S8192x2048 : Shape := ⟨2, ![8192, 2048]⟩
abbrev S8192x512 : Shape := ⟨2, ![8192, 512]⟩
abbrev S8192x1024 : Shape := ⟨2, ![8192, 1024]⟩
abbrev S64x2048 : Shape := ⟨2, ![64, 2048]⟩
abbrev S64x512 : Shape := ⟨2, ![64, 512]⟩
abbrev S64x1024 : Shape := ⟨2, ![64, 1024]⟩
abbrev S1x2048x2048 : Shape := ⟨3, ![1, 2048, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S64 : Shape := ⟨1, ![64]⟩
abbrev S64x1 : Shape := ⟨2, ![64, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S64x2048, .f32⟩
  | .hbm, ⟨5, _⟩ => ⟨S64x512, .bf16⟩
  | .hbm, ⟨6, _⟩ => ⟨S64x1024, .bf16⟩
  | .hbm, ⟨7, _⟩ => ⟨S64x512, .bf16⟩
  | .hbm, ⟨8, _⟩ => ⟨S1x2048x2048, .f32⟩
  | .hbm, ⟨9, _⟩ => ⟨S2048, .f32⟩
  | .hbm, ⟨10, _⟩ => ⟨S2048x2048, .f32⟩
  | .hbm, ⟨11, _⟩ => ⟨S1x2048, .f32⟩
  | .hbm, ⟨12, _⟩ => ⟨S8192x2048, .f32⟩
  | .hbm, ⟨13, _⟩ => ⟨S64x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S64x2048, .f32⟩
  | .local _ .vmem, ⟨9, _⟩ => ⟨S64x512, .bf16⟩
  | .local _ .vmem, ⟨10, _⟩ => ⟨S64x1024, .bf16⟩
  | .local _ .vmem, ⟨11, _⟩ => ⟨S64x512, .bf16⟩
  | .local _ .vmem, ⟨12, _⟩ => ⟨S2048x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S64x2048, .f32⟩
  | .local _ .vmem, ⟨17, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_21 : BitVec 32 := 0#32
  let v33 : BitVec 1 := Scalar.cmpi .ne v32 c0_i32_21
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S8192x2048 : Shape := ⟨2, ![8192, 2048]⟩
abbrev S8192x512 : Shape := ⟨2, ![8192, 512]⟩
abbrev S8192x1024 : Shape := ⟨2, ![8192, 1024]⟩
abbrev S64x2048 : Shape := ⟨2, ![64, 2048]⟩
abbrev S64x512 : Shape := ⟨2, ![64, 512]⟩
abbrev S64x1024 : Shape := ⟨2, ![64, 1024]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64 : Shape := ⟨1, ![64]⟩
abbrev S64x1 : Shape := ⟨2, ![64, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .bf16⟩
  | .hbm, ⟨2, _⟩ => ⟨S8192x1024, .bf16⟩
  | .hbm, ⟨3, _⟩ => ⟨S8192x512, .bf16⟩
  | .hbm, ⟨4, _⟩ => ⟨S64x2048, .f32⟩
  | .hbm, ⟨5, _⟩ => ⟨S64x512, .bf16⟩
  | .hbm, ⟨6, _⟩ => ⟨S64x1024, .bf16⟩
  | .hbm, ⟨7, _⟩ => ⟨S64x512, .bf16⟩
  | .hbm, ⟨8, _⟩ => ⟨S1x2048x2048, .f32⟩
  | .hbm, ⟨9, _⟩ => ⟨S2048, .f32⟩
  | .hbm, ⟨10, _⟩ => ⟨S8192x512, .f32⟩
  | .hbm, ⟨11, _⟩ => ⟨S8192x1024, .f32⟩
  | .hbm, ⟨12, _⟩ => ⟨S8192x512, .f32⟩
  | .hbm, ⟨13, _⟩ => ⟨S8192x2048, .f32⟩
  | .hbm, ⟨14, _⟩ => ⟨S2048x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S64x512, .f32⟩
  | .hbm, ⟨34, _⟩ => ⟨S64x1024, .f32⟩
  | .hbm, ⟨35, _⟩ => ⟨S64x512, .f32⟩
  | .hbm, ⟨36, _⟩ => ⟨S64x2048, .f32⟩
  | .hbm, ⟨37, _⟩ => ⟨S2048x2048, .f32⟩
  | .hbm, ⟨38, _⟩ => ⟨S64x2048, .f32⟩
  | .hbm, ⟨39, _⟩ => ⟨S64x2048, .f32⟩
  | .hbm, ⟨40, _⟩ => ⟨S64x2048, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S64x1, .f32⟩
  | .hbm, ⟨51, _⟩ => ⟨S64x2048, .f32⟩
  | .hbm, ⟨52, _⟩ => ⟨S64x2048, .f32⟩
  | .hbm, ⟨53, _⟩ => ⟨S1x2048, .f32⟩
  | .hbm, ⟨54, _⟩ => ⟨S64x2048, .f32⟩
  | .hbm, ⟨55, _⟩ => ⟨S64x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Mkv.lean ====
abbrev S4x256x2048 : Shape := ⟨3, ![4, 256, 2048]⟩
abbrev S1x2048 : Shape := ⟨2, ![1, 2048]⟩
abbrev S1x2048x1024 : Shape := ⟨3, ![1, 2048, 1024]⟩
abbrev S1024x2048 : Shape := ⟨2, ![1024, 2048]⟩
abbrev S2048 : Shape := ⟨1, ![2048]⟩
abbrev S2048x1024 : Shape := ⟨2, ![2048, 1024]⟩
abbrev S8192x128 : Shape := ⟨2, ![8192, 128]⟩
abbrev S512x2048 : Shape := ⟨2, ![512, 2048]⟩
abbrev S4096x128 : Shape := ⟨2, ![4096, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S512x1x128 : Shape := ⟨3, ![512, 1, 128]⟩
abbrev S512x8x128 : Shape := ⟨3, ![512, 8, 128]⟩

abbrev nBuf : Space → Nat
  | .hbm => 8
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S1024x2048, .f32⟩
  | .hbm, ⟨4, _⟩ => ⟨S2048, .f32⟩
  | .hbm, ⟨5, _⟩ => ⟨S2048x1024, .f32⟩
  | .hbm, ⟨6, _⟩ => ⟨S1x2048, .f32⟩
  | .hbm, ⟨7, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .f32⟩
  | .local _ .vmem, ⟨4, _⟩ => ⟨S4096x128, .f32⟩
  | .local _ .vmem, ⟨5, _⟩ => ⟨S4096x128, .f32⟩
  | .local _ .vmem, ⟨6, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MkvRefIdeal.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x1024 : Shape := ⟨2, ![2048, 1024]⟩
abbrev S4x256x1024 : Shape := ⟨3, ![4, 256, 1024]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x1024, .f32⟩
  | .hbm, ⟨21, _⟩ => ⟨S4x256x1024, .f32⟩
  | .hbm, ⟨22, _⟩ => ⟨S8192x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kv.lean ====
abbrev S4x2048x2048 : Shape := ⟨3, ![4, 2048, 2048]⟩
abbrev S8x4x2048 : Shape := ⟨3, ![8, 4, 2048]⟩
abbrev S1x2048 : Shape := ⟨2, ![1, 2048]⟩
abbrev S1x2048x6680 : Shape := ⟨3, ![1, 2048, 6680]⟩
abbrev S1x2x64x128 : Shape := ⟨4, ![1, 2, 64, 128]⟩
abbrev S2048x16 : Shape := ⟨2, ![2048, 16]⟩
abbrev S4x2048x128 : Shape := ⟨3, ![4, 2048, 128]⟩
abbrev S_ : Shape := ⟨0, ![]⟩
abbrev S8x8x2048 : Shape := ⟨3, ![8, 8, 2048]⟩
abbrev S1x1x64x128 : Shape := ⟨4, ![1, 1, 64, 128]⟩
abbrev S64x128 : Shape := ⟨2, ![64, 128]⟩
abbrev S64x512 : Shape := ⟨2, ![64, 512]⟩
abbrev S8192x2048 : Shape := ⟨2, ![8192, 2048]⟩
abbrev S2048 : Shape := ⟨1, ![2048]⟩
abbrev S1x6680x2048 : Shape := ⟨3, ![1, 6680, 2048]⟩
abbrev S2048x96 : Shape := ⟨2, ![2048, 96]⟩
abbrev S2048x128 : Shape := ⟨2, ![2048, 128]⟩
abbrev S64x2048 : Shape := ⟨2, ![64, 2048]⟩
abbrev S65536x128 : Shape := ⟨2, ![65536, 128]⟩
abbrev S8192x1024 : Shape := ⟨2, ![8192, 1024]⟩
abbrev S8192x128 : Shape := ⟨2, ![8192, 128]⟩
abbrev S128x512 : Shape := ⟨2, ![128, 512]⟩
abbrev S8192x512 : Shape := ⟨2, ![8192, 512]⟩
abbrev S64x2560 : Shape := ⟨2, ![64, 2560]⟩
abbrev S512x2048 : Shape := ⟨2, ![512, 2048]⟩
abbrev S512x128 : Shape := ⟨2, ![512, 128]⟩
abbrev S1x2048x128 : Shape := ⟨3, ![1, 2048, 128]⟩
abbrev S4096x128 : Shape := ⟨2, ![4096, 128]⟩
abbrev S512x1024 : Shape := ⟨2, ![512, 1024]⟩
abbrev S8x512 : Shape := ⟨2, ![8, 512]⟩
abbrev S512x512 : Shape := ⟨2, ![512, 512]⟩
abbrev S2560x2048 : Shape := ⟨2, ![2560, 2048]⟩
abbrev S2x512x2048 : Shape := ⟨3, ![2, 512, 2048]⟩
abbrev S2 : Shape := ⟨1, ![2]⟩
abbrev S1 : Shape := ⟨1, ![1]⟩
abbrev S1x512x2048 : Shape := ⟨3, ![1, 512, 2048]⟩
abbrev S512 : Shape := ⟨1, ![512]⟩
abbrev S512x1 : Shape := ⟨2, ![512, 1]⟩
abbrev S512x1x128 : Shape := ⟨3, ![512, 1, 128]⟩
abbrev S512x8x128 : Shape := ⟨3, ![512, 8, 128]⟩
abbrev S512x4x128 : Shape := ⟨3, ![512, 4, 128]⟩
abbrev S8x64x512 : Shape := ⟨3, ![8, 64, 512]⟩
abbrev S1x64x512 : Shape := ⟨3, ![1, 64, 512]⟩
abbrev S1x256x128 : Shape := ⟨3, ![1, 256, 128]⟩
abbrev S256x128 : Shape := ⟨2, ![256, 128]⟩
abbrev S512x256 : Shape := ⟨2, ![512, 256]⟩
abbrev S64 : Shape := ⟨1, ![64]⟩
abbrev S64x1 : Shape := ⟨2, ![64, 1]⟩

abbrev nBuf : Space → Nat
  | .hbm => 43
  | .vmem => 27
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S1x2048, .f32⟩
  | .hbm, ⟨3, _⟩ => ⟨S1x2048x6680, .f32⟩
  | .hbm, ⟨4, _⟩ => ⟨S1x2x64x128, .f32⟩
  | .hbm, ⟨5, _⟩ => ⟨S2048x16, .f32⟩
  | .hbm, ⟨6, _⟩ => ⟨S2048x16, .f32⟩
  | .hbm, ⟨7, _⟩ => ⟨S4x2048x128, .f32⟩
  | .hbm, ⟨8, _⟩ => ⟨S_, .i32⟩
  | .hbm, ⟨9, _⟩ => ⟨S_, .f32⟩
  | .hbm, ⟨10, _⟩ => ⟨S8x8x2048, .f32⟩
  | .hbm, ⟨11, _⟩ => ⟨S1x1x64x128, .f32⟩
  | .hbm, ⟨12, _⟩ => ⟨S64x128, .f32⟩
  | .hbm, ⟨13, _⟩ => ⟨S1x1x64x128, .f32⟩
  | .hbm, ⟨14, _⟩ => ⟨S64x128, .f32⟩
  | .hbm, ⟨15, _⟩ => ⟨S1x1x64x128, .f32⟩
  | .hbm, ⟨16, _⟩ => ⟨S64x128, .f32⟩
  | .hbm, ⟨17, _⟩ => ⟨S1x1x64x128, .f32⟩
  | .hbm, ⟨18, _⟩ => ⟨S64x128, .f32⟩
  | .hbm, ⟨19, _⟩ => ⟨S64x512, .f32⟩
  | .hbm, ⟨20, _⟩ => ⟨S8192x2048, .f32⟩
  | .hbm, ⟨21, _⟩ => ⟨S2048, .f32⟩
  | .hbm, ⟨22, _⟩ => ⟨S1x6680x2048, .f32⟩
  | .hbm, ⟨23, _⟩ => ⟨S_, .f32⟩
  | .hbm, ⟨24, _⟩ => ⟨S2048x16, .f32⟩
  | .hbm, ⟨25, _⟩ => ⟨S_, .f32⟩
  | .hbm, ⟨26, _⟩ => ⟨S2048x96, .f32⟩
  | .hbm, ⟨27, _⟩ => ⟨S2048x128, .f32⟩
  | .hbm, ⟨28, _⟩ => ⟨S_, .f32⟩
  | .hbm, ⟨29, _⟩ => ⟨S2048x96, .f32⟩
  | .hbm, ⟨30, _⟩ => ⟨S2048x128, .f32⟩
  | .hbm, ⟨31, _⟩ => ⟨S2048x16, .f32⟩
  | .hbm, ⟨32, _⟩ => ⟨S_, .f32⟩
  | .hbm, ⟨33, _⟩ => ⟨S2048x96, .f32⟩
  | .hbm, ⟨34, _⟩ => ⟨S2048x128, .f32⟩
  | .hbm, ⟨35, _⟩ => ⟨S64x2048, .f32⟩
  | .hbm, ⟨36, _⟩ => ⟨S1x2048, .f32⟩
  | .hbm, ⟨37, _⟩ => ⟨S65536x128, .f32⟩
  | .hbm, ⟨38, _⟩ => ⟨S8192x1024, .bf16⟩
  | .hbm, ⟨39, _⟩ => ⟨S8192x128, .f32⟩
  | .hbm, ⟨40, _⟩ => ⟨S128x512, .f32⟩
  | .hbm, ⟨41, _⟩ => ⟨S8192x512, .bf16⟩
  | .hbm, ⟨42, _⟩ => ⟨S64x2560, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S64x512, .f32⟩
  | .local _ .vmem, ⟨10, _⟩ => ⟨S64x2048, .f32⟩
  | .local _ .vmem, ⟨11, _⟩ => ⟨S1x2048x128, .f32⟩
  | .local _ .vmem, ⟨12, _⟩ => ⟨S1x2048x128, .f32⟩
  | .local _ .vmem, ⟨13, _⟩ => ⟨S4096x128, .f32⟩
  | .local _ .vmem, ⟨14, _⟩ => ⟨S4096x128, .f32⟩
  | .local _ .vmem, ⟨15, _⟩ => ⟨S512x1024, .bf16⟩
  | .local _ .vmem, ⟨16, _⟩ => ⟨S512x1024, .bf16⟩
  | .local _ .vmem, ⟨17, _⟩ => ⟨S2048x128, .f32⟩
  | .local _ .vmem, ⟨18, _⟩ => ⟨S2048x128, .f32⟩
  | .local _ .vmem, ⟨19, _⟩ => ⟨S8x512, .f32⟩
  | .local _ .vmem, ⟨20, _⟩ => ⟨S8x512, .f32⟩
  | .local _ .vmem, ⟨21, _⟩ => ⟨S512x512, .bf16⟩
  | .local _ .vmem, ⟨22, _⟩ => ⟨S512x512, .bf16⟩
  | .local _ .vmem, ⟨23, _⟩ => ⟨S64x2560, .f32⟩
  | .local _ .vmem, ⟨24, _⟩ => ⟨S512x2048, .bf16⟩
  | .local _ .vmem, ⟨25, _⟩ => ⟨S2560x2048, .bf16⟩
  | .local _ .vmem, ⟨26, _⟩ => ⟨S2x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v23_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v238 : BitVec 1 := Scalar.cmpi .eq arg0 c15_i32
  let v239 : BitVec 32 := Scalar.extui v238
  let c0_i32_105 : BitVec 32 := 0#32
  let v240 : BitVec 1 := Scalar.cmpi .ne v239 c0_i32_105
  v240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S64x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KvRefIdeal.lean ====
abbrev S4x2048x2048 : Shape := ⟨3, ![4, 2048, 2048]⟩
abbrev S8x4x2048 : Shape := ⟨3, ![8, 4, 2048]⟩
abbrev S1x2048 : Shape := ⟨2, ![1, 2048]⟩
abbrev S1x2048x6680 : Shape := ⟨3, ![1, 2048, 6680]⟩
abbrev S1x2x64x128 : Shape := ⟨4, ![1, 2, 64, 128]⟩
abbrev S2048x16 : Shape := ⟨2, ![2048, 16]⟩
abbrev S4x2048x128 : Shape := ⟨3, ![4, 2048, 128]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6680 : Shape := ⟨2, ![2048, 6680]⟩
abbrev S4x2048x6680 : Shape := ⟨3, ![4, 2048, 6680]⟩
abbrev S4x2048x1536 : Shape := ⟨3, ![4, 2048, 1536]⟩
abbrev S4x2048x6x2x128 : Shape := ⟨5, ![4, 2048, 6, 2, 128]⟩
abbrev S4x2048x512 : Shape := ⟨3, ![4, 2048, 512]⟩
abbrev S4x2048x1x2x128 : Shape := ⟨5, ![4, 2048, 1, 2, 128]⟩
abbrev S4x2048x2x128 : Shape := ⟨4, ![4, 2048, 2, 128]⟩
abbrev S2048x1x16 : Shape := ⟨3, ![2048, 1, 16]⟩
abbrev S4x2048x2x16 : Shape := ⟨4, ![4, 2048, 2, 16]⟩
abbrev S1x2048x1x16 : Shape := ⟨4, ![1, 2048, 1, 16]⟩
abbrev S4x2048x2x96 : Shape := ⟨4, ![4, 2048, 2, 96]⟩
abbrev S4x2048x4x2x128 : Shape := ⟨5, ![4, 2048, 4, 2, 128]⟩
abbrev S4x2048x2x2x128 : Shape := ⟨5, ![4, 2048, 2, 2, 128]⟩
abbrev S128x64x2x2x128 : Shape := ⟨5, ![128, 64, 2, 2, 128]⟩
abbrev S2x64x128 : Shape := ⟨3, ![2, 64, 128]⟩
abbrev S64x2x128 : Shape := ⟨3, ![64, 2, 128]⟩
abbrev S1x64x2x1x128 : Shape := ⟨5, ![1, 64, 2, 1, 128]⟩
abbrev S128x2x2x128 : Shape := ⟨4, ![128, 2, 2, 128]⟩
abbrev S4x256x2x4x128 : Shape := ⟨5, ![4, 256, 2, 4, 128]⟩
abbrev S4x2048x4x128 : Shape := ⟨4, ![4, 2048, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8x8x2048 : Shape := ⟨3, ![8, 8, 2048]⟩
abbrev S8x8 : Shape := ⟨2, ![8, 8]⟩
abbrev S8x8x1 : Shape := ⟨3, ![8, 8, 1]⟩
abbrev S8x8x6680 : Shape := ⟨3, ![8, 8, 6680]⟩
abbrev S65536x128 : Shape := ⟨2, ![65536, 128]⟩
abbrev S8192x1024 : Shape := ⟨2, ![8192, 1024]⟩
abbrev S4x512x2x2x128 : Shape := ⟨5, ![4, 512, 2, 2, 128]⟩
abbrev S8192x128 : Shape := ⟨2, ![8192, 128]⟩
abbrev S128x512 : Shape := ⟨2, ![128, 512]⟩
abbrev S8192x512 : Shape := ⟨2, ![8192, 512]⟩
abbrev S8x8x2560 : Shape := ⟨3, ![8, 8, 2560]⟩
abbrev S64x2560 : Shape := ⟨2, ![64, 2560]⟩

abbrev nBuf : Space → Nat
  | .hbm => 178
  | .vmem => 0
  | .smem => 0
  | _ => 0

abbrev hbmTy0_0 (i : Nat) : BufTy := match i % 128 with
  | 0 => ⟨S4x2048x2048, .f32⟩
  | 1 => ⟨S8x4x2048, .f32⟩
  | 2 => ⟨S1x2048, .f32⟩
  | 3 => ⟨S1x2048x6680, .f32⟩
  | 4 => ⟨S1x2x64x128, .f32⟩
  | 5 => ⟨S2048x16, .f32⟩
  | 6 => ⟨S2048x16, .f32⟩
  | 7 => ⟨S4x2048x128, .f32⟩
  | 8 => ⟨S2048, .f32⟩
  | 9 => ⟨S4x2048x2048, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x1, .f32⟩
  | 20 => ⟨S4x2048x2048, .f32⟩
  | 21 => ⟨S4x2048x2048, .f32⟩
  | 22 => ⟨S1x1x2048, .f32⟩
  | 23 => ⟨S4x2048x2048, .f32⟩
  | 24 => ⟨S4x2048x2048, .f32⟩
  | 25 => ⟨S2048x6680, .f32⟩
  | 26 => ⟨S4x2048x6680, .f32⟩
  | 27 => ⟨S4x2048x1536, .f32⟩
  | 28 => ⟨S4x2048x6x2x128, .f32⟩
  | 29 => ⟨S4x2048x512, .f32⟩
  | 30 => ⟨S4x2048x512, .f32⟩
  | 31 => ⟨S4x2048x1x2x128, .f32⟩
  | 32 => ⟨S4x2048x2x128, .f32⟩
  | 33 => ⟨S2048x1x16, .f32⟩
  | 34 => ⟨S2048x1x16, .f32⟩
  | 35 => ⟨S4x2048x2x16, .f32⟩
  | 36 => ⟨S4x2048x2x16, .f32⟩
  | 37 => ⟨S1x2048x1x16, .f32⟩
  | 38 => ⟨S4x2048x2x16, .f32⟩
  | 39 => ⟨S4x2048x2x16, .f32⟩
  | 40 => ⟨S1x2048x1x16, .f32⟩
  | 41 => ⟨S4x2048x2x16, .f32⟩
  | 42 => ⟨S4x2048x2x16, .f32⟩
  | 43 => ⟨S4x2048x2x16, .f32⟩
  | 44 => ⟨S1x2048x1x16, .f32⟩
  | 45 => ⟨S4x2048x2x16, .f32⟩
  | 46 => ⟨S4x2048x2x16, .f32⟩
  | 47 => ⟨S1x2048x1x16, .f32⟩
  | 48 => ⟨S4x2048x2x16, .f32⟩
  | 49 => ⟨S4x2048x2x16, .f32⟩
  | 50 => ⟨S4x2048x2x16, .f32⟩
  | 51 => ⟨S4x2048x2x96, .f32⟩
  | 52 => ⟨S4x2048x2x128, .f32⟩
  | 53 => ⟨S4x2048x1x2x128, .f32⟩
  | 54 => ⟨S4x2048x2x128, .f32⟩
  | 55 => ⟨S2048x1x16, .f32⟩
  | 56 => ⟨S2048x1x16, .f32⟩
  | 57 => ⟨S4x2048x2x16, .f32⟩
  | 58 => ⟨S4x2048x2x16, .f32⟩
  | 59 => ⟨S1x2048x1x16, .f32⟩
  | 60 => ⟨S4x2048x2x16, .f32⟩
  | 61 => ⟨S4x2048x2x16, .f32⟩
  | 62 => ⟨S1x2048x1x16, .f32⟩
  | 63 => ⟨S4x2048x2x16, .f32⟩
  | 64 => ⟨S4x2048x2x16, .f32⟩
  | 65 => ⟨S4x2048x2x16, .f32⟩
  | 66 => ⟨S1x2048x1x16, .f32⟩
  | 67 => ⟨S4x2048x2x16, .f32⟩
  | 68 => ⟨S4x2048x2x16, .f32⟩
  | 69 => ⟨S1x2048x1x16, .f32⟩
  | 70 => ⟨S4x2048x2x16, .f32⟩
  | 71 => ⟨S4x2048x2x16, .f32⟩
  | 72 => ⟨S4x2048x2x16, .f32⟩
  | 73 => ⟨S4x2048x2x96, .f32⟩
  | 74 => ⟨S4x2048x2x128, .f32⟩
  | 75 => ⟨S4x2048x1x2x128, .f32⟩
  | 76 => ⟨S4x2048x2x128, .f32⟩
  | 77 => ⟨S4x2048x1x2x128, .f32⟩
  | 78 => ⟨S4x2048x2x128, .f32⟩
  | 79 => ⟨S4x2048x1x2x128, .f32⟩
  | 80 => ⟨S4x2048x2x128, .f32⟩
  | 81 => ⟨S4x2048x1x2x128, .f32⟩
  | 82 => ⟨S4x2048x1x2x128, .f32⟩
  | 83 => ⟨S4x2048x1x2x128, .f32⟩
  | 84 => ⟨S4x2048x1x2x128, .f32⟩
  | 85 => ⟨S4x2048x4x2x128, .f32⟩
  | 86 => ⟨S4x2048x1x2x128, .f32⟩
  | 87 => ⟨S4x2048x2x128, .f32⟩
  | 88 => ⟨S4x2048x1x2x128, .f32⟩
  | 89 => ⟨S4x2048x1x2x128, .f32⟩
  | 90 => ⟨S4x2048x2x2x128, .f32⟩
  | 91 => ⟨S4x2048x2x2x128, .f32⟩
  | 92 => ⟨S128x64x2x2x128, .f32⟩
  | 93 => ⟨S2x64x128, .f32⟩
  | 94 => ⟨S64x2x128, .f32⟩
  | 95 => ⟨S1x64x2x1x128, .f32⟩
  | 96 => ⟨S128x64x2x2x128, .f32⟩
  | 97 => ⟨S128x64x2x2x128, .f32⟩
  | 98 => ⟨S_, .f32⟩
  | 99 => ⟨S128x2x2x128, .f32⟩
  | 100 => ⟨S4x256x2x4x128, .f32⟩
  | 101 => ⟨S4x2048x4x128, .f32⟩
  | 102 => ⟨S4x256x1x4x128, .f32⟩
  | 103 => ⟨S4x256x4x128, .f32⟩
  | 104 => ⟨S4x4x2048x256, .f32⟩
  | 105 => ⟨S_, .f32⟩
  | 106 => ⟨S4x4x2048x256, .f32⟩
  | 107 => ⟨S4x4x2048x256, .f32⟩
  | 108 => ⟨S_, .f32⟩
  | 109 => ⟨S4x4x2048, .f32⟩
  | 110 => ⟨S_, .f32⟩
  | 111 => ⟨S4x4x2048, .f32⟩
  | 112 => ⟨S4x4x2048, .f32⟩
  | 113 => ⟨S4x4x2048x1, .f32⟩
  | 114 => ⟨S4x4x2048x256, .f32⟩
  | 115 => ⟨S4x4x2048x256, .f32⟩
  | 116 => ⟨S4x4x2048x256, .f32⟩
  | 117 => ⟨S_, .f32⟩
  | 118 => ⟨S4x4x2048, .f32⟩
  | 119 => ⟨S4x4x2048x1, .f32⟩
  | 120 => ⟨S4x4x2048x256, .f32⟩
  | 121 => ⟨S4x4x2048x256, .f32⟩
  | 122 => ⟨S4x256x1x4x128, .f32⟩
  | 123 => ⟨S4x256x4x128, .f32⟩
  | 124 => ⟨S4x4x128x2048, .f32⟩
  | 125 => ⟨S4x2048x4x128, .f32⟩
  | 126 => ⟨S4x2048x512, .f32⟩
  | 127 => ⟨S4x2048x512, .f32⟩
  | _ => ⟨S4x2048x2048, .f32⟩

abbrev hbmTy0_1 (i : Nat) : BufTy := match i % 128 with
  | 0 => ⟨S_, .f32⟩
  | 1 => ⟨S4x2048x512, .f32⟩
  | 2 => ⟨S4x2048x512, .f32⟩
  | 3 => ⟨S_, .f32⟩
  | 4 => ⟨S4x2048x512, .f32⟩
  | 5 => ⟨S4x2048x512, .f32⟩
  | 6 => ⟨S4x2048x512, .f32⟩
  | 7 => ⟨S4x2048x512, .f32⟩
  | 8 => ⟨S4x2048x512, .f32⟩
  | 9 => ⟨S_, .i32⟩
  | 10 => ⟨S_, .f32⟩
  | 11 => ⟨S8x8x2048, .f32⟩
  | 12 => ⟨S2048, .f32⟩
  | 13 => ⟨S8x8x2048, .f32⟩
  | 14 => ⟨S_, .f32⟩
  | 15 => ⟨S8x8, .f32⟩
  | 16 => ⟨S8x8x1, .f32⟩
  | 17 => ⟨S_, .f32⟩
  | 18 => ⟨S8x8x1, .f32⟩
  | 19 => ⟨S8x8x1, .f32⟩
  | 20 => ⟨S_, .f32⟩
  | 21 => ⟨S8x8x1, .f32⟩
  | 22 => ⟨S8x8x1, .f32⟩
  | 23 => ⟨S8x8x1, .f32⟩
  | 24 => ⟨S8x8x2048, .f32⟩
  | 25 => ⟨S8x8x2048, .f32⟩
  | 26 => ⟨S1x1x2048, .f32⟩
  | 27 => ⟨S8x8x2048, .f32⟩
  | 28 => ⟨S8x8x2048, .f32⟩
  | 29 => ⟨S2048x6680, .f32⟩
  | 30 => ⟨S8x8x6680, .f32⟩
  | 31 => ⟨S4x2048x1x2x128, .f32⟩
  | 32 => ⟨S4x2048x2x128, .f32⟩
  | 33 => ⟨S4x2048x1x2x128, .f32⟩
  | 34 => ⟨S4x2048x2x128, .f32⟩
  | 35 => ⟨S4x2048x1x2x128, .f32⟩
  | 36 => ⟨S4x2048x1x2x128, .f32⟩
  | 37 => ⟨S4x2048x1x2x128, .f32⟩
  | 38 => ⟨S4x2048x1x2x128, .f32⟩
  | 39 => ⟨S4x2048x4x2x128, .f32⟩
  | 40 => ⟨S65536x128, .f32⟩
  | 41 => ⟨S8192x1024, .f32⟩
  | 42 => ⟨S8192x1024, .bf16⟩
  | 43 => ⟨S4x512x2x2x128, .f32⟩
  | 44 => ⟨S8192x128, .f32⟩
  | 45 => ⟨S128x512, .f32⟩
  | 46 => ⟨S8192x512, .f32⟩
  | 47 => ⟨S8192x512, .bf16⟩
  | 48 => ⟨S8x8x2560, .f32⟩
  | 49 => ⟨S64x2560, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_2 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_3 : Ref sig .tc := ⟨.hbm, 105, rfl⟩
abbrev main_v93 : Ref sig .tc := ⟨.hbm, 106, rfl⟩
abbrev main_v94 : Ref sig .tc := ⟨.hbm, 107, rfl⟩
abbrev main_cst_4 : Ref sig .tc := ⟨.hbm, 108, rfl⟩
abbrev main_v95 : Ref sig .tc := ⟨.hbm, 109, rfl⟩
abbrev main_cst_5 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_6 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_7 : Ref sig .tc := ⟨.hbm, 128, rfl⟩
abbrev main_v112 : Ref sig .tc := ⟨.hbm, 129, rfl⟩
abbrev main_v113 : Ref sig .tc := ⟨.hbm, 130, rfl⟩
abbrev main_cst_8 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_c : Ref sig .tc := ⟨.hbm, 137, rfl⟩
abbrev main_call0_v0 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_9 : Ref sig .tc := ⟨.hbm, 142, rfl⟩
abbrev main_v122 : Ref sig .tc := ⟨.hbm, 143, rfl⟩
abbrev main_v123 : Ref sig .tc := ⟨.hbm, 144, rfl⟩
abbrev main_cst_10 : Ref sig .tc := ⟨.hbm, 145, rfl⟩
abbrev main_v124 : Ref sig .tc := ⟨.hbm, 146, rfl⟩
abbrev main_v125 : Ref sig .tc := ⟨.hbm, 147, rfl⟩
abbrev main_cst_11 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩

abbrev nD : Nat := 1
abbrev τ : Topo := Topo.v7x

variable {F : FTy → Type} [FloatOps F]
-- ==== Conv.lean ====
abbrev S8x8x4096 : Shape := ⟨3, ![8, 8, 4096]⟩
abbrev S1x8x2x512 : Shape := ⟨4, ![1, 8, 2, 512]⟩
abbrev S1x3x512 : Shape := ⟨3, ![1, 3, 512]⟩
abbrev S8x2x512 : Shape := ⟨3, ![8, 2, 512]⟩
abbrev S3x512 : Shape := ⟨2, ![3, 512]⟩
abbrev S8x8x512 : Shape := ⟨3, ![8, 8, 512]⟩
abbrev S8x8x128 : Shape := ⟨3, ![8, 8, 128]⟩
abbrev S8x2x128 : Shape := ⟨3, ![8, 2, 128]⟩
abbrev S3x128 : Shape := ⟨2, ![3, 128]⟩
abbrev S8x16x128 : Shape := ⟨3, ![8, 16, 128]⟩
abbrev S1x128 : Shape := ⟨2, ![1, 128]⟩
abbrev S1x1x128 : Shape := ⟨3, ![1, 1, 128]⟩

abbrev nBuf : Space → Nat
  | .hbm => 7
  | .vmem => 17
  | .smem => 0
  | _ => 0

abbrev bufTy : (tb : Table) → Fin (tcTables nBuf tb) → BufTy
  | .hbm, ⟨0, _⟩ => ⟨S8x8x4096, .f32⟩
  | .hbm, ⟨1, _⟩ => ⟨S1x8x2x512, .f32⟩
  | .hbm, ⟨2, _⟩ => ⟨S1x3x512, .f32⟩
  | .hbm, ⟨3, _⟩ => ⟨S8x2x512, .f32⟩
  | .hbm, ⟨4, _⟩ => ⟨S3x512, .f32⟩
  | .hbm, ⟨5, _⟩ => ⟨S8x8x512, .bf16⟩
  | .hbm, ⟨6, _⟩ => ⟨S8x2x512, .f32⟩
  | .local _ .vmem, ⟨0, _⟩ => ⟨S8x8x128, .f32⟩
  | .local _ .vmem, ⟨1, _⟩ => ⟨S8x8x128, .f32⟩
  | .local _ .vmem, ⟨2, _⟩ => ⟨S8x8x128, .f32⟩
  | .local _ .vmem, ⟨3, _⟩ => ⟨S8x8x128, .f32⟩
  | .local _ .vmem, ⟨4, _⟩ => ⟨S8x8x128, .f32⟩
  | .local _ .vmem, ⟨5, _⟩ => ⟨S8x8x128, .f32⟩
  | .local _ .vmem, ⟨6, _⟩ => ⟨S8x8x128, .f32⟩
  | .local _ .vmem, ⟨7, _⟩ => ⟨S8x8x128, .f32⟩
  | .local _ .vmem, ⟨8, _⟩ => ⟨S8x2x128, .f32⟩
  | .local _ .vmem, ⟨9, _⟩ => ⟨S8x2x128, .f32⟩
  | .local _ .vmem, ⟨10, _⟩ => ⟨S3x128, .f32⟩
  | .local _ .vmem, ⟨11, _⟩ => ⟨S3x128, .f32⟩
  | .local _ .vmem, ⟨12, _⟩ => ⟨S8x8x128, .bf16⟩
  | .local _ .vmem, ⟨13, _⟩ => ⟨S8x8x128, .bf16⟩
  | .local _ .vmem, ⟨14, _⟩ => ⟨S8x2x128, .f32⟩
  | .local _ .vmem, ⟨15, _⟩ => ⟨S8x2x128, .f32⟩
  | .local _ .vmem, ⟨16, _⟩ => ⟨S8x16x128, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S8x8x4096 : Shape := ⟨3, ![8, 8, 4096]⟩
abbrev S1x8x2x512 : Shape := ⟨4, ![1, 8, 2, 512]⟩
abbrev S1x3x512 : Shape := ⟨3, ![1, 3, 512]⟩
abbrev S8x8x512 : Shape := ⟨3, ![8, 8, 512]⟩
abbrev S8x2x512 : Shape := ⟨3, ![8, 2, 512]⟩
abbrev S8x10x512 : Shape := ⟨3, ![8, 10, 512]⟩
abbrev S1x1x512 : Shape := ⟨3, ![1, 1, 512]⟩
abbrev S512 : Shape := ⟨1, ![512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x8x4096, .f32⟩
  | .hbm, ⟨1, _⟩ => ⟨S1x8x2x512, .f32⟩
  | .hbm, ⟨2, _⟩ => ⟨S1x3x512, .f32⟩
  | .hbm, ⟨3, _⟩ => ⟨S8x8x512, .f32⟩
  | .hbm, ⟨4, _⟩ => ⟨S8x8x512, .f32⟩
  | .hbm, ⟨5, _⟩ => ⟨S8x8x512, .f32⟩
  | .hbm, ⟨6, _⟩ => ⟨S8x8x512, .f32⟩
  | .hbm, ⟨7, _⟩ => ⟨S8x2x512, .f32⟩
  | .hbm, ⟨8, _⟩ => ⟨S8x8x512, .f32⟩
  | .hbm, ⟨9, _⟩ => ⟨S8x10x512, .f32⟩
  | .hbm, ⟨10, _⟩ => ⟨S1x1x512, .f32⟩
  | .hbm, ⟨11, _⟩ => ⟨S512, .f32⟩
  | .hbm, ⟨12, _⟩ => ⟨S8x8x512, .f32⟩
  | .hbm, ⟨13, _⟩ => ⟨S1x1x512, .f32⟩
  | .hbm, ⟨14, _⟩ => ⟨S8x8x512, .f32⟩
  | .hbm, ⟨15, _⟩ => ⟨S8x8x512, .f32⟩
  | .hbm, ⟨16, _⟩ => ⟨S1x1x512, .f32⟩
  | .hbm, ⟨17, _⟩ => ⟨S512, .f32⟩
  | .hbm, ⟨18, _⟩ => ⟨S8x8x512, .f32⟩
  | .hbm, ⟨19, _⟩ => ⟨S1x1x512, .f32⟩
  | .hbm, ⟨20, _⟩ => ⟨S8x8x512, .f32⟩
  | .hbm, ⟨21, _⟩ => ⟨S8x8x512, .f32⟩
  | .hbm, ⟨22, _⟩ => ⟨S8x8x512, .f32⟩
  | .hbm, ⟨23, _⟩ => ⟨S1x1x512, .f32⟩
  | .hbm, ⟨24, _⟩ => ⟨S512, .f32⟩
  | .hbm, ⟨25, _⟩ => ⟨S8x8x512, .f32⟩
  | .hbm, ⟨26, _⟩ => ⟨S1x1x512, .f32⟩
  | .hbm, ⟨27, _⟩ => ⟨S8x8x512, .f32⟩
  | .hbm, ⟨28, _⟩ => ⟨S8x8x512, .f32⟩
  | .hbm, ⟨29, _⟩ => ⟨S8x8x512, .f32⟩
  | .hbm, ⟨30, _⟩ => ⟨S8x8x512, .f32⟩
  | .hbm, ⟨31, _⟩ => ⟨S8x8x512, .f32⟩
  | .hbm, ⟨32, _⟩ => ⟨S_, .f32⟩
  | .hbm, ⟨33, _⟩ => ⟨S8x8x512, .f32⟩
  | .hbm, ⟨34, _⟩ => ⟨S8x8x512, .f32⟩
  | .hbm, ⟨35, _⟩ => ⟨S_, .f32⟩
  | .hbm, ⟨36, _⟩ => ⟨S8x8x512, .f32⟩
  | .hbm, ⟨37, _⟩ => ⟨S8x8x512, .f32⟩
  | .hbm, ⟨38, _⟩ => ⟨S8x8x512, .f32⟩
  | .hbm, ⟨39, _⟩ => ⟨S8x8x512, .f32⟩
  | .hbm, ⟨40, _⟩ => ⟨S8x8x512, .f32⟩
  | .hbm, ⟨41, _⟩ => ⟨S8x8x512, .bf16⟩
  | .hbm, ⟨42, _⟩ => ⟨S8x2x512, .f32⟩
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Proof.OutSpec.lean ====
module

public import Idealize.ShloMosaic.Lib.Pointwise
public import Idealize.ShloMosaic.Lib.Pipeline.ValueKit

/-! The layer's output rows: a residual plus three column blocks of `w_out`, then an rms norm. -/

@[expose] public section

noncomputable section

namespace Cert.OutSpec

open Idealize.ShloMosaic Idealize.ShloMosaic.TcCoe

/-- One entry of the residual stream: the input plus its mixed row's product with a column of `w_out`,
    the row in three parts of 512, 1024 and 512 entries. -/
def stream (x : EReal) (a : Fin 512 → EReal) (b : Fin 1024 → EReal) (d : Fin 512 → EReal) (w : Fin 2048 → EReal) : EReal :=
  x + (((∑ k : Fin 512, a k * w ⟨k.val, by omega⟩) + ∑ k : Fin 1024, b k * w ⟨512 + k.val, by omega⟩)
    + ∑ k : Fin 512, d k * w ⟨1536 + k.val, by omega⟩)

/-- The three parts side by side. -/
def row (a : Fin 512 → EReal) (b : Fin 1024 → EReal) (d : Fin 512 → EReal) (k : Fin 2048) : EReal :=
  if h : k.val < 512 then a ⟨k.val, h⟩ else if h' : k.val - 512 < 1024 then b ⟨k.val - 512, h'⟩ else d ⟨k.val - 512 - 1024, by omega⟩

/-- The product with the whole row is the sum of the three partial products. -/
theorem sum_row (a : Fin 512 → EReal) (b : Fin 1024 → EReal) (d : Fin 512 → EReal) (w : Fin 2048 → EReal) :
    ∑ k : Fin 2048, row a b d k * w k = ((∑ k : Fin 512, a k * w ⟨k.val, by omega⟩) + ∑ k : Fin 1024, b k * w ⟨512 + k.val, by omega⟩)
      + ∑ k : Fin 512, d k * w ⟨1536 + k.val, by omega⟩ := by
  rw [show (∑ k : Fin 2048, row a b d k * w k) = ∑ k : Fin (512 + 1024 + 512), row a b d ⟨k.val, k.isLt⟩ * w ⟨k.val, k.isLt⟩ from rfl,
    Fin.sum_univ_add, Fin.sum_univ_add]
  have h1 : ∀ k : Fin 512, row a b d ⟨k.val, by omega⟩ = a k := fun k => by simp [row]
  have h2 : ∀ k : Fin 1024, row a b d ⟨512 + k.val, by omega⟩ = b k := fun k =>
    (dif_neg (by simp)).trans ((dif_pos (by simp)).trans (congrArg b (Fin.ext (by simp))))
  have h3 : ∀ k : Fin 512, row a b d ⟨1536 + k.val, by omega⟩ = d k := fun k =>
    (dif_neg (by simp; omega)).trans ((dif_neg (by simp; omega)).trans (congrArg d (Fin.ext (by simp; omega))))
  simp only [← h1, ← h2, ← h3]
  rfl

/-- The rms norm of a row `z` with weights `g`, at `l`. -/
def normed (z g : Fin 2048 → EReal) (l : Fin 2048) : EReal :=
  z l * Ideal.rsqrt (Ideal.div (∑ x, z x * z x) (Ideal.ofBits .f32 0x45000000#32) + Ideal.ofBits .f32 0x358637BD#32) * g l

/-- `n` output rows: the rms norm of the residual stream. -/
def rows {n : ℕ} (X : FVec Ideal ⟨2, ![n, 2048]⟩ .f32) (A : FVec Ideal ⟨2, ![n, 512]⟩ .bf16) (B : FVec Ideal ⟨2, ![n, 1024]⟩ .bf16)
    (D : FVec Ideal ⟨2, ![n, 512]⟩ .bf16) (W : FVec Ideal ⟨3, ![1, 2048, 2048]⟩ .f32) (G : FVec Ideal ⟨1, ![2048]⟩ .f32)
    (r : Fin n) (l : Fin 2048) : EReal :=
  normed (fun l => stream (X (ix2 r l)) (fun k => A (ix2 r k)) (fun k => B (ix2 r k)) (fun k => D (ix2 r k)) (fun k => W (ix3 0 k l)))
    (fun l => G (ix1 l)) l

end Cert.OutSpec

end
-- ==== Proof.Out.lean ====
module

public import proofs.«01_k».proof.Proof.OutSpec
public import proofs.«01_k».proof.Proof.Gen.OutIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![0, 0]
    ∧ t.val < 16 := (by decide +kernel : ∀ t : Fin grid0.N, _)

/-- The weights as the scratch holds them. -/
def wts (c : Dev nD) : FVec Ideal S2048x2048 .bf16 := fun j => m ((c : Thread nD τ).loc main_arg8) (ix3 0 (j 0) (j 1))

theorem pay2_apply (v : FVec Ideal S2048x2048 .f32) (r l : Fin 2048) : k0_pay2 (F := Ideal) v (ix2 r l) = v (ix2 r l) := by
  pointwise [k0_pay2]

/-- The weight window's block is the whole of the weights. -/
theorem wblk (c : Dev nD) (t : Fin cfg0.N) (r l : Fin 2048) :
    iblk m c 8 t (ix2 r l) = m ((c : Thread nD τ).loc main_arg8) (ix3 0 r l) := by
  blk_point [iblk, V, idx t]

/-- The norm's weights, a row of one. -/
theorem gblk (c : Dev nD) (t : Fin cfg0.N) (l : Fin 2048) :
    iblk m c 9 t (ix2 0 l) = m ((c : Thread nD τ).loc main_arg9) (ix1 l) := by
  blk_point [iblk, V, idx t]

/-- The scratch holds the weights from the first point on. -/
theorem scratch (c : Dev nD) : ∀ (n : ℕ) (h : n < cfg0.N), (outsAt0 m c n h).2.2 = wts m c := by
  intro n
  induction n with
  | zero =>
    intro h
    rw [outsAt0_A m c ⟨0, h⟩ (Nat.zero_mod _) (by simp)]
    frame_out
    funext j
    idx_vars j
    rw [pay2_apply]
    exact wblk m c _ _ _
  | succ n ih =>
    intro h
    have hN : n + 1 < 16 := lt_of_lt_of_eq h N_0
    by_cases h1 : (n + 1) % 16 = 15
    · rw [outsAt0_C m c ⟨n + 1, h⟩ (by simp; omega) h1]
      unfold sout0_C_0
      simp only [Nat.add_sub_cancel, ih]
    · rw [outsAt0_B m c ⟨n + 1, h⟩ (by simp; omega) h1]
      unfold sout0_B_0
      simp only [Nat.add_sub_cancel, ih]

/-- A prompt row's payload. -/
theorem pay3_apply (x : FVec Ideal S512x2048 .f32) (a : FVec Ideal S512x512 .bf16) (b : FVec Ideal S512x1024 .bf16) (d : FVec Ideal S512x512 .bf16)
    (w1 : FVec Ideal S512x2048 .bf16) (w2 : FVec Ideal S1024x2048 .bf16) (w3 : FVec Ideal S512x2048 .bf16) (g : FVec Ideal S1x2048 .f32)
    (r : Fin 512) (l : Fin 2048) :
    k0_pay3 (F := Ideal) x a b d w1 w2 w3 g (ix2 r l) = OutSpec.normed (fun l => x (ix2 r l) + (((∑ k : Fin 512, a (ix2 r k) * w1 (ix2 k l))
      + ∑ k : Fin 1024, b (ix2 r k) * w2 (ix2 k l)) + ∑ k : Fin 512, d (ix2 r k) * w3 (ix2 k l))) (fun l => g (ix2 0 l)) l := by
  pointwise [k0_pay3, OutSpec.normed]

/-- A sample row's payload. -/
theorem pay1_apply (x : FVec Ideal S64x2048 .f32) (a : FVec Ideal S64x512 .bf16) (b : FVec Ideal S64x1024 .bf16) (d : FVec Ideal S64x512 .bf16)
    (w1 : FVec Ideal S512x2048 .bf16) (w2 : FVec Ideal S1024x2048 .bf16) (w3 : FVec Ideal S512x2048 .bf16) (g : FVec Ideal S1x2048 .f32)
    (r : Fin 64) (l : Fin 2048) :
    k0_pay1 (F := Ideal) x a b d w1 w2 w3 g (ix2 r l) = OutSpec.normed (fun l => x (ix2 r l) + (((∑ k : Fin 512, a (ix2 r k) * w1 (ix2 k l))
      + ∑ k : Fin 1024, b (ix2 r k) * w2 (ix2 k l)) + ∑ k : Fin 512, d (ix2 r k) * w3 (ix2 k l))) (fun l => g (ix2 0 l)) l := by
  pointwise [k0_pay1, OutSpec.normed]

/-- What the first point stores in the scratch. -/
theorem pay2_wts (c : Dev nD) (t : Fin cfg0.N) : k0_pay2 (F := Ideal) (iblk m c 8 t) = wts m c := by
  funext j
  idx_vars j
  rw [pay2_apply]
  exact wblk m c _ _ _

/-- The prompt's output rows. -/
def prompt (c : Dev nD) : S8192x2048.Idx → EReal := fun j =>
  OutSpec.rows (n := 8192) (m ((c : Thread nD τ).loc main_arg0)) (m ((c : Thread nD τ).loc main_arg1)) (m ((c : Thread nD τ).loc main_arg2))
    (m ((c : Thread nD τ).loc main_arg3)) (m ((c : Thread nD τ).loc main_arg8)) (m ((c : Thread nD τ).loc main_arg9)) (j 0) (j 1)

/-- The sample's output rows. -/
def sample (c : Dev nD) : S64x2048.Idx → EReal := fun j =>
  OutSpec.rows (n := 64) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (j 0) (j 1)

/-- The first point's payload, over the weights as the scratch holds them. -/
theorem core10 (c : Dev nD) (t : Fin cfg0.N) (w1 : FVec Ideal S512x2048 .bf16) (w2 : FVec Ideal S1024x2048 .bf16) (w3 : FVec Ideal S512x2048 .bf16)
    (e1 : ∀ (k : Fin 512) (l : Fin 2048), w1 (ix2 k l) = m ((c : Thread nD τ).loc main_arg8) (ix3 0 ⟨k.val, by omega⟩ l))
    (e2 : ∀ (k : Fin 1024) (l : Fin 2048), w2 (ix2 k l) = m ((c : Thread nD τ).loc main_arg8) (ix3 0 ⟨512 + k.val, by omega⟩ l))
    (e3 : ∀ (k : Fin 512) (l : Fin 2048), w3 (ix2 k l) = m ((c : Thread nD τ).loc main_arg8) (ix3 0 ⟨1536 + k.val, by omega⟩ l))
    (r : Fin 512) (l : Fin 2048) :
    k0_pay3 (F := Ideal) (iblk m c 0 t) (iblk m c 1 t) (iblk m c 2 t) (iblk m c 3 t) w1 w2 w3 (iblk m c 9 t) (ix2 r l)
      = prompt m c (((cfg0.win 10).blk t).view.emb (ix2 r l)) := by
  rw [pay3_apply]
  unfold prompt OutSpec.rows OutSpec.normed OutSpec.stream
  simp only [e1, e2, e3]
  blk_point [iblk, V, idx t]

/-- The last point's sample payload. -/
theorem core11 (c : Dev nD) (t : Fin cfg0.N) (w1 : FVec Ideal S512x2048 .bf16) (w2 : FVec Ideal S1024x2048 .bf16) (w3 : FVec Ideal S512x2048 .bf16)
    (e1 : ∀ (k : Fin 512) (l : Fin 2048), w1 (ix2 k l) = m ((c : Thread nD τ).loc main_arg8) (ix3 0 ⟨k.val, by omega⟩ l))
    (e2 : ∀ (k : Fin 1024) (l : Fin 2048), w2 (ix2 k l) = m ((c : Thread nD τ).loc main_arg8) (ix3 0 ⟨512 + k.val, by omega⟩ l))
    (e3 : ∀ (k : Fin 512) (l : Fin 2048), w3 (ix2 k l) = m ((c : Thread nD τ).loc main_arg8) (ix3 0 ⟨1536 + k.val, by omega⟩ l))
    (r : Fin 64) (l : Fin 2048) :
    k0_pay1 (F := Ideal) (iblk m c 4 t) (iblk m c 5 t) (iblk m c 6 t) (iblk m c 7 t) w1 w2 w3 (iblk m c 9 t) (ix2 r l)
      = sample m c (((cfg0.win 11).blk t).view.emb (ix2 r l)) := by
  rw [pay1_apply]
  unfold sample OutSpec.rows OutSpec.normed OutSpec.stream
  simp only [e1, e2, e3]
  blk_point [iblk, V, idx t]

theorem point10 (c : Dev nD) (t : Fin cfg0.N) (r : Fin 512) (l : Fin 2048) :
    (outsAt0 m c t.val t.isLt).1 (ix2 r l) = prompt m c (((cfg0.win 10).blk t).view.emb (ix2 r l)) := by
  have hN : t.val < 16 := lt_of_lt_of_eq t.isLt N_0
  by_cases h0 : t.val % 16 = 0
  · rw [outsAt0_A m c t h0 (by omega)]
    frame_out
    simp (disch := decide) only [View.readCov_fill, pay2_wts]
    apply core10 <;> intros <;> pointwise [wts]
  · by_cases h1 : t.val % 16 = 15
    · rw [outsAt0_C m c t h0 h1]
      frame_out
      simp only [read_unread_whole, scratch]
      apply core10 <;> intros <;> pointwise [wts]
    · rw [outsAt0_B m c t h0 h1]
      frame_out
      simp only [read_unread_whole, scratch]
      apply core10 <;> intros <;> pointwise [wts]

theorem point11 (c : Dev nD) (t : Fin cfg0.N) (h1 : t.val % 16 = 15) (r : Fin 64) (l : Fin 2048) :
    (outsAt0 m c t.val t.isLt).2.1 (ix2 r l) = sample m c (((cfg0.win 11).blk t).view.emb (ix2 r l)) := by
  rw [outsAt0_C m c t (by omega) h1]
  frame_out
  simp only [read_unread_whole, scratch]
  apply core11 <;> intros <;> pointwise [wts]

theorem out10 (c : Dev nD) : (dats m 0 c).arrAt 10 (cfgs 0).N = prompt m c := by
  refine (dats m 0 c).arrAt_eq_of_covers 10 _ (by decide +kernel) fun t _ y => ?_
  rw [after0_10]
  obtain ⟨r, l, rfl⟩ : ∃ (r : Fin 512) (l : Fin 2048), y = ix2 r l := ⟨y 0, y 1, eq_ix2 y⟩
  exact point10 m c t r l

theorem out11 (c : Dev nD) : (dats m 0 c).arrAt 11 (cfgs 0).N = sample m c := by
  refine (dats m 0 c).arrAt_eq_of_covers 11 _ (by decide +kernel) fun t hf y => ?_
  rw [after0_11]
  obtain ⟨r, l, rfl⟩ : ∃ (r : Fin 64) (l : Fin 2048), y = ix2 r l := ⟨y 0, y 1, eq_ix2 y⟩
  exact point11 m c t ((flush0_11 t).mp hf) r l

end Cert.OutIdeal.Value
-- ==== Proof.OutRef.lean ====
module

public import proofs.«01_k».proof.Proof.OutSpec
public import proofs.«01_k».proof.Proof.Gen.OutRefIdeal.Run
public import Idealize.ShloMosaic.Lib.Pointwise
public import Idealize.ShloMosaic.Lib.Pipeline.ValueKit

@[expose] public section

set_option maxRecDepth 16384

noncomputable section

namespace Cert.OutRefIdeal.Value

open Cert.OutRefIdeal Cert.OutRefIdeal.Gen Idealize.ShloMosaic Idealize.ShloMosaic.TcCoe Idealize.SL.Sem

/-- The rms norm of a matrix, at an entry. -/
theorem norm1 (T : FVec Ideal S8192x2048 .f32) (g : FVec Ideal S2048 .f32) (r : Fin 8192) (l : Fin 2048) :
    mulf (mulf T (broadcastInDim S8192x2048 ![0, 1] bcast_S8192x1_S8192x2048_0_1 (Host.rsqrt (addf (Host.divf
      (broadcastInDim S8192x1 ![0] bcast_S8192_S8192x1_0 (Host.reduceAdd (mulf T T) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g)) (ix2 r l)
      = OutSpec.normed (fun l => T (ix2 r l)) (fun l => g (ix1 l)) l := by
  pointwise [OutSpec.normed]

/-- The three parts of a row side by side. -/
def cat1 (A : FVec Ideal S8192x512 .bf16) (B : FVec Ideal S8192x1024 .bf16) (D : FVec Ideal S8192x512 .bf16) : FVec Ideal S8192x2048 .f32 :=
  concatenate S8192x2048 1 [⟨S8192x512, extf .f32 A bitsLt_bf16_f32⟩, ⟨S8192x1024, extf .f32 B bitsLt_bf16_f32⟩,
    ⟨S8192x512, extf .f32 D bitsLt_bf16_f32⟩] concatenates_S8192x512_S8192x1024_S8192x512_S8192x2048_d1

theorem cat1_row (A : FVec Ideal S8192x512 .bf16) (B : FVec Ideal S8192x1024 .bf16) (D : FVec Ideal S8192x512 .bf16) (r : Fin 8192) (k : Fin 2048) :
    cat1 A B D (ix2 r k) = OutSpec.row (fun i => A (ix2 r i)) (fun i => B (ix2 r i)) (fun i => D (ix2 r i)) k := by
  pointwise [cat1, OutSpec.row]

/-- The residual stream. -/
def res1 (X : FVec Ideal S8192x2048 .f32) (M : FVec Ideal S8192x2048 .f32) (W : FVec Ideal S1x2048x2048 .f32) : FVec Ideal S8192x2048 .f32 :=
  addf X (Host.dotGeneral dot_S8192x2048_S2048x2048_S8192x2048_1_0_0_1_n_n none M (shapeCast _ W shapeCasts_S1x2048x2048_S2048x2048))

theorem res1_apply (X : FVec Ideal S8192x2048 .f32) (M : FVec Ideal S8192x2048 .f32) (W : FVec Ideal S1x2048x2048 .f32) (r : Fin 8192) (l : Fin 2048) :
    res1 X M W (ix2 r l) = X (ix2 r l) + ∑ k : Fin 2048, M (ix2 r k) * W (ix3 0 k l) := by
  pointwise [res1]

theorem stream1 (X : FVec Ideal S8192x2048 .f32) (A : FVec Ideal S8192x512 .bf16) (B : FVec Ideal S8192x1024 .bf16) (D : FVec Ideal S8192x512 .bf16)
    (W : FVec Ideal S1x2048x2048 .f32) (r : Fin 8192) (l : Fin 2048) :
    res1 X (cat1 A B D) W (ix2 r l) = OutSpec.stream (X (ix2 r l)) (fun k => A (ix2 r k)) (fun k => B (ix2 r k)) (fun k => D (ix2 r k))
      (fun k => W (ix3 0 k l)) := by
  rw [res1_apply]
  refine congrArg (X (ix2 r l) + ·) ?_
  simp only [cat1_row]
  exact OutSpec.sum_row _ _ _ (fun k => W (ix3 0 k l))

/-- The rms norm of a matrix, at an entry. -/
theorem norm2 (T : FVec Ideal S64x2048 .f32) (g : FVec Ideal S2048 .f32) (r : Fin 64) (l : Fin 2048) :
    mulf (mulf T (broadcastInDim S64x2048 ![0, 1] bcast_S64x1_S64x2048_0_1 (Host.rsqrt (addf (Host.divf
      (broadcastInDim S64x1 ![0] bcast_S64_S64x1_0 (Host.reduceAdd (mulf T T) (constant S_ .f32 0x00000000#32) reducesTo_S64x2048_S64_d1 h_S_))
      (broadcastInDim S64x1 ![] bcast_S_S64x1 (constant S_ .f32 0x45000000#32)))
      (broadcastInDim S64x1 ![] bcast_S_S64x1 (constant S_ .f32 0x358637BD#32))))))
      (broadcastInDim S64x2048 ![0, 1] bcast_S1x2048_S64x2048_0_1 (broadcastInDim S1x2048 ![1] bcast_S2048_S1x2048_1 g)) (ix2 r l)
      = OutSpec.normed (fun l => T (ix2 r l)) (fun l => g (ix1 l)) l := by
  pointwise [OutSpec.normed]

/-- The three parts of a row side by side. -/
def cat2 (A : FVec Ideal S64x512 .bf16) (B : FVec Ideal S64x1024 .bf16) (D : FVec Ideal S64x512 .bf16) : FVec Ideal S64x2048 .f32 :=
  concatenate S64x2048 1 [⟨S64x512, extf .f32 A bitsLt_bf16_f32⟩, ⟨S64x1024, extf .f32 B bitsLt_bf16_f32⟩,
    ⟨S64x512, extf .f32 D bitsLt_bf16_f32⟩] concatenates_S64x512_S64x1024_S64x512_S64x2048_d1

theorem cat2_row (A : FVec Ideal S64x512 .bf16) (B : FVec Ideal S64x1024 .bf16) (D : FVec Ideal S64x512 .bf16) (r : Fin 64) (k : Fin 2048) :
    cat2 A B D (ix2 r k) = OutSpec.row (fun i => A (ix2 r i)) (fun i => B (ix2 r i)) (fun i => D (ix2 r i)) k := by
  pointwise [cat2, OutSpec.row]

/-- The residual stream. -/
def res2 (X : FVec Ideal S64x2048 .f32) (M : FVec Ideal S64x2048 .f32) (W : FVec Ideal S1x2048x2048 .f32) : FVec Ideal S64x2048 .f32 :=
  addf X (Host.dotGeneral dot_S64x2048_S2048x2048_S64x2048_1_0_0_1_n_n none M (shapeCast _ W shapeCasts_S1x2048x2048_S2048x2048))

theorem res2_apply (X : FVec Ideal S64x2048 .f32) (M : FVec Ideal S64x2048 .f32) (W : FVec Ideal S1x2048x2048 .f32) (r : Fin 64) (l : Fin 2048) :
    res2 X M W (ix2 r l) = X (ix2 r l) + ∑ k : Fin 2048, M (ix2 r k) * W (ix3 0 k l) := by
  pointwise [res2]

theorem stream2 (X : FVec Ideal S64x2048 .f32) (A : FVec Ideal S64x512 .bf16) (B : FVec Ideal S64x1024 .bf16) (D : FVec Ideal S64x512 .bf16)
    (W : FVec Ideal S1x2048x2048 .f32) (r : Fin 64) (l : Fin 2048) :
    res2 X (cat2 A B D) W (ix2 r l) = OutSpec.stream (X (ix2 r l)) (fun k => A (ix2 r k)) (fun k => B (ix2 r k)) (fun k => D (ix2 r k))
      (fun k => W (ix3 0 k l)) := by
  rw [res2_apply]
  refine congrArg (X (ix2 r l) + ·) ?_
  simp only [cat2_row]
  exact OutSpec.sum_row _ _ _ (fun k => W (ix3 0 k l))

variable (m : (ℓ : Loc nD τ sig) → Buf (Elt Ideal) ℓ)

/-- What the reference leaves in its two results; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v19) = fun j : S8192x2048.Idx => OutSpec.rows (n := 8192) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg8)) (m ((c.tc : Thread nD τ).loc main_arg9)) (j 0) (j 1))
      ∧ (r.2.mem ((c.tc : Thread nD τ).loc main_v39) = fun j : S64x2048.Idx => OutSpec.rows (n := 64) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (run m ρ).mono ?_
  intro r h c
  obtain ⟨h1, h2, h3⟩ := h c
  refine ⟨h1.trans (funext fun j => ?_), h2.trans (funext fun j => ?_), h3⟩
  · idx_vars j
    refine (norm1 (res1 _ (cat1 _ _ _) _) _ _ _).trans ?_
    simp only [stream1]
    rfl
  · idx_vars j
    refine (norm2 (res2 _ (cat2 _ _ _) _) _ _ _).trans ?_
    simp only [stream2]
    rfl

end Cert.OutRefIdeal.Value
-- ==== Proof.OutClaim.lean ====
module

public import proofs.«01_k».proof.Defs
public import proofs.«01_k».proof.Proof.Out
public import proofs.«01_k».proof.Proof.OutRef

@[expose] public section

set_option maxRecDepth 16384

noncomputable section

namespace Cert.Proof

open Idealize.ShloMosaic Idealize.ShloMosaic.TcCoe Idealize.SL.Sem

/-- The output projection computes its reference's two results. -/
theorem algebraic_Out : Cert.algebraic_OutIdeal_OutRefIdeal := by
  pair_intro
  · run_from Cert.OutIdeal.Gen.run_main m g
  · run_from Cert.OutRefIdeal.Value.run_rows m' g'
    · exact (Cert.OutIdeal.Value.out10 m c).symm
    · exact (Cert.OutIdeal.Value.out11 m c).symm

end Cert.Proof
-- ==== Proof.ProjSpec.lean ====
module

public import proofs.«01_k».proof.Proof.OutSpec

/-! The projections of a normed row by `w_in`, and what the layer makes of them: the queries before and after the
rotation, the gates, the gated short convolution and its state. -/

@[expose] public section

noncomputable section

namespace Cert.ProjSpec

open Idealize.ShloMosaic Idealize.ShloMosaic.TcCoe

/-- A normed row times a column of `w_in`. -/
def zrow (x : Fin 2048 → EReal) (G : FVec Ideal ⟨2, ![1, 2048]⟩ .f32) (W : FVec Ideal ⟨3, ![1, 2048, 6680]⟩ .f32) (n : Fin 6680) : EReal :=
  ∑ k : Fin 2048, OutSpec.normed x (fun l => G (ix2 0 l)) k * W (ix3 0 k n)

/-- The prompt's projections. -/
def z (X : FVec Ideal ⟨3, ![4, 2048, 2048]⟩ .f32) (G : FVec Ideal ⟨2, ![1, 2048]⟩ .f32) (W : FVec Ideal ⟨3, ![1, 2048, 6680]⟩ .f32)
    (b : Fin 4) (s : Fin 2048) : Fin 6680 → EReal := zrow (fun l => X (ix3 b s l)) G W

/-- The sample's rows: four tokens a sequence, filled up to eight with zeros. -/
def srow (X : FVec Ideal ⟨3, ![8, 4, 2048]⟩ .f32) (r : Fin 64) (l : Fin 2048) : EReal :=
  if h : r.val % 8 < 4 then X (ix3 ⟨r.val / 8, by omega⟩ ⟨r.val % 8, h⟩ l) else 0

/-- The scale of a score, in the base of the exponential. -/
def scale : EReal := Ideal.ofBits .f32 0x3E0293EE#32

/-- The sigmoid linear unit. -/
def silu (x : EReal) : EReal := x * Ideal.logistic x

/-- A row rotated: the first sixteen lanes against the next sixteen. -/
def rot (x : Fin 128 → EReal) (c s : Fin 16 → EReal) (l : Fin 128) : EReal :=
  if h : l.val < 16 then x l * c ⟨l.val, h⟩ - x ⟨l.val + 16, by omega⟩ * s ⟨l.val, h⟩
  else if h2 : l.val < 32 then x l * c ⟨l.val - 16, by omega⟩ + x ⟨l.val - 16, by omega⟩ * s ⟨l.val - 16, by omega⟩
  else x l

/-- The rotation by three pieces side by side. -/
theorem rot_form (x : Fin 128 → EReal) (c s : Fin 16 → EReal) (l : Fin 128) :
    (if h : l.val < 16 then x l * c ⟨l.val, h⟩ - x ⟨16 + l.val, by omega⟩ * s ⟨l.val, h⟩
      else if h2 : l.val - 16 < 16 then x ⟨16 + (l.val - 16), by omega⟩ * c ⟨l.val - 16, h2⟩ + x ⟨l.val - 16, by omega⟩ * s ⟨l.val - 16, h2⟩
      else x ⟨32 + (l.val - 16 - 16), by omega⟩) = rot x c s l := by
  unfold rot
  by_cases h : l.val < 16
  · rw [dif_pos h, dif_pos h]
    refine congrArg (fun q => _ - x q * _) (Fin.ext (by simp only; omega))
  · rw [dif_neg h, dif_neg h]
    by_cases h2 : l.val < 32
    · rw [dif_pos (show l.val - 16 < 16 by omega), dif_pos h2]
      exact congrArg (fun q => x q * _ + _) (Fin.ext (by simp only; omega))
    · rw [dif_neg (show ¬l.val - 16 < 16 by omega), dif_neg h2]
      exact congrArg x (Fin.ext (by simp only; omega))

/-- The gated input of the convolution. -/
def u (z : Fin 4 → Fin 2048 → Fin 6680 → EReal) (b : Fin 4) (s : Fin 2048) (c : Fin 512) : EReal :=
  z b s ⟨1024 + c.val, by omega⟩ * z b s ⟨c.val, by omega⟩

/-- The same, two zero rows before it. -/
def up (z : Fin 4 → Fin 2048 → Fin 6680 → EReal) (b : Fin 4) (p : Fin 2050) (c : Fin 512) : EReal :=
  if _h : p.val < 2 then 0 else u z b ⟨p.val - 2, by omega⟩ c

/-- The convolution of three taps. -/
def conv (w : Fin 3 → Fin 512 → EReal) (z : Fin 4 → Fin 2048 → Fin 6680 → EReal) (b : Fin 4) (s : Fin 2048) (c : Fin 512) : EReal :=
  w 0 c * up z b ⟨s.val, by omega⟩ c + w 1 c * up z b ⟨1 + s.val, by omega⟩ c + w 2 c * up z b ⟨2 + s.val, by omega⟩ c

/-- The gated convolution. -/
def gated (w : Fin 3 → Fin 512 → EReal) (z : Fin 4 → Fin 2048 → Fin 6680 → EReal) (b : Fin 4) (s : Fin 2048) (c : Fin 512) : EReal :=
  silu (z b s ⟨1536 + c.val, by omega⟩) * (z b s ⟨512 + c.val, by omega⟩ * conv w z b s c)

/-- The queries. -/
def query (z : Fin 4 → Fin 2048 → Fin 6680 → EReal) (b : Fin 4) (s : Fin 2048) (j : Fin 1024) : EReal :=
  z b s ⟨2048 + j.val, by omega⟩ * scale

/-- The rotated queries, a head of 128 lanes at a time. -/
def rquery (co si : Fin 2048 → Fin 16 → EReal) (z : Fin 4 → Fin 2048 → Fin 6680 → EReal) (b : Fin 4) (s : Fin 2048) (j : Fin 1024) : EReal :=
  rot (fun l => z b s ⟨2048 + (j.val / 128 * 128 + l.val), by omega⟩) (co s) (si s) ⟨j.val % 128, by omega⟩ * scale

/-- The output gate. -/
def gate (z : Fin 4 → Fin 2048 → Fin 6680 → EReal) (b : Fin 4) (s : Fin 2048) (j : Fin 1024) : EReal :=
  silu (z b s ⟨3072 + j.val, by omega⟩)

/-- The branch gates, filled up with zeros. -/
def bgate (z : Fin 6680 → EReal) (j : Fin 128) : EReal :=
  if h : j.val < 24 then z ⟨4096 + j.val, by omega⟩ else 0

/-- The convolution's state: the last two rows of its input. -/
def state (z : Fin 4 → Fin 2048 → Fin 6680 → EReal) (b : Fin 4) (i : Fin 2) (c : Fin 512) : EReal :=
  up z b ⟨2048 + i.val, by omega⟩ c

/-- The columns before the branch gates. -/
def head (z : Fin 6680 → EReal) (j : Fin 4096) : EReal := z ⟨j.val, by omega⟩

/-- A function of sequence and position read at a row of all the prompt's rows. -/
def atRow {α : Type} (f : Fin 4 → Fin 2048 → α) (r : Fin 8192) : α :=
  f ⟨r.val / 2048, by omega⟩ ⟨r.val % 2048, by omega⟩

end Cert.ProjSpec

end
-- ==== Proof.ProjA.lean ====
module

public import proofs.«01_k».proof.Proof.ProjSpec
public import proofs.«01_k».proof.Proof.Gen.ProjIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands. -/
theorem idx : ∀ t : Fin cfg0.N, win0_0.index t = ![t.val, 0] ∧ win0_1.index t = ![0, 0]
    ∧ win0_2.index t = ![0, 0] ∧ win0_3.index t = ![t.val % 4, 0] ∧ win0_4.index t = ![t.val % 4, 0]
    ∧ win0_5.index t = ![t.val % 4, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val / 4, 0, 0] ∧ win0_13.index t = ![0, 0] ∧ win0_14.index t = ![0, 0]
    ∧ t.val < 16 := (by decide +kernel : ∀ t : Fin grid0.N, _)

/-- The prompt's projections. -/
def pz (c : Dev nD) : Fin 4 → Fin 2048 → Fin 6680 → EReal :=
  ProjSpec.z (m ((c : Thread nD τ).loc main_arg0)) (m ((c : Thread nD τ).loc main_arg2)) (m ((c : Thread nD τ).loc main_arg3))

/-- The sample's projections. -/
def sz (c : Dev nD) (r : Fin 64) : Fin 6680 → EReal :=
  ProjSpec.zrow (ProjSpec.srow (m ((c : Thread nD τ).loc main_arg1)) r) (m ((c : Thread nD τ).loc main_arg2)) (m ((c : Thread nD τ).loc main_arg3))

theorem lt16 (t : Fin cfg0.N) : t.val < 16 := (idx t).2.2.2.2.2.2.2.2.2.2.2.2.2.2.2

/-- The sequence a grid point works on. -/
def bq (t : Fin cfg0.N) : Fin 4 := ⟨t.val / 4, by have := lt16 t; omega⟩

/-- The position in the sequence of a row of a grid point's block. -/
def ps (t : Fin cfg0.N) (r : Fin 512) : Fin 2048 := ⟨t.val % 4 * 512 + r.val, by omega⟩

/-- A block of 512 rows of `w_in` transposed, from column `o` on. -/
def IsW (c : Dev nD) (o : ℕ) (ho : o + 512 ≤ 6680) (w : FVec Ideal S512x2048 .bf16) : Prop :=
  ∀ (i : Fin 512) (k : Fin 2048), w (ix2 i k) = m ((c : Thread nD τ).loc main_arg3) (ix3 0 k ⟨o + i.val, by omega⟩)

/-- The branch gates' rows, filled up with zeros. -/
def wbg (c : Dev nD) : FVec Ideal S128x2048 .bf16 := fun j =>
  if h : (j 0).val < 24 then m ((c : Thread nD τ).loc main_arg3) (ix3 0 (j 1) ⟨4096 + (j 0).val, by omega⟩) else (0 : EReal)

/-- The rows before the branch gates'. -/
def wts (c : Dev nD) : FVec Ideal S4096x2048 .bf16 := fun j =>
  m ((c : Thread nD τ).loc main_arg3) (ix3 0 (j 1) ⟨(j 0).val, lt_trans (show (j 0).val < 4096 from (j 0).isLt) (by norm_num)⟩)

theorem V1 (c : Dev nD) (j : Fin 8192) (l : Fin 2048) :
    V m c main_v1 (ix2 j l) = m ((c : Thread nD τ).loc main_arg0) (ix3 ⟨j.val / 2048, by omega⟩ ⟨j.val % 2048, by omega⟩ l) := by
  unfold V
  simp only [hostOps0, hostOps0_1, hostOps0_2, List.flatten_cons, List.flatten_nil, List.cons_append, List.nil_append,
    List.append_nil]
  after_results_simp
  pointwise

theorem V14 (c : Dev nD) (l : Fin 2048) :
    V m c main_v14 (ix2 0 l) = m ((c : Thread nD τ).loc main_arg2) (ix2 0 l) := by
  unfold V
  simp only [hostOps0, hostOps0_1, hostOps0_2, List.flatten_cons, List.flatten_nil, List.cons_append, List.nil_append,
    List.append_nil]
  after_results_simp
  pointwise

theorem V4 (c : Dev nD) (i : Fin 3) (l : Fin 512) :
    V m c main_v4 (ix2 i l) = m ((c : Thread nD τ).loc main_arg4) (ix3 0 i l) := by
  unfold V
  simp only [hostOps0, hostOps0_1, hostOps0_2, List.flatten_cons, List.flatten_nil, List.cons_append, List.nil_append,
    List.append_nil]
  after_results_simp
  pointwise

theorem V3 (c : Dev nD) (i : Fin 6680) (l : Fin 2048) :
    V m c main_v3 (ix3 0 i l) = m ((c : Thread nD τ).loc main_arg3) (ix3 0 l i) := by
  unfold V
  simp only [hostOps0, hostOps0_1, hostOps0_2, List.flatten_cons, List.flatten_nil, List.cons_append, List.nil_append,
    List.append_nil]
  after_results_simp
  pointwise

abbrev a1 (c : Dev nD) : FVec Ideal S8x4x2048 .f32 := m ((c : Thread nD τ).loc main_arg1)
abbrev a5 (c : Dev nD) : FVec Ideal S2048x16 .f32 := m ((c : Thread nD τ).loc main_arg5)
abbrev a6 (c : Dev nD) : FVec Ideal S2048x16 .f32 := m ((c : Thread nD τ).loc main_arg6)

theorem V13_eq (c : Dev nD) : V m c main_v13 = shapeCast S64x2048 (pad S8x8x2048 ![0, 0, 0] ![0, 4, 0] ![0, 0, 0]
    (a1 m c) (sitofp (F := Ideal) .f32 (constantI S_ 32 0#32)) pads_S8x4x2048_S8x8x2048_000_040_000 h_S_)
      shapeCasts_S8x8x2048_S64x2048 := by
  unfold V
  simp only [hostOps0, hostOps0_1, hostOps0_2, List.flatten_cons, List.flatten_nil, List.cons_append, List.nil_append,
    List.append_nil]
  after_results_simp
  rfl

theorem V7_eq (c : Dev nD) : V m c main_v7 = concatenate S2048x128 1 [⟨S2048x16, a5 m c⟩, ⟨S2048x16, a5 m c⟩,
    ⟨S2048x96, broadcastInDim S2048x96 ![] bcast_S_S2048x96 (constant (F := Ideal) S_ .f32 1065353216#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem V9_eq (c : Dev nD) : V m c main_v9 = concatenate S2048x128 1 [
    ⟨S2048x16, broadcastInDim S2048x16 ![] bcast_S_S2048x16 (constant (F := Ideal) S_ .f32 0#32)⟩, ⟨S2048x16, a6 m c⟩,
    ⟨S2048x96, broadcastInDim S2048x96 ![] bcast_S_S2048x96 (constant (F := Ideal) S_ .f32 0#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem V12_eq (c : Dev nD) : V m c main_v12 = concatenate S2048x128 1 [⟨S2048x16, Host.negf (a6 m c)⟩,
    ⟨S2048x16, broadcastInDim S2048x16 ![] bcast_S_S2048x16 (constant (F := Ideal) S_ .f32 0#32)⟩,
    ⟨S2048x96, broadcastInDim S2048x96 ![] bcast_S_S2048x96 (constant (F := Ideal) S_ .f32 0#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem sitofp0 : (FloatOps.sitofp (F := Ideal) .f32 (0#32 : BitVec 32)) = (0 : EReal) := by
  change (((0#32 : BitVec 32).toInt : ℝ) : EReal) = 0
  simp

theorem V13 (c : Dev nD) (r : Fin 64) (l : Fin 2048) :
    V m c main_v13 (ix2 r l) = ProjSpec.srow (m ((c : Thread nD τ).loc main_arg1)) r l := by
  rw [V13_eq]
  pointwise [ProjSpec.srow]
  split_ifs <;> first | rfl | omega | simp [sitofp0]

theorem V7 (c : Dev nD) (r : Fin 2048) (l : Fin 128) :
    V m c main_v7 (ix2 r l) = if h : l.val < 16 then a5 m c (ix2 r ⟨l.val, h⟩)
      else if h2 : l.val - 16 < 16 then a5 m c (ix2 r ⟨l.val - 16, h2⟩) else (1 : EReal) := by
  rw [V7_eq]
  pointwise

theorem V9 (c : Dev nD) (r : Fin 2048) (l : Fin 128) :
    V m c main_v9 (ix2 r l) = if h : l.val < 16 then (0 : EReal)
      else if h2 : l.val - 16 < 16 then a6 m c (ix2 r ⟨l.val - 16, h2⟩) else (0 : EReal) := by
  rw [V9_eq]
  pointwise

theorem V12 (c : Dev nD) (r : Fin 2048) (l : Fin 128) :
    V m c main_v12 (ix2 r l) = if h : l.val < 16 then -(show EReal from a6 m c (ix2 r ⟨l.val, h⟩)) else (0 : EReal) := by
  rw [V12_eq]
  pointwise
  split_ifs <;> rfl

theorem xblk (c : Dev nD) (t : Fin cfg0.N) (r : Fin 512) (l : Fin 2048) :
    iblk m c 0 t (ix2 r l) = m ((c : Thread nD τ).loc main_arg0) (ix3 (bq t) (ps t r) l) := by
  trans V m c main_v1 (ix2 ⟨512 * t.val + r.val, by have := lt16 t; omega⟩ l)
  · blk_point [iblk, idx t]
  · rw [V1]
    exact congrArg₂ (fun a b => m ((c : Thread nD τ).loc main_arg0) (ix3 a b l)) (Fin.ext (by simp only [bq]; omega))
      (Fin.ext (by simp only [ps]; omega))

theorem gblk (c : Dev nD) (t : Fin cfg0.N) (l : Fin 2048) :
    iblk m c 1 t (ix2 0 l) = m ((c : Thread nD τ).loc main_arg2) (ix2 0 l) := by
  trans V m c main_v14 (ix2 0 l)
  · blk_point [iblk, idx t]
  · exact V14 m c l

theorem cblk (c : Dev nD) (t : Fin cfg0.N) (i : Fin 3) (l : Fin 512) :
    iblk m c 2 t (ix2 i l) = m ((c : Thread nD τ).loc main_arg4) (ix3 0 i l) := by
  trans V m c main_v4 (ix2 i l)
  · blk_point [iblk, idx t]
  · exact V4 m c i l

theorem sblk (c : Dev nD) (t : Fin cfg0.N) (r : Fin 64) (l : Fin 2048) :
    iblk m c 6 t (ix2 r l) = ProjSpec.srow (m ((c : Thread nD τ).loc main_arg1)) r l := by
  trans V m c main_v13 (ix2 r l)
  · blk_point [iblk, idx t]
  · exact V13 m c r l

theorem cos_blk (c : Dev nD) (t : Fin cfg0.N) (r : Fin 512) (l : Fin 128) :
    iblk m c 3 t (ix2 r l) = if h : l.val < 16 then a5 m c (ix2 (ps t r) ⟨l.val, h⟩)
      else if h2 : l.val - 16 < 16 then a5 m c (ix2 (ps t r) ⟨l.val - 16, h2⟩) else (1 : EReal) := by
  trans V m c main_v7 (ix2 (ps t r) l)
  · blk_point [iblk, idx t, ps]
  · exact V7 m c _ l

theorem s1_blk (c : Dev nD) (t : Fin cfg0.N) (r : Fin 512) (l : Fin 128) :
    iblk m c 4 t (ix2 r l) = if h : l.val < 16 then (0 : EReal)
      else if h2 : l.val - 16 < 16 then a6 m c (ix2 (ps t r) ⟨l.val - 16, h2⟩) else (0 : EReal) := by
  trans V m c main_v9 (ix2 (ps t r) l)
  · blk_point [iblk, idx t, ps]
  · exact V9 m c _ l

theorem s2_blk (c : Dev nD) (t : Fin cfg0.N) (r : Fin 512) (l : Fin 128) :
    iblk m c 5 t (ix2 r l) = if h : l.val < 16 then -(show EReal from a6 m c (ix2 (ps t r) ⟨l.val, h⟩)) else (0 : EReal) := by
  trans V m c main_v12 (ix2 (ps t r) l)
  · blk_point [iblk, idx t, ps]
  · exact V12 m c _ l

/-- What a copied chunk of the transposed weights holds. -/
theorem stg (c : Dev nD) (o : ℕ) (ho : o + 512 ≤ 6680) (inb : ∀ a, (![0, o, 0] : Fin 3 → ℕ) a + (![1, 512, 2048] : Fin 3 → ℕ) a ≤ S1x6680x2048.size a)
    (r : Fin 512) (l : Fin 2048) :
    ReadAs.same.apply (View.read (Elt Ideal) ((View.whole main_v3).slice (Rect.unit ![0, o, 0] ![1, 512, 2048] inb)) (V m c main_v3)) (ix3 0 r l)
      = m ((c : Thread nD τ).loc main_arg3) (ix3 0 l ⟨o + r.val, by omega⟩) := by
  trans V m c main_v3 ((Rect.unit (s := S1x6680x2048) ![0, o, 0] ![1, 512, 2048] inb).emb (ix3 0 r l))
  · rfl
  · trans V m c main_v3 (ix3 0 ⟨o + r.val, by omega⟩ l)
    · blk_point
    · exact V3 m c _ l

end Cert.ProjIdeal.Value
-- ==== Proof.ProjPay.lean ====
module

public import proofs.«01_k».proof.Proof.ProjA

@[expose] public section

set_option maxRecDepth 16384

noncomputable section

namespace Cert.ProjIdeal.Value

open Cert.ProjIdeal Cert.ProjIdeal.Gen Idealize.ShloMosaic Idealize.ShloMosaic.TcCoe Idealize.SL.Sem

/-! The stored values, an element at a time. -/

theorem rope3 (x : Fin 128 → EReal) (co si : Fin 16 → EReal) (l : Fin 128) :
    x l * (if h : l.val < 16 then co ⟨l.val, h⟩ else if h2 : l.val - 16 < 16 then co ⟨l.val - 16, h2⟩ else 1)
      + x ⟨(l.val + 128 - 16) % 128, by omega⟩ * (if h : l.val < 16 then 0 else if h2 : l.val - 16 < 16 then si ⟨l.val - 16, h2⟩ else 0)
      + x ⟨(l.val + 128 - 112) % 128, by omega⟩ * (if h : l.val < 16 then -(si ⟨l.val, h⟩) else 0)
    = ProjSpec.rot x co si l := by
  unfold ProjSpec.rot
  by_cases h : l.val < 16
  · rw [dif_pos h, dif_pos h, dif_pos h, dif_pos h, mul_zero, add_zero, mul_neg, sub_eq_add_neg]
    exact congrArg (fun q => _ + -(x q * _)) (Fin.ext (by simp only; omega))
  · rw [dif_neg h, dif_neg h, dif_neg h, dif_neg h, mul_zero, add_zero]
    by_cases h2 : l.val < 32
    · rw [dif_pos (show l.val - 16 < 16 by omega), dif_pos (show l.val - 16 < 16 by omega), dif_pos h2]
      exact congrArg (fun q => _ + x q * _) (Fin.ext (by simp only; omega))
    · rw [dif_neg (show ¬l.val - 16 < 16 by omega), dif_neg (show ¬l.val - 16 < 16 by omega), dif_neg h2, mul_one, mul_zero, add_zero]

section

variable (x w : FVec Ideal S512x2048 .bf16) (v : FVec Ideal S512x512 .f32) (C s1 s2 q q' : FVec Ideal S512x128 .f32)

theorem pay22_apply (x : FVec Ideal S512x2048 .f32) (g : FVec Ideal S1x2048 .f32) (r : Fin 512) (k : Fin 2048) :
    k0_pay22 (F := Ideal) x g (ix2 r k) = OutSpec.normed (fun l => x (ix2 r l)) (fun l => g (ix2 0 l)) k := by
  pointwise [k0_pay22, OutSpec.normed]

theorem pay14_apply (x : FVec Ideal S64x2048 .f32) (g : FVec Ideal S1x2048 .f32) (r : Fin 64) (k : Fin 2048) :
    k0_pay14 (F := Ideal) x g (ix2 r k) = OutSpec.normed (fun l => x (ix2 r l)) (fun l => g (ix2 0 l)) k := by
  pointwise [k0_pay14, OutSpec.normed]

theorem pay15_apply (x : FVec Ideal S64x2048 .f32) (g : FVec Ideal S1x2048 .f32) (w : FVec Ideal S128x2048 .bf16) (r : Fin 64) (l : Fin 128) :
    k0_pay15 (F := Ideal) x g w (ix2 r l) = ∑ k : Fin 2048, k0_pay14 (F := Ideal) x g (ix2 r k) * w (ix2 l k) := by
  pointwise [k0_pay15]

theorem pay16_apply (x : FVec Ideal S64x2048 .f32) (g : FVec Ideal S1x2048 .f32) (r : Fin 64) (l : Fin 512) :
    k0_pay16 (F := Ideal) x g w (ix2 r l) = ∑ k : Fin 2048, k0_pay14 (F := Ideal) x g (ix2 r k) * w (ix2 l k) := by
  pointwise [k0_pay16]

theorem pay17_apply (x : FVec Ideal S64x2048 .f32) (g : FVec Ideal S1x2048 .f32) (r : Fin 64) (l : Fin 512) :
    k0_pay17 (F := Ideal) x g w (ix2 r l) = ∑ k : Fin 2048, k0_pay14 (F := Ideal) x g (ix2 r k) * w (ix2 l k) := by
  pointwise [k0_pay17]

theorem pay18_apply (x : FVec Ideal S64x2048 .f32) (g : FVec Ideal S1x2048 .f32) (r : Fin 64) (l : Fin 512) :
    k0_pay18 (F := Ideal) x g w (ix2 r l) = ∑ k : Fin 2048, k0_pay14 (F := Ideal) x g (ix2 r k) * w (ix2 l k) := by
  pointwise [k0_pay18]

theorem pay1_apply (x : FVec Ideal S64x2048 .bf16) (r : Fin 64) (l : Fin 512) :
    k0_pay1 (F := Ideal) x w (ix2 r l) = ∑ k : Fin 2048, x (ix2 r k) * w (ix2 l k) := by
  pointwise [k0_pay1]

theorem pay2_apply (x : FVec Ideal S64x2048 .bf16) (r : Fin 64) (l : Fin 512) :
    k0_pay2 (F := Ideal) x w (ix2 r l) = ∑ k : Fin 2048, x (ix2 r k) * w (ix2 l k) := by
  pointwise [k0_pay2]

theorem pay3_apply (x : FVec Ideal S64x2048 .bf16) (r : Fin 64) (l : Fin 512) :
    k0_pay3 (F := Ideal) x w (ix2 r l) = ∑ k : Fin 2048, x (ix2 r k) * w (ix2 l k) := by
  pointwise [k0_pay3]

theorem pay4_apply (x : FVec Ideal S64x2048 .bf16) (r : Fin 64) (l : Fin 512) :
    k0_pay4 (F := Ideal) x w (ix2 r l) = ∑ k : Fin 2048, x (ix2 r k) * w (ix2 l k) := by
  pointwise [k0_pay4]

theorem pay5_apply (x : FVec Ideal S64x2048 .bf16) (r : Fin 64) (l : Fin 512) :
    k0_pay5 (F := Ideal) x w (ix2 r l) = ∑ k : Fin 2048, x (ix2 r k) * w (ix2 l k) := by
  pointwise [k0_pay5]

theorem pay23_apply (w : FVec Ideal S128x2048 .bf16) (r : Fin 512) (l : Fin 128) :
    k0_pay23 (F := Ideal) x w (ix2 r l) = ∑ k : Fin 2048, x (ix2 r k) * w (ix2 l k) := by
  pointwise [k0_pay23]

theorem pay24_apply (b : BitVec 1) (v : FVec Ideal S2x512 .f32) (r : Fin 2) (l : Fin 512) :
    k0_pay24 (F := Ideal) b v (ix2 r l) = if b = 1#1 then 0 else v (ix2 r l) := by
  pointwise [k0_pay24]
  rfl

theorem pay25_apply (x' w' : FVec Ideal S512x2048 .bf16) (r l : Fin 512) :
    k0_pay25 (F := Ideal) x w x' w' (ix2 r l)
      = (∑ k : Fin 2048, x (ix2 r k) * w (ix2 l k)) * ∑ k : Fin 2048, x' (ix2 r k) * w' (ix2 l k) := by
  pointwise [k0_pay25]

theorem pay26_apply (x' w' : FVec Ideal S512x2048 .bf16) (r l : Fin 512) :
    k0_pay26 (F := Ideal) x w x' w' (ix2 r l)
      = (∑ k : Fin 2048, x (ix2 r k) * w (ix2 l k)) * ∑ k : Fin 2048, x' (ix2 r k) * w' (ix2 l k) := by
  pointwise [k0_pay26, k0_pay25]

theorem pay28_apply (k : FVec Ideal S3x512 .f32) (a b : FVec Ideal S512x512 .f32) (r l : Fin 512) :
    k0_pay28 (F := Ideal) k a b (ix2 r l) = k (ix2 0 l) * a (ix2 r l) + k (ix2 1 l) * b (ix2 r l) := by
  pointwise [k0_pay28, k0_pay27]

theorem pay29_apply (k : FVec Ideal S3x512 .f32) (l : Fin 512) :
    k0_pay29 (F := Ideal) k (ix2 0 l) = k (ix2 2 l) := by
  pointwise [k0_pay29, k0_pay27]

theorem pay30_apply (a b : FVec Ideal S512x512 .f32) (k : FVec Ideal S1x512 .f32) (x' w' : FVec Ideal S512x2048 .bf16) (r l : Fin 512) :
    k0_pay30 (F := Ideal) a b k x w x' w' (ix2 r l)
      = ProjSpec.silu (∑ k : Fin 2048, x' (ix2 r k) * w' (ix2 l k))
        * ((∑ k : Fin 2048, x (ix2 r k) * w (ix2 l k)) * (b (ix2 r l) + k (ix2 0 l) * a (ix2 r l))) := by
  pointwise [k0_pay30, ProjSpec.silu]

theorem pay31_apply (v : FVec Ideal S2x512 .f32) (r : Fin 2) (l : Fin 512) :
    k0_pay31 (F := Ideal) v (ix3 0 r l) = v (ix2 r l) := by
  pointwise [k0_pay31]

theorem pay32_eq : k0_pay32 (F := Ideal) q = q := by
  funext j; idx_vars j; pointwise [k0_pay32]

theorem pay33_eq : k0_pay33 (F := Ideal) q = q := by
  funext j; idx_vars j; pointwise [k0_pay33]

theorem pay34_eq : k0_pay34 (F := Ideal) q = q := by
  funext j; idx_vars j; pointwise [k0_pay34]

theorem pay35_apply (r l : Fin 512) :
    k0_pay35 (F := Ideal) x w (ix2 r l) = ∑ k : Fin 2048, x (ix2 r k) * w (ix2 l k) := by
  pointwise [k0_pay35]

theorem pay49_apply (r l : Fin 512) :
    k0_pay49 (F := Ideal) x w (ix2 r l) = ∑ k : Fin 2048, x (ix2 r k) * w (ix2 l k) := by
  pointwise [k0_pay49]

theorem pay64_apply (r l : Fin 512) :
    k0_pay64 (F := Ideal) x w (ix2 r l) = ProjSpec.silu (∑ k : Fin 2048, x (ix2 r k) * w (ix2 l k)) := by
  pointwise [k0_pay64, ProjSpec.silu]

theorem pay65_apply (r l : Fin 512) :
    k0_pay65 (F := Ideal) x w (ix2 r l) = ProjSpec.silu (∑ k : Fin 2048, x (ix2 r k) * w (ix2 l k)) := by
  pointwise [k0_pay65, ProjSpec.silu]

/-! The scaled queries, a head at a time. -/

theorem pay37_apply (r : Fin 512) (l : Fin 128) :
    k0_pay37 (F := Ideal) (k0_pay36 (F := Ideal) x w) (FloatOps.ofBits .f32 0x3E0293EE#32) (ix2 r l) = k0_pay35 (F := Ideal) x w (ix2 r ⟨0 + l.val, by omega⟩) * ProjSpec.scale := by
  pointwise [k0_pay37, k0_pay36, k0_pay35, ProjSpec.scale]

theorem pay40_apply (r : Fin 512) (l : Fin 128) :
    k0_pay40 (F := Ideal) v (ix2 r l) = v (ix2 r ⟨128 + l.val, by omega⟩) * ProjSpec.scale := by
  pointwise [k0_pay40, k0_pay39, ProjSpec.scale]

theorem pay43_apply (r : Fin 512) (l : Fin 128) :
    k0_pay43 (F := Ideal) v (ix2 r l) = v (ix2 r ⟨256 + l.val, by omega⟩) * ProjSpec.scale := by
  pointwise [k0_pay43, k0_pay42, ProjSpec.scale]

theorem pay47_apply (r : Fin 512) (l : Fin 128) :
    k0_pay47 (F := Ideal) v (ix2 r l) = v (ix2 r ⟨384 + l.val, by omega⟩) * ProjSpec.scale := by
  pointwise [k0_pay47, k0_pay46, ProjSpec.scale]

theorem pay51_apply (r : Fin 512) (l : Fin 128) :
    k0_pay51 (F := Ideal) x w (ix2 r l) = k0_pay49 (F := Ideal) x w (ix2 r ⟨0 + l.val, by omega⟩) * ProjSpec.scale := by
  pointwise [k0_pay51, k0_pay50, k0_pay49, ProjSpec.scale]

theorem pay55_apply (r : Fin 512) (l : Fin 128) :
    k0_pay55 (F := Ideal) v (ix2 r l) = v (ix2 r ⟨128 + l.val, by omega⟩) * ProjSpec.scale := by
  pointwise [k0_pay55, k0_pay54, ProjSpec.scale]

theorem pay58_apply (r : Fin 512) (l : Fin 128) :
    k0_pay58 (F := Ideal) v (ix2 r l) = v (ix2 r ⟨256 + l.val, by omega⟩) * ProjSpec.scale := by
  pointwise [k0_pay58, k0_pay57, ProjSpec.scale]

theorem pay62_apply (r : Fin 512) (l : Fin 128) :
    k0_pay62 (F := Ideal) v (ix2 r l) = v (ix2 r ⟨384 + l.val, by omega⟩) * ProjSpec.scale := by
  pointwise [k0_pay62, k0_pay61, ProjSpec.scale]

/-! The rotated queries. -/

/-- A row, times three tables' rows, the second and the third against the row turned round. -/
def turned (y C s1 s2 : Fin 128 → EReal) (l : Fin 128) : EReal :=
  (y l * C l + y ⟨(l.val + 128 - 16) % 128, by omega⟩ * s1 l + y ⟨(l.val + 128 - 112) % 128, by omega⟩ * s2 l) * ProjSpec.scale

theorem pay38_apply (r : Fin 512) (l : Fin 128) :
    k0_pay38 (F := Ideal) C s1 s2 (k0_pay36 (F := Ideal) x w) (ix2 r l)
      = turned (fun l => k0_pay35 (F := Ideal) x w (ix2 r ⟨0 + l.val, by omega⟩)) (fun l => C (ix2 r l)) (fun l => s1 (ix2 r l)) (fun l => s2 (ix2 r l)) l := by
  pointwise [k0_pay38, k0_pay36, k0_pay35, turned, ProjSpec.scale]

theorem pay41_apply (r : Fin 512) (l : Fin 128) :
    k0_pay41 (F := Ideal) C s1 s2 v (ix2 r l)
      = turned (fun l => v (ix2 r ⟨128 + l.val, by omega⟩)) (fun l => C (ix2 r l)) (fun l => s1 (ix2 r l)) (fun l => s2 (ix2 r l)) l := by
  pointwise [k0_pay41, k0_pay39, turned, ProjSpec.scale]

theorem pay45_apply (r : Fin 512) (l : Fin 128) :
    k0_pay45 (F := Ideal) s1 s2 (k0_pay42 (F := Ideal) v) (k0_pay44 (F := Ideal) C v) (ix2 r l)
      = turned (fun l => v (ix2 r ⟨256 + l.val, by omega⟩)) (fun l => C (ix2 r l)) (fun l => s1 (ix2 r l)) (fun l => s2 (ix2 r l)) l := by
  pointwise [k0_pay45, k0_pay44, k0_pay42, turned, ProjSpec.scale]

theorem pay48_apply (r : Fin 512) (l : Fin 128) :
    k0_pay48 (F := Ideal) C s1 s2 v (ix2 r l)
      = turned (fun l => v (ix2 r ⟨384 + l.val, by omega⟩)) (fun l => C (ix2 r l)) (fun l => s1 (ix2 r l)) (fun l => s2 (ix2 r l)) l := by
  pointwise [k0_pay48, k0_pay46, turned, ProjSpec.scale]

theorem pay53_apply (r : Fin 512) (l : Fin 128) :
    k0_pay53 (F := Ideal) s1 s2 (k0_pay50 (F := Ideal) x w) (k0_pay52 (F := Ideal) C x w) (ix2 r l)
      = turned (fun l => k0_pay49 (F := Ideal) x w (ix2 r ⟨0 + l.val, by omega⟩)) (fun l => C (ix2 r l)) (fun l => s1 (ix2 r l)) (fun l => s2 (ix2 r l)) l := by
  pointwise [k0_pay53, k0_pay50, k0_pay52, k0_pay49, turned, ProjSpec.scale]

theorem pay56_apply (r : Fin 512) (l : Fin 128) :
    k0_pay56 (F := Ideal) C s1 s2 v (ix2 r l)
      = turned (fun l => v (ix2 r ⟨128 + l.val, by omega⟩)) (fun l => C (ix2 r l)) (fun l => s1 (ix2 r l)) (fun l => s2 (ix2 r l)) l := by
  pointwise [k0_pay56, k0_pay54, turned, ProjSpec.scale]

theorem pay60_apply (r : Fin 512) (l : Fin 128) :
    k0_pay60 (F := Ideal) (k0_pay59 (F := Ideal) C s1 s2 v) (ix2 r l)
      = turned (fun l => v (ix2 r ⟨256 + l.val, by omega⟩)) (fun l => C (ix2 r l)) (fun l => s1 (ix2 r l)) (fun l => s2 (ix2 r l)) l := by
  pointwise [k0_pay60, k0_pay59, k0_pay57, turned, ProjSpec.scale]

theorem pay63_apply (r : Fin 512) (l : Fin 128) :
    k0_pay63 (F := Ideal) C s1 s2 v (ix2 r l)
      = turned (fun l => v (ix2 r ⟨384 + l.val, by omega⟩)) (fun l => C (ix2 r l)) (fun l => s1 (ix2 r l)) (fun l => s2 (ix2 r l)) l := by
  pointwise [k0_pay63, k0_pay61, turned, ProjSpec.scale]

end

/-! The same of a grid point's blocks. -/

variable (m : (ℓ : Loc nD τ sig) → Buf (Elt Ideal) ℓ)

/-- The normed rows of a grid point. -/
abbrev xn (c : Dev nD) (t : Fin cfg0.N) : FVec Ideal S512x2048 .bf16 := k0_pay22 (F := Ideal) (iblk m c 0 t) (iblk m c 1 t)

theorem mm (c : Dev nD) (t : Fin cfg0.N) (o : ℕ) (ho : o + 512 ≤ 6680) (w : FVec Ideal S512x2048 .bf16) (hw : IsW m c o ho w) (r i : Fin 512) :
    ∑ k : Fin 2048, xn m c t (ix2 r k) * w (ix2 i k) = pz m c (bq t) (ps t r) ⟨o + i.val, by omega⟩ := by
  unfold pz ProjSpec.z ProjSpec.zrow
  refine Finset.sum_congr rfl fun k _ => ?_
  refine congrArg₂ (· * ·) ?_ (hw i k)
  refine (pay22_apply _ _ r k).trans ?_
  exact congrArg₂ (fun a b => OutSpec.normed a b k) (funext fun l => xblk m c t r l) (funext fun l => gblk m c t l)

theorem mms (c : Dev nD) (t : Fin cfg0.N) (o : ℕ) (ho : o + 512 ≤ 6680) (w : FVec Ideal S512x2048 .bf16) (hw : IsW m c o ho w) (r : Fin 64) (i : Fin 512) :
    ∑ k : Fin 2048, k0_pay14 (F := Ideal) (iblk m c 6 t) (iblk m c 1 t) (ix2 r k) * w (ix2 i k) = sz m c r ⟨o + i.val, by omega⟩ := by
  unfold sz ProjSpec.zrow
  refine Finset.sum_congr rfl fun k _ => ?_
  refine congrArg₂ (· * ·) ?_ (hw i k)
  refine (pay14_apply _ _ r k).trans ?_
  exact congrArg₂ (fun a b => OutSpec.normed a b k) (funext fun l => sblk m c t r l) (funext fun l => gblk m c t l)

theorem mg (c : Dev nD) (t : Fin cfg0.N) (r : Fin 512) (i : Fin 128) :
    ∑ k : Fin 2048, xn m c t (ix2 r k) * wbg m c (ix2 i k) = ProjSpec.bgate (pz m c (bq t) (ps t r)) i := by
  unfold ProjSpec.bgate
  by_cases h : i.val < 24
  · rw [dif_pos h]
    unfold pz ProjSpec.z ProjSpec.zrow
    refine Finset.sum_congr rfl fun k _ => ?_
    refine congrArg₂ (· * ·) ?_ (dif_pos h)
    refine (pay22_apply _ _ r k).trans ?_
    exact congrArg₂ (fun a b => OutSpec.normed a b k) (funext fun l => xblk m c t r l) (funext fun l => gblk m c t l)
  · rw [dif_neg h]
    refine Finset.sum_eq_zero fun k _ => ?_
    rw [show wbg m c (ix2 i k) = (0 : EReal) from dif_neg h]
    exact mul_zero _

theorem mgs (c : Dev nD) (t : Fin cfg0.N) (r : Fin 64) (i : Fin 128) :
    ∑ k : Fin 2048, k0_pay14 (F := Ideal) (iblk m c 6 t) (iblk m c 1 t) (ix2 r k) * wbg m c (ix2 i k) = ProjSpec.bgate (sz m c r) i := by
  unfold ProjSpec.bgate
  by_cases h : i.val < 24
  · rw [dif_pos h]
    unfold sz ProjSpec.zrow
    refine Finset.sum_congr rfl fun k _ => ?_
    refine congrArg₂ (· * ·) ?_ (dif_pos h)
    refine (pay14_apply _ _ r k).trans ?_
    exact congrArg₂ (fun a b => OutSpec.normed a b k) (funext fun l => sblk m c t r l) (funext fun l => gblk m c t l)
  · rw [dif_neg h]
    refine Finset.sum_eq_zero fun k _ => ?_
    rw [show wbg m c (ix2 i k) = (0 : EReal) from dif_neg h]
    exact mul_zero _

/-- The rotated queries of head `h`. -/
theorem turned_eq (c : Dev nD) (t : Fin cfg0.N) (r : Fin 512) (h : Fin 8) (y : Fin 128 → EReal)
    (hy : ∀ l : Fin 128, y l = pz m c (bq t) (ps t r) ⟨2048 + (h.val * 128 + l.val), by omega⟩) (l : Fin 128) :
    turned y (fun l => iblk m c 3 t (ix2 r l)) (fun l => iblk m c 4 t (ix2 r l)) (fun l => iblk m c 5 t (ix2 r l)) l
      = ProjSpec.rquery (fun s l => a5 m c (ix2 s l)) (fun s l => a6 m c (ix2 s l)) (pz m c) (bq t) (ps t r) ⟨128 * h.val + l.val, by omega⟩ := by
  unfold turned ProjSpec.rquery
  refine congrArg (· * ProjSpec.scale) ?_
  beta_reduce
  rw [cos_blk, s1_blk, s2_blk]
  refine (rope3 y (fun l => a5 m c (ix2 (ps t r) l)) (fun l => a6 m c (ix2 (ps t r) l)) l).trans ?_
  have e1 : (⟨(128 * h.val + l.val) % 128, by omega⟩ : Fin 128) = l := Fin.ext (by simp only; omega)
  have e2 : ∀ l' : Fin 128, (⟨2048 + ((128 * h.val + l.val) / 128 * 128 + l'.val), by omega⟩ : Fin 6680) = ⟨2048 + (h.val * 128 + l'.val), by omega⟩ :=
    fun l' => Fin.ext (by simp only; omega)
  simp only [e1, e2]
  rw [funext hy]

end Cert.ProjIdeal.Value
-- ==== Proof.ProjInv.lean ====
module

public import proofs.«01_k».proof.Proof.ProjPay

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

/-! What the scratch arrays hold after each grid point: the weights, the gates' weights, the convolution's input. -/

variable (m : (ℓ : Loc nD τ sig) → Buf (Elt Ideal) ℓ)

/-- A copied chunk of the transposed weights. -/
abbrev stage (c : Dev nD) (o : ℕ) (inb : ∀ a, (![0, o, 0] : Fin 3 → ℕ) a + (![1, 512, 2048] : Fin 3 → ℕ) a ≤ S1x6680x2048.size a) :
    Vec Ideal S1x512x2048 .f32 :=
  ReadAs.same.apply (View.read (Elt Ideal) ((View.whole main_v3).slice (Rect.unit ![0, o, 0] ![1, 512, 2048] inb)) (V m c main_v3))

theorem isW6 (c : Dev nD) : IsW m c 0 (by omega) (k0_pay6 (F := Ideal) (stage m c 0 inb_S1x6680x2048_S1x512x2048_0_0_0)) := fun i k => by
  refine Eq.trans ?_ (stg m c 0 (by omega) inb_S1x6680x2048_S1x512x2048_0_0_0 i k)
  pointwise [k0_pay6]

theorem isW7 (c : Dev nD) : IsW m c 512 (by omega) (k0_pay7 (F := Ideal) (stage m c 512 inb_S1x6680x2048_S1x512x2048_0_512_0)) := fun i k => by
  refine Eq.trans ?_ (stg m c 512 (by omega) inb_S1x6680x2048_S1x512x2048_0_512_0 i k)
  pointwise [k0_pay7]

theorem isW8 (c : Dev nD) : IsW m c 1024 (by omega) (k0_pay8 (F := Ideal) (stage m c 1024 inb_S1x6680x2048_S1x512x2048_0_1024_0)) := fun i k => by
  refine Eq.trans ?_ (stg m c 1024 (by omega) inb_S1x6680x2048_S1x512x2048_0_1024_0 i k)
  pointwise [k0_pay8]

theorem isW9 (c : Dev nD) : IsW m c 1536 (by omega) (k0_pay9 (F := Ideal) (stage m c 1536 inb_S1x6680x2048_S1x512x2048_0_1536_0)) := fun i k => by
  refine Eq.trans ?_ (stg m c 1536 (by omega) inb_S1x6680x2048_S1x512x2048_0_1536_0 i k)
  pointwise [k0_pay9]

theorem isW10 (c : Dev nD) : IsW m c 2048 (by omega) (k0_pay10 (F := Ideal) (stage m c 2048 inb_S1x6680x2048_S1x512x2048_0_2048_0)) := fun i k => by
  refine Eq.trans ?_ (stg m c 2048 (by omega) inb_S1x6680x2048_S1x512x2048_0_2048_0 i k)
  pointwise [k0_pay10]

theorem isW11 (c : Dev nD) : IsW m c 2560 (by omega) (k0_pay11 (F := Ideal) (stage m c 2560 inb_S1x6680x2048_S1x512x2048_0_2560_0)) := fun i k => by
  refine Eq.trans ?_ (stg m c 2560 (by omega) inb_S1x6680x2048_S1x512x2048_0_2560_0 i k)
  pointwise [k0_pay11]

theorem isW12 (c : Dev nD) : IsW m c 3072 (by omega) (k0_pay12 (F := Ideal) (stage m c 3072 inb_S1x6680x2048_S1x512x2048_0_3072_0)) := fun i k => by
  refine Eq.trans ?_ (stg m c 3072 (by omega) inb_S1x6680x2048_S1x512x2048_0_3072_0 i k)
  pointwise [k0_pay12]

theorem isW13 (c : Dev nD) : IsW m c 3584 (by omega) (k0_pay13 (F := Ideal) (stage m c 3584 inb_S1x6680x2048_S1x512x2048_0_3584_0)) := fun i k => by
  refine Eq.trans ?_ (stg m c 3584 (by omega) inb_S1x6680x2048_S1x512x2048_0_3584_0 i k)
  pointwise [k0_pay13]

/-- The rows loaded from the weights' scratch. -/
theorem isWld (c : Dev nD) (o : ℕ) (ho : o + 512 ≤ 4096) (inb : ∀ a, (![o, 0] : Fin 2 → ℕ) a + (![512, 2048] : Fin 2 → ℕ) a ≤ S4096x2048.size a) :
    IsW m c o (by omega) (View.ld (Val := Elt Ideal) (e' := .bf16) (wts m c) (Rect.unit (s := S4096x2048) ![o, 0] ![512, 2048] inb)) := fun i k => by
  pointwise [wts]

/-- The copied rows of the gates' weights. -/
theorem stgg (c : Dev nD) (r : Fin 24) (l : Fin 2048) :
    ReadAs.same.apply (View.read (Elt Ideal) ((View.whole main_v3).slice (Rect.unit ![0, 4096, 0] ![1, 24, 2048] inb_S1x6680x2048_S1x24x2048_0_4096_0)) (V m c main_v3)) (ix3 0 r l)
      = m ((c : Thread nD τ).loc main_arg3) (ix3 0 l ⟨4096 + r.val, by omega⟩) := by
  trans V m c main_v3 ((Rect.unit (s := S1x6680x2048) ![0, 4096, 0] ![1, 24, 2048] inb_S1x6680x2048_S1x24x2048_0_4096_0).emb (ix3 0 r l))
  · rfl
  · trans V m c main_v3 (ix3 0 ⟨4096 + r.val, by omega⟩ l)
    · blk_point
    · exact V3 m c _ l

theorem wpiece (c : Dev nD) (o : ℕ) (ho : o + 512 ≤ 6680) (w : FVec Ideal S512x2048 .bf16) (hw : IsW m c o ho w) (y : S512x2048.Idx) (Y : S4096x2048.Idx)
    (h0 : (Y 0).val = o + (y 0).val) (h1 : (Y 1).val = (y 1).val) : w y = wts m c Y := by
  obtain ⟨i, k, rfl⟩ : ∃ (i : Fin 512) (k : Fin 2048), y = ix2 i k := ⟨y 0, y 1, eq_ix2 y⟩
  refine (hw i k).trans ?_
  exact congrArg₂ (fun a b => m ((c : Thread nD τ).loc main_arg3) (ix3 0 a b)) (Fin.ext h1.symm) (Fin.ext h0.symm)

theorem wscr (c : Dev nD) : ∀ (n : ℕ) (h : n < cfg0.N), (outsAt0 m c n h).2.2.2.2.2.2.2.2.2.1 = wts m c := by
  intro n
  induction n with
  | zero =>
    intro h
    rw [outsAt0_A m c ⟨0, h⟩ (Nat.zero_mod _) (by simp)]
    frame_out
    simp (disch := decide) only [View.readCov_skip, View.readCov_cons_toLoadRect, View.readCov_fill]
    funext y
    canon_tiles y
    · exact wpiece m c 3584 (by omega) _ (isW13 m c) _ _ (by omega) h1
    · exact wpiece m c 3072 (by omega) _ (isW12 m c) _ _ (by omega) h1
    · exact wpiece m c 2560 (by omega) _ (isW11 m c) _ _ (by omega) h1
    · exact wpiece m c 2048 (by omega) _ (isW10 m c) _ _ (by omega) h1
    · exact wpiece m c 1536 (by omega) _ (isW9 m c) _ _ (by omega) h1
    · exact wpiece m c 1024 (by omega) _ (isW8 m c) _ _ (by omega) h1
    · exact wpiece m c 512 (by omega) _ (isW7 m c) _ _ (by omega) h1
    · exact wpiece m c 0 (by omega) _ (isW6 m c) _ _ (by omega) h1
  | succ n ih =>
    intro h
    have hN : n + 1 < 16 := lt_of_lt_of_eq h N_0
    by_cases h1 : (n + 1) % 16 = 15
    · rw [outsAt0_C m c ⟨n + 1, h⟩ (by simp; omega) h1]
      unfold sout0_C_2
      simp only [Nat.add_sub_cancel, ih]
    · rw [outsAt0_B m c ⟨n + 1, h⟩ (by simp; omega) h1]
      unfold sout0_B_2
      simp only [Nat.add_sub_cancel, ih]

/-- What the first point leaves of the gates' weights. -/
theorem wbg_canon (c : Dev nD) (w : Vec Ideal S1x24x2048 .f32)
    (hw : ∀ (r : Fin 24) (l : Fin 2048), w (ix3 0 r l) = m ((c : Thread nD τ).loc main_arg3) (ix3 0 l ⟨4096 + r.val, by omega⟩)) :
    View.canon (Val := Elt Ideal) (s := S128x2048) (e := .bf16) [⟨Rect.unit ![0, 0] ![24, 2048] inb_S128x2048_S24x2048_0_0, k0_pay20 (F := Ideal) w⟩,
      ⟨Rect.unit ![0, 0] ![128, 2048] inb_S128x2048_S128x2048_0_0, k0_pay19 (F := Ideal)⟩] = wbg m c := by
  funext y
  obtain ⟨r, l, rfl⟩ : ∃ (r : Fin 128) (l : Fin 2048), y = ix2 r l := ⟨y 0, y 1, eq_ix2 y⟩
  by_cases h : r.val < 24
  · have e : ix2 r l = (Rect.unit (s := S128x2048) ![0, 0] ![24, 2048] inb_S128x2048_S24x2048_0_0).emb (ix2 ⟨r.val, h⟩ l) := by
      blk_point
    rw [e, View.canon_cons_emb, ← e]
    trans w (ix3 0 ⟨r.val, h⟩ l)
    · pointwise [k0_pay20]
    · rw [hw]
      exact (show wbg m c (ix2 r l) = m ((c : Thread nD τ).loc main_arg3) (ix3 0 l ⟨4096 + r.val, by omega⟩) from dif_pos h).symm
  · rw [View.canon_cons_of_not_mem _ _ (Rect.not_mem_set_of_axis _ _ 0 0 24 rfl rfl rfl (Or.inr (by show 0 + 24 ≤ r.val; omega))), View.canon_cons_unit_lit _ _ _ (by decide)]
    trans (0 : EReal)
    · pointwise [k0_pay19]
    · exact (show wbg m c (ix2 r l) = (0 : EReal) from dif_neg h).symm

theorem gscr (c : Dev nD) : ∀ (n : ℕ) (h : n < cfg0.N), (outsAt0 m c n h).2.2.2.2.2.2.2.2.2.2 = wbg m c := by
  intro n
  induction n with
  | zero =>
    intro h
    rw [outsAt0_A m c ⟨0, h⟩ (Nat.zero_mod _) (by simp)]
    frame_out
    simp (disch := decide) only [View.readCov_skip, View.readCov_cons_toLoadRect, View.readCov_fill]
    exact wbg_canon m c _ (stgg m c)
  | succ n ih =>
    intro h
    have hN : n + 1 < 16 := lt_of_lt_of_eq h N_0
    by_cases h1 : (n + 1) % 16 = 15
    · rw [outsAt0_C m c ⟨n + 1, h⟩ (by simp; omega) h1]
      unfold sout0_C_3
      simp only [Nat.add_sub_cancel, ih]
    · rw [outsAt0_B m c ⟨n + 1, h⟩ (by simp; omega) h1]
      unfold sout0_B_3
      simp only [Nat.add_sub_cancel, ih]

/-- Whether a grid point is the first of its sequence. -/
abbrev seg0 (t : Fin cfg0.N) : BitVec 1 :=
  Scalar.cmpi CmpIPredicate.eq
    (Scalar.select
      (Scalar.andi
        (Scalar.xori
          (Scalar.cmpi CmpIPredicate.slt (Scalar.remsi (BitVec.ofNat 32 ↑(grid0.coords t 0)) 4#32) 0#32)
          0#1)
        (Scalar.cmpi CmpIPredicate.ne (Scalar.remsi (BitVec.ofNat 32 ↑(grid0.coords t 0)) 4#32) 0#32))
      (Scalar.addi (Scalar.remsi (BitVec.ofNat 32 ↑(grid0.coords t 0)) 4#32) 4#32)
      (Scalar.remsi (BitVec.ofNat 32 ↑(grid0.coords t 0)) 4#32))
    0#32

theorem seg0_iff : ∀ t : Fin cfg0.N, seg0 t = 1#1 ↔ t.val % 4 = 0 := (by decide +kernel : ∀ t : Fin grid0.N, _)

/-- What a grid point leaves of the convolution's input, from the two rows before it on. -/
theorem u_canon (c : Dev nD) (t : Fin cfg0.N) (w1 w0 : FVec Ideal S512x2048 .bf16) (h1 : IsW m c 1024 (by omega) w1) (h0 : IsW m c 0 (by omega) w0)
    (v : Vec Ideal S2x512 .f32)
    (hv : t.val % 4 ≠ 0 → ∀ (i : Fin 2) (l : Fin 512), v (ix2 i l) = ProjSpec.up (pz m c) (bq t) ⟨t.val % 4 * 512 + i.val, by omega⟩ l)
    (L : List (View.Piece (Elt Ideal) S520x512 .f32)) (p : Fin 520) (hp : 6 ≤ p.val) (l : Fin 512) :
    View.canon (Val := Elt Ideal) (s := S520x512) (e := .f32)
      (⟨Rect.unit ![8, 0] ![512, 512] inb_S520x512_S512x512_8_0, k0_pay26 (F := Ideal) (xn m c t) w1 (xn m c t) w0⟩ ::
        ⟨Rect.unit ![6, 0] ![2, 512] inb_S520x512_S2x512_6_0, k0_pay24 (F := Ideal) (seg0 t) v⟩ :: L) (ix2 p l)
      = ProjSpec.up (pz m c) (bq t) ⟨t.val % 4 * 512 + (p.val - 6), by omega⟩ l := by
  by_cases h : 8 ≤ p.val
  · have e : ix2 p l = (Rect.unit (s := S520x512) ![8, 0] ![512, 512] inb_S520x512_S512x512_8_0).emb (ix2 ⟨p.val - 8, by omega⟩ l) := by
      blk_point
    rw [e, View.canon_cons_emb, pay26_apply, mm m c t _ _ _ h1, mm m c t _ _ _ h0]
    unfold ProjSpec.up
    rw [dif_neg (by simp only; omega)]
    unfold ProjSpec.u
    have e2 : (⟨t.val % 4 * 512 + (p.val - 6) - 2, by omega⟩ : Fin 2048) = ps t ⟨p.val - 8, by omega⟩ := Fin.ext (by simp only [ps]; omega)
    rw [e2]
    simp only [Nat.zero_add]
  · have e : ix2 p l = (Rect.unit (s := S520x512) ![6, 0] ![2, 512] inb_S520x512_S2x512_6_0).emb (ix2 ⟨p.val - 6, by omega⟩ l) := by
      blk_point
    rw [View.canon_cons_of_not_mem _ _ (Rect.not_mem_set_of_axis _ _ 0 8 512 rfl rfl rfl (Or.inl (by show p.val < 8; omega))), e, View.canon_cons_emb, pay24_apply]
    by_cases ht : t.val % 4 = 0
    · rw [if_pos ((seg0_iff t).mpr ht)]
      unfold ProjSpec.up
      rw [dif_pos (by simp only; omega)]
    · rw [if_neg (fun h => ht ((seg0_iff t).mp h))]
      exact hv ht _ l

theorem uscr_step (c : Dev nD) (t : Fin cfg0.N) (ht : t.val ≠ 0)
    (U : FVec Ideal S520x512 .f32)
    (hU : ∀ (p : Fin 520) (_ : 6 ≤ p.val) (l : Fin 512), U (ix2 p l)
      = ProjSpec.up (pz m c) (bq ⟨t.val - 1, lt_of_le_of_lt (Nat.sub_le _ _) t.isLt⟩) ⟨(t.val - 1) % 4 * 512 + (p.val - 6), by omega⟩ l)
    (h4 : t.val % 4 ≠ 0) (i : Fin 2) (l : Fin 512) :
    View.ld (Val := Elt Ideal) (e' := .f32) U (Rect.unit (s := S520x512) ![518, 0] ![2, 512] inb_S520x512_S2x512_518_0) (ix2 i l)
      = ProjSpec.up (pz m c) (bq t) ⟨t.val % 4 * 512 + i.val, by omega⟩ l := by
  trans U (ix2 ⟨518 + i.val, by omega⟩ l)
  · pointwise
  · refine (hU _ (by simp only; omega) l).trans ?_
    exact congrArg₂ (fun a b => ProjSpec.up (pz m c) a b l) (Fin.ext (by simp only [bq]; omega)) (Fin.ext (by simp only; omega))

/-- The convolution's input, as far back as the two rows before the grid point's. -/
theorem uscr (c : Dev nD) : ∀ (n : ℕ) (h : n < cfg0.N) (p : Fin 520) (_ : 6 ≤ p.val) (l : Fin 512),
    (outsAt0 m c n h).2.2.2.2.2.2.2.2.1 (ix2 p l) = ProjSpec.up (pz m c) (bq ⟨n, h⟩) ⟨n % 4 * 512 + (p.val - 6), by omega⟩ l := by
  intro n
  induction n with
  | zero =>
    intro h p hp l
    rw [outsAt0_A m c ⟨0, h⟩ (Nat.zero_mod _) (by simp)]
    frame_out
    simp (disch := decide) only [View.readCov_skip, View.readCov_cons_toLoadRect, View.readCov_fill]
    exact u_canon m c ⟨0, h⟩ _ _ (isW8 m c) (isW6 m c) _ (fun hne => absurd rfl hne) _ p hp l
  | succ n ih =>
    intro h p hp l
    have hN : n + 1 < 16 := lt_of_lt_of_eq h N_0
    have hs : ∃ q ∈ ([(⟨Rect.unit ![8, 0] ![512, 512] inb_S520x512_S512x512_8_0, k0_pay26 (F := Ideal) (xn m c ⟨n + 1, h⟩)
          (View.ld (Val := Elt Ideal) (e' := .bf16) (wts m c) (Rect.unit (s := S4096x2048) ![1024, 0] ![512, 2048] inb_S4096x2048_S512x2048_1024_0)) (xn m c ⟨n + 1, h⟩)
          (View.ld (Val := Elt Ideal) (e' := .bf16) (wts m c) (Rect.unit (s := S4096x2048) ![0, 0] ![512, 2048] inb_S4096x2048_S512x2048_0_0))⟩ : View.Piece (Elt Ideal) S520x512 .f32),
        ⟨Rect.unit ![6, 0] ![2, 512] inb_S520x512_S2x512_6_0, k0_pay24 (F := Ideal) (seg0 ⟨n + 1, h⟩) (View.ld (Val := Elt Ideal) (e' := .f32)
          (outsAt0 m c n (by omega)).2.2.2.2.2.2.2.2.1 (Rect.unit (s := S520x512) ![518, 0] ![2, 512] inb_S520x512_S2x512_518_0))⟩] : List (View.Piece (Elt Ideal) S520x512 .f32)),
        ix2 p l ∈ q.1.set := by
      by_cases h8 : 8 ≤ p.val
      · refine ⟨_, List.mem_cons_self, ?_⟩
        have e : ix2 p l = (Rect.unit (s := S520x512) ![8, 0] ![512, 512] inb_S520x512_S512x512_8_0).emb (ix2 ⟨p.val - 8, by omega⟩ l) := by
          blk_point
        rw [e]
        exact LoadRect.idx_mem _ _
      · refine ⟨_, List.mem_cons_of_mem _ List.mem_cons_self, ?_⟩
        have e : ix2 p l = (Rect.unit (s := S520x512) ![6, 0] ![2, 512] inb_S520x512_S2x512_6_0).emb (ix2 ⟨p.val - 6, by omega⟩ l) := by
          blk_point
        rw [e]
        exact LoadRect.idx_mem _ _
    by_cases h1 : (n + 1) % 16 = 15
    · rw [outsAt0_C m c ⟨n + 1, h⟩ (by simp; omega) h1]
      frame_out
      simp (disch := decide) only [read_unread_whole, wscr]
      refine (View.read_writes_apply_eq_canon _ _ _ _ hs).trans ?_
      exact u_canon m c ⟨n + 1, h⟩ _ _ (isWld m c 1024 (by omega) _) (isWld m c 0 (by omega) _) _
        (uscr_step m c ⟨n + 1, h⟩ (Nat.succ_ne_zero n) _ (fun p hp l => ih _ p hp l)) _ p hp l
    · rw [outsAt0_B m c ⟨n + 1, h⟩ (by simp; omega) h1]
      frame_out
      simp (disch := decide) only [read_unread_whole, wscr]
      refine (View.read_writes_apply_eq_canon _ _ _ _ hs).trans ?_
      exact u_canon m c ⟨n + 1, h⟩ _ _ (isWld m c 1024 (by omega) _) (isWld m c 0 (by omega) _) _
        (uscr_step m c ⟨n + 1, h⟩ (Nat.succ_ne_zero n) _ (fun p hp l => ih _ p hp l)) _ p hp l

end Cert.ProjIdeal.Value
-- ==== Proof.ProjCore.lean ====
module

public import proofs.«01_k».proof.Proof.ProjInv

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

/-! The arrays the kernel leaves. -/

variable (m : (ℓ : Loc nD τ sig) → Buf (Elt Ideal) ℓ)

/-- The rotated queries, of the tables and the projections. -/
abbrev rq (c : Dev nD) : Fin 4 → Fin 2048 → Fin 1024 → EReal :=
  ProjSpec.rquery (fun s l => a5 m c (ix2 s l)) (fun s l => a6 m c (ix2 s l)) (pz m c)

/-- The taps of the convolution. -/
abbrev taps (c : Dev nD) : Fin 3 → Fin 512 → EReal := fun i l => m ((c : Thread nD τ).loc main_arg4) (ix3 0 i l)

theorem atRow_blk {α : Type} (f : Fin 4 → Fin 2048 → α) (t : Fin cfg0.N) (r : Fin 512) (h : 512 * t.val + r.val < 8192) :
    ProjSpec.atRow f ⟨512 * t.val + r.val, h⟩ = f (bq t) (ps t r) :=
  congrArg₂ f (Fin.ext (by simp only [bq]; omega)) (Fin.ext (by simp only [ps]; omega))

/-- A piece of a row's queries, put together with the others. -/
theorem piece (f : Fin 1024 → Fin 512 → EReal) (o : ℕ) (ho : o + 128 ≤ 1024) (w : S512x128.Idx → EReal)
    (hw : ∀ (r : Fin 512) (l : Fin 128), w (ix2 r l) = f ⟨o + l.val, by omega⟩ r) (y : S512x128.Idx) (Y : S512x1024.Idx)
    (h0 : (Y 0).val = (y 0).val) (h1 : (Y 1).val = o + (y 1).val) : w y = f (Y 1) (Y 0) := by
  obtain ⟨r, l, rfl⟩ : ∃ (r : Fin 512) (l : Fin 128), y = ix2 r l := ⟨y 0, y 1, eq_ix2 y⟩
  exact (hw r l).trans (congrArg₂ f (Fin.ext h1.symm) (Fin.ext h0.symm))

/-- The same of half a row. -/
theorem piece5 (f : Fin 1024 → Fin 512 → EReal) (o : ℕ) (ho : o + 512 ≤ 1024) (w : S512x512.Idx → EReal)
    (hw : ∀ (r : Fin 512) (l : Fin 512), w (ix2 r l) = f ⟨o + l.val, by omega⟩ r) (y : S512x512.Idx) (Y : S512x1024.Idx)
    (h0 : (Y 0).val = (y 0).val) (h1 : (Y 1).val = o + (y 1).val) : w y = f (Y 1) (Y 0) := by
  obtain ⟨r, l, rfl⟩ : ∃ (r : Fin 512) (l : Fin 512), y = ix2 r l := ⟨y 0, y 1, eq_ix2 y⟩
  exact (hw r l).trans (congrArg₂ f (Fin.ext h1.symm) (Fin.ext h0.symm))

/-- The same of an eighth of the sample's rows. -/
theorem piece8 (f : Fin 4096 → Fin 64 → EReal) (o : ℕ) (ho : o + 512 ≤ 4096) (w : S64x512.Idx → EReal)
    (hw : ∀ (r : Fin 64) (l : Fin 512), w (ix2 r l) = f ⟨o + l.val, by omega⟩ r) (y : S64x512.Idx) (Y : S64x4096.Idx)
    (h0 : (Y 0).val = (y 0).val) (h1 : (Y 1).val = o + (y 1).val) : w y = f (Y 1) (Y 0) := by
  obtain ⟨r, l, rfl⟩ : ∃ (r : Fin 64) (l : Fin 512), y = ix2 r l := ⟨y 0, y 1, eq_ix2 y⟩
  exact (hw r l).trans (congrArg₂ f (Fin.ext h1.symm) (Fin.ext h0.symm))

/-- A head's scaled queries. -/
theorem qhead (c : Dev nD) (t : Fin cfg0.N) (v : FVec Ideal S512x512 .f32) (o d g : ℕ) (ho : o + 512 ≤ 6680) (hd : d + 128 ≤ 512) (hg : g + 128 ≤ 1024)
    (e : o + d = 2048 + g) (hv : ∀ r i : Fin 512, v (ix2 r i) = pz m c (bq t) (ps t r) ⟨o + i.val, by omega⟩) (r : Fin 512) (l : Fin 128) :
    v (ix2 r ⟨d + l.val, by omega⟩) * ProjSpec.scale = ProjSpec.query (pz m c) (bq t) (ps t r) ⟨g + l.val, by omega⟩ := by
  unfold ProjSpec.query
  rw [hv]
  exact congrArg (fun q => pz m c (bq t) (ps t r) q * ProjSpec.scale) (Fin.ext (by simp only; omega))

/-- A head's rotated queries. -/
theorem rhead (c : Dev nD) (t : Fin cfg0.N) (v : FVec Ideal S512x512 .f32) (o d : ℕ) (h : Fin 8) (g : ℕ) (hg : g = 128 * h.val) (ho : o + 512 ≤ 6680) (hd : d + 128 ≤ 512)
    (e : o + d = 2048 + h.val * 128) (hv : ∀ r i : Fin 512, v (ix2 r i) = pz m c (bq t) (ps t r) ⟨o + i.val, by omega⟩) (r : Fin 512) (l : Fin 128) :
    turned (fun l => v (ix2 r ⟨d + l.val, by omega⟩)) (fun l => iblk m c 3 t (ix2 r l)) (fun l => iblk m c 4 t (ix2 r l)) (fun l => iblk m c 5 t (ix2 r l)) l
      = rq m c (bq t) (ps t r) ⟨g + l.val, by omega⟩ := by
  subst hg
  refine turned_eq m c t r h _ (fun l => ?_) l
  rw [hv]
  exact congrArg (fun q => pz m c (bq t) (ps t r) q) (Fin.ext (by simp only; omega))

theorem pay35_pz (c : Dev nD) (t : Fin cfg0.N) (w : FVec Ideal S512x2048 .bf16) (hw : IsW m c 2048 (by omega) w) (r i : Fin 512) :
    k0_pay35 (F := Ideal) (xn m c t) w (ix2 r i) = pz m c (bq t) (ps t r) ⟨2048 + i.val, by omega⟩ :=
  (pay35_apply _ _ r i).trans (mm m c t _ _ w hw r i)

theorem pay49_pz (c : Dev nD) (t : Fin cfg0.N) (w : FVec Ideal S512x2048 .bf16) (hw : IsW m c 2560 (by omega) w) (r i : Fin 512) :
    k0_pay49 (F := Ideal) (xn m c t) w (ix2 r i) = pz m c (bq t) (ps t r) ⟨2560 + i.val, by omega⟩ :=
  (pay49_apply _ _ r i).trans (mm m c t _ _ w hw r i)

/-- A grid point's scaled queries. -/
theorem core7 (c : Dev nD) (t : Fin cfg0.N) (w1 w2 : FVec Ideal S512x2048 .bf16) (g1 : IsW m c 2048 (by omega) w1) (g2 : IsW m c 2560 (by omega) w2) (Y : S512x1024.Idx) :
    View.canon (Val := Elt Ideal) (s := S512x1024) (e := .bf16) [⟨Rect.unit ![0, 896] ![512, 128] inb_S512x1024_S512x128_0_896, k0_pay62 (F := Ideal) (k0_pay49 (F := Ideal) (xn m c t) w2)⟩,
      ⟨Rect.unit ![0, 768] ![512, 128] inb_S512x1024_S512x128_0_768, k0_pay58 (F := Ideal) (k0_pay49 (F := Ideal) (xn m c t) w2)⟩,
      ⟨Rect.unit ![0, 640] ![512, 128] inb_S512x1024_S512x128_0_640, k0_pay55 (F := Ideal) (k0_pay49 (F := Ideal) (xn m c t) w2)⟩,
      ⟨Rect.unit ![0, 512] ![512, 128] inb_S512x1024_S512x128_0_512, k0_pay51 (F := Ideal) (xn m c t) w2⟩,
      ⟨Rect.unit ![0, 384] ![512, 128] inb_S512x1024_S512x128_0_384, k0_pay47 (F := Ideal) (k0_pay35 (F := Ideal) (xn m c t) w1)⟩,
      ⟨Rect.unit ![0, 256] ![512, 128] inb_S512x1024_S512x128_0_256, k0_pay43 (F := Ideal) (k0_pay35 (F := Ideal) (xn m c t) w1)⟩,
      ⟨Rect.unit ![0, 128] ![512, 128] inb_S512x1024_S512x128_0_128, k0_pay40 (F := Ideal) (k0_pay35 (F := Ideal) (xn m c t) w1)⟩,
      ⟨Rect.unit ![0, 0] ![512, 128] inb_S512x1024_S512x128_0_0, k0_pay37 (F := Ideal) (k0_pay36 (F := Ideal) (xn m c t) w1) (FloatOps.ofBits .f32 0x3E0293EE#32)⟩] Y
      = ProjSpec.query (pz m c) (bq t) (ps t (Y 0)) (Y 1) := by
  canon_tiles Y
  · exact piece (fun j r => ProjSpec.query (pz m c) (bq t) (ps t r) j) 896 (by omega) _ (fun r l => (pay62_apply _ r l).trans
      (qhead m c t _ 2560 384 896 (by omega) (by omega) (by omega) rfl (pay49_pz m c t _ g2) r l)) _ _ (by omega) (by omega)
  · exact piece (fun j r => ProjSpec.query (pz m c) (bq t) (ps t r) j) 768 (by omega) _ (fun r l => (pay58_apply _ r l).trans
      (qhead m c t _ 2560 256 768 (by omega) (by omega) (by omega) rfl (pay49_pz m c t _ g2) r l)) _ _ (by omega) (by omega)
  · exact piece (fun j r => ProjSpec.query (pz m c) (bq t) (ps t r) j) 640 (by omega) _ (fun r l => (pay55_apply _ r l).trans
      (qhead m c t _ 2560 128 640 (by omega) (by omega) (by omega) rfl (pay49_pz m c t _ g2) r l)) _ _ (by omega) (by omega)
  · exact piece (fun j r => ProjSpec.query (pz m c) (bq t) (ps t r) j) 512 (by omega) _ (fun r l => (pay51_apply _ _ r l).trans
      (qhead m c t _ 2560 0 512 (by omega) (by omega) (by omega) rfl (pay49_pz m c t _ g2) r l)) _ _ (by omega) (by omega)
  · exact piece (fun j r => ProjSpec.query (pz m c) (bq t) (ps t r) j) 384 (by omega) _ (fun r l => (pay47_apply _ r l).trans
      (qhead m c t _ 2048 384 384 (by omega) (by omega) (by omega) rfl (pay35_pz m c t _ g1) r l)) _ _ (by omega) (by omega)
  · exact piece (fun j r => ProjSpec.query (pz m c) (bq t) (ps t r) j) 256 (by omega) _ (fun r l => (pay43_apply _ r l).trans
      (qhead m c t _ 2048 256 256 (by omega) (by omega) (by omega) rfl (pay35_pz m c t _ g1) r l)) _ _ (by omega) (by omega)
  · exact piece (fun j r => ProjSpec.query (pz m c) (bq t) (ps t r) j) 128 (by omega) _ (fun r l => (pay40_apply _ r l).trans
      (qhead m c t _ 2048 128 128 (by omega) (by omega) (by omega) rfl (pay35_pz m c t _ g1) r l)) _ _ (by omega) (by omega)
  · exact piece (fun j r => ProjSpec.query (pz m c) (bq t) (ps t r) j) 0 (by omega) _ (fun r l => (pay37_apply _ _ r l).trans
      (qhead m c t _ 2048 0 0 (by omega) (by omega) (by omega) rfl (pay35_pz m c t _ g1) r l)) _ _ (by omega) (by omega)

/-- A grid point's rotated queries. -/
theorem core8 (c : Dev nD) (t : Fin cfg0.N) (w1 w2 : FVec Ideal S512x2048 .bf16) (g1 : IsW m c 2048 (by omega) w1) (g2 : IsW m c 2560 (by omega) w2) (Y : S512x1024.Idx) :
    View.canon (Val := Elt Ideal) (s := S512x1024) (e := .bf16) [⟨Rect.unit ![0, 896] ![512, 128] inb_S512x1024_S512x128_0_896, k0_pay63 (F := Ideal) (iblk m c 3 t) (iblk m c 4 t) (iblk m c 5 t) (k0_pay49 (F := Ideal) (xn m c t) w2)⟩,
      ⟨Rect.unit ![0, 768] ![512, 128] inb_S512x1024_S512x128_0_768, k0_pay60 (F := Ideal) (k0_pay59 (F := Ideal) (iblk m c 3 t) (iblk m c 4 t) (iblk m c 5 t) (k0_pay49 (F := Ideal) (xn m c t) w2))⟩,
      ⟨Rect.unit ![0, 640] ![512, 128] inb_S512x1024_S512x128_0_640, k0_pay56 (F := Ideal) (iblk m c 3 t) (iblk m c 4 t) (iblk m c 5 t) (k0_pay49 (F := Ideal) (xn m c t) w2)⟩,
      ⟨Rect.unit ![0, 512] ![512, 128] inb_S512x1024_S512x128_0_512, k0_pay53 (F := Ideal) (iblk m c 4 t) (iblk m c 5 t) (k0_pay50 (F := Ideal) (xn m c t) w2) (k0_pay52 (F := Ideal) (iblk m c 3 t) (xn m c t) w2)⟩,
      ⟨Rect.unit ![0, 384] ![512, 128] inb_S512x1024_S512x128_0_384, k0_pay48 (F := Ideal) (iblk m c 3 t) (iblk m c 4 t) (iblk m c 5 t) (k0_pay35 (F := Ideal) (xn m c t) w1)⟩,
      ⟨Rect.unit ![0, 256] ![512, 128] inb_S512x1024_S512x128_0_256, k0_pay45 (F := Ideal) (iblk m c 4 t) (iblk m c 5 t) (k0_pay42 (F := Ideal) (k0_pay35 (F := Ideal) (xn m c t) w1)) (k0_pay44 (F := Ideal) (iblk m c 3 t) (k0_pay35 (F := Ideal) (xn m c t) w1))⟩,
      ⟨Rect.unit ![0, 128] ![512, 128] inb_S512x1024_S512x128_0_128, k0_pay41 (F := Ideal) (iblk m c 3 t) (iblk m c 4 t) (iblk m c 5 t) (k0_pay35 (F := Ideal) (xn m c t) w1)⟩,
      ⟨Rect.unit ![0, 0] ![512, 128] inb_S512x1024_S512x128_0_0, k0_pay38 (F := Ideal) (iblk m c 3 t) (iblk m c 4 t) (iblk m c 5 t) (k0_pay36 (F := Ideal) (xn m c t) w1)⟩] Y
      = rq m c (bq t) (ps t (Y 0)) (Y 1) := by
  canon_tiles Y
  · exact piece (fun j r => rq m c (bq t) (ps t r) j) 896 (by omega) _ (fun r l => (pay63_apply _ _ _ _ r l).trans
      (rhead m c t _ 2560 384 7 896 rfl (by omega) (by omega) rfl (pay49_pz m c t _ g2) r l)) _ _ (by omega) (by omega)
  · exact piece (fun j r => rq m c (bq t) (ps t r) j) 768 (by omega) _ (fun r l => (pay60_apply _ _ _ _ r l).trans
      (rhead m c t _ 2560 256 6 768 rfl (by omega) (by omega) rfl (pay49_pz m c t _ g2) r l)) _ _ (by omega) (by omega)
  · exact piece (fun j r => rq m c (bq t) (ps t r) j) 640 (by omega) _ (fun r l => (pay56_apply _ _ _ _ r l).trans
      (rhead m c t _ 2560 128 5 640 rfl (by omega) (by omega) rfl (pay49_pz m c t _ g2) r l)) _ _ (by omega) (by omega)
  · exact piece (fun j r => rq m c (bq t) (ps t r) j) 512 (by omega) _ (fun r l => (pay53_apply _ _ _ _ _ r l).trans
      (rhead m c t _ 2560 0 4 512 rfl (by omega) (by omega) rfl (pay49_pz m c t _ g2) r l)) _ _ (by omega) (by omega)
  · exact piece (fun j r => rq m c (bq t) (ps t r) j) 384 (by omega) _ (fun r l => (pay48_apply _ _ _ _ r l).trans
      (rhead m c t _ 2048 384 3 384 rfl (by omega) (by omega) rfl (pay35_pz m c t _ g1) r l)) _ _ (by omega) (by omega)
  · exact piece (fun j r => rq m c (bq t) (ps t r) j) 256 (by omega) _ (fun r l => (pay45_apply _ _ _ _ r l).trans
      (rhead m c t _ 2048 256 2 256 rfl (by omega) (by omega) rfl (pay35_pz m c t _ g1) r l)) _ _ (by omega) (by omega)
  · exact piece (fun j r => rq m c (bq t) (ps t r) j) 128 (by omega) _ (fun r l => (pay41_apply _ _ _ _ r l).trans
      (rhead m c t _ 2048 128 1 128 rfl (by omega) (by omega) rfl (pay35_pz m c t _ g1) r l)) _ _ (by omega) (by omega)
  · exact piece (fun j r => rq m c (bq t) (ps t r) j) 0 (by omega) _ (fun r l => (pay38_apply _ _ _ _ _ r l).trans
      (rhead m c t _ 2048 0 0 0 rfl (by omega) (by omega) rfl (pay35_pz m c t _ g1) r l)) _ _ (by omega) (by omega)

/-- A grid point's output gates. -/
theorem core9 (c : Dev nD) (t : Fin cfg0.N) (w1 w2 : FVec Ideal S512x2048 .bf16) (g1 : IsW m c 3072 (by omega) w1) (g2 : IsW m c 3584 (by omega) w2) (Y : S512x1024.Idx) :
    View.canon (Val := Elt Ideal) (s := S512x1024) (e := .f32) [⟨Rect.unit ![0, 512] ![512, 512] inb_S512x1024_S512x512_0_512, k0_pay65 (F := Ideal) (xn m c t) w2⟩, ⟨Rect.unit ![0, 0] ![512, 512] inb_S512x1024_S512x512_0_0, k0_pay64 (F := Ideal) (xn m c t) w1⟩] Y
      = ProjSpec.gate (pz m c) (bq t) (ps t (Y 0)) (Y 1) := by
  canon_tiles Y
  · refine piece5 (fun j r => ProjSpec.gate (pz m c) (bq t) (ps t r) j) 512 (by omega) _ (fun r l => ?_) _ _ (by omega) (by omega)
    rw [pay65_apply, mm m c t _ _ _ g2]
    exact congrArg (fun q => ProjSpec.silu (pz m c (bq t) (ps t r) q)) (Fin.ext (by simp only; omega))
  · refine piece5 (fun j r => ProjSpec.gate (pz m c) (bq t) (ps t r) j) 0 (by omega) _ (fun r l => ?_) _ _ (by omega) (by omega)
    rw [pay64_apply, mm m c t _ _ _ g1]
    exact congrArg (fun q => ProjSpec.silu (pz m c (bq t) (ps t r) q)) (Fin.ext (by simp only; omega))

/-- A grid point's gated convolution. -/
theorem core11 (c : Dev nD) (t : Fin cfg0.N) (w0 w1 w2 w3 : FVec Ideal S512x2048 .bf16) (g0 : IsW m c 0 (by omega) w0) (g1 : IsW m c 512 (by omega) w1)
    (g2 : IsW m c 1024 (by omega) w2) (g3 : IsW m c 1536 (by omega) w3) (L : List (View.Piece (Elt Ideal) S520x512 .f32))
    (hL : ∀ (p : Fin 520) (_ : 6 ≤ p.val) (l : Fin 512), View.canon (Val := Elt Ideal) (s := S520x512) (e := .f32) L (ix2 p l)
      = ProjSpec.up (pz m c) (bq t) ⟨t.val % 4 * 512 + (p.val - 6), by omega⟩ l) (r l : Fin 512) :
    k0_pay30 (F := Ideal) (k0_pay25 (F := Ideal) (xn m c t) w2 (xn m c t) w0)
      (k0_pay28 (F := Ideal) (iblk m c 2 t)
        ((View.whole cc0_scratch1).readCov L (Rect.unit (s := S520x512) ![6, 0] ![512, 512] inb_S520x512_S512x512_6_0).toLoadRect)
        ((View.whole cc0_scratch1).readCov L (Rect.unit (s := S520x512) ![7, 0] ![512, 512] inb_S520x512_S512x512_7_0).toLoadRect))
      (k0_pay29 (F := Ideal) (iblk m c 2 t)) (xn m c t) w1 (xn m c t) w3 (ix2 r l)
      = ProjSpec.gated (taps m c) (pz m c) (bq t) (ps t r) l := by
  rw [pay30_apply, pay25_apply, pay28_apply, pay29_apply, mm m c t _ _ _ g0, mm m c t _ _ _ g1, mm m c t _ _ _ g2, mm m c t _ _ _ g3,
    cblk, cblk, cblk, View.readCov_eq_canon', View.readCov_eq_canon']
  beta_reduce
  have e6 : (Rect.unit (s := S520x512) ![6, 0] ![512, 512] inb_S520x512_S512x512_6_0).toLoadRect.idx (ix2 r l) = ix2 ⟨6 + r.val, by omega⟩ l := by
    show (Rect.unit (s := S520x512) ![6, 0] ![512, 512] inb_S520x512_S512x512_6_0).emb (ix2 r l) = _
    blk_point
  have e7 : (Rect.unit (s := S520x512) ![7, 0] ![512, 512] inb_S520x512_S512x512_7_0).toLoadRect.idx (ix2 r l) = ix2 ⟨7 + r.val, by omega⟩ l := by
    show (Rect.unit (s := S520x512) ![7, 0] ![512, 512] inb_S520x512_S512x512_7_0).emb (ix2 r l) = _
    blk_point
  rw [e6, e7, hL _ (by simp only; omega), hL _ (by simp only; omega)]
  unfold ProjSpec.gated ProjSpec.conv
  have u2 : ProjSpec.up (pz m c) (bq t) ⟨2 + (ps t r).val, by omega⟩ l
      = pz m c (bq t) (ps t r) ⟨1024 + l.val, by omega⟩ * pz m c (bq t) (ps t r) ⟨0 + l.val, by omega⟩ := by
    unfold ProjSpec.up
    rw [dif_neg (by simp only; omega)]
    unfold ProjSpec.u
    have e : (⟨2 + (ps t r).val - 2, by omega⟩ : Fin 2048) = ps t r := Fin.ext (by simp only; omega)
    rw [e]
    simp only [Nat.zero_add]
  rw [u2]
  have e0 : (⟨t.val % 4 * 512 + (6 + r.val - 6), by omega⟩ : Fin 2050) = ⟨(ps t r).val, by omega⟩ := Fin.ext (by simp only [ps]; omega)
  have e1 : (⟨t.val % 4 * 512 + (7 + r.val - 6), by omega⟩ : Fin 2050) = ⟨1 + (ps t r).val, by omega⟩ := Fin.ext (by simp only [ps]; omega)
  simp only [e0, e1]

/-- The convolution's last two rows. -/
theorem core12 (c : Dev nD) (t : Fin cfg0.N) (h3 : t.val % 4 = 3) (L : List (View.Piece (Elt Ideal) S520x512 .f32))
    (hL : ∀ (p : Fin 520) (_ : 6 ≤ p.val) (l : Fin 512), View.canon (Val := Elt Ideal) (s := S520x512) (e := .f32) L (ix2 p l)
      = ProjSpec.up (pz m c) (bq t) ⟨t.val % 4 * 512 + (p.val - 6), by omega⟩ l) (i : Fin 2) (l : Fin 512) :
    k0_pay31 (F := Ideal) ((View.whole cc0_scratch1).readCov L (Rect.unit (s := S520x512) ![518, 0] ![2, 512] inb_S520x512_S2x512_518_0).toLoadRect) (ix3 0 i l)
      = ProjSpec.state (pz m c) (bq t) i l := by
  rw [pay31_apply, View.readCov_eq_canon']
  beta_reduce
  have e : (Rect.unit (s := S520x512) ![518, 0] ![2, 512] inb_S520x512_S2x512_518_0).toLoadRect.idx (ix2 i l) = ix2 ⟨518 + i.val, by omega⟩ l := by
    show (Rect.unit (s := S520x512) ![518, 0] ![2, 512] inb_S520x512_S2x512_518_0).emb (ix2 i l) = _
    blk_point
  rw [e, hL _ (by simp only; omega)]
  exact congrArg (fun q => ProjSpec.up (pz m c) (bq t) q l) (Fin.ext (by simp only; omega))

/-- The sample's projections before the branch gates. -/
theorem core13 (c : Dev nD) (t : Fin cfg0.N) (w0 w1 w2 w3 w4 w5 w6 w7 : FVec Ideal S512x2048 .bf16) (g0 : IsW m c 0 (by omega) w0) (g1 : IsW m c 512 (by omega) w1) (g2 : IsW m c 1024 (by omega) w2) (g3 : IsW m c 1536 (by omega) w3) (g4 : IsW m c 2048 (by omega) w4) (g5 : IsW m c 2560 (by omega) w5) (g6 : IsW m c 3072 (by omega) w6) (g7 : IsW m c 3584 (by omega) w7) (Y : S64x4096.Idx) :
    View.canon (Val := Elt Ideal) (s := S64x4096) (e := .f32) [⟨Rect.unit ![0, 3584] ![64, 512] inb_S64x4096_S64x512_0_3584, k0_pay5 (F := Ideal) (k0_pay14 (F := Ideal) (iblk m c 6 t) (iblk m c 1 t)) w7⟩,
      ⟨Rect.unit ![0, 3072] ![64, 512] inb_S64x4096_S64x512_0_3072, k0_pay4 (F := Ideal) (k0_pay14 (F := Ideal) (iblk m c 6 t) (iblk m c 1 t)) w6⟩,
      ⟨Rect.unit ![0, 2560] ![64, 512] inb_S64x4096_S64x512_0_2560, k0_pay3 (F := Ideal) (k0_pay14 (F := Ideal) (iblk m c 6 t) (iblk m c 1 t)) w5⟩,
      ⟨Rect.unit ![0, 2048] ![64, 512] inb_S64x4096_S64x512_0_2048, k0_pay2 (F := Ideal) (k0_pay14 (F := Ideal) (iblk m c 6 t) (iblk m c 1 t)) w4⟩,
      ⟨Rect.unit ![0, 1536] ![64, 512] inb_S64x4096_S64x512_0_1536, k0_pay1 (F := Ideal) (k0_pay14 (F := Ideal) (iblk m c 6 t) (iblk m c 1 t)) w3⟩,
      ⟨Rect.unit ![0, 1024] ![64, 512] inb_S64x4096_S64x512_0_1024, k0_pay18 (F := Ideal) (iblk m c 6 t) (iblk m c 1 t) w2⟩,
      ⟨Rect.unit ![0, 512] ![64, 512] inb_S64x4096_S64x512_0_512, k0_pay17 (F := Ideal) (iblk m c 6 t) (iblk m c 1 t) w1⟩,
      ⟨Rect.unit ![0, 0] ![64, 512] inb_S64x4096_S64x512_0_0, k0_pay16 (F := Ideal) (iblk m c 6 t) (iblk m c 1 t) w0⟩] Y
      = ProjSpec.head (sz m c (Y 0)) (Y 1) := by
  canon_tiles Y
  · exact piece8 (fun j r => ProjSpec.head (sz m c r) j) 3584 (by omega) _ (fun r l => (pay5_apply _ _ r l).trans (mms m c t 3584 (by omega) _ g7 r l)) _ _ (by omega) (by omega)
  · exact piece8 (fun j r => ProjSpec.head (sz m c r) j) 3072 (by omega) _ (fun r l => (pay4_apply _ _ r l).trans (mms m c t 3072 (by omega) _ g6 r l)) _ _ (by omega) (by omega)
  · exact piece8 (fun j r => ProjSpec.head (sz m c r) j) 2560 (by omega) _ (fun r l => (pay3_apply _ _ r l).trans (mms m c t 2560 (by omega) _ g5 r l)) _ _ (by omega) (by omega)
  · exact piece8 (fun j r => ProjSpec.head (sz m c r) j) 2048 (by omega) _ (fun r l => (pay2_apply _ _ r l).trans (mms m c t 2048 (by omega) _ g4 r l)) _ _ (by omega) (by omega)
  · exact piece8 (fun j r => ProjSpec.head (sz m c r) j) 1536 (by omega) _ (fun r l => (pay1_apply _ _ r l).trans (mms m c t 1536 (by omega) _ g3 r l)) _ _ (by omega) (by omega)
  · exact piece8 (fun j r => ProjSpec.head (sz m c r) j) 1024 (by omega) _ (fun r l => (pay18_apply _ _ _ r l).trans (mms m c t 1024 (by omega) _ g2 r l)) _ _ (by omega) (by omega)
  · exact piece8 (fun j r => ProjSpec.head (sz m c r) j) 512 (by omega) _ (fun r l => (pay17_apply _ _ _ r l).trans (mms m c t 512 (by omega) _ g1 r l)) _ _ (by omega) (by omega)
  · exact piece8 (fun j r => ProjSpec.head (sz m c r) j) 0 (by omega) _ (fun r l => (pay16_apply _ _ _ r l).trans (mms m c t 0 (by omega) _ g0 r l)) _ _ (by omega) (by omega)

end Cert.ProjIdeal.Value
-- ==== Proof.ProjOut.lean ====
module

public import proofs.«01_k».proof.Proof.ProjCore

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

/-! The arrays the kernel leaves, put together from its grid points. -/

variable (m : (ℓ : Loc nD τ sig) → Buf (Elt Ideal) ℓ)

theorem point7 (c : Dev nD) (t : Fin cfg0.N) (Y : S512x1024.Idx) :
    (outsAt0 m c t.val t.isLt).1 Y = ProjSpec.query (pz m c) (bq t) (ps t (Y 0)) (Y 1) := by
  have hN := lt16 t
  by_cases h0 : t.val % 16 = 0
  · rw [outsAt0_A m c t h0 (by omega)]
    frame_out
    simp (disch := decide) only [View.readCov_skip, View.readCov_cons_toLoadRect, View.readCov_fill]
    exact core7 m c t _ _ (isW10 m c) (isW11 m c) Y
  · by_cases h1 : t.val % 16 = 15
    · rw [outsAt0_C m c t h0 h1]
      frame_out
      simp only [read_unread_whole, wscr]
      exact core7 m c t _ _ (isWld m c 2048 (by omega) _) (isWld m c 2560 (by omega) _) Y
    · rw [outsAt0_B m c t h0 h1]
      frame_out
      simp only [read_unread_whole, wscr]
      exact core7 m c t _ _ (isWld m c 2048 (by omega) _) (isWld m c 2560 (by omega) _) Y

theorem point8 (c : Dev nD) (t : Fin cfg0.N) (Y : S512x1024.Idx) :
    (outsAt0 m c t.val t.isLt).2.1 Y = rq m c (bq t) (ps t (Y 0)) (Y 1) := by
  have hN := lt16 t
  by_cases h0 : t.val % 16 = 0
  · rw [outsAt0_A m c t h0 (by omega)]
    frame_out
    simp (disch := decide) only [View.readCov_skip, View.readCov_cons_toLoadRect, View.readCov_fill, pay32_eq, pay33_eq, pay34_eq]
    exact core8 m c t _ _ (isW10 m c) (isW11 m c) Y
  · by_cases h1 : t.val % 16 = 15
    · rw [outsAt0_C m c t h0 h1]
      frame_out
      simp only [read_unread_whole, wscr, pay32_eq, pay33_eq, pay34_eq]
      exact core8 m c t _ _ (isWld m c 2048 (by omega) _) (isWld m c 2560 (by omega) _) Y
    · rw [outsAt0_B m c t h0 h1]
      frame_out
      simp only [read_unread_whole, wscr, pay32_eq, pay33_eq, pay34_eq]
      exact core8 m c t _ _ (isWld m c 2048 (by omega) _) (isWld m c 2560 (by omega) _) Y

theorem point9 (c : Dev nD) (t : Fin cfg0.N) (Y : S512x1024.Idx) :
    (outsAt0 m c t.val t.isLt).2.2.1 Y = ProjSpec.gate (pz m c) (bq t) (ps t (Y 0)) (Y 1) := by
  have hN := lt16 t
  by_cases h0 : t.val % 16 = 0
  · rw [outsAt0_A m c t h0 (by omega)]
    frame_out
    simp (disch := decide) only [View.readCov_skip, View.readCov_cons_toLoadRect, View.readCov_fill]
    exact core9 m c t _ _ (isW12 m c) (isW13 m c) Y
  · by_cases h1 : t.val % 16 = 15
    · rw [outsAt0_C m c t h0 h1]
      frame_out
      simp only [read_unread_whole, wscr]
      exact core9 m c t _ _ (isWld m c 3072 (by omega) _) (isWld m c 3584 (by omega) _) Y
    · rw [outsAt0_B m c t h0 h1]
      frame_out
      simp only [read_unread_whole, wscr]
      exact core9 m c t _ _ (isWld m c 3072 (by omega) _) (isWld m c 3584 (by omega) _) Y

theorem gates_read (c : Dev nD) (L : List (View.Piece (Elt Ideal) S128x2048 .bf16)) (h : View.canon L = wbg m c) :
    (View.whole cc0_scratch3).readCov L (Rect.unit (s := S128x2048) ![0, 0] ![128, 2048] inb_S128x2048_S128x2048_0_0).toLoadRect = wbg m c := by
  rw [View.readCov_eq_canon', h]
  funext y
  refine congrArg (wbg m c) ?_
  show (Rect.unit (s := S128x2048) ![0, 0] ![128, 2048] inb_S128x2048_S128x2048_0_0).emb y = y
  blk_point

theorem point10 (c : Dev nD) (t : Fin cfg0.N) (r : Fin 512) (l : Fin 128) :
    (outsAt0 m c t.val t.isLt).2.2.2.1 (ix2 r l) = ProjSpec.bgate (pz m c (bq t) (ps t r)) l := by
  have hN := lt16 t
  by_cases h0 : t.val % 16 = 0
  · rw [outsAt0_A m c t h0 (by omega)]
    frame_out
    simp (disch := decide) only [View.readCov_skip, View.readCov_cons_toLoadRect, View.readCov_fill]
    rw [gates_read m c _ (wbg_canon m c _ (stgg m c)), pay23_apply]
    exact mg m c t r l
  · by_cases h1 : t.val % 16 = 15
    · rw [outsAt0_C m c t h0 h1]
      frame_out
      simp only [read_unread_whole, gscr]
      exact (pay23_apply _ _ r l).trans (mg m c t r l)
    · rw [outsAt0_B m c t h0 h1]
      frame_out
      simp only [read_unread_whole, gscr]
      exact (pay23_apply _ _ r l).trans (mg m c t r l)

theorem point11 (c : Dev nD) (t : Fin cfg0.N) (r l : Fin 512) :
    (outsAt0 m c t.val t.isLt).2.2.2.2.1 (ix2 r l) = ProjSpec.gated (taps m c) (pz m c) (bq t) (ps t r) l := by
  have hN := lt16 t
  have ht : t.val - 1 < cfg0.N := lt_of_le_of_lt (Nat.sub_le _ _) t.isLt
  by_cases h0 : t.val % 16 = 0
  · rw [outsAt0_A m c t h0 (by omega)]
    frame_out
    simp (disch := decide) only [View.readCov_skip, View.readCov_cons_toLoadRect, View.readCov_fill]
    exact core11 m c t _ _ _ _ (isW6 m c) (isW7 m c) (isW8 m c) (isW9 m c) _
      (u_canon m c t _ _ (isW8 m c) (isW6 m c) _ (fun hne => absurd (by omega) hne) _) r l
  · by_cases h1 : t.val % 16 = 15
    · rw [outsAt0_C m c t h0 h1]
      frame_out
      simp only [read_unread_whole, wscr]
      exact core11 m c t _ _ _ _ (isWld m c 0 (by omega) _) (isWld m c 512 (by omega) _) (isWld m c 1024 (by omega) _) (isWld m c 1536 (by omega) _) _
        (u_canon m c t _ _ (isWld m c 1024 (by omega) _) (isWld m c 0 (by omega) _) _
          (uscr_step m c t (by omega) _ (fun p hp l => uscr m c _ ht p hp l)) _) r l
    · rw [outsAt0_B m c t h0 h1]
      frame_out
      simp only [read_unread_whole, wscr]
      exact core11 m c t _ _ _ _ (isWld m c 0 (by omega) _) (isWld m c 512 (by omega) _) (isWld m c 1024 (by omega) _) (isWld m c 1536 (by omega) _) _
        (u_canon m c t _ _ (isWld m c 1024 (by omega) _) (isWld m c 0 (by omega) _) _
          (uscr_step m c t (by omega) _ (fun p hp l => uscr m c _ ht p hp l)) _) r l

theorem point12 (c : Dev nD) (t : Fin cfg0.N) (h3 : t.val % 4 = 3) (i : Fin 2) (l : Fin 512) :
    (outsAt0 m c t.val t.isLt).2.2.2.2.2.1 (ix3 0 i l) = ProjSpec.state (pz m c) (bq t) i l := by
  have hN := lt16 t
  have ht : t.val - 1 < cfg0.N := lt_of_le_of_lt (Nat.sub_le _ _) t.isLt
  by_cases h1 : t.val % 16 = 15
  · rw [outsAt0_C m c t (by omega) h1]
    frame_out
    simp only [read_unread_whole, wscr]
    exact core12 m c t h3 _ (u_canon m c t _ _ (isWld m c 1024 (by omega) _) (isWld m c 0 (by omega) _) _
      (uscr_step m c t (by omega) _ (fun p hp l => uscr m c _ ht p hp l)) _) i l
  · rw [outsAt0_B m c t (by omega) h1]
    frame_out
    simp only [read_unread_whole, wscr]
    exact core12 m c t h3 _ (u_canon m c t _ _ (isWld m c 1024 (by omega) _) (isWld m c 0 (by omega) _) _
      (uscr_step m c t (by omega) _ (fun p hp l => uscr m c _ ht p hp l)) _) i l

theorem point13 (c : Dev nD) (t : Fin cfg0.N) (h1 : t.val % 16 = 15) (Y : S64x4096.Idx) :
    (outsAt0 m c t.val t.isLt).2.2.2.2.2.2.1 Y = ProjSpec.head (sz m c (Y 0)) (Y 1) := by
  rw [outsAt0_C m c t (by omega) h1]
  frame_out
  simp only [read_unread_whole, wscr]
  exact core13 m c t _ _ _ _ _ _ _ _ (isWld m c 0 (by omega) _) (isWld m c 512 (by omega) _) (isWld m c 1024 (by omega) _) (isWld m c 1536 (by omega) _)
    (isWld m c 2048 (by omega) _) (isWld m c 2560 (by omega) _) (isWld m c 3072 (by omega) _) (isWld m c 3584 (by omega) _) Y

theorem point14 (c : Dev nD) (t : Fin cfg0.N) (h1 : t.val % 16 = 15) (r : Fin 64) (l : Fin 128) :
    (outsAt0 m c t.val t.isLt).2.2.2.2.2.2.2.1 (ix2 r l) = ProjSpec.bgate (sz m c r) l := by
  rw [outsAt0_C m c t (by omega) h1]
  frame_out
  simp only [read_unread_whole, gscr]
  exact (pay15_apply _ _ _ r l).trans (mgs m c t r l)

theorem out7 (c : Dev nD) : (dats m 0 c).arrAt 7 (cfgs 0).N
    = fun j : S8192x1024.Idx => ProjSpec.atRow (ProjSpec.query (pz m c)) (j 0) (j 1) := by
  refine (dats m 0 c).arrAt_eq_of_covers 7 _ (by decide +kernel) fun t _ y => ?_
  rw [after0_7]
  obtain ⟨r, l, rfl⟩ : ∃ (r : Fin 512) (l : Fin 1024), y = ix2 r l := ⟨y 0, y 1, eq_ix2 y⟩
  have e : ((cfg0.win 7).blk t).view.emb (ix2 r l) = (ix2 ⟨512 * t.val + r.val, by have := lt16 t; omega⟩ l : S8192x1024.Idx) := by
    blk_point [idx t]
  refine Eq.trans ?_ (congrArg (fun j : S8192x1024.Idx => ProjSpec.atRow (ProjSpec.query (pz m c)) (j 0) (j 1)) e.symm)
  exact (point7 m c t (ix2 r l)).trans (congrFun (atRow_blk (ProjSpec.query (pz m c)) t r (by have := lt16 t; omega)) l).symm

theorem out8 (c : Dev nD) : (dats m 0 c).arrAt 8 (cfgs 0).N
    = fun j : S8192x1024.Idx => ProjSpec.atRow (rq m c) (j 0) (j 1) := by
  refine (dats m 0 c).arrAt_eq_of_covers 8 _ (by decide +kernel) fun t _ y => ?_
  rw [after0_8]
  obtain ⟨r, l, rfl⟩ : ∃ (r : Fin 512) (l : Fin 1024), y = ix2 r l := ⟨y 0, y 1, eq_ix2 y⟩
  have e : ((cfg0.win 8).blk t).view.emb (ix2 r l) = (ix2 ⟨512 * t.val + r.val, by have := lt16 t; omega⟩ l : S8192x1024.Idx) := by
    blk_point [idx t]
  refine Eq.trans ?_ (congrArg (fun j : S8192x1024.Idx => ProjSpec.atRow (rq m c) (j 0) (j 1)) e.symm)
  exact (point8 m c t (ix2 r l)).trans (congrFun (atRow_blk (rq m c) t r (by have := lt16 t; omega)) l).symm

theorem out9 (c : Dev nD) : (dats m 0 c).arrAt 9 (cfgs 0).N
    = fun j : S8192x1024.Idx => ProjSpec.atRow (ProjSpec.gate (pz m c)) (j 0) (j 1) := by
  refine (dats m 0 c).arrAt_eq_of_covers 9 _ (by decide +kernel) fun t _ y => ?_
  rw [after0_9]
  obtain ⟨r, l, rfl⟩ : ∃ (r : Fin 512) (l : Fin 1024), y = ix2 r l := ⟨y 0, y 1, eq_ix2 y⟩
  have e : ((cfg0.win 9).blk t).view.emb (ix2 r l) = (ix2 ⟨512 * t.val + r.val, by have := lt16 t; omega⟩ l : S8192x1024.Idx) := by
    blk_point [idx t]
  refine Eq.trans ?_ (congrArg (fun j : S8192x1024.Idx => ProjSpec.atRow (ProjSpec.gate (pz m c)) (j 0) (j 1)) e.symm)
  exact (point9 m c t (ix2 r l)).trans (congrFun (atRow_blk (ProjSpec.gate (pz m c)) t r (by have := lt16 t; omega)) l).symm

theorem out10 (c : Dev nD) : (dats m 0 c).arrAt 10 (cfgs 0).N
    = fun j : S8192x128.Idx => ProjSpec.bgate (ProjSpec.atRow (pz m c) (j 0)) (j 1) := by
  refine (dats m 0 c).arrAt_eq_of_covers 10 _ (by decide +kernel) fun t _ y => ?_
  rw [after0_10]
  obtain ⟨r, l, rfl⟩ : ∃ (r : Fin 512) (l : Fin 128), y = ix2 r l := ⟨y 0, y 1, eq_ix2 y⟩
  have e : ((cfg0.win 10).blk t).view.emb (ix2 r l) = (ix2 ⟨512 * t.val + r.val, by have := lt16 t; omega⟩ l : S8192x128.Idx) := by
    blk_point [idx t]
  refine Eq.trans ?_ (congrArg (fun j : S8192x128.Idx => ProjSpec.bgate (ProjSpec.atRow (pz m c) (j 0)) (j 1)) e.symm)
  exact (point10 m c t r l).trans (congrArg (fun f => ProjSpec.bgate f l) (atRow_blk (pz m c) t r (by have := lt16 t; omega))).symm

theorem out11 (c : Dev nD) : (dats m 0 c).arrAt 11 (cfgs 0).N
    = fun j : S8192x512.Idx => ProjSpec.atRow (ProjSpec.gated (taps m c) (pz m c)) (j 0) (j 1) := by
  refine (dats m 0 c).arrAt_eq_of_covers 11 _ (by decide +kernel) fun t _ y => ?_
  rw [after0_11]
  obtain ⟨r, l, rfl⟩ : ∃ (r : Fin 512) (l : Fin 512), y = ix2 r l := ⟨y 0, y 1, eq_ix2 y⟩
  have e : ((cfg0.win 11).blk t).view.emb (ix2 r l) = (ix2 ⟨512 * t.val + r.val, by have := lt16 t; omega⟩ l : S8192x512.Idx) := by
    blk_point [idx t]
  refine Eq.trans ?_ (congrArg (fun j : S8192x512.Idx => ProjSpec.atRow (ProjSpec.gated (taps m c) (pz m c)) (j 0) (j 1)) e.symm)
  exact (point11 m c t r l).trans (congrFun (atRow_blk (ProjSpec.gated (taps m c) (pz m c)) t r (by have := lt16 t; omega)) l).symm

theorem out12 (c : Dev nD) : (dats m 0 c).arrAt 12 (cfgs 0).N
    = fun j : S4x2x512.Idx => ProjSpec.state (pz m c) (j 0) (j 1) (j 2) := by
  refine (dats m 0 c).arrAt_eq_of_covers 12 _ (by decide +kernel) fun t hf y => ?_
  rw [after0_12]
  obtain ⟨z, i, l, rfl⟩ : ∃ (z : Fin 1) (i : Fin 2) (l : Fin 512), y = ix3 z i l := ⟨y 0, y 1, y 2, eq_ix3 y⟩
  obtain rfl : z = 0 := Subsingleton.elim _ _
  have e : ((cfg0.win 12).blk t).view.emb (ix3 0 i l) = (ix3 (bq t) i l : S4x2x512.Idx) := by
    blk_point [idx t, bq]
  refine Eq.trans ?_ (congrArg (fun j : S4x2x512.Idx => ProjSpec.state (pz m c) (j 0) (j 1) (j 2)) e.symm)
  exact (point12 m c t ((flush0_12 t).mp hf) i l)

theorem out13 (c : Dev nD) : (dats m 0 c).arrAt 13 (cfgs 0).N
    = fun j : S64x4096.Idx => ProjSpec.head (sz m c (j 0)) (j 1) := by
  refine (dats m 0 c).arrAt_eq_of_covers 13 _ (by decide +kernel) fun t hf y => ?_
  rw [after0_13]
  obtain ⟨r, l, rfl⟩ : ∃ (r : Fin 64) (l : Fin 4096), y = ix2 r l := ⟨y 0, y 1, eq_ix2 y⟩
  have e : ((cfg0.win 13).blk t).view.emb (ix2 r l) = (ix2 r l : S64x4096.Idx) := by
    blk_point [idx t]
  refine Eq.trans ?_ (congrArg (fun j : S64x4096.Idx => ProjSpec.head (sz m c (j 0)) (j 1)) e.symm)
  exact (point13 m c t ((flush0_13 t).mp hf) (ix2 r l))

theorem out14 (c : Dev nD) : (dats m 0 c).arrAt 14 (cfgs 0).N
    = fun j : S64x128.Idx => ProjSpec.bgate (sz m c (j 0)) (j 1) := by
  refine (dats m 0 c).arrAt_eq_of_covers 14 _ (by decide +kernel) fun t hf y => ?_
  rw [after0_14]
  obtain ⟨r, l, rfl⟩ : ∃ (r : Fin 64) (l : Fin 128), y = ix2 r l := ⟨y 0, y 1, eq_ix2 y⟩
  have e : ((cfg0.win 14).blk t).view.emb (ix2 r l) = (ix2 r l : S64x128.Idx) := by
    blk_point [idx t]
  refine Eq.trans ?_ (congrArg (fun j : S64x128.Idx => ProjSpec.bgate (sz m c (j 0)) (j 1)) e.symm)
  exact (point14 m c t ((flush0_14 t).mp hf) r l)

end Cert.ProjIdeal.Value
-- ==== Proof.ProjRun.lean ====
module

public import proofs.«01_k».proof.Proof.ProjOut

@[expose] public section

set_option maxRecDepth 16384

noncomputable section

namespace Cert.ProjIdeal.Value

open Cert.ProjIdeal Cert.ProjIdeal.Gen Idealize.ShloMosaic Idealize.ShloMosaic.TcCoe Idealize.SL.Sem

variable (m : (ℓ : Loc nD τ sig) → Buf (Elt Ideal) ℓ)

/-- What the kernel leaves in its eight results. -/
theorem run_outs (ρ : Dev nD → PrngReg) :
    θ_run defs (onTc (τ := τ) (main (F := Ideal))) ⟨m, fun _ => 0, ρ⟩ fun r => ∀ c : Dev nD,
      (r.2.mem ((c.tc : Thread nD τ).loc main_v15_0) = (dats m 0 c).arrAt 7 (cfgs 0).N)
      ∧ (r.2.mem ((c.tc : Thread nD τ).loc main_v15_1) = (dats m 0 c).arrAt 8 (cfgs 0).N)
      ∧ (r.2.mem ((c.tc : Thread nD τ).loc main_v15_2) = (dats m 0 c).arrAt 9 (cfgs 0).N)
      ∧ (r.2.mem ((c.tc : Thread nD τ).loc main_v15_3) = (dats m 0 c).arrAt 10 (cfgs 0).N)
      ∧ (r.2.mem ((c.tc : Thread nD τ).loc main_v15_4) = (dats m 0 c).arrAt 11 (cfgs 0).N)
      ∧ (r.2.mem ((c.tc : Thread nD τ).loc main_v15_5) = (dats m 0 c).arrAt 12 (cfgs 0).N)
      ∧ (r.2.mem ((c.tc : Thread nD τ).loc main_v15_6) = (dats m 0 c).arrAt 13 (cfgs 0).N)
      ∧ (r.2.mem ((c.tc : Thread nD τ).loc main_v15_7) = (dats m 0 c).arrAt 14 (cfgs 0).N) :=
  (θ_run defs _ _).mono (fun _ h c => ⟨(h c).1 7, (h c).1 8, (h c).1 9, (h c).1 10, (h c).1 11, (h c).1 12, (h c).1 13, (h c).1 14⟩)
    (run_main m ρ)

end Cert.ProjIdeal.Value
-- ==== Proof.ProjRef.lean ====
module

public import proofs.«01_k».proof.Proof.ProjSpec
public import proofs.«01_k».proof.Proof.Gen.ProjRefIdeal.Run
public import Idealize.ShloMosaic.Lib.Pointwise
public import Idealize.ShloMosaic.Lib.Pipeline.ValueKit

@[expose] public section

set_option maxRecDepth 16384

noncomputable section

namespace Cert.ProjRefIdeal.Value

open Cert.ProjRefIdeal Cert.ProjRefIdeal.Gen Idealize.ShloMosaic Idealize.ShloMosaic.TcCoe Idealize.SL.Sem

/-- The rms norm of the prompt, at an entry. -/
theorem norm1 (A0 : FVec Ideal S4x2048x2048 .f32) (A2 : FVec Ideal S1x2048 .f32) (b : Fin 4) (s l : Fin 2048) :
    mulf (mulf A0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A0 A0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ A2 shapeCasts_S1x2048_S2048))) (ix3 b s l)
      = OutSpec.normed (fun l => A0 (ix3 b s l)) (fun l => A2 (ix2 0 l)) l := by
  pointwise [OutSpec.normed]

/-- A product with `w_in`. -/
def dot1 (N : FVec Ideal S4x2048x2048 .f32) (A3 : FVec Ideal S1x2048x6680 .f32) : FVec Ideal S4x2048x6680 .f32 :=
  Host.dotGeneral dot_S4x2048x2048_S2048x6680_S4x2048x6680_2_0_01_1_n_n none N (shapeCast _ A3 shapeCasts_S1x2048x6680_S2048x6680)

theorem dot1_apply (N : FVec Ideal S4x2048x2048 .f32) (A3 : FVec Ideal S1x2048x6680 .f32) (b : Fin 4) (s : Fin 2048) (n : Fin 6680) :
    dot1 N A3 (ix3 b s n) = ∑ k : Fin 2048, N (ix3 b s k) * A3 (ix3 0 k n) := by
  pointwise [dot1]

/-- The prompt's projections. -/
def Z (A0 : FVec Ideal S4x2048x2048 .f32) (A2 : FVec Ideal S1x2048 .f32) (A3 : FVec Ideal S1x2048x6680 .f32) : FVec Ideal S4x2048x6680 .f32 :=
  dot1 (mulf (mulf A0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A0 A0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ A2 shapeCasts_S1x2048_S2048)))) A3

theorem Z_apply (A0 : FVec Ideal S4x2048x2048 .f32) (A2 : FVec Ideal S1x2048 .f32) (A3 : FVec Ideal S1x2048x6680 .f32) :
    (fun b s n => Z A0 A2 A3 (ix3 b s n)) = ProjSpec.z A0 A2 A3 := by
  funext b s n
  unfold Z
  rw [dot1_apply]
  exact Finset.sum_congr rfl fun k _ => congrArg (· * A3 (ix3 0 k n)) (norm1 A0 A2 b s k)

theorem sitofp0 : FloatOps.sitofp (F := Ideal) FTy.f32 0#32 = (0 : EReal) := by
  change (((0#32 : BitVec 32).toInt : ℝ) : EReal) = 0
  simp

/-- The sample padded. -/
def pad1 (A1 : FVec Ideal S8x4x2048 .f32) : FVec Ideal S8x8x2048 .f32 :=
  pad S8x8x2048 ![0, 0, 0] ![0, 4, 0] ![0, 0, 0] A1 (sitofp .f32 (constantI S_ 32 0#32)) pads_S8x4x2048_S8x8x2048_000_040_000 h_S_

theorem pad1_apply (A1 : FVec Ideal S8x4x2048 .f32) (r : Fin 64) (l : Fin 2048) :
    pad1 A1 (ix3 ⟨r.val / 8, by omega⟩ ⟨r.val % 8, by omega⟩ l) = ProjSpec.srow A1 r l := by
  pointwise [pad1, ProjSpec.srow]
  split_ifs <;> first | rfl | omega | simp [sitofp0]

theorem norm2 (A1 : FVec Ideal S8x8x2048 .f32) (A2 : FVec Ideal S1x2048 .f32) (b s : Fin 8) (l : Fin 2048) :
    mulf (mulf A1 (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf A1 A1) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 (shapeCast _ A2 shapeCasts_S1x2048_S2048))) (ix3 b s l)
      = OutSpec.normed (fun l => A1 (ix3 b s l)) (fun l => A2 (ix2 0 l)) l := by
  pointwise [OutSpec.normed]

/-- A product with `w_in`. -/
def dot2 (N : FVec Ideal S8x8x2048 .f32) (A3 : FVec Ideal S1x2048x6680 .f32) : FVec Ideal S8x8x6680 .f32 :=
  Host.dotGeneral dot_S8x8x2048_S2048x6680_S8x8x6680_2_0_01_1_n_n none N (shapeCast _ A3 shapeCasts_S1x2048x6680_S2048x6680)

theorem dot2_apply (N : FVec Ideal S8x8x2048 .f32) (A3 : FVec Ideal S1x2048x6680 .f32) (b s : Fin 8) (n : Fin 6680) :
    dot2 N A3 (ix3 b s n) = ∑ k : Fin 2048, N (ix3 b s k) * A3 (ix3 0 k n) := by
  pointwise [dot2]

/-- The sample's projections. -/
def ZS (A1 : FVec Ideal S8x8x2048 .f32) (A2 : FVec Ideal S1x2048 .f32) (A3 : FVec Ideal S1x2048x6680 .f32) : FVec Ideal S8x8x6680 .f32 :=
  dot2 (mulf (mulf A1 (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf A1 A1) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 (shapeCast _ A2 shapeCasts_S1x2048_S2048)))) A3

theorem ZS_apply (A1 : FVec Ideal S8x4x2048 .f32) (A2 : FVec Ideal S1x2048 .f32) (A3 : FVec Ideal S1x2048x6680 .f32) (r : Fin 64) (n : Fin 6680) :
    ZS (pad1 A1) A2 A3 (ix3 ⟨r.val / 8, by omega⟩ ⟨r.val % 8, by omega⟩ n) = ProjSpec.zrow (ProjSpec.srow A1 r) A2 A3 n := by
  unfold ZS
  rw [dot2_apply]
  refine Finset.sum_congr rfl fun k _ => congrArg (· * A3 (ix3 0 k n)) ((norm2 (pad1 A1) A2 _ _ k).trans ?_)
  simp only [pad1_apply]

/-- The queries. -/
theorem q_apply (T : FVec Ideal S4x2048x6680 .f32) (r : Fin 8192) (j : Fin 1024) :
    truncf .bf16 (shapeCast _ (mulf (shapeCast _ (extractStridedSlice S4x2048x1024 ![0, 0, 2048] T slices_S4x2048x6680_S4x2048x1024_0_0_2048) shapeCasts_S4x2048x1024_S4x2048x8x128) (broadcastInDim S4x2048x8x128 ![] bcast_S_S4x2048x8x128 (constant S_ .f32 0x3E0293EE#32))) shapeCasts_S4x2048x8x128_S8192x1024) bitsLt_bf16_f32 (ix2 r j)
      = ProjSpec.atRow (ProjSpec.query fun b s n => T (ix3 b s n)) r j := by
  pointwise [ProjSpec.atRow, ProjSpec.query, ProjSpec.scale]

/-- The output gate. -/
theorem ng_apply (T : FVec Ideal S4x2048x6680 .f32) (r : Fin 8192) (j : Fin 1024) :
    shapeCast S8192x1024 (mulf (extractStridedSlice S4x2048x1024 ![0, 0, 3072] T slices_S4x2048x6680_S4x2048x1024_0_0_3072) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (extractStridedSlice S4x2048x1024 ![0, 0, 3072] T slices_S4x2048x6680_S4x2048x1024_0_0_3072)))))) shapeCasts_S4x2048x1024_S8192x1024 (ix2 r j)
      = ProjSpec.atRow (ProjSpec.gate fun b s n => T (ix3 b s n)) r j := by
  pointwise [ProjSpec.atRow, ProjSpec.gate, ProjSpec.silu]
  rfl

/-- The branch gates. -/
theorem bg_apply (T : FVec Ideal S4x2048x6680 .f32) (r : Fin 8192) (j : Fin 128) :
    shapeCast S8192x128 (pad S4x2048x128 ![0, 0, 0] ![0, 0, 104] ![0, 0, 0] (extractStridedSlice S4x2048x24 ![0, 0, 4096] T slices_S4x2048x6680_S4x2048x24_0_0_4096) (sitofp .f32 (constantI S_ 32 0#32)) pads_S4x2048x24_S4x2048x128_000_000_01040 h_S_) shapeCasts_S4x2048x128_S8192x128 (ix2 r j)
      = ProjSpec.bgate (ProjSpec.atRow (fun b s n => T (ix3 b s n)) r) j := by
  pointwise [ProjSpec.atRow, ProjSpec.bgate]
  split_ifs <;> first | rfl | omega | simp [sitofp0]

/-- The sample's projections, the columns before the branch gates. -/
theorem zs_apply (U : FVec Ideal S8x8x6680 .f32) (r : Fin 64) (j : Fin 4096) :
    shapeCast S64x4096 (extractStridedSlice S8x8x4096 ![0, 0, 0] U slices_S8x8x6680_S8x8x4096_0_0_0) shapeCasts_S8x8x4096_S64x4096 (ix2 r j)
      = U (ix3 ⟨r.val / 8, by omega⟩ ⟨r.val % 8, by omega⟩ ⟨j.val, by omega⟩) := by
  pointwise

/-- The sample's branch gates. -/
theorem bgs_apply (U : FVec Ideal S8x8x6680 .f32) (r : Fin 64) (j : Fin 128) :
    shapeCast S64x128 (pad S8x8x128 ![0, 0, 0] ![0, 0, 104] ![0, 0, 0] (extractStridedSlice S8x8x24 ![0, 0, 4096] U slices_S8x8x6680_S8x8x24_0_0_4096) (sitofp .f32 (constantI S_ 32 0#32)) pads_S8x8x24_S8x8x128_000_000_01040 h_S_) shapeCasts_S8x8x128_S64x128 (ix2 r j)
      = ProjSpec.bgate (fun n => U (ix3 ⟨r.val / 8, by omega⟩ ⟨r.val % 8, by omega⟩ n)) j := by
  pointwise [ProjSpec.bgate]
  split_ifs <;> first | rfl | omega | simp [sitofp0]

/-- The convolution's input behind two zero rows. -/
def upad (T : FVec Ideal S4x2048x6680 .f32) : FVec Ideal S4x2050x512 .f32 :=
  concatenate S4x2050x512 1 [⟨S4x2x512, (broadcastInDim S4x2x512 ![] bcast_S_S4x2x512 (constant S_ .f32 0x00000000#32))⟩, ⟨S4x2048x512, (mulf (extractStridedSlice S4x2048x512 ![0, 0, 1024] T slices_S4x2048x6680_S4x2048x512_0_0_1024) (extractStridedSlice S4x2048x512 ![0, 0, 0] T slices_S4x2048x6680_S4x2048x512_0_0_0))⟩] concatenates_S4x2x512_S4x2048x512_S4x2050x512_d1

theorem upad_apply (T : FVec Ideal S4x2048x6680 .f32) (b : Fin 4) (p : Fin 2050) (c : Fin 512) :
    upad T (ix3 b p c) = ProjSpec.up (fun b s n => T (ix3 b s n)) b p c := by
  pointwise [upad, ProjSpec.up, ProjSpec.u]

/-- The convolution's state: its last two rows. -/
theorem st_apply (T : FVec Ideal S4x2050x512 .f32) (b : Fin 4) (i : Fin 2) (c : Fin 512) :
    extractStridedSlice S4x2x512 ![0, 2048, 0] T slices_S4x2050x512_S4x2x512_0_2048_0 (ix3 b i c) = T (ix3 b ⟨2048 + i.val, by omega⟩ c) := by
  pointwise

/-- The gated convolution. -/
theorem ya_apply (T : FVec Ideal S4x2048x6680 .f32) (P : FVec Ideal S4x2050x512 .f32) (A4 : FVec Ideal S1x3x512 .f32) (r : Fin 8192) (j : Fin 512) :
    truncf .bf16 (shapeCast S8192x512 (mulf (mulf (extractStridedSlice S4x2048x512 ![0, 0, 1536] T slices_S4x2048x6680_S4x2048x512_0_0_1536) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (extractStridedSlice S4x2048x512 ![0, 0, 1536] T slices_S4x2048x6680_S4x2048x512_0_0_1536)))))) (mulf (extractStridedSlice S4x2048x512 ![0, 0, 512] T slices_S4x2048x6680_S4x2048x512_0_0_512) (addf (addf (mulf (broadcastInDim S4x2048x512 ![0, 1, 2] bcast_S1x1x512_S4x2048x512_0_1_2 (broadcastInDim S1x1x512 ![2] bcast_S512_S1x1x512_2 (shapeCast _ (extractStridedSlice S1x1x512 ![0, 0, 0] A4 slices_S1x3x512_S1x1x512_0_0_0) shapeCasts_S1x1x512_S512))) (extractStridedSlice S4x2048x512 ![0, 0, 0] P slices_S4x2050x512_S4x2048x512_0_0_0)) (mulf (broadcastInDim S4x2048x512 ![0, 1, 2] bcast_S1x1x512_S4x2048x512_0_1_2 (broadcastInDim S1x1x512 ![2] bcast_S512_S1x1x512_2 (shapeCast _ (extractStridedSlice S1x1x512 ![0, 1, 0] A4 slices_S1x3x512_S1x1x512_0_1_0) shapeCasts_S1x1x512_S512))) (extractStridedSlice S4x2048x512 ![0, 1, 0] P slices_S4x2050x512_S4x2048x512_0_1_0))) (mulf (broadcastInDim S4x2048x512 ![0, 1, 2] bcast_S1x1x512_S4x2048x512_0_1_2 (broadcastInDim S1x1x512 ![2] bcast_S512_S1x1x512_2 (shapeCast _ (extractStridedSlice S1x1x512 ![0, 2, 0] A4 slices_S1x3x512_S1x1x512_0_2_0) shapeCasts_S1x1x512_S512))) (extractStridedSlice S4x2048x512 ![0, 2, 0] P slices_S4x2050x512_S4x2048x512_0_2_0))))) shapeCasts_S4x2048x512_S8192x512) bitsLt_bf16_f32 (ix2 r j)
      = ProjSpec.atRow (fun b s => ProjSpec.silu (T (ix3 b s ⟨1536 + j.val, by omega⟩)) * (T (ix3 b s ⟨512 + j.val, by omega⟩)
          * (A4 (ix3 0 0 j) * P (ix3 b ⟨s.val, by omega⟩ j) + A4 (ix3 0 1 j) * P (ix3 b ⟨1 + s.val, by omega⟩ j)
            + A4 (ix3 0 2 j) * P (ix3 b ⟨2 + s.val, by omega⟩ j)))) r := by
  pointwise [ProjSpec.atRow, ProjSpec.silu]
  rfl

/-- The rotated queries. -/
theorem qr_apply (T : FVec Ideal S4x2048x6680 .f32) (A5 A6 : FVec Ideal S2048x16 .f32) (r : Fin 8192) (j : Fin 1024) :
    (truncf .bf16 (shapeCast _ (mulf ((concatenate S4x2048x8x128 3 [⟨S4x2048x8x16, ((subf (mulf (extractStridedSlice S4x2048x8x16 ![0, 0, 0, 0] (shapeCast _ (extractStridedSlice S4x2048x1024 ![0, 0, 2048] T slices_S4x2048x6680_S4x2048x1024_0_0_2048) shapeCasts_S4x2048x1024_S4x2048x8x128) slices_S4x2048x8x128_S4x2048x8x16_0_0_0_0) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 A5)))) (mulf (extractStridedSlice S4x2048x8x16 ![0, 0, 0, 16] (shapeCast _ (extractStridedSlice S4x2048x1024 ![0, 0, 2048] T slices_S4x2048x6680_S4x2048x1024_0_0_2048) shapeCasts_S4x2048x1024_S4x2048x8x128) slices_S4x2048x8x128_S4x2048x8x16_0_0_0_16) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 A6))))) : (⟨S4x2048x8x16, .f32⟩ : BufTy).Contents (Elt Ideal))⟩, ⟨S4x2048x8x16, ((addf (mulf (extractStridedSlice S4x2048x8x16 ![0, 0, 0, 16] (shapeCast _ (extractStridedSlice S4x2048x1024 ![0, 0, 2048] T slices_S4x2048x6680_S4x2048x1024_0_0_2048) shapeCasts_S4x2048x1024_S4x2048x8x128) slices_S4x2048x8x128_S4x2048x8x16_0_0_0_16) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 A5)))) (mulf (extractStridedSlice S4x2048x8x16 ![0, 0, 0, 0] (shapeCast _ (extractStridedSlice S4x2048x1024 ![0, 0, 2048] T slices_S4x2048x6680_S4x2048x1024_0_0_2048) shapeCasts_S4x2048x1024_S4x2048x8x128) slices_S4x2048x8x128_S4x2048x8x16_0_0_0_0) (broadcastInDim S4x2048x8x16 ![0, 1, 2, 3] bcast_S1x2048x1x16_S4x2048x8x16_0_1_2_3 (broadcastInDim S1x2048x1x16 ![1, 2, 3] bcast_S2048x1x16_S1x2048x1x16_1_2_3 (broadcastInDim S2048x1x16 ![0, 2] bcast_S2048x16_S2048x1x16_0_2 A6))))) : (⟨S4x2048x8x16, .f32⟩ : BufTy).Contents (Elt Ideal))⟩, ⟨S4x2048x8x96, ((extractStridedSlice S4x2048x8x96 ![0, 0, 0, 32] (shapeCast _ (extractStridedSlice S4x2048x1024 ![0, 0, 2048] T slices_S4x2048x6680_S4x2048x1024_0_0_2048) shapeCasts_S4x2048x1024_S4x2048x8x128) slices_S4x2048x8x128_S4x2048x8x96_0_0_0_32) : (⟨S4x2048x8x96, .f32⟩ : BufTy).Contents (Elt Ideal))⟩] concatenates_S4x2048x8x16_S4x2048x8x16_S4x2048x8x96_S4x2048x8x128_d3 : (⟨S4x2048x8x128, .f32⟩ : BufTy).Contents (Elt Ideal))) (broadcastInDim S4x2048x8x128 ![] bcast_S_S4x2048x8x128 (constant S_ .f32 0x3E0293EE#32))) shapeCasts_S4x2048x8x128_S8192x1024) bitsLt_bf16_f32 : FVec Ideal S8192x1024 .bf16) (ix2 r j)
      = ProjSpec.atRow (ProjSpec.rquery (fun s l => A5 (ix2 s l)) (fun s l => A6 (ix2 s l)) fun b s n => T (ix3 b s n)) r j := by
  pointwise [ProjSpec.atRow, ProjSpec.rquery, ProjSpec.rot, ProjSpec.scale]
  refine congrArg (· * _) ?_
  have e1 : ∀ h : 2048 + j.val < 6680, (⟨2048 + j.val, h⟩ : Fin 6680) = ⟨2048 + (j.val / 128 * 128 + j.val % 128), by omega⟩ := fun h =>
    Fin.ext (congrArg (2048 + ·) (Nat.div_add_mod' j.val 128).symm)
  simp only [e1]
  exact ProjSpec.rot_form (fun l => T (ix3 ⟨r.val / 2048, by omega⟩ ⟨r.val % 2048, by omega⟩ ⟨2048 + (j.val / 128 * 128 + l.val), by omega⟩))
    (fun l => A5 (ix2 ⟨r.val % 2048, by omega⟩ l)) (fun l => A6 (ix2 ⟨r.val % 2048, by omega⟩ l)) ⟨j.val % 128, by omega⟩

variable (m : (ℓ : Loc nD τ sig) → Buf (Elt Ideal) ℓ)

/-- The prompt's projections, of the arguments. -/
abbrev pz (c : Dev nD) : Fin 4 → Fin 2048 → Fin 6680 → EReal :=
  ProjSpec.z (m ((c.tc : Thread nD τ).loc main_arg0)) (m ((c.tc : Thread nD τ).loc main_arg2)) (m ((c.tc : Thread nD τ).loc main_arg3))

/-- The sample's projections, of the arguments. -/
abbrev sz (c : Dev nD) (r : Fin 64) : Fin 6680 → EReal :=
  ProjSpec.zrow (ProjSpec.srow (m ((c.tc : Thread nD τ).loc main_arg1)) r) (m ((c.tc : Thread nD τ).loc main_arg2)) (m ((c.tc : Thread nD τ).loc main_arg3))

/-- What the reference leaves in its results; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v76) = fun j : S8192x1024.Idx => ProjSpec.atRow (ProjSpec.query (pz m c)) (j 0) (j 1))
      ∧ (r.2.mem ((c.tc : Thread nD τ).loc main_v100) = fun j : S8192x1024.Idx => ProjSpec.atRow (ProjSpec.rquery
          (fun s l => m ((c.tc : Thread nD τ).loc main_arg5) (ix2 s l)) (fun s l => m ((c.tc : Thread nD τ).loc main_arg6) (ix2 s l)) (pz m c)) (j 0) (j 1))
      ∧ (r.2.mem ((c.tc : Thread nD τ).loc main_v108) = fun j : S8192x1024.Idx => ProjSpec.atRow (ProjSpec.gate (pz m c)) (j 0) (j 1))
      ∧ (r.2.mem ((c.tc : Thread nD τ).loc main_v110) = fun j : S8192x128.Idx => ProjSpec.bgate (ProjSpec.atRow (pz m c) (j 0)) (j 1))
      ∧ (r.2.mem ((c.tc : Thread nD τ).loc main_v112) = fun j : S8192x512.Idx => ProjSpec.atRow (ProjSpec.gated
          (fun i l => m ((c.tc : Thread nD τ).loc main_arg4) (ix3 0 i l)) (pz m c)) (j 0) (j 1))
      ∧ (r.2.mem ((c.tc : Thread nD τ).loc main_v113) = fun j : S4x2x512.Idx => ProjSpec.state (pz m c) (j 0) (j 1) (j 2))
      ∧ (r.2.mem ((c.tc : Thread nD τ).loc main_v115) = fun j : S64x4096.Idx => ProjSpec.head (sz m c (j 0)) (j 1))
      ∧ (r.2.mem ((c.tc : Thread nD τ).loc main_v118) = fun j : S64x128.Idx => ProjSpec.bgate (sz m c (j 0)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (run m ρ).mono ?_
  intro r h c
  obtain ⟨h1, h2, h3, h4, h5, h6, h7, h8, h9⟩ := h c
  have hz := Z_apply (m ((c.tc : Thread nD τ).loc main_arg0)) (m ((c.tc : Thread nD τ).loc main_arg2)) (m ((c.tc : Thread nD τ).loc main_arg3))
  refine ⟨h1.trans (funext fun j => ?_), h2.trans (funext fun j => ?_), h3.trans (funext fun j => ?_), h4.trans (funext fun j => ?_),
    h5.trans (funext fun j => ?_), h6.trans (funext fun j => ?_), h7.trans (funext fun j => ?_), h8.trans (funext fun j => ?_), h9⟩
  · idx_vars j
    refine (q_apply (Z _ _ _) _ _).trans ?_
    rw [hz]
  · idx_vars j
    unfold res_main_v100
    refine (qr_apply (Z _ _ _) _ _ _ _).trans ?_
    rw [hz]
  · idx_vars j
    refine (ng_apply (Z _ _ _) _ _).trans ?_
    rw [hz]
  · idx_vars j
    refine (bg_apply (Z _ _ _) _ _).trans ?_
    rw [hz]
  · idx_vars j
    unfold res_main_v112
    refine (ya_apply (Z _ _ _) (upad (Z _ _ _)) _ _ _).trans ?_
    have hz' : ∀ b s n, Z (m ((c.tc : Thread nD τ).loc main_arg0)) (m ((c.tc : Thread nD τ).loc main_arg2)) (m ((c.tc : Thread nD τ).loc main_arg3)) (ix3 b s n)
        = pz m c b s n := fun b s n => congrFun (congrFun (congrFun hz b) s) n
    simp only [upad_apply, hz']
    rfl
  · idx_vars j
    refine (st_apply (upad (Z _ _ _)) _ _ _).trans ?_
    rw [upad_apply, hz]
    rfl
  · idx_vars j
    refine (zs_apply (ZS (pad1 _) _ _) _ _).trans ?_
    rw [ZS_apply]
    rfl
  · idx_vars j
    refine (bgs_apply (ZS (pad1 _) _ _) _ _).trans ?_
    simp only [ZS_apply]

end Cert.ProjRefIdeal.Value
-- ==== Proof.ProjClaim.lean ====
module

public import proofs.«01_k».proof.Defs
public import proofs.«01_k».proof.Proof.ProjRun
public import proofs.«01_k».proof.Proof.ProjRef

@[expose] public section

set_option maxRecDepth 16384

noncomputable section

namespace Cert.Proof

open Idealize.ShloMosaic Idealize.ShloMosaic.TcCoe Idealize.SL.Sem

/-- The projections and the convolution compute their reference's eight results. -/
theorem algebraic_Proj : Cert.algebraic_ProjIdeal_ProjRefIdeal := by
  intro m g m' g' _ hagree
  refine ⟨fun c => (Cert.ProjIdeal.Gen.dats m 0 c).arrAt 7 (Cert.ProjIdeal.cfgs 0).N,
    fun c => (Cert.ProjIdeal.Gen.dats m 0 c).arrAt 8 (Cert.ProjIdeal.cfgs 0).N,
    fun c => (Cert.ProjIdeal.Gen.dats m 0 c).arrAt 9 (Cert.ProjIdeal.cfgs 0).N,
    fun c => (Cert.ProjIdeal.Gen.dats m 0 c).arrAt 10 (Cert.ProjIdeal.cfgs 0).N,
    fun c => (Cert.ProjIdeal.Gen.dats m 0 c).arrAt 11 (Cert.ProjIdeal.cfgs 0).N,
    fun c => (Cert.ProjIdeal.Gen.dats m 0 c).arrAt 12 (Cert.ProjIdeal.cfgs 0).N,
    fun c => (Cert.ProjIdeal.Gen.dats m 0 c).arrAt 13 (Cert.ProjIdeal.cfgs 0).N,
    fun c => (Cert.ProjIdeal.Gen.dats m 0 c).arrAt 14 (Cert.ProjIdeal.cfgs 0).N,
    (θ_run _ _ _).mono (fun r h c => ?_) (θ_run_and (Cert.ProjIdeal.Value.run_outs m g) (Cert.ProjIdeal.Gen.unchanged m g)), ?_⟩
  · exact ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2, h.2 c⟩
  · refine (Cert.ProjRefIdeal.Value.run_rows m' g').mono fun r h c => ?_
    obtain ⟨e0, e1, e2, e3, e4, e5, e6⟩ := hagree c
    have hp : Cert.ProjRefIdeal.Value.pz m' c = Cert.ProjIdeal.Value.pz m c := by
      unfold Cert.ProjRefIdeal.Value.pz Cert.ProjIdeal.Value.pz
      rw [e0, e2, e3]
    have hs : Cert.ProjRefIdeal.Value.sz m' c = Cert.ProjIdeal.Value.sz m c := by
      funext i
      unfold Cert.ProjRefIdeal.Value.sz Cert.ProjIdeal.Value.sz
      rw [e1, e2, e3]
    obtain ⟨h0, h1, h2, h3, h4, h5, h6, h7, h8⟩ := h c
    rw [hp] at h0 h1 h2 h3 h4 h5
    rw [hs] at h6 h7
    rw [e5, e6] at h1
    rw [e4] at h4
    exact ⟨h0.trans (Cert.ProjIdeal.Value.out7 m c).symm, h1.trans (Cert.ProjIdeal.Value.out8 m c).symm,
      h2.trans (Cert.ProjIdeal.Value.out9 m c).symm, h3.trans (Cert.ProjIdeal.Value.out10 m c).symm,
      h4.trans (Cert.ProjIdeal.Value.out11 m c).symm, h5.trans (Cert.ProjIdeal.Value.out12 m c).symm,
      h6.trans (Cert.ProjIdeal.Value.out13 m c).symm, h7.trans (Cert.ProjIdeal.Value.out14 m c).symm, h8⟩

end Cert.Proof
-- ==== Proof.KvSpec.lean ====
module

public import proofs.«01_k».proof.Proof.ProjSpec

/-! What the layer makes of a normed row's projections on the side of the keys and values: the keys and values of the three
branches, the pooled blocks, and the gated attention over the memory. -/

@[expose] public section

noncomputable section

namespace Cert.KvSpec

open Idealize.ShloMosaic Idealize.ShloMosaic.TcCoe

/-- The twelve heads of a row's keys and values. -/
def col (z : Fin 6680 → EReal) (q : Fin 12) (l : Fin 128) : EReal := z ⟨4120 + (q.val * 128 + l.val), by omega⟩

/-- The same, the keys of the selected blocks (4, 5) and of the window (8, 9) rotated. -/
def kv (co si : Fin 2048 → Fin 16 → EReal) (z : Fin 4 → Fin 2048 → Fin 6680 → EReal) (b : Fin 4) (s : Fin 2048) (q : Fin 12) (l : Fin 128) : EReal :=
  if q.val = 4 ∨ q.val = 5 ∨ q.val = 8 ∨ q.val = 9 then ProjSpec.rot (col (z b s) q) (co s) (si s) l else col (z b s) q l

/-- The new rows of the cache: eight heads a position. -/
def kvn (f : Fin 4 → Fin 2048 → Fin 12 → Fin 128 → EReal) (R : Fin 65536) (l : Fin 128) : EReal :=
  ProjSpec.atRow f ⟨R.val / 8, by omega⟩ ⟨R.val % 8, by omega⟩ l

/-- The heads the attention reads, side by side. -/
def kvb (f : Fin 4 → Fin 2048 → Fin 12 → Fin 128 → EReal) (r : Fin 8192) (j : Fin 1024) : EReal :=
  ProjSpec.atRow f r ⟨4 + j.val / 128, by omega⟩ ⟨j.val % 128, by omega⟩

/-- The window: the last 512 positions of a sequence, four heads a position. -/
def win (f : Fin 4 → Fin 2048 → Fin 12 → Fin 128 → EReal) (R : Fin 8192) (l : Fin 128) : EReal :=
  f ⟨R.val / 2048, by omega⟩ ⟨1536 + R.val % 2048 / 4, by omega⟩ ⟨8 + R.val % 4, by omega⟩ l

/-- The pooled blocks of 64 positions. -/
def pool (a : Fin 2 → Fin 64 → Fin 128 → EReal) (z : Fin 4 → Fin 2048 → Fin 6680 → EReal) (R : Fin 128) (j : Fin 512) : EReal :=
  ∑ k : Fin 64, z ⟨R.val / 32, by omega⟩ ⟨R.val % 32 * 64 + k.val, by omega⟩ ⟨4120 + j.val, by omega⟩
    * a ⟨j.val / 256, by omega⟩ k ⟨j.val % 128, by omega⟩

/-- The scale of a memory score. -/
def ascale : EReal := Ideal.ofBits .f32 0x3DB504F3#32

/-- The largest score. -/
def top (s : Fin 256 → EReal) : EReal := Finset.univ.fold max ⊥ s

/-- The exponential of a score less the largest. -/
def ex (s : Fin 256 → EReal) (k : Fin 256) : EReal := Ideal.exp (s k - top s)

/-- The values under the scores' softmax. -/
def soft (s v : Fin 256 → EReal) : EReal := ∑ k, v k * Ideal.div (ex s k) (∑ k, ex s k)

/-- The scores of a head's query against the memory's keys. -/
def score (z : Fin 6680 → EReal) (M : Fin 2048 → Fin 128 → EReal) (h : Fin 4) (k : Fin 256) : EReal :=
  (∑ d : Fin 128, z ⟨5656 + (h.val * 128 + d.val), by omega⟩ * M ⟨k.val * 8 + h.val, by omega⟩ d) * ascale

/-- The gated attention over the memory. -/
def ym (z : Fin 6680 → EReal) (M : Fin 2048 → Fin 128 → EReal) (j : Fin 512) : EReal :=
  ProjSpec.silu (z ⟨6168 + j.val, by omega⟩)
    * soft (score z M ⟨j.val / 128, by omega⟩) (fun k => M ⟨k.val * 8 + (4 + j.val / 128), by omega⟩ ⟨j.val % 128, by omega⟩)

/-! Real numbers among the extended ones. -/

/-- Neither infinity. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

theorem IsReal.sum {ι : Type} (S : Finset ι) {f : ι → EReal} (h : ∀ i, IsReal (f i)) : IsReal (∑ i ∈ S, f i) := by
  classical
  induction S using Finset.induction_on with
  | empty => exact ⟨0, by simp⟩
  | insert i S hi ih =>
    rw [Finset.sum_insert hi]
    obtain ⟨a, ha⟩ := h i
    obtain ⟨b, hb⟩ := ih
    exact ⟨a + b, by rw [ha, hb, EReal.coe_add]⟩

/-- A real factor that is not negative goes into a sum. -/
theorem sum_mul_real {ι : Type} (S : Finset ι) (f : ι → EReal) {c : EReal} (h0 : 0 ≤ c) (hc : IsReal c) :
    (∑ i ∈ S, f i) * c = ∑ i ∈ S, f i * c := by
  classical
  have ht : c ≠ ⊤ := by obtain ⟨r, rfl⟩ := hc; exact EReal.coe_ne_top r
  induction S using Finset.induction_on with
  | empty => simp
  | insert i S hi ih => rw [Finset.sum_insert hi, Finset.sum_insert hi, EReal.right_distrib_of_nonneg_of_ne_top h0 ht, ih]

theorem ascale_real : IsReal ascale ∧ 0 ≤ ascale := by
  have e : ascale = (((11863283 : ℝ) * 2 ^ (-27 : ℤ) : ℝ) : EReal) := by
    unfold ascale
    simp [Ideal.ofBits, Ideal.ieee, -EReal.coe_mul]
    try norm_num
  rw [e]
  exact ⟨⟨_, rfl⟩, EReal.coe_nonneg.mpr (by positivity)⟩

theorem two048 : Ideal.ofBits .f32 0x45000000#32 = ((2048 : ℝ) : EReal) := by
  simp [Ideal.ofBits, Ideal.ieee, -EReal.coe_mul]
  try norm_num

theorem eps_pos : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]
  try norm_num

/-- A normed row of reals is real. -/
theorem normed_real {z g : Fin 2048 → EReal} (hz : ∀ l, IsReal (z l)) (hg : ∀ l, IsReal (g l)) (l : Fin 2048) : IsReal (OutSpec.normed z g l) := by
  unfold OutSpec.normed
  refine IsReal.mul (IsReal.mul (hz l) ?_) (hg l)
  choose a ha using hz
  obtain ⟨e, he, h⟩ := eps_pos
  have hs : (∑ x, z x * z x) = ((∑ x, a x * a x : ℝ) : EReal) := by
    rw [coe_sum]
    exact Finset.sum_congr rfl fun x _ => by rw [ha, EReal.coe_mul]
  rw [hs, two048, h]
  have hn : (0 : ℝ) ≤ ∑ x, a x * a x := Finset.sum_nonneg fun x _ => mul_self_nonneg _
  have hd : Ideal.div ((∑ x, a x * a x : ℝ) : EReal) ((2048 : ℝ) : EReal) = (((∑ x, a x * a x) * 2048⁻¹ : ℝ) : EReal) := by
    unfold Ideal.div
    rw [if_neg (by norm_num), ← EReal.coe_inv, ← EReal.coe_mul]
  rw [hd, ← EReal.coe_add]
  have hp : 0 < (∑ x, a x * a x) * 2048⁻¹ + e := by positivity
  refine ⟨(Real.sqrt ((∑ x, a x * a x) * 2048⁻¹ + e))⁻¹, ?_⟩
  change (if _ then _ else _) = _
  rw [if_neg (not_lt.mpr hp.le), if_neg hp.ne']

/-- The largest of real scores is one of them. -/
theorem top_mem (s : Fin 256 → EReal) : ∃ k, top s = s k := by
  obtain ⟨k, _, hk⟩ := Finset.exists_max_image Finset.univ s ⟨0, Finset.mem_univ _⟩
  refine ⟨k, le_antisymm ?_ ?_⟩
  · unfold top
    rw [Finset.fold_max_le]
    exact ⟨bot_le, fun x hx => hk x hx⟩
  · unfold top
    rw [Finset.le_fold_max]
    exact Or.inr ⟨k, Finset.mem_univ _, le_rfl⟩

/-- The division after the product is the division of every weight, of real scores. -/
theorem soft_eq {s : Fin 256 → EReal} (hs : ∀ k, IsReal (s k)) (v : Fin 256 → EReal) :
    Ideal.div (∑ k, ex s k * v k) (∑ k, ex s k) = soft s v := by
  obtain ⟨k0, h0⟩ := top_mem s
  choose a ha using hs
  have he : ∀ k, ex s k = ((Real.exp (a k - a k0) : ℝ) : EReal) := fun k => by
    unfold ex
    rw [h0, ha, ha, ← EReal.coe_sub]
    rfl
  have hS : (∑ k, ex s k) = ((∑ k, Real.exp (a k - a k0) : ℝ) : EReal) := by
    rw [coe_sum]
    exact Finset.sum_congr rfl fun k _ => he k
  have hp : 0 < ∑ k, Real.exp (a k - a k0) := Finset.sum_pos (fun k _ => Real.exp_pos _) ⟨0, Finset.mem_univ _⟩
  have hd : ∀ x : EReal, Ideal.div x (∑ k, ex s k) = x * (((∑ k, Real.exp (a k - a k0))⁻¹ : ℝ) : EReal) := fun x => by
    unfold Ideal.div
    rw [hS, if_neg (by exact_mod_cast hp.ne'), ← EReal.coe_inv]
  unfold soft
  simp only [hd]
  rw [sum_mul_real _ _ (EReal.coe_nonneg.mpr (inv_nonneg.mpr hp.le)) ⟨_, rfl⟩]
  exact Finset.sum_congr rfl fun k _ => by rw [mul_comm (ex s k) (v k), mul_assoc]

/-- A scaled query's scores. -/
theorem score_eq (z : Fin 6680 → EReal) (M : Fin 2048 → Fin 128 → EReal) (h : Fin 4) (k : Fin 256) :
    ∑ d : Fin 128, z ⟨5656 + (h.val * 128 + d.val), by omega⟩ * ascale * M ⟨k.val * 8 + h.val, by omega⟩ d = score z M h k := by
  unfold score
  rw [sum_mul_real _ _ ascale_real.2 ascale_real.1]
  exact Finset.sum_congr rfl fun d _ => mul_right_comm _ _ _

/-- A number of finite magnitude is real. -/
theorem real_of_abs {x : EReal} (h : max x (-x) < ⊤) : IsReal x := by
  induction x with
  | bot => exact absurd h (by simp)
  | top => exact absurd h (by simp)
  | coe r => exact ⟨r, rfl⟩

theorem score_real {z : Fin 6680 → EReal} {M : Fin 2048 → Fin 128 → EReal} (hz : ∀ n, IsReal (z n)) (hM : ∀ i l, IsReal (M i l)) (h : Fin 4) (k : Fin 256) :
    IsReal (score z M h k) :=
  IsReal.mul (IsReal.sum _ fun d => IsReal.mul (hz _) (hM _ _)) ascale_real.1

end Cert.KvSpec

end
-- ==== Proof.PreSpec.lean ====
module

public import proofs.«01_k».proof.Proof.KvSpec

/-! What the sample's attention stores of the sample's projections: the new rows of the cache and of the window. -/

@[expose] public section

noncomputable section

namespace Cert.PreSpec

open Idealize.ShloMosaic Idealize.ShloMosaic.TcCoe

/-- A head of a row's keys and values; the keys of the selected blocks (4, 5) and of the window (8, 9) are rotated. -/
def kv (z : Fin 2560 → EReal) (co si : Fin 16 → EReal) (q : Fin 12) (l : Fin 128) : EReal :=
  if q.val = 4 ∨ q.val = 5 ∨ q.val = 8 ∨ q.val = 9 then ProjSpec.rot (fun l => z ⟨q.val * 128 + l.val, by omega⟩) co si l
  else z ⟨q.val * 128 + l.val, by omega⟩

/-- A row of the cache: the first eight heads side by side. -/
def cache (z : Fin 2560 → EReal) (co si : Fin 16 → EReal) (j : Fin 1024) : EReal :=
  kv z co si ⟨j.val / 128, by omega⟩ ⟨j.val % 128, by omega⟩

/-- A row of the window: the last four heads side by side. -/
def win (z : Fin 2560 → EReal) (co si : Fin 16 → EReal) (j : Fin 512) : EReal :=
  kv z co si ⟨8 + j.val / 128, by omega⟩ ⟨j.val % 128, by omega⟩

theorem kv_plain (z : Fin 2560 → EReal) (co si : Fin 16 → EReal) (q : Fin 12) (l : Fin 128) (n : Fin 2560) (e : n.val = q.val * 128 + l.val)
    (h : ¬(q.val = 4 ∨ q.val = 5 ∨ q.val = 8 ∨ q.val = 9)) : z n = kv z co si q l :=
  (congrArg z (Fin.ext e)).trans (if_neg h).symm

theorem kv_rot (z : Fin 2560 → EReal) (co si : Fin 16 → EReal) (q : Fin 12) (l : Fin 128) (x : Fin 128 → EReal)
    (e : ∀ l : Fin 128, x l = z ⟨q.val * 128 + l.val, by omega⟩) (h : q.val = 4 ∨ q.val = 5 ∨ q.val = 8 ∨ q.val = 9) :
    ProjSpec.rot x co si l = kv z co si q l := by
  rw [funext e]
  exact (if_pos h).symm

/-- A row times three tables' rows, the second and the third against the row turned round. -/
def turned (y C s1 s2 : Fin 128 → EReal) (l : Fin 128) : EReal :=
  y l * C l + y ⟨(l.val + 128 - 16) % 128, by omega⟩ * s1 l + y ⟨(l.val + 128 - 112) % 128, by omega⟩ * s2 l

/-- With the cosines and sines laid out in the tables that is the rotation. -/
theorem turned_eq (x C s1 s2 : Fin 128 → EReal) (co si : Fin 16 → EReal) (l : Fin 128)
    (hC : C l = if h : l.val < 16 then co ⟨l.val, h⟩ else if h2 : l.val - 16 < 16 then co ⟨l.val - 16, h2⟩ else 1)
    (h1 : s1 l = if h : l.val < 16 then 0 else if h2 : l.val - 16 < 16 then si ⟨l.val - 16, h2⟩ else 0)
    (h2 : s2 l = if h : l.val < 16 then -(si ⟨l.val, h⟩) else 0) : turned x C s1 s2 l = ProjSpec.rot x co si l := by
  unfold turned ProjSpec.rot
  rw [hC, h1, h2]
  by_cases h : l.val < 16
  · simp only [dif_pos h, mul_zero, add_zero, mul_neg, sub_eq_add_neg]
    exact congrArg (fun q => _ + -(x q * _)) (Fin.ext (by simp only; omega))
  · simp only [dif_neg h, mul_zero, add_zero]
    by_cases h2 : l.val < 32
    · rw [dif_pos (show l.val - 16 < 16 by omega), dif_pos (show l.val - 16 < 16 by omega), dif_pos h2]
      exact congrArg (fun q => _ + x q * _) (Fin.ext (by simp only; omega))
    · rw [dif_neg (show ¬l.val - 16 < 16 by omega), dif_neg (show ¬l.val - 16 < 16 by omega), dif_neg h2, mul_one, mul_zero, add_zero]

/-- A head's query. -/
def qrow (z : Fin 4096 → EReal) (q : Fin 8) (l : Fin 128) : EReal := z ⟨2048 + (q.val * 128 + l.val), by omega⟩

/-- The same scaled. -/
def qs (z : Fin 4096 → EReal) (q : Fin 8) (l : Fin 128) : EReal := qrow z q l * KvSpec.ascale

/-- The same rotated and scaled. -/
def qrot (z : Fin 4096 → EReal) (co si : Fin 16 → EReal) (q : Fin 8) (l : Fin 128) : EReal := ProjSpec.rot (qrow z q) co si l * KvSpec.ascale

/-- A head's output gate. -/
def gate (z : Fin 4096 → EReal) (q : Fin 8) (l : Fin 128) : EReal := z ⟨3072 + (q.val * 128 + l.val), by omega⟩

/-- A head's gate of a branch. -/
def bgate (z : Fin 128 → EReal) (q : Fin 8) (a : Fin 3) : EReal := Ideal.logistic (z ⟨q.val * 3 + a.val, by omega⟩)

/-- A function of head, position and lane read at a group of four heads and a row of their rows: head by head, position by position. -/
def rows {α : Type} (f : Fin 8 → Fin 8 → α) (g : Fin 2) (R : Fin 32) : α :=
  f ⟨4 * g.val + R.val / 8, by omega⟩ ⟨R.val % 8, by omega⟩

end Cert.PreSpec

end
-- ==== Proof.Pre.lean ====
module

public import proofs.«01_k».proof.Proof.PreSpec
public import proofs.«01_k».proof.Proof.Gen.PreIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PreIdeal.Value

open Cert.PreIdeal Cert.PreIdeal.Gen Idealize.ShloMosaic Idealize.ShloMosaic.TcCoe Idealize.SL.Sem
open Idealize.ShloMosaic.Pipeline (Dat)

variable (m : (ℓ : Loc nD τ sig) → Buf (Elt Ideal) ℓ)

/-- Where the windows' blocks stand: sequence `t` of its array, and the whole of a table. -/
theorem idx : ∀ t : Fin cfg0.N, win0_3.index t = ![t.val, 0, 0] ∧ win0_4.index t = ![t.val, 0, 1]
    ∧ win0_5.index t = ![t.val, 0, 2] ∧ win0_6.index t = ![0, 0] ∧ win0_7.index t = ![0, 0] ∧ win0_8.index t = ![0, 0]
    ∧ win0_11.index t = ![t.val, 0, 0] ∧ win0_12.index t = ![t.val, 0, 0] ∧ t.val < 8 := (by decide +kernel : ∀ t : Fin grid0.N, _)

theorem lt8 (t : Fin cfg0.N) : t.val < 8 := (idx t).2.2.2.2.2.2.2.2

/-- The sequence a grid point works on. -/
abbrev sq (t : Fin cfg0.N) : Fin 8 := ⟨t.val, lt8 t⟩

/-- The sample's projections on the side of the keys and values. -/
abbrev ZB (c : Dev nD) : FVec Ideal S8x8x2560 .f32 := m ((c : Thread nD τ).loc main_arg1)
/-- The cosines. -/
abbrev CO (c : Dev nD) : FVec Ideal S8x16 .f32 := m ((c : Thread nD τ).loc main_arg3)
/-- The sines. -/
abbrev SI (c : Dev nD) : FVec Ideal S8x16 .f32 := m ((c : Thread nD τ).loc main_arg4)

theorem V1_apply (c : Dev nD) (b s : Fin 8) (l : Fin 2560) : V m c main_arg1 (ix3 b s l) = ZB m c (ix3 b s l) := by
  unfold V
  simp only [hostOps0]
  after_results_simp

theorem V2_eq (c : Dev nD) : V m c main_v2 = concatenate S8x128 1 [⟨S8x16, CO m c⟩, ⟨S8x16, CO m c⟩,
    ⟨S8x96, broadcastInDim S8x96 ![] bcast_S_S8x96 (constant (F := Ideal) S_ .f32 1065353216#32)⟩]
      concatenates_S8x16_S8x16_S8x96_S8x128_d1 := by
  unfold V
  simp only [hostOps0]
  after_results_simp
  rfl

theorem V4_eq (c : Dev nD) : V m c main_v4 = concatenate S8x128 1 [
    ⟨S8x16, broadcastInDim S8x16 ![] bcast_S_S8x16 (constant (F := Ideal) S_ .f32 0#32)⟩, ⟨S8x16, SI m c⟩,
    ⟨S8x96, broadcastInDim S8x96 ![] bcast_S_S8x96 (constant (F := Ideal) S_ .f32 0#32)⟩]
      concatenates_S8x16_S8x16_S8x96_S8x128_d1 := by
  unfold V
  simp only [hostOps0]
  after_results_simp
  rfl

theorem V7_eq (c : Dev nD) : V m c main_v7 = concatenate S8x128 1 [
    ⟨S8x16, Host.negf (F := Ideal) (SI m c)⟩, ⟨S8x16, broadcastInDim S8x16 ![] bcast_S_S8x16 (constant (F := Ideal) S_ .f32 0#32)⟩,
    ⟨S8x96, broadcastInDim S8x96 ![] bcast_S_S8x96 (constant (F := Ideal) S_ .f32 0#32)⟩]
      concatenates_S8x16_S8x16_S8x96_S8x128_d1 := by
  unfold V
  simp only [hostOps0]
  after_results_simp
  rfl

theorem blk3 (c : Dev nD) (t : Fin cfg0.N) (s : Fin 8) (l : Fin 512) :
    iblk m c 3 t (ix3 0 s l) = ZB m c (ix3 (sq t) s ⟨l.val, by omega⟩) := by
  trans V m c main_arg1 (ix3 (sq t) s ⟨l.val, by omega⟩)
  · blk_point [iblk, idx t]
  · exact V1_apply m c _ _ _

theorem blk4 (c : Dev nD) (t : Fin cfg0.N) (s : Fin 8) (l : Fin 512) :
    iblk m c 4 t (ix3 0 s l) = ZB m c (ix3 (sq t) s ⟨512 + l.val, by omega⟩) := by
  trans V m c main_arg1 (ix3 (sq t) s ⟨512 + l.val, by omega⟩)
  · blk_point [iblk, idx t]
  · exact V1_apply m c _ _ _

theorem blk5 (c : Dev nD) (t : Fin cfg0.N) (s : Fin 8) (l : Fin 512) :
    iblk m c 5 t (ix3 0 s l) = ZB m c (ix3 (sq t) s ⟨1024 + l.val, by omega⟩) := by
  trans V m c main_arg1 (ix3 (sq t) s ⟨1024 + l.val, by omega⟩)
  · blk_point [iblk, idx t]
  · exact V1_apply m c _ _ _

theorem blk6 (c : Dev nD) (t : Fin cfg0.N) (s : Fin 8) (l : Fin 128) :
    iblk m c 6 t (ix2 s l) = if h : l.val < 16 then CO m c (ix2 s ⟨l.val, h⟩) else if h2 : l.val - 16 < 16 then CO m c (ix2 s ⟨l.val - 16, h2⟩) else 1 := by
  trans V m c main_v2 (ix2 s l)
  · blk_point [iblk, idx t]
  · rw [V2_eq]
    generalize CO m c = A
    pointwise

theorem blk7 (c : Dev nD) (t : Fin cfg0.N) (s : Fin 8) (l : Fin 128) :
    iblk m c 7 t (ix2 s l) = if h : l.val < 16 then 0 else if h2 : l.val - 16 < 16 then SI m c (ix2 s ⟨l.val - 16, h2⟩) else 0 := by
  trans V m c main_v4 (ix2 s l)
  · blk_point [iblk, idx t]
  · rw [V4_eq]
    generalize SI m c = A
    pointwise

theorem blk8 (c : Dev nD) (t : Fin cfg0.N) (s : Fin 8) (l : Fin 128) :
    iblk m c 8 t (ix2 s l) = if h : l.val < 16 then -(SI m c (ix2 s ⟨l.val, h⟩)) else 0 := by
  trans V m c main_v7 (ix2 s l)
  · blk_point [iblk, idx t]
  · rw [V7_eq]
    generalize SI m c = A
    pointwise
    refine dite_congr rfl (fun _ => rfl) fun _ => ?_
    split_ifs <;> rfl

section

variable (C s1 s2 : FVec Ideal S8x128 .f32) (v : FVec Ideal S1x8x512 .f32) (s : Fin 8) (l : Fin 128)

theorem pay7_apply (l : Fin 512) : k0_pay7 (F := Ideal) v (ix3 0 s l) = v (ix3 0 s l) := by
  pointwise [k0_pay7]

theorem pay8_apply (l : Fin 256) : k0_pay8 (F := Ideal) v (ix3 0 s l) = v (ix3 0 s ⟨256 + l.val, by omega⟩) := by
  pointwise [k0_pay8, k0_pay5]

theorem pay9_apply (l : Fin 256) : k0_pay9 (F := Ideal) v (ix3 0 s l) = v (ix3 0 s ⟨256 + l.val, by omega⟩) := by
  pointwise [k0_pay9, k0_pay6]

theorem pay13_apply : k0_pay13 (F := Ideal) (k0_pay11 C s1 v) (k0_pay12 s2 v) (ix3 0 s l)
    = PreSpec.turned (fun l => v (ix3 0 s ⟨0 + l.val, by omega⟩)) (fun l => C (ix2 s l)) (fun l => s1 (ix2 s l)) (fun l => s2 (ix2 s l)) l := by
  pointwise [k0_pay13, k0_pay12, k0_pay11, k0_pay10, k0_pay2, k0_pay3, k0_pay4, k0_pay5, PreSpec.turned]

theorem pay14_apply : k0_pay14 (F := Ideal) (k0_pay2 C) (k0_pay3 s1) (k0_pay4 s2) (k0_pay6 v) (ix3 0 s l)
    = PreSpec.turned (fun l => v (ix3 0 s ⟨0 + l.val, by omega⟩)) (fun l => C (ix2 s l)) (fun l => s1 (ix2 s l)) (fun l => s2 (ix2 s l)) l := by
  pointwise [k0_pay14, k0_pay2, k0_pay3, k0_pay4, k0_pay6, PreSpec.turned]

theorem pay15_apply : k0_pay15 (F := Ideal) (k0_pay2 C) (k0_pay3 s1) (k0_pay4 s2) (k0_pay5 v) (ix3 0 s l)
    = PreSpec.turned (fun l => v (ix3 0 s ⟨128 + l.val, by omega⟩)) (fun l => C (ix2 s l)) (fun l => s1 (ix2 s l)) (fun l => s2 (ix2 s l)) l := by
  pointwise [k0_pay15, k0_pay2, k0_pay3, k0_pay4, k0_pay5, PreSpec.turned]

theorem pay16_apply : k0_pay16 (F := Ideal) (k0_pay2 C) (k0_pay3 s1) (k0_pay4 s2) (k0_pay6 v) (ix3 0 s l)
    = PreSpec.turned (fun l => v (ix3 0 s ⟨128 + l.val, by omega⟩)) (fun l => C (ix2 s l)) (fun l => s1 (ix2 s l)) (fun l => s2 (ix2 s l)) l := by
  pointwise [k0_pay16, k0_pay2, k0_pay3, k0_pay4, k0_pay6, PreSpec.turned]

end

/-- A head rotated by the tables' blocks. -/
theorem turned_blk (c : Dev nD) (t : Fin cfg0.N) (s : Fin 8) (q : Fin 12) (l : Fin 128) (x : Fin 128 → EReal)
    (e : ∀ l : Fin 128, x l = ZB m c (ix3 (sq t) s ⟨q.val * 128 + l.val, by omega⟩)) (h : q.val = 4 ∨ q.val = 5 ∨ q.val = 8 ∨ q.val = 9) :
    PreSpec.turned x (fun l => iblk m c 6 t (ix2 s l)) (fun l => iblk m c 7 t (ix2 s l)) (fun l => iblk m c 8 t (ix2 s l)) l
      = PreSpec.kv (fun n => ZB m c (ix3 (sq t) s n)) (fun k => CO m c (ix2 s k)) (fun k => SI m c (ix2 s k)) q l :=
  (PreSpec.turned_eq x _ _ _ (fun k => CO m c (ix2 s k)) (fun k => SI m c (ix2 s k)) l (blk6 m c t s l) (blk7 m c t s l) (blk8 m c t s l)).trans
    (PreSpec.kv_rot _ _ _ q l x e h)

theorem point11 (c : Dev nD) (t : Fin cfg0.N) (s : Fin 8) (l : Fin 1024) :
    (outsAt0 m c t).1 (ix3 0 s l) = PreSpec.cache (fun n => ZB m c (ix3 (sq t) s n)) (fun k => CO m c (ix2 s k)) (fun k => SI m c (ix2 s k)) l := by
  unfold outsAt0
  frame_out
  unfold PreSpec.cache
  by_cases h5 : 640 ≤ l.val ∧ l.val < 768
  · have e : ix3 0 s l = (Rect.unit (s := S1x8x1024) ![0, 0, 640] ![1, 8, 128] inb_S1x8x1024_S1x8x128_0_0_640).emb (ix3 0 s ⟨l.val - 640, by omega⟩) := by
      blk_point
    rw [e, View.canon_cons_emb, pay15_apply]
    refine (turned_blk m c t s 5 _ _ (fun l => ?_) (by decide)).trans (congrArg₂ (PreSpec.kv _ _ _) (Fin.ext (by simp; omega)) (Fin.ext (by simp; omega)))
    exact (blk4 m c t s _).trans (congrArg (fun n => ZB m c (ix3 (sq t) s n)) (Fin.ext (by simp; omega)))
  · rw [View.canon_cons_of_not_mem _ _ (Rect.not_mem_set_of_axis _ _ 2 640 128 rfl rfl rfl (show l.val < 640 ∨ 640 + 128 ≤ l.val by omega))]
    by_cases h4 : 512 ≤ l.val ∧ l.val < 640
    · have e : ix3 0 s l = (Rect.unit (s := S1x8x1024) ![0, 0, 512] ![1, 8, 128] inb_S1x8x1024_S1x8x128_0_0_512).emb (ix3 0 s ⟨l.val - 512, by omega⟩) := by
        blk_point
      rw [e, View.canon_cons_emb, pay13_apply]
      refine (turned_blk m c t s 4 _ _ (fun l => ?_) (by decide)).trans (congrArg₂ (PreSpec.kv _ _ _) (Fin.ext (by simp; omega)) (Fin.ext (by simp; omega)))
      exact (blk4 m c t s _).trans (congrArg (fun n => ZB m c (ix3 (sq t) s n)) (Fin.ext (by simp)))
    · rw [View.canon_cons_of_not_mem _ _ (Rect.not_mem_set_of_axis _ _ 2 512 128 rfl rfl rfl (show l.val < 512 ∨ 512 + 128 ≤ l.val by omega))]
      by_cases h6 : 768 ≤ l.val
      · have e : ix3 0 s l = (Rect.unit (s := S1x8x1024) ![0, 0, 768] ![1, 8, 256] inb_S1x8x1024_S1x8x256_0_0_768).emb (ix3 0 s ⟨l.val - 768, by omega⟩) := by
          blk_point
        rw [e, View.canon_cons_emb, pay8_apply, blk4]
        exact PreSpec.kv_plain (fun n => ZB m c (ix3 (sq t) s n)) _ _ _ _ _ (by simp only; omega) (by simp only; omega)
      · rw [View.canon_cons_of_not_mem _ _ (Rect.not_mem_set_of_axis _ _ 2 768 256 rfl rfl rfl (show l.val < 768 ∨ 768 + 256 ≤ l.val by omega))]
        have e : ix3 0 s l = (Rect.unit (s := S1x8x1024) ![0, 0, 0] ![1, 8, 512] inb_S1x8x1024_S1x8x512_0_0_0).emb (ix3 0 s ⟨l.val, by omega⟩) := by
          blk_point
        rw [e, View.canon_cons_emb, pay7_apply, blk3]
        exact PreSpec.kv_plain (fun n => ZB m c (ix3 (sq t) s n)) _ _ _ _ _ (by simp only; omega) (by simp only; omega)

theorem point12 (c : Dev nD) (t : Fin cfg0.N) (s : Fin 8) (l : Fin 512) :
    (outsAt0 m c t).2.1 (ix3 0 s l) = PreSpec.win (fun n => ZB m c (ix3 (sq t) s n)) (fun k => CO m c (ix2 s k)) (fun k => SI m c (ix2 s k)) l := by
  unfold outsAt0
  frame_out
  unfold PreSpec.win
  by_cases h5 : 128 ≤ l.val ∧ l.val < 256
  · have e : ix3 0 s l = (Rect.unit (s := S1x8x512) ![0, 0, 128] ![1, 8, 128] inb_S1x8x512_S1x8x128_0_0_128).emb (ix3 0 s ⟨l.val - 128, by omega⟩) := by
      blk_point
    rw [e, View.canon_cons_emb, pay16_apply]
    refine (turned_blk m c t s 9 _ _ (fun l => ?_) (by decide)).trans (congrArg₂ (PreSpec.kv _ _ _) (Fin.ext (by simp; omega)) (Fin.ext (by simp; omega)))
    exact (blk5 m c t s _).trans (congrArg (fun n => ZB m c (ix3 (sq t) s n)) (Fin.ext (by simp; omega)))
  · rw [View.canon_cons_of_not_mem _ _ (Rect.not_mem_set_of_axis _ _ 2 128 128 rfl rfl rfl (show l.val < 128 ∨ 128 + 128 ≤ l.val by omega))]
    by_cases h4 : l.val < 128
    · have e : ix3 0 s l = (Rect.unit (s := S1x8x512) ![0, 0, 0] ![1, 8, 128] inb_S1x8x512_S1x8x128_0_0_0).emb (ix3 0 s ⟨l.val, by omega⟩) := by
        blk_point
      rw [e, View.canon_cons_emb, pay14_apply]
      refine (turned_blk m c t s 8 _ _ (fun l => ?_) (by decide)).trans (congrArg₂ (PreSpec.kv _ _ _) (Fin.ext (by simp; omega)) (Fin.ext (by simp; omega)))
      exact (blk5 m c t s _).trans (congrArg (fun n => ZB m c (ix3 (sq t) s n)) (Fin.ext (by simp)))
    · rw [View.canon_cons_of_not_mem _ _ (Rect.not_mem_set_of_axis _ _ 2 0 128 rfl rfl rfl (show l.val < 0 ∨ 0 + 128 ≤ l.val by omega))]
      have e : ix3 0 s l = (Rect.unit (s := S1x8x512) ![0, 0, 256] ![1, 8, 256] inb_S1x8x512_S1x8x256_0_0_256).emb (ix3 0 s ⟨l.val - 256, by omega⟩) := by
        blk_point
      rw [e, View.canon_cons_emb, pay9_apply, blk5]
      exact PreSpec.kv_plain (fun n => ZB m c (ix3 (sq t) s n)) _ _ _ _ _ (by simp only; omega) (by simp only; omega)

/-- The new rows of the cache, of the arguments. -/
def res11 (c : Dev nD) (b s : Fin 8) (l : Fin 1024) : EReal :=
  PreSpec.cache (fun n => ZB m c (ix3 b s n)) (fun k => CO m c (ix2 s k)) (fun k => SI m c (ix2 s k)) l
/-- The new rows of the window, of the arguments. -/
def res12 (c : Dev nD) (b s : Fin 8) (l : Fin 512) : EReal :=
  PreSpec.win (fun n => ZB m c (ix3 b s n)) (fun k => CO m c (ix2 s k)) (fun k => SI m c (ix2 s k)) l

theorem out11 (c : Dev nD) : (dats m 0 c).arrAt 11 (cfgs 0).N = fun j : S8x8x1024.Idx => res11 m c (j 0) (j 1) (j 2) := by
  refine (dats m 0 c).arrAt_eq_of_covers 11 _ (by decide +kernel) fun t _ y => ?_
  rw [after0_11]
  obtain ⟨z, s, l, rfl⟩ : ∃ (z : Fin 1) (s : Fin 8) (l : Fin 1024), y = ix3 z s l := ⟨y 0, y 1, y 2, eq_ix3 y⟩
  obtain rfl : z = 0 := Subsingleton.elim _ _
  have e : ((cfg0.win 11).blk t).view.emb (ix3 0 s l) = (ix3 (sq t) s l : S8x8x1024.Idx) := by
    blk_point [idx t]
  refine Eq.trans ?_ (congrArg (fun j : S8x8x1024.Idx => res11 m c (j 0) (j 1) (j 2)) e.symm)
  have hp := point11 m c t s l
  generalize outsAt0 m c t = o at hp ⊢
  exact hp

theorem out12 (c : Dev nD) : (dats m 0 c).arrAt 12 (cfgs 0).N = fun j : S8x8x512.Idx => res12 m c (j 0) (j 1) (j 2) := by
  refine (dats m 0 c).arrAt_eq_of_covers 12 _ (by decide +kernel) fun t _ y => ?_
  rw [after0_12]
  obtain ⟨z, s, l, rfl⟩ : ∃ (z : Fin 1) (s : Fin 8) (l : Fin 512), y = ix3 z s l := ⟨y 0, y 1, y 2, eq_ix3 y⟩
  obtain rfl : z = 0 := Subsingleton.elim _ _
  have e : ((cfg0.win 12).blk t).view.emb (ix3 0 s l) = (ix3 (sq t) s l : S8x8x512.Idx) := by
    blk_point [idx t]
  refine Eq.trans ?_ (congrArg (fun j : S8x8x512.Idx => res12 m c (j 0) (j 1) (j 2)) e.symm)
  have hp := point12 m c t s l
  generalize outsAt0 m c t = o at hp ⊢
  exact hp

end Cert.PreIdeal.Value
-- ==== Proof.PreB.lean ====
module

public import proofs.«01_k».proof.Proof.Pre

/-! The kernel's queries and gates. -/

@[expose] public section

set_option maxRecDepth 16384

noncomputable section

namespace Cert.PreIdeal.Value

open Cert.PreIdeal Cert.PreIdeal.Gen Idealize.ShloMosaic Idealize.ShloMosaic.TcCoe Idealize.SL.Sem
open Idealize.ShloMosaic.Pipeline (Dat)

section

variable (C s1 s2 : FVec Ideal S8x128 .f32) (v : FVec Ideal S1x8x1024 .f32) (w : FVec Ideal S1x8x128 .f32) (s : Fin 8) (l : Fin 128)

theorem pay21_apply : k0_pay21 (F := Ideal) v (ix2 s l) = v (ix3 0 s ⟨0 + l.val, by omega⟩) * KvSpec.ascale := by
  pointwise [k0_pay21, k0_pay20, k0_pay17, KvSpec.ascale]

theorem pay22_apply : k0_pay22 (F := Ideal) (k0_pay2 C) (k0_pay3 s1) (k0_pay4 s2) v (ix2 s l)
    = PreSpec.turned (fun l => v (ix3 0 s ⟨0 + l.val, by omega⟩)) (fun l => C (ix2 s l)) (fun l => s1 (ix2 s l)) (fun l => s2 (ix2 s l)) l * KvSpec.ascale := by
  pointwise [k0_pay22, k0_pay20, k0_pay17, k0_pay2, k0_pay3, k0_pay4, KvSpec.ascale, PreSpec.turned]

theorem pay23_apply : k0_pay23 (F := Ideal) v (ix4 0 0 s l) = v (ix3 0 s ⟨0 + l.val, by omega⟩) := by
  pointwise [k0_pay23, k0_pay18]

theorem pay29_apply : k0_pay29 (F := Ideal) (k0_pay17 v) (ix2 s l) = v (ix3 0 s ⟨128 + l.val, by omega⟩) * KvSpec.ascale := by
  pointwise [k0_pay29, k0_pay28, k0_pay17, KvSpec.ascale]

theorem pay30_apply : k0_pay30 (F := Ideal) (k0_pay2 C) (k0_pay3 s1) (k0_pay4 s2) (k0_pay17 v) (ix2 s l)
    = PreSpec.turned (fun l => v (ix3 0 s ⟨128 + l.val, by omega⟩)) (fun l => C (ix2 s l)) (fun l => s1 (ix2 s l)) (fun l => s2 (ix2 s l)) l * KvSpec.ascale := by
  pointwise [k0_pay30, k0_pay28, k0_pay17, k0_pay2, k0_pay3, k0_pay4, KvSpec.ascale, PreSpec.turned]

theorem pay31_apply : k0_pay31 (F := Ideal) (k0_pay18 v) (ix4 0 0 s l) = v (ix3 0 s ⟨128 + l.val, by omega⟩) := by
  pointwise [k0_pay31, k0_pay18]

theorem pay37_apply : k0_pay37 (F := Ideal) (k0_pay17 v) (ix2 s l) = v (ix3 0 s ⟨256 + l.val, by omega⟩) * KvSpec.ascale := by
  pointwise [k0_pay37, k0_pay36, k0_pay17, KvSpec.ascale]

theorem pay38_apply : k0_pay38 (F := Ideal) (k0_pay2 C) (k0_pay3 s1) (k0_pay4 s2) (k0_pay17 v) (ix2 s l)
    = PreSpec.turned (fun l => v (ix3 0 s ⟨256 + l.val, by omega⟩)) (fun l => C (ix2 s l)) (fun l => s1 (ix2 s l)) (fun l => s2 (ix2 s l)) l * KvSpec.ascale := by
  pointwise [k0_pay38, k0_pay36, k0_pay17, k0_pay2, k0_pay3, k0_pay4, KvSpec.ascale, PreSpec.turned]

theorem pay39_apply : k0_pay39 (F := Ideal) (k0_pay18 v) (ix4 0 0 s l) = v (ix3 0 s ⟨256 + l.val, by omega⟩) := by
  pointwise [k0_pay39, k0_pay18]

theorem pay45_apply : k0_pay45 (F := Ideal) (k0_pay17 v) (ix2 s l) = v (ix3 0 s ⟨384 + l.val, by omega⟩) * KvSpec.ascale := by
  pointwise [k0_pay45, k0_pay44, k0_pay17, KvSpec.ascale]

theorem pay46_apply : k0_pay46 (F := Ideal) (k0_pay2 C) (k0_pay3 s1) (k0_pay4 s2) (k0_pay17 v) (ix2 s l)
    = PreSpec.turned (fun l => v (ix3 0 s ⟨384 + l.val, by omega⟩)) (fun l => C (ix2 s l)) (fun l => s1 (ix2 s l)) (fun l => s2 (ix2 s l)) l * KvSpec.ascale := by
  pointwise [k0_pay46, k0_pay44, k0_pay17, k0_pay2, k0_pay3, k0_pay4, KvSpec.ascale, PreSpec.turned]

theorem pay47_apply : k0_pay47 (F := Ideal) (k0_pay18 v) (ix4 0 0 s l) = v (ix3 0 s ⟨384 + l.val, by omega⟩) := by
  pointwise [k0_pay47, k0_pay18]

theorem pay64_apply : k0_pay64 (F := Ideal) (k0_pay17 v) (ix2 s l) = v (ix3 0 s ⟨512 + l.val, by omega⟩) * KvSpec.ascale := by
  pointwise [k0_pay64, k0_pay63, k0_pay17, KvSpec.ascale]

theorem pay65_apply : k0_pay65 (F := Ideal) (k0_pay2 C) (k0_pay3 s1) (k0_pay4 s2) (k0_pay17 v) (ix2 s l)
    = PreSpec.turned (fun l => v (ix3 0 s ⟨512 + l.val, by omega⟩)) (fun l => C (ix2 s l)) (fun l => s1 (ix2 s l)) (fun l => s2 (ix2 s l)) l * KvSpec.ascale := by
  pointwise [k0_pay65, k0_pay63, k0_pay17, k0_pay2, k0_pay3, k0_pay4, KvSpec.ascale, PreSpec.turned]

theorem pay66_apply : k0_pay66 (F := Ideal) (k0_pay18 v) (ix4 0 0 s l) = v (ix3 0 s ⟨512 + l.val, by omega⟩) := by
  pointwise [k0_pay66, k0_pay18]

theorem pay72_apply : k0_pay72 (F := Ideal) (k0_pay17 v) (ix2 s l) = v (ix3 0 s ⟨640 + l.val, by omega⟩) * KvSpec.ascale := by
  pointwise [k0_pay72, k0_pay71, k0_pay17, KvSpec.ascale]

theorem pay73_apply : k0_pay73 (F := Ideal) (k0_pay2 C) (k0_pay3 s1) (k0_pay4 s2) (k0_pay17 v) (ix2 s l)
    = PreSpec.turned (fun l => v (ix3 0 s ⟨640 + l.val, by omega⟩)) (fun l => C (ix2 s l)) (fun l => s1 (ix2 s l)) (fun l => s2 (ix2 s l)) l * KvSpec.ascale := by
  pointwise [k0_pay73, k0_pay71, k0_pay17, k0_pay2, k0_pay3, k0_pay4, KvSpec.ascale, PreSpec.turned]

theorem pay74_apply : k0_pay74 (F := Ideal) (k0_pay18 v) (ix4 0 0 s l) = v (ix3 0 s ⟨640 + l.val, by omega⟩) := by
  pointwise [k0_pay74, k0_pay18]

theorem pay80_apply : k0_pay80 (F := Ideal) (k0_pay17 v) (ix2 s l) = v (ix3 0 s ⟨768 + l.val, by omega⟩) * KvSpec.ascale := by
  pointwise [k0_pay80, k0_pay79, k0_pay17, KvSpec.ascale]

theorem pay81_apply : k0_pay81 (F := Ideal) (k0_pay2 C) (k0_pay3 s1) (k0_pay4 s2) (k0_pay17 v) (ix2 s l)
    = PreSpec.turned (fun l => v (ix3 0 s ⟨768 + l.val, by omega⟩)) (fun l => C (ix2 s l)) (fun l => s1 (ix2 s l)) (fun l => s2 (ix2 s l)) l * KvSpec.ascale := by
  pointwise [k0_pay81, k0_pay79, k0_pay17, k0_pay2, k0_pay3, k0_pay4, KvSpec.ascale, PreSpec.turned]

theorem pay82_apply : k0_pay82 (F := Ideal) (k0_pay18 v) (ix4 0 0 s l) = v (ix3 0 s ⟨768 + l.val, by omega⟩) := by
  pointwise [k0_pay82, k0_pay18]

theorem pay88_apply : k0_pay88 (F := Ideal) (k0_pay17 v) (ix2 s l) = v (ix3 0 s ⟨896 + l.val, by omega⟩) * KvSpec.ascale := by
  pointwise [k0_pay88, k0_pay87, k0_pay17, KvSpec.ascale]

theorem pay89_apply : k0_pay89 (F := Ideal) (k0_pay2 C) (k0_pay3 s1) (k0_pay4 s2) (k0_pay17 v) (ix2 s l)
    = PreSpec.turned (fun l => v (ix3 0 s ⟨896 + l.val, by omega⟩)) (fun l => C (ix2 s l)) (fun l => s1 (ix2 s l)) (fun l => s2 (ix2 s l)) l * KvSpec.ascale := by
  pointwise [k0_pay89, k0_pay87, k0_pay17, k0_pay2, k0_pay3, k0_pay4, KvSpec.ascale, PreSpec.turned]

theorem pay90_apply : k0_pay90 (F := Ideal) (k0_pay18 v) (ix4 0 0 s l) = v (ix3 0 s ⟨896 + l.val, by omega⟩) := by
  pointwise [k0_pay90, k0_pay18]

theorem pay24_apply : k0_pay24 (F := Ideal) w (ix5 0 0 0 s l) = Ideal.logistic (w (ix3 0 s 0)) := by
  pointwise [k0_pay24, k0_pay19]

theorem pay26_apply : k0_pay26 (F := Ideal) (k0_pay25 w) (ix5 0 0 0 s l) = Ideal.logistic (w (ix3 0 s 1)) := by
  pointwise [k0_pay26, k0_pay25, k0_pay19]

theorem pay27_apply : k0_pay27 (F := Ideal) (k0_pay19 w) (ix5 0 0 0 s l) = Ideal.logistic (w (ix3 0 s 2)) := by
  pointwise [k0_pay27, k0_pay19]

theorem pay32_apply : k0_pay32 (F := Ideal) (k0_pay19 w) (ix5 0 0 0 s l) = Ideal.logistic (w (ix3 0 s 3)) := by
  pointwise [k0_pay32, k0_pay19]

theorem pay34_apply : k0_pay34 (F := Ideal) (k0_pay33 (k0_pay19 w)) (ix5 0 0 0 s l) = Ideal.logistic (w (ix3 0 s 4)) := by
  pointwise [k0_pay33, k0_pay34, k0_pay19]

theorem pay35_apply : k0_pay35 (F := Ideal) (k0_pay19 w) (ix5 0 0 0 s l) = Ideal.logistic (w (ix3 0 s 5)) := by
  pointwise [k0_pay35, k0_pay19]

theorem pay40_apply : k0_pay40 (F := Ideal) (k0_pay19 w) (ix5 0 0 0 s l) = Ideal.logistic (w (ix3 0 s 6)) := by
  pointwise [k0_pay40, k0_pay19]

theorem pay42_apply : k0_pay42 (F := Ideal) (k0_pay41 (k0_pay19 w)) (ix5 0 0 0 s l) = Ideal.logistic (w (ix3 0 s 7)) := by
  pointwise [k0_pay41, k0_pay42, k0_pay19]

theorem pay43_apply : k0_pay43 (F := Ideal) (k0_pay19 w) (ix5 0 0 0 s l) = Ideal.logistic (w (ix3 0 s 8)) := by
  pointwise [k0_pay43, k0_pay19]

theorem pay48_apply : k0_pay48 (F := Ideal) (k0_pay19 w) (ix5 0 0 0 s l) = Ideal.logistic (w (ix3 0 s 9)) := by
  pointwise [k0_pay48, k0_pay19]

theorem pay50_apply : k0_pay50 (F := Ideal) (k0_pay49 (k0_pay19 w)) (ix5 0 0 0 s l) = Ideal.logistic (w (ix3 0 s 10)) := by
  pointwise [k0_pay49, k0_pay50, k0_pay19]

theorem pay51_apply : k0_pay51 (F := Ideal) (k0_pay19 w) (ix5 0 0 0 s l) = Ideal.logistic (w (ix3 0 s 11)) := by
  pointwise [k0_pay51, k0_pay19]

theorem pay67_apply : k0_pay67 (F := Ideal) (k0_pay19 w) (ix5 0 0 0 s l) = Ideal.logistic (w (ix3 0 s 12)) := by
  pointwise [k0_pay67, k0_pay19]

theorem pay68_apply : k0_pay68 (F := Ideal) (k0_pay19 w) (ix5 0 0 0 s l) = Ideal.logistic (w (ix3 0 s 13)) := by
  pointwise [k0_pay68, k0_pay19]

theorem pay70_apply : k0_pay70 (F := Ideal) (k0_pay69 (k0_pay19 w)) (ix5 0 0 0 s l) = Ideal.logistic (w (ix3 0 s 14)) := by
  pointwise [k0_pay69, k0_pay70, k0_pay19]

theorem pay75_apply : k0_pay75 (F := Ideal) (k0_pay19 w) (ix5 0 0 0 s l) = Ideal.logistic (w (ix3 0 s 15)) := by
  pointwise [k0_pay75, k0_pay19]

theorem pay76_apply : k0_pay76 (F := Ideal) (k0_pay19 w) (ix5 0 0 0 s l) = Ideal.logistic (w (ix3 0 s 16)) := by
  pointwise [k0_pay76, k0_pay19]

theorem pay78_apply : k0_pay78 (F := Ideal) (k0_pay77 (k0_pay19 w)) (ix5 0 0 0 s l) = Ideal.logistic (w (ix3 0 s 17)) := by
  pointwise [k0_pay77, k0_pay78, k0_pay19]

theorem pay83_apply : k0_pay83 (F := Ideal) (k0_pay19 w) (ix5 0 0 0 s l) = Ideal.logistic (w (ix3 0 s 18)) := by
  pointwise [k0_pay83, k0_pay19]

theorem pay84_apply : k0_pay84 (F := Ideal) (k0_pay19 w) (ix5 0 0 0 s l) = Ideal.logistic (w (ix3 0 s 19)) := by
  pointwise [k0_pay84, k0_pay19]

theorem pay86_apply : k0_pay86 (F := Ideal) (k0_pay85 (k0_pay19 w)) (ix5 0 0 0 s l) = Ideal.logistic (w (ix3 0 s 20)) := by
  pointwise [k0_pay85, k0_pay86, k0_pay19]

theorem pay91_apply : k0_pay91 (F := Ideal) (k0_pay19 w) (ix5 0 0 0 s l) = Ideal.logistic (w (ix3 0 s 21)) := by
  pointwise [k0_pay91, k0_pay19]

theorem pay92_apply : k0_pay92 (F := Ideal) (k0_pay19 w) (ix5 0 0 0 s l) = Ideal.logistic (w (ix3 0 s 22)) := by
  pointwise [k0_pay92, k0_pay19]

theorem pay94_apply : k0_pay94 (F := Ideal) (k0_pay93 (k0_pay19 w)) (ix5 0 0 0 s l) = Ideal.logistic (w (ix3 0 s 23)) := by
  pointwise [k0_pay93, k0_pay94, k0_pay19]

theorem pay52_apply (f : Fin 4 → Fin 8 → Fin 128 → EReal) (a0 a1 a2 a3 : FVec Ideal S8x128 .f32) (h0 : ∀ s l, a0 (ix2 s l) = f 0 s l)
    (h1 : ∀ s l, a1 (ix2 s l) = f 1 s l) (h2 : ∀ s l, a2 (ix2 s l) = f 2 s l) (h3 : ∀ s l, a3 (ix2 s l) = f 3 s l) (R : Fin 32) :
    k0_pay52 (F := Ideal) a0 a1 a2 a3 (ix4 0 0 R l) = f ⟨R.val / 8, by omega⟩ ⟨R.val % 8, by omega⟩ l := by
  pointwise [k0_pay52]
  fin_vals R with hR
  all_goals (simp only [hR, Nat.reduceSub, Nat.reduceLT, ↓reduceDIte, h0, h1, h2, h3]; rfl)

theorem pay95_apply (f : Fin 4 → Fin 8 → Fin 128 → EReal) (a0 a1 a2 a3 : FVec Ideal S8x128 .f32) (h0 : ∀ s l, a0 (ix2 s l) = f 0 s l)
    (h1 : ∀ s l, a1 (ix2 s l) = f 1 s l) (h2 : ∀ s l, a2 (ix2 s l) = f 2 s l) (h3 : ∀ s l, a3 (ix2 s l) = f 3 s l) (R : Fin 32) :
    k0_pay95 (F := Ideal) a0 a1 a2 a3 (ix4 0 0 R l) = f ⟨R.val / 8, by omega⟩ ⟨R.val % 8, by omega⟩ l :=
  pay52_apply l f a0 a1 a2 a3 h0 h1 h2 h3 R

end

variable (m : (ℓ : Loc nD τ sig) → Buf (Elt Ideal) ℓ)

/-- Where the other windows' blocks stand. -/
theorem idxb : ∀ t : Fin cfg0.N, win0_0.index t = ![t.val, 0, 2] ∧ win0_1.index t = ![t.val, 0, 3] ∧ win0_2.index t = ![t.val, 0, 0]
    ∧ win0_9.index t = ![t.val, 0, 0, 0] ∧ win0_10.index t = ![t.val, 0, 0, 0] ∧ win0_13.index t = ![t.val, 0, 0, 0]
    ∧ win0_14.index t = ![t.val, 0, 0, 0] ∧ win0_15.index t = ![t.val, 0, 0, 0] ∧ win0_16.index t = ![t.val, 0, 0, 0, 0]
    ∧ win0_17.index t = ![t.val, 0, 0, 0] := (by decide +kernel : ∀ t : Fin grid0.N, _)

/-- The sample's projections on the side of the queries. -/
abbrev ZA (c : Dev nD) : FVec Ideal S8x8x4096 .f32 := m ((c : Thread nD τ).loc main_arg0)
/-- The branch gates' projections. -/
abbrev BG (c : Dev nD) : FVec Ideal S8x8x128 .f32 := m ((c : Thread nD τ).loc main_arg2)
/-- The pooled keys. -/
abbrev KC (c : Dev nD) : FVec Ideal S8x2x256x128 .bf16 := m ((c : Thread nD τ).loc main_arg5)
/-- The pooled values. -/
abbrev VC (c : Dev nD) : FVec Ideal S8x2x256x128 .bf16 := m ((c : Thread nD τ).loc main_arg6)

theorem V0_apply (c : Dev nD) (b s : Fin 8) (l : Fin 4096) : V m c main_arg0 (ix3 b s l) = ZA m c (ix3 b s l) := by
  unfold V
  simp only [hostOps0]
  after_results_simp

theorem Vg_apply (c : Dev nD) (b s : Fin 8) (l : Fin 128) : V m c main_arg2 (ix3 b s l) = BG m c (ix3 b s l) := by
  unfold V
  simp only [hostOps0]
  after_results_simp

theorem V5_apply (c : Dev nD) (b : Fin 8) (g : Fin 2) (n : Fin 256) (l : Fin 128) : V m c main_arg5 (ix4 b g n l) = KC m c (ix4 b g n l) := by
  unfold V
  simp only [hostOps0]
  after_results_simp

theorem V6_apply (c : Dev nD) (b : Fin 8) (g : Fin 2) (n : Fin 256) (l : Fin 128) : V m c main_arg6 (ix4 b g n l) = VC m c (ix4 b g n l) := by
  unfold V
  simp only [hostOps0]
  after_results_simp

theorem blk0 (c : Dev nD) (t : Fin cfg0.N) (s : Fin 8) (l : Fin 1024) :
    iblk m c 0 t (ix3 0 s l) = ZA m c (ix3 (sq t) s ⟨2048 + l.val, by omega⟩) := by
  trans V m c main_arg0 (ix3 (sq t) s ⟨2048 + l.val, by omega⟩)
  · blk_point [iblk, idxb t]
  · exact V0_apply m c _ _ _

theorem blk1 (c : Dev nD) (t : Fin cfg0.N) (s : Fin 8) (l : Fin 1024) :
    iblk m c 1 t (ix3 0 s l) = ZA m c (ix3 (sq t) s ⟨3072 + l.val, by omega⟩) := by
  trans V m c main_arg0 (ix3 (sq t) s ⟨3072 + l.val, by omega⟩)
  · blk_point [iblk, idxb t]
  · exact V0_apply m c _ _ _

theorem blk2 (c : Dev nD) (t : Fin cfg0.N) (s : Fin 8) (l : Fin 128) : iblk m c 2 t (ix3 0 s l) = BG m c (ix3 (sq t) s l) := by
  trans V m c main_arg2 (ix3 (sq t) s l)
  · blk_point [iblk, idxb t]
  · exact Vg_apply m c _ _ _

theorem blk9 (c : Dev nD) (t : Fin cfg0.N) (g : Fin 2) (n : Fin 256) (l : Fin 128) : iblk m c 9 t (ix4 0 g n l) = KC m c (ix4 (sq t) g n l) := by
  trans V m c main_arg5 (ix4 (sq t) g n l)
  · blk_point [iblk, idxb t]
  · exact V5_apply m c _ _ _ _

theorem blk10 (c : Dev nD) (t : Fin cfg0.N) (g : Fin 2) (n : Fin 256) (l : Fin 128) : iblk m c 10 t (ix4 0 g n l) = VC m c (ix4 (sq t) g n l) := by
  trans V m c main_arg6 (ix4 (sq t) g n l)
  · blk_point [iblk, idxb t]
  · exact V6_apply m c _ _ _ _

/-- A head's rotated query by the tables' blocks. -/
theorem qrot_blk (c : Dev nD) (t : Fin cfg0.N) (s : Fin 8) (q : Fin 8) (l : Fin 128) (o : ℕ) (ho : o + 128 ≤ 1024) (e : o = q.val * 128) :
    PreSpec.turned (fun l => iblk m c 0 t (ix3 0 s ⟨o + l.val, by omega⟩)) (fun l => iblk m c 6 t (ix2 s l)) (fun l => iblk m c 7 t (ix2 s l)) (fun l => iblk m c 8 t (ix2 s l)) l * KvSpec.ascale
      = PreSpec.qrot (fun n => ZA m c (ix3 (sq t) s n)) (fun k => CO m c (ix2 s k)) (fun k => SI m c (ix2 s k)) q l := by
  subst e
  unfold PreSpec.qrot
  rw [PreSpec.turned_eq _ _ _ _ (fun k => CO m c (ix2 s k)) (fun k => SI m c (ix2 s k)) l (blk6 m c t s l) (blk7 m c t s l) (blk8 m c t s l)]
  exact congrArg (fun x => ProjSpec.rot x _ _ l * _) (funext fun l => blk0 m c t s _)

theorem qs_blk (c : Dev nD) (t : Fin cfg0.N) (s : Fin 8) (q : Fin 8) (l : Fin 128) (o : ℕ) (ho : o + 128 ≤ 1024) (e : o = q.val * 128) :
    (fun x : EReal => x * KvSpec.ascale) (iblk m c 0 t (ix3 0 s ⟨o + l.val, by omega⟩)) = PreSpec.qs (fun n => ZA m c (ix3 (sq t) s n)) q l := by
  subst e
  exact congrArg (· * KvSpec.ascale) (blk0 m c t s _)

theorem gate_blk (c : Dev nD) (t : Fin cfg0.N) (s : Fin 8) (q : Fin 8) (l : Fin 128) (o : ℕ) (ho : o + 128 ≤ 1024) (e : o = q.val * 128) :
    iblk m c 1 t (ix3 0 s ⟨o + l.val, by omega⟩) = PreSpec.gate (fun n => ZA m c (ix3 (sq t) s n)) q l := by
  subst e
  exact blk1 m c t s _

theorem bg_blk (c : Dev nD) (t : Fin cfg0.N) (s : Fin 8) (q : Fin 8) (a : Fin 3) (o : Fin 128) (e : o.val = q.val * 3 + a.val) :
    Ideal.logistic (iblk m c 2 t (ix3 0 s o)) = PreSpec.bgate (fun n => BG m c (ix3 (sq t) s n)) q a :=
  congrArg Ideal.logistic ((blk2 m c t s o).trans (congrArg (fun n => BG m c (ix3 (sq t) s n)) (Fin.ext e)))

theorem piece13 (f : Fin 8 → Fin 8 → Fin 128 → EReal) (g : Fin 2) (X : FVec Ideal S1x1x32x128 .f32)
    (hX : ∀ R l, X (ix4 0 0 R l) = PreSpec.rows f g R l) (Y : S1x2x32x128.Idx) (x : S1x1x32x128.Idx)
    (h1 : (Y 1).val = g.val) (h2 : (Y 2).val = (x 2).val) (h3 : (Y 3).val = (x 3).val) : X x = PreSpec.rows f (Y 1) (Y 2) (Y 3) := by
  obtain ⟨u, w, R, l, rfl⟩ : ∃ (u w : Fin 1) (R : Fin 32) (l : Fin 128), x = ix4 u w R l := ⟨x 0, x 1, x 2, x 3, eq_ix4 x⟩
  obtain rfl : u = 0 := Subsingleton.elim _ _
  obtain rfl : w = 0 := Subsingleton.elim _ _
  rw [hX]
  have e1 : Y 1 = g := Fin.ext h1
  have e2 : Y 2 = R := Fin.ext h2
  have e3 : Y 3 = l := Fin.ext h3
  rw [e1, e2, e3]

theorem piece15 (f : Fin 8 → Fin 8 → Fin 128 → EReal) (g : Fin 2) (h : Fin 4) (X : FVec Ideal S1x1x8x128 .f32)
    (hX : ∀ s l, X (ix4 0 0 s l) = f ⟨4 * g.val + h.val, by omega⟩ s l) (Y : S1x2x32x128.Idx) (x : S1x1x8x128.Idx)
    (h1 : (Y 1).val = g.val) (h2 : (Y 2).val = 8 * h.val + (x 2).val) (h3 : (Y 3).val = (x 3).val) : X x = PreSpec.rows f (Y 1) (Y 2) (Y 3) := by
  obtain ⟨u, w, s, l, rfl⟩ : ∃ (u w : Fin 1) (s : Fin 8) (l : Fin 128), x = ix4 u w s l := ⟨x 0, x 1, x 2, x 3, eq_ix4 x⟩
  obtain rfl : u = 0 := Subsingleton.elim _ _
  obtain rfl : w = 0 := Subsingleton.elim _ _
  rw [hX]
  have h2' : (Y 2).val = 8 * h.val + s.val := h2
  have e3 : Y 3 = l := Fin.ext h3
  unfold PreSpec.rows
  rw [e3]
  exact congrArg₂ (fun q s => f q s l) (Fin.ext (by simp only; omega)) (Fin.ext (by simp only; omega))

theorem piece16 (f : Fin 8 → Fin 8 → Fin 3 → EReal) (g : Fin 2) (a : Fin 3) (h : Fin 4) (X : FVec Ideal S1x1x1x8x128 .f32)
    (hX : ∀ s l, X (ix5 0 0 0 s l) = f ⟨4 * g.val + h.val, by omega⟩ s a) (Y : S1x2x3x32x128.Idx) (x : S1x1x1x8x128.Idx)
    (h1 : (Y 1).val = g.val) (h2 : (Y 2).val = a.val) (h3 : (Y 3).val = 8 * h.val + (x 3).val) : X x = PreSpec.rows f (Y 1) (Y 3) (Y 2) := by
  obtain ⟨u, w, z, s, l, rfl⟩ : ∃ (u w z : Fin 1) (s : Fin 8) (l : Fin 128), x = ix5 u w z s l := ⟨x 0, x 1, x 2, x 3, x 4, eq_ix5 x⟩
  obtain rfl : u = 0 := Subsingleton.elim _ _
  obtain rfl : w = 0 := Subsingleton.elim _ _
  obtain rfl : z = 0 := Subsingleton.elim _ _
  rw [hX]
  have h3' : (Y 3).val = 8 * h.val + s.val := h3
  have e2 : Y 2 = a := Fin.ext h2
  unfold PreSpec.rows
  rw [e2]
  exact congrArg₂ (fun q s => f q s a) (Fin.ext (by simp only; omega)) (Fin.ext (by simp only; omega))

theorem point13 (c : Dev nD) (t : Fin cfg0.N) (Y : S1x2x32x128.Idx) :
    (outsAt0 m c t).2.2.1 Y = PreSpec.rows (fun q s l => PreSpec.qrot (fun n => ZA m c (ix3 (sq t) s n)) (fun k => CO m c (ix2 s k)) (fun k => SI m c (ix2 s k)) q l) (Y 1) (Y 2) (Y 3) := by
  unfold outsAt0
  frame_out
  canon_tiles Y
  · exact piece13 (fun q s l => PreSpec.qrot (fun n => ZA m c (ix3 (sq t) s n)) (fun k => CO m c (ix2 s k)) (fun k => SI m c (ix2 s k)) q l) 1 _ (fun R l => (pay95_apply l (fun h s l => PreSpec.qrot (fun n => ZA m c (ix3 (sq t) s n)) (fun k => CO m c (ix2 s k)) (fun k => SI m c (ix2 s k)) ⟨4 + h.val, by omega⟩ l) _ _ _ _
      (fun s l => (pay65_apply _ _ _ _ s l).trans (qrot_blk m c t s 4 l 512 (by omega) rfl))
      (fun s l => (pay73_apply _ _ _ _ s l).trans (qrot_blk m c t s 5 l 640 (by omega) rfl))
      (fun s l => (pay81_apply _ _ _ _ s l).trans (qrot_blk m c t s 6 l 768 (by omega) rfl))
      (fun s l => (pay89_apply _ _ _ _ s l).trans (qrot_blk m c t s 7 l 896 (by omega) rfl))
      R)) _ _ (by omega) (by omega) (by omega)
  · exact piece13 (fun q s l => PreSpec.qrot (fun n => ZA m c (ix3 (sq t) s n)) (fun k => CO m c (ix2 s k)) (fun k => SI m c (ix2 s k)) q l) 0 _ (fun R l => (pay52_apply l (fun h s l => PreSpec.qrot (fun n => ZA m c (ix3 (sq t) s n)) (fun k => CO m c (ix2 s k)) (fun k => SI m c (ix2 s k)) ⟨0 + h.val, by omega⟩ l) _ _ _ _
      (fun s l => (pay22_apply _ _ _ _ s l).trans (qrot_blk m c t s 0 l 0 (by omega) rfl))
      (fun s l => (pay30_apply _ _ _ _ s l).trans (qrot_blk m c t s 1 l 128 (by omega) rfl))
      (fun s l => (pay38_apply _ _ _ _ s l).trans (qrot_blk m c t s 2 l 256 (by omega) rfl))
      (fun s l => (pay46_apply _ _ _ _ s l).trans (qrot_blk m c t s 3 l 384 (by omega) rfl))
      R)) _ _ (by omega) (by omega) (by omega)

theorem point15 (c : Dev nD) (t : Fin cfg0.N) (Y : S1x2x32x128.Idx) :
    (outsAt0 m c t).2.2.2.2.1 Y = PreSpec.rows (fun q s l => PreSpec.gate (fun n => ZA m c (ix3 (sq t) s n)) q l) (Y 1) (Y 2) (Y 3) := by
  unfold outsAt0
  frame_out
  canon_tiles Y
  · exact piece15 (fun q s l => PreSpec.gate (fun n => ZA m c (ix3 (sq t) s n)) q l) 1 3 _ (fun s l => (pay90_apply _ s l).trans (gate_blk m c t s 7 l 896 (by omega) rfl)) _ _ (by omega) (by omega) (by omega)
  · exact piece15 (fun q s l => PreSpec.gate (fun n => ZA m c (ix3 (sq t) s n)) q l) 1 2 _ (fun s l => (pay82_apply _ s l).trans (gate_blk m c t s 6 l 768 (by omega) rfl)) _ _ (by omega) (by omega) (by omega)
  · exact piece15 (fun q s l => PreSpec.gate (fun n => ZA m c (ix3 (sq t) s n)) q l) 1 1 _ (fun s l => (pay74_apply _ s l).trans (gate_blk m c t s 5 l 640 (by omega) rfl)) _ _ (by omega) (by omega) (by omega)
  · exact piece15 (fun q s l => PreSpec.gate (fun n => ZA m c (ix3 (sq t) s n)) q l) 1 0 _ (fun s l => (pay66_apply _ s l).trans (gate_blk m c t s 4 l 512 (by omega) rfl)) _ _ (by omega) (by omega) (by omega)
  · exact piece15 (fun q s l => PreSpec.gate (fun n => ZA m c (ix3 (sq t) s n)) q l) 0 3 _ (fun s l => (pay47_apply _ s l).trans (gate_blk m c t s 3 l 384 (by omega) rfl)) _ _ (by omega) (by omega) (by omega)
  · exact piece15 (fun q s l => PreSpec.gate (fun n => ZA m c (ix3 (sq t) s n)) q l) 0 2 _ (fun s l => (pay39_apply _ s l).trans (gate_blk m c t s 2 l 256 (by omega) rfl)) _ _ (by omega) (by omega) (by omega)
  · exact piece15 (fun q s l => PreSpec.gate (fun n => ZA m c (ix3 (sq t) s n)) q l) 0 1 _ (fun s l => (pay31_apply _ s l).trans (gate_blk m c t s 1 l 128 (by omega) rfl)) _ _ (by omega) (by omega) (by omega)
  · exact piece15 (fun q s l => PreSpec.gate (fun n => ZA m c (ix3 (sq t) s n)) q l) 0 0 _ (fun s l => (pay23_apply _ s l).trans (gate_blk m c t s 0 l 0 (by omega) rfl)) _ _ (by omega) (by omega) (by omega)

theorem point16 (c : Dev nD) (t : Fin cfg0.N) (Y : S1x2x3x32x128.Idx) :
    (outsAt0 m c t).2.2.2.2.2.1 Y = PreSpec.rows (fun q s a => PreSpec.bgate (fun n => BG m c (ix3 (sq t) s n)) q a) (Y 1) (Y 3) (Y 2) := by
  unfold outsAt0
  frame_out
  canon_tiles Y
  · exact piece16 (fun q s a => PreSpec.bgate (fun n => BG m c (ix3 (sq t) s n)) q a) 1 2 3 _ (fun s l => (pay94_apply _ s l).trans (bg_blk m c t s 7 2 23 rfl)) _ _ (by omega) (by omega) (by omega)
  · exact piece16 (fun q s a => PreSpec.bgate (fun n => BG m c (ix3 (sq t) s n)) q a) 1 1 3 _ (fun s l => (pay92_apply _ s l).trans (bg_blk m c t s 7 1 22 rfl)) _ _ (by omega) (by omega) (by omega)
  · exact piece16 (fun q s a => PreSpec.bgate (fun n => BG m c (ix3 (sq t) s n)) q a) 1 0 3 _ (fun s l => (pay91_apply _ s l).trans (bg_blk m c t s 7 0 21 rfl)) _ _ (by omega) (by omega) (by omega)
  · exact piece16 (fun q s a => PreSpec.bgate (fun n => BG m c (ix3 (sq t) s n)) q a) 1 2 2 _ (fun s l => (pay86_apply _ s l).trans (bg_blk m c t s 6 2 20 rfl)) _ _ (by omega) (by omega) (by omega)
  · exact piece16 (fun q s a => PreSpec.bgate (fun n => BG m c (ix3 (sq t) s n)) q a) 1 1 2 _ (fun s l => (pay84_apply _ s l).trans (bg_blk m c t s 6 1 19 rfl)) _ _ (by omega) (by omega) (by omega)
  · exact piece16 (fun q s a => PreSpec.bgate (fun n => BG m c (ix3 (sq t) s n)) q a) 1 0 2 _ (fun s l => (pay83_apply _ s l).trans (bg_blk m c t s 6 0 18 rfl)) _ _ (by omega) (by omega) (by omega)
  · exact piece16 (fun q s a => PreSpec.bgate (fun n => BG m c (ix3 (sq t) s n)) q a) 1 2 1 _ (fun s l => (pay78_apply _ s l).trans (bg_blk m c t s 5 2 17 rfl)) _ _ (by omega) (by omega) (by omega)
  · exact piece16 (fun q s a => PreSpec.bgate (fun n => BG m c (ix3 (sq t) s n)) q a) 1 1 1 _ (fun s l => (pay76_apply _ s l).trans (bg_blk m c t s 5 1 16 rfl)) _ _ (by omega) (by omega) (by omega)
  · exact piece16 (fun q s a => PreSpec.bgate (fun n => BG m c (ix3 (sq t) s n)) q a) 1 0 1 _ (fun s l => (pay75_apply _ s l).trans (bg_blk m c t s 5 0 15 rfl)) _ _ (by omega) (by omega) (by omega)
  · exact piece16 (fun q s a => PreSpec.bgate (fun n => BG m c (ix3 (sq t) s n)) q a) 1 2 0 _ (fun s l => (pay70_apply _ s l).trans (bg_blk m c t s 4 2 14 rfl)) _ _ (by omega) (by omega) (by omega)
  · exact piece16 (fun q s a => PreSpec.bgate (fun n => BG m c (ix3 (sq t) s n)) q a) 1 1 0 _ (fun s l => (pay68_apply _ s l).trans (bg_blk m c t s 4 1 13 rfl)) _ _ (by omega) (by omega) (by omega)
  · exact piece16 (fun q s a => PreSpec.bgate (fun n => BG m c (ix3 (sq t) s n)) q a) 1 0 0 _ (fun s l => (pay67_apply _ s l).trans (bg_blk m c t s 4 0 12 rfl)) _ _ (by omega) (by omega) (by omega)
  · exact piece16 (fun q s a => PreSpec.bgate (fun n => BG m c (ix3 (sq t) s n)) q a) 0 2 3 _ (fun s l => (pay51_apply _ s l).trans (bg_blk m c t s 3 2 11 rfl)) _ _ (by omega) (by omega) (by omega)
  · exact piece16 (fun q s a => PreSpec.bgate (fun n => BG m c (ix3 (sq t) s n)) q a) 0 1 3 _ (fun s l => (pay50_apply _ s l).trans (bg_blk m c t s 3 1 10 rfl)) _ _ (by omega) (by omega) (by omega)
  · exact piece16 (fun q s a => PreSpec.bgate (fun n => BG m c (ix3 (sq t) s n)) q a) 0 0 3 _ (fun s l => (pay48_apply _ s l).trans (bg_blk m c t s 3 0 9 rfl)) _ _ (by omega) (by omega) (by omega)
  · exact piece16 (fun q s a => PreSpec.bgate (fun n => BG m c (ix3 (sq t) s n)) q a) 0 2 2 _ (fun s l => (pay43_apply _ s l).trans (bg_blk m c t s 2 2 8 rfl)) _ _ (by omega) (by omega) (by omega)
  · exact piece16 (fun q s a => PreSpec.bgate (fun n => BG m c (ix3 (sq t) s n)) q a) 0 1 2 _ (fun s l => (pay42_apply _ s l).trans (bg_blk m c t s 2 1 7 rfl)) _ _ (by omega) (by omega) (by omega)
  · exact piece16 (fun q s a => PreSpec.bgate (fun n => BG m c (ix3 (sq t) s n)) q a) 0 0 2 _ (fun s l => (pay40_apply _ s l).trans (bg_blk m c t s 2 0 6 rfl)) _ _ (by omega) (by omega) (by omega)
  · exact piece16 (fun q s a => PreSpec.bgate (fun n => BG m c (ix3 (sq t) s n)) q a) 0 2 1 _ (fun s l => (pay35_apply _ s l).trans (bg_blk m c t s 1 2 5 rfl)) _ _ (by omega) (by omega) (by omega)
  · exact piece16 (fun q s a => PreSpec.bgate (fun n => BG m c (ix3 (sq t) s n)) q a) 0 1 1 _ (fun s l => (pay34_apply _ s l).trans (bg_blk m c t s 1 1 4 rfl)) _ _ (by omega) (by omega) (by omega)
  · exact piece16 (fun q s a => PreSpec.bgate (fun n => BG m c (ix3 (sq t) s n)) q a) 0 0 1 _ (fun s l => (pay32_apply _ s l).trans (bg_blk m c t s 1 0 3 rfl)) _ _ (by omega) (by omega) (by omega)
  · exact piece16 (fun q s a => PreSpec.bgate (fun n => BG m c (ix3 (sq t) s n)) q a) 0 2 0 _ (fun s l => (pay27_apply _ s l).trans (bg_blk m c t s 0 2 2 rfl)) _ _ (by omega) (by omega) (by omega)
  · exact piece16 (fun q s a => PreSpec.bgate (fun n => BG m c (ix3 (sq t) s n)) q a) 0 1 0 _ (fun s l => (pay26_apply _ s l).trans (bg_blk m c t s 0 1 1 rfl)) _ _ (by omega) (by omega) (by omega)
  · exact piece16 (fun q s a => PreSpec.bgate (fun n => BG m c (ix3 (sq t) s n)) q a) 0 0 0 _ (fun s l => (pay24_apply _ s l).trans (bg_blk m c t s 0 0 0 rfl)) _ _ (by omega) (by omega) (by omega)

end Cert.PreIdeal.Value
-- ==== Proof.PreOut.lean ====
module

public import proofs.«01_k».proof.Proof.PreB

/-! The kernel's queries and gates as whole arrays. -/

@[expose] public section

set_option maxRecDepth 16384

noncomputable section

namespace Cert.PreIdeal.Value

open Cert.PreIdeal Cert.PreIdeal.Gen Idealize.ShloMosaic Idealize.ShloMosaic.TcCoe Idealize.SL.Sem
open Idealize.ShloMosaic.Pipeline (Dat)

variable (m : (ℓ : Loc nD τ sig) → Buf (Elt Ideal) ℓ)

/-- The rotated queries, of the arguments. -/
def res13 (c : Dev nD) (b : Fin 8) (g : Fin 2) (R : Fin 32) (l : Fin 128) : EReal :=
  PreSpec.rows (fun q s l => PreSpec.qrot (fun n => ZA m c (ix3 b s n)) (fun k => CO m c (ix2 s k)) (fun k => SI m c (ix2 s k)) q l) g R l

theorem out13 (c : Dev nD) : (dats m 0 c).arrAt 13 (cfgs 0).N = fun j : S8x2x32x128.Idx => res13 m c (j 0) (j 1) (j 2) (j 3) := by
  refine (dats m 0 c).arrAt_eq_of_covers 13 _ (by decide +kernel) fun t _ y => ?_
  rw [after0_13]
  obtain ⟨z, g, R, l, rfl⟩ : ∃ (z : Fin 1) (g : Fin 2) (R : Fin 32) (l : Fin 128), y = ix4 z g R l := ⟨y 0, y 1, y 2, y 3, eq_ix4 y⟩
  obtain rfl : z = 0 := Subsingleton.elim _ _
  have e : ((cfg0.win 13).blk t).view.emb (ix4 0 g R l) = (ix4 (sq t) g R l : S8x2x32x128.Idx) := by
    blk_point [idxb t]
  refine Eq.trans ?_ (congrArg (fun j : S8x2x32x128.Idx => res13 m c (j 0) (j 1) (j 2) (j 3)) e.symm)
  have hp := point13 m c t (ix4 0 g R l)
  generalize outsAt0 m c t = o at hp ⊢
  exact hp

/-- The output gates, of the arguments. -/
def res15 (c : Dev nD) (b : Fin 8) (g : Fin 2) (R : Fin 32) (l : Fin 128) : EReal :=
  PreSpec.rows (fun q s l => PreSpec.gate (fun n => ZA m c (ix3 b s n)) q l) g R l

theorem out15 (c : Dev nD) : (dats m 0 c).arrAt 15 (cfgs 0).N = fun j : S8x2x32x128.Idx => res15 m c (j 0) (j 1) (j 2) (j 3) := by
  refine (dats m 0 c).arrAt_eq_of_covers 15 _ (by decide +kernel) fun t _ y => ?_
  rw [after0_15]
  obtain ⟨z, g, R, l, rfl⟩ : ∃ (z : Fin 1) (g : Fin 2) (R : Fin 32) (l : Fin 128), y = ix4 z g R l := ⟨y 0, y 1, y 2, y 3, eq_ix4 y⟩
  obtain rfl : z = 0 := Subsingleton.elim _ _
  have e : ((cfg0.win 15).blk t).view.emb (ix4 0 g R l) = (ix4 (sq t) g R l : S8x2x32x128.Idx) := by
    blk_point [idxb t]
  refine Eq.trans ?_ (congrArg (fun j : S8x2x32x128.Idx => res15 m c (j 0) (j 1) (j 2) (j 3)) e.symm)
  have hp := point15 m c t (ix4 0 g R l)
  generalize outsAt0 m c t = o at hp ⊢
  exact hp

/-- The branch gates, of the arguments. -/
def res16 (c : Dev nD) (b : Fin 8) (g : Fin 2) (a : Fin 3) (R : Fin 32) : EReal :=
  PreSpec.rows (fun q s a => PreSpec.bgate (fun n => BG m c (ix3 b s n)) q a) g R a

theorem out16 (c : Dev nD) : (dats m 0 c).arrAt 16 (cfgs 0).N = fun j : S8x2x3x32x128.Idx => res16 m c (j 0) (j 1) (j 2) (j 3) := by
  refine (dats m 0 c).arrAt_eq_of_covers 16 _ (by decide +kernel) fun t _ y => ?_
  rw [after0_16]
  obtain ⟨z, g, a, R, l, rfl⟩ : ∃ (z : Fin 1) (g : Fin 2) (a : Fin 3) (R : Fin 32) (l : Fin 128), y = ix5 z g a R l := ⟨y 0, y 1, y 2, y 3, y 4, eq_ix5 y⟩
  obtain rfl : z = 0 := Subsingleton.elim _ _
  have e : ((cfg0.win 16).blk t).view.emb (ix5 0 g a R l) = (ix5 (sq t) g a R l : S8x2x3x32x128.Idx) := by
    blk_point [idxb t]
  refine Eq.trans ?_ (congrArg (fun j : S8x2x3x32x128.Idx => res16 m c (j 0) (j 1) (j 2) (j 3)) e.symm)
  have hp := point16 m c t (ix5 0 g a R l)
  generalize outsAt0 m c t = o at hp ⊢
  exact hp

end Cert.PreIdeal.Value
-- ==== Proof.PreAttSpec.lean ====
module

public import proofs.«01_k».proof.Proof.PreSpec

/-! The sample's attention over the pooled keys and the importance of the blocks. -/

@[expose] public section

noncomputable section

namespace Cert.PreSpec

open Idealize.ShloMosaic Idealize.ShloMosaic.TcCoe

/-- The scores of a head's query against the pooled keys. -/
def sco (z : Fin 4096 → EReal) (K : Fin 256 → Fin 128 → EReal) (q : Fin 8) (n : Fin 256) : EReal :=
  (∑ d : Fin 128, qrow z q d * K n d) * KvSpec.ascale

/-- Their softmax. -/
def wt (z : Fin 4096 → EReal) (K : Fin 256 → Fin 128 → EReal) (q : Fin 8) (n : Fin 256) : EReal :=
  Ideal.div (KvSpec.ex (sco z K q) n) (∑ n, KvSpec.ex (sco z K q) n)

/-- The pooled values under it. -/
def att (z : Fin 4096 → EReal) (K V : Fin 256 → Fin 128 → EReal) (q : Fin 8) (l : Fin 128) : EReal :=
  ∑ n : Fin 256, wt z K q n * V n l

/-- The importance of a block for a group of four heads; the first block and the one before the sample's own are taken in any case. -/
def imp (z : Fin 4096 → EReal) (K : Fin 256 → Fin 128 → EReal) (g : Fin 2) (n : Fin 256) : EReal :=
  if n.val = 0 ∨ n.val = 255 then Ideal.ofBits .f32 0x4E6E6B28#32 else ∑ h : Fin 4, wt z K ⟨4 * g.val + h.val, by omega⟩ n

/-- A scaled query's scores. -/
theorem sco_eq (z : Fin 4096 → EReal) (K : Fin 256 → Fin 128 → EReal) (q : Fin 8) (n : Fin 256) :
    ∑ d : Fin 128, qs z q d * K n d = sco z K q n := by
  unfold sco qs
  rw [KvSpec.sum_mul_real _ _ KvSpec.ascale_real.2 KvSpec.ascale_real.1]
  exact Finset.sum_congr rfl fun d _ => mul_right_comm _ _ _

theorem sco_real {z : Fin 4096 → EReal} {K : Fin 256 → Fin 128 → EReal} (hz : ∀ n, KvSpec.IsReal (z n)) (hK : ∀ n d, KvSpec.IsReal (K n d)) (q : Fin 8) (n : Fin 256) :
    KvSpec.IsReal (sco z K q n) :=
  KvSpec.IsReal.mul (KvSpec.IsReal.sum _ fun d => KvSpec.IsReal.mul (hz _) (hK _ _)) KvSpec.ascale_real.1

theorem tiny_le : Ideal.ofBits .f32 0x0DA24260#32 ≤ ((1 : ℝ) : EReal) := by
  have e : Ideal.ofBits .f32 0x0DA24260#32 = (((10633824 : ℝ) * 2 ^ (-123 : ℤ) : ℝ) : EReal) := by
    simp [Ideal.ofBits, Ideal.ieee, -EReal.coe_mul]
    try norm_num
  rw [e]
  exact EReal.coe_le_coe_iff.mpr (by norm_num)

/-- The sum of the exponentials of real scores is at least one. -/
theorem sum_ge {s : Fin 256 → EReal} (hs : ∀ k, KvSpec.IsReal (s k)) :
    max (∑ k, KvSpec.ex s k) (Ideal.ofBits .f32 0x0DA24260#32) = ∑ k, KvSpec.ex s k := by
  obtain ⟨k0, h0⟩ := KvSpec.top_mem s
  choose a ha using hs
  have he : ∀ k, KvSpec.ex s k = ((Real.exp (a k - a k0) : ℝ) : EReal) := fun k => by
    unfold KvSpec.ex
    rw [h0, ha, ha, ← EReal.coe_sub]
    rfl
  have hS : (∑ k, KvSpec.ex s k) = ((∑ k, Real.exp (a k - a k0) : ℝ) : EReal) := by
    rw [KvSpec.coe_sum]
    exact Finset.sum_congr rfl fun k _ => he k
  have h1 : (1 : ℝ) ≤ ∑ k, Real.exp (a k - a k0) := by
    have := Finset.single_le_sum (f := fun k => Real.exp (a k - a k0)) (fun k _ => (Real.exp_pos _).le) (Finset.mem_univ k0)
    simpa using this
  rw [hS]
  exact max_eq_left (tiny_le.trans (EReal.coe_le_coe_iff.mpr h1))

end Cert.PreSpec

end
-- ==== Proof.PreAtt.lean ====
module

public import proofs.«01_k».proof.Proof.PreB
public import proofs.«01_k».proof.Proof.PreAttSpec

/-! The kernel's attention over the pooled keys and its block importances. -/

@[expose] public section

set_option maxRecDepth 16384

noncomputable section

namespace Cert.PreIdeal.Value

open Cert.PreIdeal Cert.PreIdeal.Gen Idealize.ShloMosaic Idealize.ShloMosaic.TcCoe Idealize.SL.Sem
open Idealize.ShloMosaic.Pipeline (Dat)

/-- Which pooled keys a row may see: all, their blocks end before the sample. -/
def msk : IVec S32x256 1 :=
  cmpi .sle (muli (addi (iota .tc S32x256 32 [1] iota_S32x256_d1_w32) (broadcast S32x256 1#32)) (broadcast S32x256 64#32))
    (addi (addi (broadcast S32x256 16384#32) (select k0_pay55 k0_pay56 k0_pay54)) (broadcast S32x256 1#32))

theorem msk_eq : msk = fun _ => 1#1 := by
  funext j
  idx_vars j
  exact (by decide +kernel : ∀ (R : Fin 32) (n : Fin 256), msk (ix2 R n) = 1#1) _ _

section

variable (h1 : FKind.Formats .f32) (h2 : (0xFF800000#32 : BitVec 32) = FKind.maximumf.neutral .f32 h1) (h3 : (0x00000000#32 : BitVec 32) = FKind.add.neutral .f32 h1)

theorem bot32 : Ideal.ofBits .f32 0xFF800000#32 = ⊥ := by simp [Ideal.ofBits, Ideal.ieee]

theorem mxk (S : FVec Ideal S32x256 .f32) (r : Fin 32) :
    multiReduction (F := Ideal) .maximumf [1] S32 S 0xFF800000#32 reduces_S32x256_S32 h1 h2 (ix1 r) = KvSpec.top (fun k => S (ix2 r k)) := by
  refine (Ideal.multiReduction_maximumf_single (s := S32x256) (t := S32) (a := 1) S 0xFF800000#32 reduces_S32x256_S32 h1 h2 (ix1 r)).trans ?_
  unfold KvSpec.top
  have e : S ∘ Shape.Reduces.lift reduces_S32x256_S32 (ix1 r) = fun k : Fin 256 => S (ix2 r k) := by
    funext k
    refine congrArg S (funext fun a => ?_)
    fin_cases a <;> rfl
  rw [e]
  exact congrArg (fun b => Finset.fold max b (fun k : Fin 256 => S (ix2 r k)) Finset.univ) bot32

theorem exk (S : FVec Ideal S32x256 .f32) (r : Fin 32) (k : Fin 256) :
    exp (F := Ideal) (subf S (broadcastTo S32x256 (shapeCast S32x1 (multiReduction .maximumf [1] S32 S 0xFF800000#32 reduces_S32x256_S32 h1 h2) shapeCasts_S32_S32x1) broadcasts_S32x1_S32x256)) (ix2 r k)
      = KvSpec.ex (fun k => S (ix2 r k)) k := by
  unfold KvSpec.ex
  rw [← mxk h1 h2]
  generalize multiReduction (F := Ideal) .maximumf [1] S32 S 0xFF800000#32 reduces_S32x256_S32 h1 h2 = M
  pointwise

/-- The exponentials over their sum, which is kept from zero. -/
def quo (E : FVec Ideal S32x256 .f32) : FVec Ideal S32x256 .f32 :=
  divf E (broadcastTo S32x256 (maximumf (shapeCast S32x1 (multiReduction .add [1] S32 E 0x00000000#32 reduces_S32x256_S32 (.inl rfl) rfl) shapeCasts_S32_S32x1)
    (broadcast S32x1 (Scalar.ofBits .f32 0x0DA24260#32 : Ideal .f32))) broadcasts_S32x1_S32x256)

theorem quo_apply (E : FVec Ideal S32x256 .f32) (r : Fin 32) (k : Fin 256) :
    quo E (ix2 r k) = Ideal.div (E (ix2 r k)) (max (∑ k : Fin 256, E (ix2 r k)) (Ideal.ofBits .f32 0x0DA24260#32)) := by
  pointwise [quo]

end

/-- The masked softmax. -/
def core (M : IVec S32x256 1) (X : FVec Ideal S32x256 .f32) : FVec Ideal S32x256 .f32 :=
  quo (select M (exp (subf (select M X (broadcast S32x256 (Scalar.ofBits .f32 0xF149F2CA#32 : Ideal .f32)))
    (broadcastTo S32x256 (shapeCast S32x1 (multiReduction .maximumf [1] S32 (select M X (broadcast S32x256 (Scalar.ofBits .f32 0xF149F2CA#32 : Ideal .f32))) 0xFF800000#32 reduces_S32x256_S32 (.inl rfl) rfl) shapeCasts_S32_S32x1) broadcasts_S32x1_S32x256)))
    (broadcast S32x256 (Scalar.ofBits .f32 0x00000000#32 : Ideal .f32)))

theorem sel_one (X Y : FVec Ideal S32x256 .f32) : select (fun _ => 1#1) X Y = X := rfl

theorem core_apply (X : FVec Ideal S32x256 .f32) (s : Fin 256 → EReal) (hs : ∀ n, KvSpec.IsReal (s n)) (R : Fin 32) (hX : ∀ n : Fin 256, X (ix2 R n) = s n) (n : Fin 256) :
    core (fun _ => 1#1) X (ix2 R n) = Ideal.div (KvSpec.ex s n) (∑ n, KvSpec.ex s n) := by
  unfold core
  rw [sel_one, sel_one]
  have e (k : Fin 256) := (exk (.inl rfl) rfl X R k).trans (congrArg (fun s => KvSpec.ex s k) (funext hX))
  exact ((quo_apply _ R n).trans (congrArg₂ Ideal.div (e n) (congrArg (fun y => max y _) (Finset.sum_congr rfl fun k _ => e k)))).trans
    (congrArg (Ideal.div _) (PreSpec.sum_ge hs))

theorem pay57_eq (X : FVec Ideal S32x256 .f32) : k0_pay57 (F := Ideal) X k0_pay54 k0_pay55 k0_pay56 = core (fun _ => 1#1) X := by
  rw [← msk_eq]
  rfl

theorem pay100_eq (X : FVec Ideal S32x256 .f32) : k0_pay100 (F := Ideal) X k0_pay97 k0_pay98 k0_pay99 = core (fun _ => 1#1) X := by
  rw [← msk_eq]
  rfl

theorem sc53 (f : Fin 4 → Fin 8 → Fin 128 → EReal) (a0 a1 a2 a3 : FVec Ideal S8x128 .f32) (K : Vec Ideal S1x1x256x128 .bf16) (h0 : ∀ s l, a0 (ix2 s l) = f 0 s l)
    (h1 : ∀ s l, a1 (ix2 s l) = f 1 s l) (h2 : ∀ s l, a2 (ix2 s l) = f 2 s l) (h3 : ∀ s l, a3 (ix2 s l) = f 3 s l) (R : Fin 32) (n : Fin 256) :
    k0_pay53 (F := Ideal) a0 a1 a2 a3 K (ix2 R n) = ∑ d : Fin 128, f ⟨R.val / 8, by omega⟩ ⟨R.val % 8, by omega⟩ d * K (ix4 0 0 n d) := by
  pointwise [k0_pay53]
  refine Finset.sum_congr rfl fun d _ => congrArg (· * K (ix4 0 0 n d)) ?_
  fin_vals R with hR
  all_goals (simp only [hR, Nat.reduceSub, Nat.reduceLT, ↓reduceDIte, h0, h1, h2, h3]; rfl)

theorem pay58_apply (X : FVec Ideal S32x256 .f32) (V : Vec Ideal S1x1x256x128 .bf16) (R : Fin 32) (l : Fin 128) :
    k0_pay58 (F := Ideal) X k0_pay54 k0_pay55 k0_pay56 V (ix4 0 0 R l) = ∑ n : Fin 256, core (fun _ => 1#1) X (ix2 R n) * V (ix4 0 0 n l) := by
  unfold k0_pay58
  rw [pay57_eq]
  generalize core (fun _ => 1#1) X = P
  pointwise

theorem pay101_apply (X : FVec Ideal S32x256 .f32) (V : Vec Ideal S1x1x256x128 .bf16) (R : Fin 32) (l : Fin 128) :
    k0_pay101 (F := Ideal) X k0_pay97 k0_pay98 k0_pay99 V (ix4 0 0 R l) = ∑ n : Fin 256, core (fun _ => 1#1) X (ix2 R n) * V (ix4 0 0 n l) := by
  unfold k0_pay101
  rw [pay100_eq]
  generalize core (fun _ => 1#1) X = P
  pointwise

theorem pay59_apply (X : FVec Ideal S32x256 .f32) (s : Fin 8) (n : Fin 256) :
    k0_pay59 (F := Ideal) X k0_pay54 k0_pay55 k0_pay56 (ix2 s n) = ∑ h : Fin 4, core (fun _ => 1#1) X (ix2 ⟨8 * h.val + s.val, by omega⟩ n) := by
  unfold k0_pay59
  rw [pay57_eq]
  generalize core (fun _ => 1#1) X = P
  pointwise
  first | done | exact Finset.sum_congr rfl fun h _ => congrArg (fun R => P (ix2 R n)) (Fin.ext (by simp only; omega))

theorem pay102_apply (X : FVec Ideal S32x256 .f32) (s : Fin 8) (n : Fin 256) :
    k0_pay102 (F := Ideal) X k0_pay97 k0_pay98 k0_pay99 (ix2 s n) = ∑ h : Fin 4, core (fun _ => 1#1) X (ix2 ⟨8 * h.val + s.val, by omega⟩ n) := by
  refine Eq.trans ?_ (pay59_apply X s n)
  unfold k0_pay59 k0_pay102
  rw [pay57_eq, pay100_eq]

/-- The blocks taken in any case. -/
def fo : IVec S8x256 1 :=
  let b : IVec S8x256 32 := iota .tc S8x256 32 [1] iota_S8x256_d1_w32
  let cur : IVec S8x256 32 := select (andi (cmpi .ne (subi (extui 32 (cmpi .sgt k0_pay60 (broadcast S8x256 0#32)) natLt_1_32) (extui 32 (cmpi .slt k0_pay60 (broadcast S8x256 0#32)) natLt_1_32))
      (broadcast S8x256 (Scalar.subi (Scalar.extui (Scalar.cmpi .sgt 64#32 0#32)) (Scalar.extui (Scalar.cmpi .slt 64#32 0#32))))) (cmpi .ne (remsi k0_pay60 (broadcast S8x256 64#32)) (broadcast S8x256 0#32)))
      (subi (divsi k0_pay60 (broadcast S8x256 64#32)) (broadcast S8x256 1#32)) (divsi k0_pay60 (broadcast S8x256 64#32))
  ori (ori (cmpi .eq b (broadcast S8x256 0#32)) (cmpi .eq b cur)) (cmpi .eq b (subi cur (broadcast S8x256 1#32)))

/-- The blocks after the sample's own. -/
def fu : IVec S8x256 1 :=
  let b : IVec S8x256 32 := iota .tc S8x256 32 [1] iota_S8x256_d1_w32
  let cur : IVec S8x256 32 := select (andi (cmpi .ne (subi (extui 32 (cmpi .sgt k0_pay60 (broadcast S8x256 0#32)) natLt_1_32) (extui 32 (cmpi .slt k0_pay60 (broadcast S8x256 0#32)) natLt_1_32))
      (broadcast S8x256 (Scalar.subi (Scalar.extui (Scalar.cmpi .sgt 64#32 0#32)) (Scalar.extui (Scalar.cmpi .slt 64#32 0#32))))) (cmpi .ne (remsi k0_pay60 (broadcast S8x256 64#32)) (broadcast S8x256 0#32)))
      (subi (divsi k0_pay60 (broadcast S8x256 64#32)) (broadcast S8x256 1#32)) (divsi k0_pay60 (broadcast S8x256 64#32))
  cmpi .sgt b cur

/-- The blocks beyond the last. -/
def be : IVec S8x256 1 := cmpi .sge (iota .tc S8x256 32 [1] iota_S8x256_d1_w32) (broadcast S8x256 256#32)

theorem fo_eq : ∀ (s : Fin 8) (n : Fin 256), fo (ix2 s n) = if n.val = 0 ∨ n.val = 255 then 1#1 else 0#1 := by decide +kernel
theorem fu_eq : fu = fun _ => 0#1 := by
  funext j
  idx_vars j
  exact (by decide +kernel : ∀ (s : Fin 8) (n : Fin 256), fu (ix2 s n) = 0#1) _ _
theorem be_eq : be = fun _ => 0#1 := by
  funext j
  idx_vars j
  exact (by decide +kernel : ∀ (s : Fin 8) (n : Fin 256), be (ix2 s n) = 0#1) _ _

/-- What is made of the sums by the three masks. -/
def pick (A B C : IVec S8x256 1) (Y : FVec Ideal S8x256 .f32) : FVec Ideal S8x256 .f32 :=
  select C (broadcast S8x256 (Scalar.ofBits .f32 0xC0000000#32 : Ideal .f32)) (select B (broadcast S8x256 (Scalar.ofBits .f32 0xBF800000#32 : Ideal .f32)) (select A (broadcast S8x256 (Scalar.ofBits .f32 0x4E6E6B28#32 : Ideal .f32)) Y))

theorem pick_apply (Y : FVec Ideal S8x256 .f32) (s : Fin 8) (n : Fin 256) :
    pick fo fu be Y (ix2 s n) = if n.val = 0 ∨ n.val = 255 then Ideal.ofBits .f32 0x4E6E6B28#32 else Y (ix2 s n) := by
  rw [fu_eq, be_eq]
  change (if fo (ix2 s n) = 1#1 then Ideal.ofBits .f32 0x4E6E6B28#32 else Y (ix2 s n)) = _
  rw [fo_eq]
  split_ifs <;> first | rfl | (exfalso; simp_all)

theorem pay61_eq (Y : FVec Ideal S8x256 .f32) : k0_pay61 (F := Ideal) Y (iota .tc S8x256 32 [1] iota_S8x256_d1_w32) k0_pay60 = pick fo fu be Y := rfl

theorem pay106_eq (Y : FVec Ideal S8x256 .f32) :
    k0_pay106 (F := Ideal) Y (iota .tc S8x256 32 [1] iota_S8x256_d1_w32) k0_pay103 64#32 k0_pay104 k0_pay105 0#32 = pick fo fu be Y := rfl

theorem pay62_apply (Y : FVec Ideal S8x256 .f32) (s : Fin 8) (n : Fin 256) : k0_pay62 (F := Ideal) Y (ix4 0 0 s n) = Y (ix2 s n) := by
  pointwise [k0_pay62]

theorem pay1_apply (Y : FVec Ideal S8x256 .f32) (s : Fin 8) (n : Fin 256) : k0_pay1 (F := Ideal) Y (ix4 0 0 s n) = Y (ix2 s n) := by
  pointwise [k0_pay1]

end Cert.PreIdeal.Value
-- ==== Proof.PreAttOut.lean ====
module

public import proofs.«01_k».proof.Proof.PreAtt

/-! The kernel's attention over the pooled keys and its block importances as whole arrays. -/

@[expose] public section

set_option maxRecDepth 16384

noncomputable section

namespace Cert.PreIdeal.Value

open Cert.PreIdeal Cert.PreIdeal.Gen Idealize.ShloMosaic Idealize.ShloMosaic.TcCoe Idealize.SL.Sem
open Idealize.ShloMosaic.Pipeline (Dat)

variable (m : (ℓ : Loc nD τ sig) → Buf (Elt Ideal) ℓ)

/-- A position's projections. -/
abbrev za (c : Dev nD) (b s : Fin 8) : Fin 4096 → EReal := fun n => ZA m c (ix3 b s n)
/-- A group's pooled keys. -/
abbrev kk (c : Dev nD) (b : Fin 8) (g : Fin 2) : Fin 256 → Fin 128 → EReal := fun n d => KC m c (ix4 b g n d)
/-- A group's pooled values. -/
abbrev vv (c : Dev nD) (b : Fin 8) (g : Fin 2) : Fin 256 → Fin 128 → EReal := fun n d => VC m c (ix4 b g n d)

theorem ldK0 (c : Dev nD) (t : Fin cfg0.N) (n : Fin 256) (l : Fin 128) :
    View.ld (Val := Elt Ideal) (e' := .bf16) (iblk m c 9 t) (Rect.unit (s := S1x2x256x128) ![0, 0, 0, 0] ![1, 1, 256, 128] inb_S1x2x256x128_S1x1x256x128_0_0_0_0) (ix4 0 0 n l) = KC m c (ix4 (sq t) 0 n l) := by
  trans iblk m c 9 t (ix4 0 0 n l)
  · pointwise
  · exact blk9 m c t 0 n l

theorem ldK1 (c : Dev nD) (t : Fin cfg0.N) (n : Fin 256) (l : Fin 128) :
    View.ld (Val := Elt Ideal) (e' := .bf16) (iblk m c 9 t) (Rect.unit (s := S1x2x256x128) ![0, 1, 0, 0] ![1, 1, 256, 128] inb_S1x2x256x128_S1x1x256x128_0_1_0_0) (ix4 0 0 n l) = KC m c (ix4 (sq t) 1 n l) := by
  trans iblk m c 9 t (ix4 0 1 n l)
  · pointwise
  · exact blk9 m c t 1 n l

theorem ldV0 (c : Dev nD) (t : Fin cfg0.N) (n : Fin 256) (l : Fin 128) :
    View.ld (Val := Elt Ideal) (e' := .bf16) (iblk m c 10 t) (Rect.unit (s := S1x2x256x128) ![0, 0, 0, 0] ![1, 1, 256, 128] inb_S1x2x256x128_S1x1x256x128_0_0_0_0) (ix4 0 0 n l) = VC m c (ix4 (sq t) 0 n l) := by
  trans iblk m c 10 t (ix4 0 0 n l)
  · pointwise
  · exact blk10 m c t 0 n l

theorem ldV1 (c : Dev nD) (t : Fin cfg0.N) (n : Fin 256) (l : Fin 128) :
    View.ld (Val := Elt Ideal) (e' := .bf16) (iblk m c 10 t) (Rect.unit (s := S1x2x256x128) ![0, 1, 0, 0] ![1, 1, 256, 128] inb_S1x2x256x128_S1x1x256x128_0_1_0_0) (ix4 0 0 n l) = VC m c (ix4 (sq t) 1 n l) := by
  trans iblk m c 10 t (ix4 0 1 n l)
  · pointwise
  · exact blk10 m c t 1 n l

/-- The scores of group 0. -/
abbrev X0 (c : Dev nD) (t : Fin cfg0.N) : FVec Ideal S32x256 .f32 :=
  k0_pay53 (F := Ideal) (k0_pay21 (iblk m c 0 t)) (k0_pay29 (k0_pay17 (iblk m c 0 t)))
    (k0_pay37 (k0_pay17 (iblk m c 0 t))) (k0_pay45 (k0_pay17 (iblk m c 0 t)))
    (View.ld (Val := Elt Ideal) (e' := .bf16) (iblk m c 9 t) (Rect.unit (s := S1x2x256x128) ![0, 0, 0, 0] ![1, 1, 256, 128] inb_S1x2x256x128_S1x1x256x128_0_0_0_0))

theorem X0_apply (c : Dev nD) (t : Fin cfg0.N) (R : Fin 32) (n : Fin 256) :
    X0 m c t (ix2 R n) = PreSpec.sco (za m c (sq t) ⟨R.val % 8, by omega⟩) (kk m c (sq t) 0) ⟨0 + R.val / 8, by omega⟩ n := by
  refine (sc53 (fun h s l => PreSpec.qs (za m c (sq t) s) ⟨0 + h.val, by omega⟩ l) _ _ _ _ _
    (fun s l => (pay21_apply _ s l).trans (qs_blk m c t s 0 l 0 (by omega) rfl))
    (fun s l => (pay29_apply _ s l).trans (qs_blk m c t s 1 l 128 (by omega) rfl))
    (fun s l => (pay37_apply _ s l).trans (qs_blk m c t s 2 l 256 (by omega) rfl))
    (fun s l => (pay45_apply _ s l).trans (qs_blk m c t s 3 l 384 (by omega) rfl))
    R n).trans ?_
  refine Eq.trans (Finset.sum_congr rfl fun d _ => congrArg (PreSpec.qs _ _ d * ·) (ldK0 m c t n d)) ?_
  exact PreSpec.sco_eq (za m c (sq t) ⟨R.val % 8, by omega⟩) (kk m c (sq t) 0) _ n

theorem W0_apply (hz : ∀ (c : Dev nD) j, KvSpec.IsReal (ZA m c j)) (hk : ∀ (c : Dev nD) j, KvSpec.IsReal (KC m c j)) (c : Dev nD) (t : Fin cfg0.N) (R : Fin 32) (n : Fin 256) :
    core (fun _ => 1#1) (X0 m c t) (ix2 R n) = PreSpec.wt (za m c (sq t) ⟨R.val % 8, by omega⟩) (kk m c (sq t) 0) ⟨0 + R.val / 8, by omega⟩ n :=
  core_apply _ _ (fun n => PreSpec.sco_real (fun _ => hz c _) (fun _ _ => hk c _) _ n) R (fun n => X0_apply m c t R n) n

theorem O0_apply (hz : ∀ (c : Dev nD) j, KvSpec.IsReal (ZA m c j)) (hk : ∀ (c : Dev nD) j, KvSpec.IsReal (KC m c j)) (c : Dev nD) (t : Fin cfg0.N) (R : Fin 32) (l : Fin 128) :
    k0_pay58 (F := Ideal) (X0 m c t) k0_pay54 k0_pay55 k0_pay56
      (View.ld (Val := Elt Ideal) (e' := .bf16) (iblk m c 10 t) (Rect.unit (s := S1x2x256x128) ![0, 0, 0, 0] ![1, 1, 256, 128] inb_S1x2x256x128_S1x1x256x128_0_0_0_0)) (ix4 0 0 R l)
      = PreSpec.rows (fun q s l => PreSpec.att (za m c (sq t) s) (kk m c (sq t) 0) (vv m c (sq t) 0) q l) 0 R l :=
  (pay58_apply _ _ R l).trans (Finset.sum_congr rfl fun n _ => congrArg₂ (· * ·) (W0_apply m hz hk c t R n) (ldV0 m c t n l))

theorem I0_apply (hz : ∀ (c : Dev nD) j, KvSpec.IsReal (ZA m c j)) (hk : ∀ (c : Dev nD) j, KvSpec.IsReal (KC m c j)) (c : Dev nD) (t : Fin cfg0.N) (s : Fin 8) (n : Fin 256) :
    pick fo fu be (k0_pay59 (F := Ideal) (X0 m c t) k0_pay54 k0_pay55 k0_pay56) (ix2 s n)
      = PreSpec.imp (za m c (sq t) s) (kk m c (sq t) 0) 0 n := by
  rw [pick_apply]
  unfold PreSpec.imp
  refine congrArg (ite _ _) ?_
  rw [pay59_apply]
  refine Finset.sum_congr rfl fun h _ => (W0_apply m hz hk c t _ n).trans ?_
  exact congrArg₂ (fun s q => PreSpec.wt (za m c (sq t) s) (kk m c (sq t) 0) q n) (Fin.ext (by simp only; omega)) (Fin.ext (by simp only; omega))

/-- The scores of group 1. -/
abbrev X1 (c : Dev nD) (t : Fin cfg0.N) : FVec Ideal S32x256 .f32 :=
  k0_pay96 (F := Ideal) (k0_pay64 (k0_pay17 (iblk m c 0 t))) (k0_pay72 (k0_pay17 (iblk m c 0 t)))
    (k0_pay80 (k0_pay17 (iblk m c 0 t))) (k0_pay88 (k0_pay17 (iblk m c 0 t)))
    (View.ld (Val := Elt Ideal) (e' := .bf16) (iblk m c 9 t) (Rect.unit (s := S1x2x256x128) ![0, 1, 0, 0] ![1, 1, 256, 128] inb_S1x2x256x128_S1x1x256x128_0_1_0_0))

theorem X1_apply (c : Dev nD) (t : Fin cfg0.N) (R : Fin 32) (n : Fin 256) :
    X1 m c t (ix2 R n) = PreSpec.sco (za m c (sq t) ⟨R.val % 8, by omega⟩) (kk m c (sq t) 1) ⟨4 + R.val / 8, by omega⟩ n := by
  refine (sc53 (fun h s l => PreSpec.qs (za m c (sq t) s) ⟨4 + h.val, by omega⟩ l) _ _ _ _ _
    (fun s l => (pay64_apply _ s l).trans (qs_blk m c t s 4 l 512 (by omega) rfl))
    (fun s l => (pay72_apply _ s l).trans (qs_blk m c t s 5 l 640 (by omega) rfl))
    (fun s l => (pay80_apply _ s l).trans (qs_blk m c t s 6 l 768 (by omega) rfl))
    (fun s l => (pay88_apply _ s l).trans (qs_blk m c t s 7 l 896 (by omega) rfl))
    R n).trans ?_
  refine Eq.trans (Finset.sum_congr rfl fun d _ => congrArg (PreSpec.qs _ _ d * ·) (ldK1 m c t n d)) ?_
  exact PreSpec.sco_eq (za m c (sq t) ⟨R.val % 8, by omega⟩) (kk m c (sq t) 1) _ n

theorem W1_apply (hz : ∀ (c : Dev nD) j, KvSpec.IsReal (ZA m c j)) (hk : ∀ (c : Dev nD) j, KvSpec.IsReal (KC m c j)) (c : Dev nD) (t : Fin cfg0.N) (R : Fin 32) (n : Fin 256) :
    core (fun _ => 1#1) (X1 m c t) (ix2 R n) = PreSpec.wt (za m c (sq t) ⟨R.val % 8, by omega⟩) (kk m c (sq t) 1) ⟨4 + R.val / 8, by omega⟩ n :=
  core_apply _ _ (fun n => PreSpec.sco_real (fun _ => hz c _) (fun _ _ => hk c _) _ n) R (fun n => X1_apply m c t R n) n

theorem O1_apply (hz : ∀ (c : Dev nD) j, KvSpec.IsReal (ZA m c j)) (hk : ∀ (c : Dev nD) j, KvSpec.IsReal (KC m c j)) (c : Dev nD) (t : Fin cfg0.N) (R : Fin 32) (l : Fin 128) :
    k0_pay101 (F := Ideal) (X1 m c t) k0_pay97 k0_pay98 k0_pay99
      (View.ld (Val := Elt Ideal) (e' := .bf16) (iblk m c 10 t) (Rect.unit (s := S1x2x256x128) ![0, 1, 0, 0] ![1, 1, 256, 128] inb_S1x2x256x128_S1x1x256x128_0_1_0_0)) (ix4 0 0 R l)
      = PreSpec.rows (fun q s l => PreSpec.att (za m c (sq t) s) (kk m c (sq t) 1) (vv m c (sq t) 1) q l) 1 R l :=
  (pay101_apply _ _ R l).trans (Finset.sum_congr rfl fun n _ => congrArg₂ (· * ·) (W1_apply m hz hk c t R n) (ldV1 m c t n l))

theorem I1_apply (hz : ∀ (c : Dev nD) j, KvSpec.IsReal (ZA m c j)) (hk : ∀ (c : Dev nD) j, KvSpec.IsReal (KC m c j)) (c : Dev nD) (t : Fin cfg0.N) (s : Fin 8) (n : Fin 256) :
    pick fo fu be (k0_pay102 (F := Ideal) (X1 m c t) k0_pay97 k0_pay98 k0_pay99) (ix2 s n)
      = PreSpec.imp (za m c (sq t) s) (kk m c (sq t) 1) 1 n := by
  rw [pick_apply]
  unfold PreSpec.imp
  refine congrArg (ite _ _) ?_
  rw [pay102_apply]
  refine Finset.sum_congr rfl fun h _ => (W1_apply m hz hk c t _ n).trans ?_
  exact congrArg₂ (fun s q => PreSpec.wt (za m c (sq t) s) (kk m c (sq t) 1) q n) (Fin.ext (by simp only; omega)) (Fin.ext (by simp only; omega))

/-- The attention, of the arguments. -/
def res14 (c : Dev nD) (b : Fin 8) (g : Fin 2) (R : Fin 32) (l : Fin 128) : EReal :=
  PreSpec.rows (fun q s l => PreSpec.att (za m c b s) (kk m c b g) (vv m c b g) q l) g R l
/-- The importances, of the arguments. -/
def res17 (c : Dev nD) (b : Fin 8) (g : Fin 2) (s : Fin 8) (n : Fin 256) : EReal := PreSpec.imp (za m c b s) (kk m c b g) g n

theorem point14 (hz : ∀ (c : Dev nD) j, KvSpec.IsReal (ZA m c j)) (hk : ∀ (c : Dev nD) j, KvSpec.IsReal (KC m c j)) (c : Dev nD) (t : Fin cfg0.N) (g : Fin 2) (R : Fin 32) (l : Fin 128) :
    (outsAt0 m c t).2.2.2.1 (ix4 0 g R l) = res14 m c (sq t) g R l := by
  unfold outsAt0
  frame_out
  fin_cases g
  · rw [View.canon_cons_of_not_mem _ _ (Rect.not_mem_set_of_axis _ _ 1 1 1 rfl rfl rfl (show (0 : ℕ) < 1 ∨ 1 + 1 ≤ 0 by omega))]
    have e : (ix4 0 0 R l : S1x2x32x128.Idx) = (Rect.unit (s := S1x2x32x128) ![0, 0, 0, 0] ![1, 1, 32, 128] inb_S1x2x32x128_S1x1x32x128_0_0_0_0).emb (ix4 0 0 R l) := by
      blk_point
    refine (congrArg _ e).trans ?_
    rw [View.canon_cons_emb]
    exact O0_apply m hz hk c t R l
  · have e : (ix4 0 1 R l : S1x2x32x128.Idx) = (Rect.unit (s := S1x2x32x128) ![0, 1, 0, 0] ![1, 1, 32, 128] inb_S1x2x32x128_S1x1x32x128_0_1_0_0).emb (ix4 0 0 R l) := by
      blk_point
    refine (congrArg _ e).trans ?_
    rw [View.canon_cons_emb]
    exact O1_apply m hz hk c t R l

theorem point17 (hz : ∀ (c : Dev nD) j, KvSpec.IsReal (ZA m c j)) (hk : ∀ (c : Dev nD) j, KvSpec.IsReal (KC m c j)) (c : Dev nD) (t : Fin cfg0.N) (g : Fin 2) (s : Fin 8) (n : Fin 256) :
    (outsAt0 m c t).2.2.2.2.2.2 (ix4 0 g s n) = res17 m c (sq t) g s n := by
  unfold outsAt0
  frame_out
  fin_cases g
  · rw [View.canon_cons_of_not_mem _ _ (Rect.not_mem_set_of_axis _ _ 1 1 1 rfl rfl rfl (show (0 : ℕ) < 1 ∨ 1 + 1 ≤ 0 by omega))]
    have e : (ix4 0 0 s n : S1x2x8x256.Idx) = (Rect.unit (s := S1x2x8x256) ![0, 0, 0, 0] ![1, 1, 8, 256] inb_S1x2x8x256_S1x1x8x256_0_0_0_0).emb (ix4 0 0 s n) := by
      blk_point
    refine (congrArg _ e).trans ?_
    rw [View.canon_cons_emb]
    refine (pay62_apply _ s n).trans ?_
    rw [pay61_eq]
    exact I0_apply m hz hk c t s n
  · have e : (ix4 0 1 s n : S1x2x8x256.Idx) = (Rect.unit (s := S1x2x8x256) ![0, 1, 0, 0] ![1, 1, 8, 256] inb_S1x2x8x256_S1x1x8x256_0_1_0_0).emb (ix4 0 0 s n) := by
      blk_point
    refine (congrArg _ e).trans ?_
    rw [View.canon_cons_emb]
    refine (pay1_apply _ s n).trans ?_
    rw [pay106_eq]
    exact I1_apply m hz hk c t s n

theorem out14 (hz : ∀ (c : Dev nD) j, KvSpec.IsReal (ZA m c j)) (hk : ∀ (c : Dev nD) j, KvSpec.IsReal (KC m c j)) (c : Dev nD) :
    (dats m 0 c).arrAt 14 (cfgs 0).N = fun j : S8x2x32x128.Idx => res14 m c (j 0) (j 1) (j 2) (j 3) := by
  refine (dats m 0 c).arrAt_eq_of_covers 14 _ (by decide +kernel) fun t _ y => ?_
  rw [after0_14]
  obtain ⟨z, g, R, l, rfl⟩ : ∃ (z : Fin 1) (g : Fin 2) (R : Fin 32) (l : Fin 128), y = ix4 z g R l := ⟨y 0, y 1, y 2, y 3, eq_ix4 y⟩
  obtain rfl : z = 0 := Subsingleton.elim _ _
  have e : ((cfg0.win 14).blk t).view.emb (ix4 0 g R l) = (ix4 (sq t) g R l : S8x2x32x128.Idx) := by
    blk_point [idxb t]
  refine Eq.trans ?_ (congrArg (fun j : S8x2x32x128.Idx => res14 m c (j 0) (j 1) (j 2) (j 3)) e.symm)
  have hp := point14 m hz hk c t g R l
  generalize outsAt0 m c t = o at hp ⊢
  exact hp

theorem out17 (hz : ∀ (c : Dev nD) j, KvSpec.IsReal (ZA m c j)) (hk : ∀ (c : Dev nD) j, KvSpec.IsReal (KC m c j)) (c : Dev nD) :
    (dats m 0 c).arrAt 17 (cfgs 0).N = fun j : S8x2x8x256.Idx => res17 m c (j 0) (j 1) (j 2) (j 3) := by
  refine (dats m 0 c).arrAt_eq_of_covers 17 _ (by decide +kernel) fun t _ y => ?_
  rw [after0_17]
  obtain ⟨z, g, s, n, rfl⟩ : ∃ (z : Fin 1) (g : Fin 2) (s : Fin 8) (n : Fin 256), y = ix4 z g s n := ⟨y 0, y 1, y 2, y 3, eq_ix4 y⟩
  obtain rfl : z = 0 := Subsingleton.elim _ _
  have e : ((cfg0.win 17).blk t).view.emb (ix4 0 g s n) = (ix4 (sq t) g s n : S8x2x8x256.Idx) := by
    blk_point [idxb t]
  refine Eq.trans ?_ (congrArg (fun j : S8x2x8x256.Idx => res17 m c (j 0) (j 1) (j 2) (j 3)) e.symm)
  have hp := point17 m hz hk c t g s n
  generalize outsAt0 m c t = o at hp ⊢
  exact hp

end Cert.PreIdeal.Value
-- ==== Proof.PreRun.lean ====
module

public import proofs.«01_k».proof.Proof.PreOut
public import proofs.«01_k».proof.Proof.PreAttOut

@[expose] public section

set_option maxRecDepth 16384

noncomputable section

namespace Cert.PreIdeal.Value

open Cert.PreIdeal Cert.PreIdeal.Gen Idealize.ShloMosaic Idealize.ShloMosaic.TcCoe Idealize.SL.Sem

variable (m : (ℓ : Loc nD τ sig) → Buf (Elt Ideal) ℓ)

/-- What the kernel leaves in its results. -/
theorem run_outs (ρ : Dev nD → PrngReg) :
    θ_run defs (onTc (τ := τ) (main (F := Ideal))) ⟨m, fun _ => 0, ρ⟩ fun r => ∀ c : Dev nD,
      (r.2.mem ((c.tc : Thread nD τ).loc main_v8_0) = (dats m 0 c).arrAt 11 (cfgs 0).N)
      ∧ (r.2.mem ((c.tc : Thread nD τ).loc main_v8_1) = (dats m 0 c).arrAt 12 (cfgs 0).N)
      ∧ (r.2.mem ((c.tc : Thread nD τ).loc main_v8_2) = (dats m 0 c).arrAt 13 (cfgs 0).N)
      ∧ (r.2.mem ((c.tc : Thread nD τ).loc main_v8_3) = (dats m 0 c).arrAt 14 (cfgs 0).N)
      ∧ (r.2.mem ((c.tc : Thread nD τ).loc main_v8_4) = (dats m 0 c).arrAt 15 (cfgs 0).N)
      ∧ (r.2.mem ((c.tc : Thread nD τ).loc main_v8_5) = (dats m 0 c).arrAt 16 (cfgs 0).N)
      ∧ (r.2.mem ((c.tc : Thread nD τ).loc main_v8_6) = (dats m 0 c).arrAt 17 (cfgs 0).N) :=
  (θ_run defs _ _).mono (fun _ h c => ⟨(h c).1 11, (h c).1 12, (h c).1 13, (h c).1 14, (h c).1 15, (h c).1 16, (h c).1 17⟩)
    (run_main m ρ)

end Cert.PreIdeal.Value
-- ==== Proof.KvA.lean ====
module

public import proofs.«01_k».proof.Proof.KvSpec
public import proofs.«01_k».proof.Proof.Gen.KvIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands. -/
theorem idx : ∀ t : Fin cfg0.N, win0_0.index t = ![t.val, 0] ∧ win0_1.index t = ![0, 0]
    ∧ win0_2.index t = ![t.val % 4, 0] ∧ win0_3.index t = ![t.val % 4, 0] ∧ win0_4.index t = ![t.val % 4, 0]
    ∧ win0_5.index t = ![0, 0] ∧ win0_6.index t = ![0, 0] ∧ win0_7.index t = ![t.val / 4, 0, 0] ∧ win0_8.index t = ![t.val, 0]
    ∧ win0_9.index t = ![t.val, 0] ∧ win0_10.index t = ![t.val / 4, 0] ∧ win0_11.index t = ![t.val, 0]
    ∧ win0_12.index t = ![t.val, 0] ∧ win0_13.index t = ![0, 0]
    ∧ t.val < 16 := (by decide +kernel : ∀ t : Fin grid0.N, _)

/-- The prompt's projections. -/
def pz (c : Dev nD) : Fin 4 → Fin 2048 → Fin 6680 → EReal :=
  ProjSpec.z (m ((c : Thread nD τ).loc main_arg0)) (m ((c : Thread nD τ).loc main_arg2)) (m ((c : Thread nD τ).loc main_arg3))

/-- The sample's projections. -/
def sz (c : Dev nD) (r : Fin 64) : Fin 6680 → EReal :=
  ProjSpec.zrow (ProjSpec.srow (m ((c : Thread nD τ).loc main_arg1)) r) (m ((c : Thread nD τ).loc main_arg2)) (m ((c : Thread nD τ).loc main_arg3))

theorem lt16 (t : Fin cfg0.N) : t.val < 16 := (idx t).2.2.2.2.2.2.2.2.2.2.2.2.2.2

/-- The sequence a grid point works on. -/
def bq (t : Fin cfg0.N) : Fin 4 := ⟨t.val / 4, by have := lt16 t; omega⟩

/-- The position in the sequence of a row of a grid point's block. -/
def ps (t : Fin cfg0.N) (r : Fin 512) : Fin 2048 := ⟨t.val % 4 * 512 + r.val, by omega⟩

/-- A block of 512 rows of `w_in` transposed, from column `o` on. -/
def IsW (c : Dev nD) (o : ℕ) (ho : o + 512 ≤ 6680) (w : FVec Ideal S512x2048 .bf16) : Prop :=
  ∀ (i : Fin 512) (k : Fin 2048), w (ix2 i k) = m ((c : Thread nD τ).loc main_arg3) (ix3 0 k ⟨o + i.val, by omega⟩)

/-- The rows of the keys, the values, the memory's queries and its gates. -/
def wts (c : Dev nD) : FVec Ideal S2560x2048 .bf16 := fun j =>
  m ((c : Thread nD τ).loc main_arg3) (ix3 0 (j 1) ⟨4120 + (j 0).val, by have : (j 0).val < 2560 := (j 0).isLt; omega⟩)

theorem V10 (c : Dev nD) (j : Fin 8192) (l : Fin 2048) :
    V m c main_v10 (ix2 j l) = m ((c : Thread nD τ).loc main_arg0) (ix3 ⟨j.val / 2048, by omega⟩ ⟨j.val % 2048, by omega⟩ l) := by
  unfold V
  simp only [hostOps0, hostOps0_1, hostOps0_2, List.flatten_cons, List.flatten_nil, List.cons_append, List.nil_append,
    List.append_nil]
  after_results_simp
  pointwise

theorem V22 (c : Dev nD) (l : Fin 2048) :
    V m c main_v22 (ix2 0 l) = m ((c : Thread nD τ).loc main_arg2) (ix2 0 l) := by
  unfold V
  simp only [hostOps0, hostOps0_1, hostOps0_2, List.flatten_cons, List.flatten_nil, List.cons_append, List.nil_append,
    List.append_nil]
  after_results_simp
  pointwise

theorem V12 (c : Dev nD) (i : Fin 6680) (l : Fin 2048) :
    V m c main_v12 (ix3 0 i l) = m ((c : Thread nD τ).loc main_arg3) (ix3 0 l i) := by
  unfold V
  simp only [hostOps0, hostOps0_1, hostOps0_2, List.flatten_cons, List.flatten_nil, List.cons_append, List.nil_append,
    List.append_nil]
  after_results_simp
  pointwise

abbrev a1 (c : Dev nD) : FVec Ideal S8x4x2048 .f32 := m ((c : Thread nD τ).loc main_arg1)
abbrev a4 (c : Dev nD) : FVec Ideal S1x2x64x128 .f32 := m ((c : Thread nD τ).loc main_arg4)
abbrev a5 (c : Dev nD) : FVec Ideal S2048x16 .f32 := m ((c : Thread nD τ).loc main_arg5)
abbrev a6 (c : Dev nD) : FVec Ideal S2048x16 .f32 := m ((c : Thread nD τ).loc main_arg6)

theorem V21_eq (c : Dev nD) : V m c main_v21 = shapeCast S64x2048 (pad S8x8x2048 ![0, 0, 0] ![0, 4, 0] ![0, 0, 0]
    (a1 m c) (sitofp (F := Ideal) .f32 (constantI S_ 32 0#32)) pads_S8x4x2048_S8x8x2048_000_040_000 h_S_)
      shapeCasts_S8x8x2048_S64x2048 := by
  unfold V
  simp only [hostOps0, hostOps0_1, hostOps0_2, List.flatten_cons, List.flatten_nil, List.cons_append, List.nil_append,
    List.append_nil]
  after_results_simp
  rfl

theorem V15_eq (c : Dev nD) : V m c main_v15 = concatenate S2048x128 1 [⟨S2048x16, a5 m c⟩, ⟨S2048x16, a5 m c⟩,
    ⟨S2048x96, broadcastInDim S2048x96 ![] bcast_S_S2048x96 (constant (F := Ideal) S_ .f32 1065353216#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem V17_eq (c : Dev nD) : V m c main_v17 = concatenate S2048x128 1 [
    ⟨S2048x16, broadcastInDim S2048x16 ![] bcast_S_S2048x16 (constant (F := Ideal) S_ .f32 0#32)⟩, ⟨S2048x16, a6 m c⟩,
    ⟨S2048x96, broadcastInDim S2048x96 ![] bcast_S_S2048x96 (constant (F := Ideal) S_ .f32 0#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem V20_eq (c : Dev nD) : V m c main_v20 = concatenate S2048x128 1 [⟨S2048x16, Host.negf (a6 m c)⟩,
    ⟨S2048x16, broadcastInDim S2048x16 ![] bcast_S_S2048x16 (constant (F := Ideal) S_ .f32 0#32)⟩,
    ⟨S2048x96, broadcastInDim S2048x96 ![] bcast_S_S2048x96 (constant (F := Ideal) S_ .f32 0#32)⟩]
      concatenates_S2048x16_S2048x16_S2048x96_S2048x128_d1 := by
  unfold V
  simp only [hostOps0, hostOps0_1, hostOps0_2, List.flatten_cons, List.flatten_nil, List.cons_append, List.nil_append,
    List.append_nil]
  after_results_simp
  rfl

theorem V9_eq (c : Dev nD) : V m c main_v9 = concatenate S64x512 1 [
    ⟨S64x128, shapeCast S64x128 (extractStridedSlice S1x1x64x128 ![0, 0, 0, 0] (a4 m c) slices_S1x2x64x128_S1x1x64x128_0_0_0_0) shapeCasts_S1x1x64x128_S64x128⟩,
    ⟨S64x128, shapeCast S64x128 (extractStridedSlice S1x1x64x128 ![0, 0, 0, 0] (a4 m c) slices_S1x2x64x128_S1x1x64x128_0_0_0_0) shapeCasts_S1x1x64x128_S64x128⟩,
    ⟨S64x128, shapeCast S64x128 (extractStridedSlice S1x1x64x128 ![0, 1, 0, 0] (a4 m c) slices_S1x2x64x128_S1x1x64x128_0_1_0_0) shapeCasts_S1x1x64x128_S64x128⟩,
    ⟨S64x128, shapeCast S64x128 (extractStridedSlice S1x1x64x128 ![0, 1, 0, 0] (a4 m c) slices_S1x2x64x128_S1x1x64x128_0_1_0_0) shapeCasts_S1x1x64x128_S64x128⟩]
      concatenates_S64x128_S64x128_S64x128_S64x128_S64x512_d1 := by
  unfold V
  simp only [hostOps0, hostOps0_1, hostOps0_2, List.flatten_cons, List.flatten_nil, List.cons_append, List.nil_append,
    List.append_nil]
  after_results_simp
  rfl

theorem sitofp0 : (FloatOps.sitofp (F := Ideal) .f32 (0#32 : BitVec 32)) = (0 : EReal) := by
  change (((0#32 : BitVec 32).toInt : ℝ) : EReal) = 0
  simp

theorem V21 (c : Dev nD) (r : Fin 64) (l : Fin 2048) :
    V m c main_v21 (ix2 r l) = ProjSpec.srow (m ((c : Thread nD τ).loc main_arg1)) r l := by
  rw [V21_eq]
  pointwise [ProjSpec.srow]
  split_ifs <;> first | rfl | omega | simp [sitofp0]

theorem V15 (c : Dev nD) (r : Fin 2048) (l : Fin 128) :
    V m c main_v15 (ix2 r l) = if h : l.val < 16 then a5 m c (ix2 r ⟨l.val, h⟩)
      else if h2 : l.val - 16 < 16 then a5 m c (ix2 r ⟨l.val - 16, h2⟩) else (1 : EReal) := by
  rw [V15_eq]
  pointwise

theorem V17 (c : Dev nD) (r : Fin 2048) (l : Fin 128) :
    V m c main_v17 (ix2 r l) = if h : l.val < 16 then (0 : EReal)
      else if h2 : l.val - 16 < 16 then a6 m c (ix2 r ⟨l.val - 16, h2⟩) else (0 : EReal) := by
  rw [V17_eq]
  pointwise

theorem V20 (c : Dev nD) (r : Fin 2048) (l : Fin 128) :
    V m c main_v20 (ix2 r l) = if h : l.val < 16 then -(show EReal from a6 m c (ix2 r ⟨l.val, h⟩)) else (0 : EReal) := by
  rw [V20_eq]
  pointwise
  split_ifs <;> rfl

theorem V9 (c : Dev nD) (k : Fin 64) (j : Fin 512) :
    V m c main_v9 (ix2 k j) = a4 m c (ix4 0 ⟨j.val / 256, by omega⟩ k ⟨j.val % 128, by omega⟩) := by
  rw [V9_eq]
  pointwise
  split_ifs <;> first
    | omega
    | exact congrArg₂ (fun a b => a4 m c (ix4 0 a k b)) (Fin.ext (by simp; omega)) (Fin.ext (by simp; omega))

theorem xblk (c : Dev nD) (t : Fin cfg0.N) (r : Fin 512) (l : Fin 2048) :
    iblk m c 0 t (ix2 r l) = m ((c : Thread nD τ).loc main_arg0) (ix3 (bq t) (ps t r) l) := by
  trans V m c main_v10 (ix2 ⟨512 * t.val + r.val, by have := lt16 t; omega⟩ l)
  · blk_point [iblk, idx t]
  · rw [V10]
    exact congrArg₂ (fun a b => m ((c : Thread nD τ).loc main_arg0) (ix3 a b l)) (Fin.ext (by simp only [bq]; omega))
      (Fin.ext (by simp only [ps]; omega))

theorem gblk (c : Dev nD) (t : Fin cfg0.N) (l : Fin 2048) :
    iblk m c 1 t (ix2 0 l) = m ((c : Thread nD τ).loc main_arg2) (ix2 0 l) := by
  trans V m c main_v22 (ix2 0 l)
  · blk_point [iblk, idx t]
  · exact V22 m c l

theorem ablk (c : Dev nD) (t : Fin cfg0.N) (k : Fin 64) (j : Fin 512) :
    iblk m c 5 t (ix2 k j) = a4 m c (ix4 0 ⟨j.val / 256, by omega⟩ k ⟨j.val % 128, by omega⟩) := by
  trans V m c main_v9 (ix2 k j)
  · blk_point [iblk, idx t]
  · exact V9 m c k j

theorem mblk (c : Dev nD) (t : Fin cfg0.N) (i : Fin 2048) (l : Fin 128) :
    iblk m c 7 t (ix3 0 i l) = m ((c : Thread nD τ).loc main_arg7) (ix3 (bq t) i l) := by
  trans V m c main_arg7 (ix3 (bq t) i l)
  · blk_point [iblk, idx t, bq]
  · rfl

theorem sblk (c : Dev nD) (t : Fin cfg0.N) (r : Fin 64) (l : Fin 2048) :
    iblk m c 6 t (ix2 r l) = ProjSpec.srow (m ((c : Thread nD τ).loc main_arg1)) r l := by
  trans V m c main_v21 (ix2 r l)
  · blk_point [iblk, idx t]
  · exact V21 m c r l

theorem cos_blk (c : Dev nD) (t : Fin cfg0.N) (r : Fin 512) (l : Fin 128) :
    iblk m c 2 t (ix2 r l) = if h : l.val < 16 then a5 m c (ix2 (ps t r) ⟨l.val, h⟩)
      else if h2 : l.val - 16 < 16 then a5 m c (ix2 (ps t r) ⟨l.val - 16, h2⟩) else (1 : EReal) := by
  trans V m c main_v15 (ix2 (ps t r) l)
  · blk_point [iblk, idx t, ps]
  · exact V15 m c _ l

theorem s1_blk (c : Dev nD) (t : Fin cfg0.N) (r : Fin 512) (l : Fin 128) :
    iblk m c 3 t (ix2 r l) = if h : l.val < 16 then (0 : EReal)
      else if h2 : l.val - 16 < 16 then a6 m c (ix2 (ps t r) ⟨l.val - 16, h2⟩) else (0 : EReal) := by
  trans V m c main_v17 (ix2 (ps t r) l)
  · blk_point [iblk, idx t, ps]
  · exact V17 m c _ l

theorem s2_blk (c : Dev nD) (t : Fin cfg0.N) (r : Fin 512) (l : Fin 128) :
    iblk m c 4 t (ix2 r l) = if h : l.val < 16 then -(show EReal from a6 m c (ix2 (ps t r) ⟨l.val, h⟩)) else (0 : EReal) := by
  trans V m c main_v20 (ix2 (ps t r) l)
  · blk_point [iblk, idx t, ps]
  · exact V20 m c _ l

/-- What a copied chunk of the transposed weights holds. -/
theorem stg (c : Dev nD) (o : ℕ) (ho : o + 512 ≤ 6680) (inb : ∀ a, (![0, o, 0] : Fin 3 → ℕ) a + (![1, 512, 2048] : Fin 3 → ℕ) a ≤ S1x6680x2048.size a)
    (r : Fin 512) (l : Fin 2048) :
    ReadAs.same.apply (View.read (Elt Ideal) ((View.whole main_v12).slice (Rect.unit ![0, o, 0] ![1, 512, 2048] inb)) (V m c main_v12)) (ix3 0 r l)
      = m ((c : Thread nD τ).loc main_arg3) (ix3 0 l ⟨o + r.val, by omega⟩) := by
  trans V m c main_v12 ((Rect.unit (s := S1x6680x2048) ![0, o, 0] ![1, 512, 2048] inb).emb (ix3 0 r l))
  · rfl
  · trans V m c main_v12 (ix3 0 ⟨o + r.val, by omega⟩ l)
    · blk_point
    · exact V12 m c _ l

end Cert.KvIdeal.Value
-- ==== Proof.KvPay.lean ====
module

public import proofs.«01_k».proof.Proof.KvA

@[expose] public section

set_option maxRecDepth 16384

noncomputable section

namespace Cert.KvIdeal.Value

open Cert.KvIdeal Cert.KvIdeal.Gen Idealize.ShloMosaic Idealize.ShloMosaic.TcCoe Idealize.SL.Sem

/-! The stored values, an element at a time. -/

theorem rope3 (x : Fin 128 → EReal) (co si : Fin 16 → EReal) (l : Fin 128) :
    x l * (if h : l.val < 16 then co ⟨l.val, h⟩ else if h2 : l.val - 16 < 16 then co ⟨l.val - 16, h2⟩ else 1)
      + x ⟨(l.val + 128 - 16) % 128, by omega⟩ * (if h : l.val < 16 then 0 else if h2 : l.val - 16 < 16 then si ⟨l.val - 16, h2⟩ else 0)
      + x ⟨(l.val + 128 - 112) % 128, by omega⟩ * (if h : l.val < 16 then -(si ⟨l.val, h⟩) else 0)
    = ProjSpec.rot x co si l := by
  unfold ProjSpec.rot
  by_cases h : l.val < 16
  · rw [dif_pos h, dif_pos h, dif_pos h, dif_pos h, mul_zero, add_zero, mul_neg, sub_eq_add_neg]
    exact congrArg (fun q => _ + -(x q * _)) (Fin.ext (by simp only; omega))
  · rw [dif_neg h, dif_neg h, dif_neg h, dif_neg h, mul_zero, add_zero]
    by_cases h2 : l.val < 32
    · rw [dif_pos (show l.val - 16 < 16 by omega), dif_pos (show l.val - 16 < 16 by omega), dif_pos h2]
      exact congrArg (fun q => _ + x q * _) (Fin.ext (by simp only; omega))
    · rw [dif_neg (show ¬l.val - 16 < 16 by omega), dif_neg (show ¬l.val - 16 < 16 by omega), dif_neg h2, mul_one, mul_zero, add_zero]

section

variable (x w : FVec Ideal S512x2048 .bf16) (v : FVec Ideal S512x512 .f32) (C s1 s2 q q' : FVec Ideal S512x128 .f32)

theorem pay13_apply (x : FVec Ideal S512x2048 .f32) (g : FVec Ideal S1x2048 .f32) (r : Fin 512) (k : Fin 2048) :
    k0_pay13 (F := Ideal) x g (ix2 r k) = OutSpec.normed (fun l => x (ix2 r l)) (fun l => g (ix2 0 l)) k := by
  pointwise [k0_pay13, OutSpec.normed]

theorem pay8_apply (x : FVec Ideal S64x2048 .f32) (g : FVec Ideal S1x2048 .f32) (r : Fin 64) (k : Fin 2048) :
    k0_pay8 (F := Ideal) x g (ix2 r k) = OutSpec.normed (fun l => x (ix2 r l)) (fun l => g (ix2 0 l)) k := by
  pointwise [k0_pay8, OutSpec.normed]

theorem pay2_apply (x : FVec Ideal S64x2048 .bf16) (r : Fin 64) (l : Fin 512) :
    k0_pay2 (F := Ideal) x w (ix2 r l) = ∑ k : Fin 2048, x (ix2 r k) * w (ix2 l k) := by
  pointwise [k0_pay2]

theorem pay9_apply (x : FVec Ideal S64x2048 .f32) (g : FVec Ideal S1x2048 .f32) (r : Fin 64) (l : Fin 512) :
    k0_pay9 (F := Ideal) x g w (ix2 r l) = ∑ k : Fin 2048, k0_pay8 (F := Ideal) x g (ix2 r k) * w (ix2 l k) := by
  pointwise [k0_pay9]

theorem pay10_apply (x : FVec Ideal S64x2048 .f32) (g : FVec Ideal S1x2048 .f32) (r : Fin 64) (l : Fin 512) :
    k0_pay10 (F := Ideal) x g w (ix2 r l) = ∑ k : Fin 2048, k0_pay8 (F := Ideal) x g (ix2 r k) * w (ix2 l k) := by
  pointwise [k0_pay10]

theorem pay11_apply (x : FVec Ideal S64x2048 .f32) (g : FVec Ideal S1x2048 .f32) (r : Fin 64) (l : Fin 512) :
    k0_pay11 (F := Ideal) x g w (ix2 r l) = ∑ k : Fin 2048, k0_pay8 (F := Ideal) x g (ix2 r k) * w (ix2 l k) := by
  pointwise [k0_pay11]

theorem pay12_apply (x : FVec Ideal S64x2048 .f32) (g : FVec Ideal S1x2048 .f32) (r : Fin 64) (l : Fin 512) :
    k0_pay12 (F := Ideal) x g w (ix2 r l) = ∑ k : Fin 2048, k0_pay8 (F := Ideal) x g (ix2 r k) * w (ix2 l k) := by
  pointwise [k0_pay12]

theorem pay14_eq : k0_pay14 (F := Ideal) q = q := by
  funext j; idx_vars j; pointwise [k0_pay14]

theorem pay15_eq : k0_pay15 (F := Ideal) q = q := by
  funext j; idx_vars j; pointwise [k0_pay15]

theorem pay16_eq : k0_pay16 (F := Ideal) q = q := by
  funext j; idx_vars j; pointwise [k0_pay16]

theorem pay17_apply (r l : Fin 512) :
    k0_pay17 (F := Ideal) x w (ix2 r l) = ∑ k : Fin 2048, x (ix2 r k) * w (ix2 l k) := by
  pointwise [k0_pay17]

theorem pay18_apply (r l : Fin 512) :
    k0_pay18 (F := Ideal) x w (ix2 r l) = ∑ k : Fin 2048, x (ix2 r k) * w (ix2 l k) := by
  pointwise [k0_pay18]

theorem pay19_apply (r l : Fin 512) :
    k0_pay19 (F := Ideal) x w (ix2 r l) = ∑ k : Fin 2048, x (ix2 r k) * w (ix2 l k) := by
  pointwise [k0_pay19]

theorem pay44_apply (r l : Fin 512) :
    k0_pay44 (F := Ideal) x w (ix2 r l) = ∑ k : Fin 2048, x (ix2 r k) * w (ix2 l k) := by
  pointwise [k0_pay44]

theorem pay45_apply (r l : Fin 512) :
    k0_pay45 (F := Ideal) x w (ix2 r l) = ∑ k : Fin 2048, x (ix2 r k) * w (ix2 l k) := by
  pointwise [k0_pay45]

/-- A row, times three tables' rows, the second and the third against the row turned round. -/
def turned (y C s1 s2 : Fin 128 → EReal) (l : Fin 128) : EReal :=
  y l * C l + y ⟨(l.val + 128 - 16) % 128, by omega⟩ * s1 l + y ⟨(l.val + 128 - 112) % 128, by omega⟩ * s2 l

/-! The heads: a slice of the projections, the keys of the selected blocks and of the window turned. -/

theorem pay20_apply (r : Fin 512) (l : Fin 128) :
    k0_pay20 (F := Ideal) C s1 s2 x w (ix2 r l)
      = turned (fun l => k0_pay18 (F := Ideal) x w (ix2 r ⟨0 + l.val, by omega⟩)) (fun l => C (ix2 r l)) (fun l => s1 (ix2 r l)) (fun l => s2 (ix2 r l)) l := by
  pointwise [k0_pay20, k0_pay18, turned]

theorem pay21_apply (r : Fin 512) (l : Fin 128) :
    k0_pay21 (F := Ideal) C s1 s2 x w (ix2 r l)
      = turned (fun l => k0_pay19 (F := Ideal) x w (ix2 r ⟨0 + l.val, by omega⟩)) (fun l => C (ix2 r l)) (fun l => s1 (ix2 r l)) (fun l => s2 (ix2 r l)) l := by
  pointwise [k0_pay21, k0_pay19, turned]

theorem pay22_apply (r : Fin 512) (l : Fin 128) :
    k0_pay22 (F := Ideal) x w (ix2 r l) = k0_pay18 (F := Ideal) x w (ix2 r ⟨256 + l.val, by omega⟩) := by
  pointwise [k0_pay22, k0_pay18]

theorem pay23_apply (r : Fin 512) (l : Fin 128) :
    k0_pay23 (F := Ideal) x w (ix2 r l) = k0_pay19 (F := Ideal) x w (ix2 r ⟨256 + l.val, by omega⟩) := by
  pointwise [k0_pay23, k0_pay19]

theorem pay24_apply (r : Fin 512) (l : Fin 128) :
    k0_pay24 (F := Ideal) v (ix2 r l) = v (ix2 r ⟨0 + l.val, by omega⟩) := by
  pointwise [k0_pay24]

theorem pay25_apply (r : Fin 512) (l : Fin 128) :
    k0_pay25 (F := Ideal) v (ix2 r l) = v (ix2 r ⟨256 + l.val, by omega⟩) := by
  pointwise [k0_pay25]

theorem pay26_apply (r : Fin 512) (l : Fin 128) :
    k0_pay26 (F := Ideal) C s1 s2 x w (ix2 r l)
      = turned (fun l => k0_pay18 (F := Ideal) x w (ix2 r ⟨0 + l.val, by omega⟩)) (fun l => C (ix2 r l)) (fun l => s1 (ix2 r l)) (fun l => s2 (ix2 r l)) l := by
  pointwise [k0_pay26, k0_pay20, k0_pay18, turned]

theorem pay27_apply (r : Fin 512) (l : Fin 128) :
    k0_pay27 (F := Ideal) x w (ix2 r l) = k0_pay18 (F := Ideal) x w (ix2 r ⟨256 + l.val, by omega⟩) := by
  pointwise [k0_pay27, k0_pay22, k0_pay18]

theorem pay28_apply (r : Fin 512) (l : Fin 128) :
    k0_pay28 (F := Ideal) C s1 s2 x w (ix2 r l)
      = turned (fun l => k0_pay19 (F := Ideal) x w (ix2 r ⟨0 + l.val, by omega⟩)) (fun l => C (ix2 r l)) (fun l => s1 (ix2 r l)) (fun l => s2 (ix2 r l)) l := by
  pointwise [k0_pay28, k0_pay21, k0_pay19, turned]

theorem pay29_apply (r : Fin 512) (l : Fin 128) :
    k0_pay29 (F := Ideal) x w (ix2 r l) = k0_pay19 (F := Ideal) x w (ix2 r ⟨256 + l.val, by omega⟩) := by
  pointwise [k0_pay29, k0_pay23, k0_pay19]

theorem pay32_apply (r : Fin 512) (l : Fin 128) :
    k0_pay32 (F := Ideal) s1 s2 (k0_pay30 (F := Ideal) x w) (k0_pay31 (F := Ideal) C x w) 16#32 (ix2 r l)
      = turned (fun l => k0_pay18 (F := Ideal) x w (ix2 r ⟨128 + l.val, by omega⟩)) (fun l => C (ix2 r l)) (fun l => s1 (ix2 r l)) (fun l => s2 (ix2 r l)) l := by
  pointwise [k0_pay32, k0_pay30, k0_pay31, k0_pay18, turned]

theorem pay33_apply (r : Fin 512) (l : Fin 128) :
    k0_pay33 (F := Ideal) C s1 s2 v (ix2 r l)
      = turned (fun l => v (ix2 r ⟨128 + l.val, by omega⟩)) (fun l => C (ix2 r l)) (fun l => s1 (ix2 r l)) (fun l => s2 (ix2 r l)) l := by
  pointwise [k0_pay33, turned]

theorem pay34_apply (r : Fin 512) (l : Fin 128) :
    k0_pay34 (F := Ideal) v (ix2 r l) = v (ix2 r ⟨384 + l.val, by omega⟩) := by
  pointwise [k0_pay34]

theorem pay35_apply (r : Fin 512) (l : Fin 128) :
    k0_pay35 (F := Ideal) v (ix2 r l) = v (ix2 r ⟨384 + l.val, by omega⟩) := by
  pointwise [k0_pay35]

theorem pay36_apply (r : Fin 512) (l : Fin 128) :
    k0_pay36 (F := Ideal) s1 s2 (k0_pay30 (F := Ideal) x w) (k0_pay31 (F := Ideal) C x w) 16#32 (ix2 r l)
      = turned (fun l => k0_pay18 (F := Ideal) x w (ix2 r ⟨128 + l.val, by omega⟩)) (fun l => C (ix2 r l)) (fun l => s1 (ix2 r l)) (fun l => s2 (ix2 r l)) l := by
  pointwise [k0_pay36, k0_pay32, k0_pay30, k0_pay31, k0_pay18, turned]

theorem pay37_apply (r : Fin 512) (l : Fin 128) :
    k0_pay37 (F := Ideal) v (ix2 r l) = v (ix2 r ⟨384 + l.val, by omega⟩) := by
  pointwise [k0_pay37, k0_pay34]

theorem pay38_apply (r : Fin 512) (l : Fin 128) :
    k0_pay38 (F := Ideal) C s1 s2 v (ix2 r l)
      = turned (fun l => v (ix2 r ⟨128 + l.val, by omega⟩)) (fun l => C (ix2 r l)) (fun l => s1 (ix2 r l)) (fun l => s2 (ix2 r l)) l := by
  pointwise [k0_pay38, k0_pay33, turned]

theorem pay39_apply (r : Fin 512) (l : Fin 128) :
    k0_pay39 (F := Ideal) v (ix2 r l) = v (ix2 r ⟨384 + l.val, by omega⟩) := by
  pointwise [k0_pay39, k0_pay35]

theorem pay40_apply (v31 v34 : FVec Ideal S512x512 .f32) (v45 v54 v56 v57 v66 v67 : FVec Ideal S512x128 .f32) (R : Fin 4096) (l : Fin 128) :
    k0_pay40 (F := Ideal) s1 s2 v31 v34 v45 v54 v56 v57 v66 v67 16#32 (ix2 R l)
      = if R.val % 8 = 0 then v56 (ix2 ⟨R.val / 8, by omega⟩ l)
        else if R.val % 8 = 1 then v31 (ix2 ⟨R.val / 8, by omega⟩ ⟨128 + l.val, by omega⟩)
        else if R.val % 8 = 2 then v57 (ix2 ⟨R.val / 8, by omega⟩ l)
        else if R.val % 8 = 3 then v31 (ix2 ⟨R.val / 8, by omega⟩ ⟨384 + l.val, by omega⟩)
        else if R.val % 8 = 4 then v45 (ix2 ⟨R.val / 8, by omega⟩ l)
        else if R.val % 8 = 5 then k0_pay32 (F := Ideal) s1 s2 v66 v67 16#32 (ix2 ⟨R.val / 8, by omega⟩ l)
        else if R.val % 8 = 6 then v54 (ix2 ⟨R.val / 8, by omega⟩ l)
        else k0_pay34 (F := Ideal) v34 (ix2 ⟨R.val / 8, by omega⟩ l) := by
  have h : R.val % 8 = 0 ∨ R.val % 8 = 1 ∨ R.val % 8 = 2 ∨ R.val % 8 = 3 ∨ R.val % 8 = 4 ∨ R.val % 8 = 5 ∨ R.val % 8 = 6 ∨ R.val % 8 = 7 := by omega
  generalize e5 : k0_pay32 (F := Ideal) s1 s2 v66 v67 16#32 = w5
  generalize e7 : k0_pay34 (F := Ideal) v34 = w7
  pointwise [k0_pay40, e5, e7]
  rcases h with h | h | h | h | h | h | h | h <;> simp only [h, Nat.reduceSub, Nat.reduceLT, Nat.reduceEqDiff, ↓reduceDIte, ↓reduceIte]

theorem pay42_apply (v37 : FVec Ideal S512x512 .f32) (v53 v55 : FVec Ideal S512x128 .f32) (R : Fin 2048) (l : Fin 128) :
    k0_pay42 (F := Ideal) (k0_pay41 (F := Ideal) C s1 s2 v37 v53 v55) (ix2 R l)
      = if R.val % 4 = 0 then v53 (ix2 ⟨R.val / 4, by omega⟩ l)
        else if R.val % 4 = 1 then k0_pay33 (F := Ideal) C s1 s2 v37 (ix2 ⟨R.val / 4, by omega⟩ l)
        else if R.val % 4 = 2 then v55 (ix2 ⟨R.val / 4, by omega⟩ l)
        else k0_pay35 (F := Ideal) v37 (ix2 ⟨R.val / 4, by omega⟩ l) := by
  have h : R.val % 4 = 0 ∨ R.val % 4 = 1 ∨ R.val % 4 = 2 ∨ R.val % 4 = 3 := by omega
  generalize e1 : k0_pay33 (F := Ideal) C s1 s2 v37 = w1
  generalize e3 : k0_pay35 (F := Ideal) v37 = w3
  pointwise [k0_pay42, k0_pay41, e1, e3]
  rcases h with h | h | h | h <;> simp only [h, Nat.reduceSub, Nat.reduceLT, Nat.reduceEqDiff, ↓reduceDIte, ↓reduceIte]

theorem pay43_apply (a : FVec Ideal S64x512 .f32) (i : Fin 8) (j : Fin 512) :
    k0_pay43 (F := Ideal) v a (ix2 i j) = ∑ k : Fin 64, v (ix2 ⟨i.val * 64 + k.val, by omega⟩ j) * a (ix2 k j) := by
  pointwise [k0_pay43]

/-! The attention over the memory. -/

/-- A row's scores against the memory's keys. -/
def raw (y : Fin 128 → EReal) (K : Fin 256 → Fin 128 → EReal) (k : Fin 256) : EReal := ∑ d : Fin 128, y d * KvSpec.ascale * K k d

/-- The gated quotient. -/
def mix (g : EReal) (s V : Fin 256 → EReal) : EReal :=
  ProjSpec.silu g * Ideal.div (∑ k, KvSpec.ex s k * V k) (∑ k, KvSpec.ex s k)

theorem bot32 : Ideal.ofBits .f32 0xFF800000#32 = ⊥ := by simp [Ideal.ofBits, Ideal.ieee]

variable (h1 : FKind.Formats .f32) (h2 : (0xFF800000#32 : BitVec 32) = FKind.maximumf.neutral .f32 h1) (h3 : (0x00000000#32 : BitVec 32) = FKind.add.neutral .f32 h1)

theorem mxk (S : FVec Ideal S512x256 .f32) (r : Fin 512) :
    multiReduction (F := Ideal) .maximumf [1] S512 S 0xFF800000#32 reduces_S512x256_S512 h1 h2 (ix1 r) = KvSpec.top (fun k => S (ix2 r k)) := by
  refine (Ideal.multiReduction_maximumf_single (s := S512x256) (t := S512) (a := 1) S 0xFF800000#32 reduces_S512x256_S512 h1 h2 (ix1 r)).trans ?_
  unfold KvSpec.top
  have e : S ∘ Shape.Reduces.lift reduces_S512x256_S512 (ix1 r) = fun k : Fin 256 => S (ix2 r k) := by
    funext k
    refine congrArg S (funext fun a => ?_)
    fin_cases a <;> rfl
  rw [e]
  exact congrArg (fun b => Finset.fold max b (fun k : Fin 256 => S (ix2 r k)) Finset.univ) bot32

theorem exk (S : FVec Ideal S512x256 .f32) (r : Fin 512) (k : Fin 256) :
    exp (F := Ideal) (subf S (broadcastTo S512x256 (shapeCast S512x1 (multiReduction .maximumf [1] S512 S 0xFF800000#32 reduces_S512x256_S512 h1 h2) shapeCasts_S512_S512x1) broadcasts_S512x1_S512x256)) (ix2 r k)
      = KvSpec.ex (fun k => S (ix2 r k)) k := by
  unfold KvSpec.ex
  rw [← mxk h1 h2]
  generalize multiReduction (F := Ideal) .maximumf [1] S512 S 0xFF800000#32 reduces_S512x256_S512 h1 h2 = M
  pointwise

theorem quo (g : FVec Ideal S512x128 .f32) (E : FVec Ideal S512x256 .f32) (V : FVec Ideal S256x128 .bf16) (r : Fin 512) (l : Fin 128)
    (g' : EReal) (s V' : Fin 256 → EReal) (hg : g (ix2 r l) = g') (hE : ∀ k, E (ix2 r k) = KvSpec.ex s k) (hV : ∀ k, V (ix2 k l) = V' k) :
    truncf (F := Ideal) .bf16 (mulf (mulf g (logistic g)) (divf (matmul dot_S512x256_S256x128_S512x128_1_0_0_1_n_n none (truncf .bf16 E bitsLt_bf16_f32) V (constant S512x128 .f32 0x00000000#32))
      (broadcastTo S512x128 (shapeCast S512x1 (multiReduction .add [1] S512 E 0x00000000#32 reduces_S512x256_S512 h1 h3) shapeCasts_S512_S512x1) broadcasts_S512x1_S512x128))) bitsLt_bf16_f32 (ix2 r l)
      = mix g' s V' := by
  trans ProjSpec.silu (g (ix2 r l)) * Ideal.div (∑ k : Fin 256, E (ix2 r k) * V (ix2 k l)) (∑ k : Fin 256, E (ix2 r k))
  · pointwise [ProjSpec.silu]
  · rw [hg]
    simp only [hE, hV]
    rfl

theorem pay46_apply (k : Vec Ideal S1x256x128 .f32) (i : Fin 256) (l : Fin 128) : k0_pay46 (F := Ideal) k (ix2 i l) = k (ix3 0 i l) := by
  pointwise [k0_pay46]

theorem pay51_apply (k : Vec Ideal S1x256x128 .f32) (i : Fin 256) (l : Fin 128) : k0_pay51 (F := Ideal) k (ix2 i l) = k (ix3 0 i l) := by
  pointwise [k0_pay51]

theorem pay47_apply (K : Vec Ideal S1x256x128 .f32) (r : Fin 512) (j : Fin 256) :
    k0_pay47 (F := Ideal) x w K (ix2 r j) = KvSpec.ex (raw (fun d => k0_pay44 (F := Ideal) x w (ix2 r ⟨0 + d.val, by omega⟩)) (fun k d => K (ix3 0 k d))) j := by
  unfold k0_pay47
  refine (exk _ _ _ r j).trans ?_
  refine congrArg (fun s => KvSpec.ex s j) (funext fun k => ?_)
  generalize k0_pay44 (F := Ideal) x w = v
  pointwise [raw, KvSpec.ascale]

theorem pay52_apply (K : Vec Ideal S1x256x128 .f32) (r : Fin 512) (j : Fin 256) :
    k0_pay52 (F := Ideal) v K (ix2 r j) = raw (fun d => v (ix2 r ⟨384 + d.val, by omega⟩)) (fun k d => K (ix3 0 k d)) j := by
  pointwise [k0_pay52, raw, KvSpec.ascale]

theorem pay48_apply (g : FVec Ideal S512x512 .f32) (K V : Vec Ideal S1x256x128 .f32) (r : Fin 512) (l : Fin 128) :
    k0_pay48 (F := Ideal) g (k0_pay46 (F := Ideal) V) (k0_pay47 (F := Ideal) x w K) (ix2 r l)
      = mix (g (ix2 r ⟨0 + l.val, by omega⟩)) (raw (fun d => k0_pay44 (F := Ideal) x w (ix2 r ⟨0 + d.val, by omega⟩)) (fun k d => K (ix3 0 k d))) (fun k => V (ix3 0 k l)) := by
  unfold k0_pay48
  refine quo _ _ _ _ _ r l _ _ _ ?_ (fun k => pay47_apply _ _ K r k) (fun k => pay46_apply V k l)
  pointwise

theorem pay1_apply (g : FVec Ideal S512x512 .f32) (K V : Vec Ideal S1x256x128 .f32) (r : Fin 512) (l : Fin 128) :
    k0_pay1 (F := Ideal) g (k0_pay51 (F := Ideal) V) (k0_pay52 (F := Ideal) v K) (ix2 r l)
      = mix (g (ix2 r ⟨384 + l.val, by omega⟩)) (raw (fun d => v (ix2 r ⟨384 + d.val, by omega⟩)) (fun k d => K (ix3 0 k d))) (fun k => V (ix3 0 k l)) := by
  unfold k0_pay1
  refine quo _ _ _ _ _ r l _ _ _ ?_ (fun k => (exk _ _ _ r k).trans (congrArg (fun s => KvSpec.ex s k) (funext fun j => pay52_apply v K r j))) (fun k => pay51_apply V k l)
  pointwise

theorem pay49_apply (g : FVec Ideal S512x512 .f32) (K V : Vec Ideal S1x256x128 .f32) (r : Fin 512) (l : Fin 128) :
    k0_pay49 (F := Ideal) v g K V (ix2 r l)
      = mix (g (ix2 r ⟨128 + l.val, by omega⟩)) (raw (fun d => v (ix2 r ⟨128 + d.val, by omega⟩)) (fun k d => K (ix3 0 k d))) (fun k => V (ix3 0 k l)) := by
  unfold k0_pay49
  refine quo _ _ _ _ _ r l _ _ _ ?_ (fun k => (exk _ _ _ r k).trans (congrArg (fun s => KvSpec.ex s k) (funext fun j => ?_))) (fun k => ?_)
  · pointwise
  · pointwise [raw, KvSpec.ascale]
  · pointwise

theorem pay50_apply (g : FVec Ideal S512x512 .f32) (K V : Vec Ideal S1x256x128 .f32) (r : Fin 512) (l : Fin 128) :
    k0_pay50 (F := Ideal) v g K V (ix2 r l)
      = mix (g (ix2 r ⟨256 + l.val, by omega⟩)) (raw (fun d => v (ix2 r ⟨256 + d.val, by omega⟩)) (fun k d => K (ix3 0 k d))) (fun k => V (ix3 0 k l)) := by
  unfold k0_pay50
  refine quo _ _ _ _ _ r l _ _ _ ?_ (fun k => (exk _ _ _ r k).trans (congrArg (fun s => KvSpec.ex s k) (funext fun j => ?_))) (fun k => ?_)
  · pointwise
  · pointwise [raw, KvSpec.ascale]
  · pointwise

end

/-! The same of a grid point's blocks. -/

variable (m : (ℓ : Loc nD τ sig) → Buf (Elt Ideal) ℓ)

/-- The normed rows of a grid point. -/
abbrev xn (c : Dev nD) (t : Fin cfg0.N) : FVec Ideal S512x2048 .bf16 := k0_pay13 (F := Ideal) (iblk m c 0 t) (iblk m c 1 t)

theorem mm (c : Dev nD) (t : Fin cfg0.N) (o : ℕ) (ho : o + 512 ≤ 6680) (w : FVec Ideal S512x2048 .bf16) (hw : IsW m c o ho w) (r i : Fin 512) :
    ∑ k : Fin 2048, xn m c t (ix2 r k) * w (ix2 i k) = pz m c (bq t) (ps t r) ⟨o + i.val, by omega⟩ := by
  unfold pz ProjSpec.z ProjSpec.zrow
  refine Finset.sum_congr rfl fun k _ => ?_
  refine congrArg₂ (· * ·) ?_ (hw i k)
  refine (pay13_apply _ _ r k).trans ?_
  exact congrArg₂ (fun a b => OutSpec.normed a b k) (funext fun l => xblk m c t r l) (funext fun l => gblk m c t l)

theorem mms (c : Dev nD) (t : Fin cfg0.N) (o : ℕ) (ho : o + 512 ≤ 6680) (w : FVec Ideal S512x2048 .bf16) (hw : IsW m c o ho w) (r : Fin 64) (i : Fin 512) :
    ∑ k : Fin 2048, k0_pay8 (F := Ideal) (iblk m c 6 t) (iblk m c 1 t) (ix2 r k) * w (ix2 i k) = sz m c r ⟨o + i.val, by omega⟩ := by
  unfold sz ProjSpec.zrow
  refine Finset.sum_congr rfl fun k _ => ?_
  refine congrArg₂ (· * ·) ?_ (hw i k)
  refine (pay8_apply _ _ r k).trans ?_
  exact congrArg₂ (fun a b => OutSpec.normed a b k) (funext fun l => sblk m c t r l) (funext fun l => gblk m c t l)

/-- The keys and values of the prompt. -/
abbrev kvs (c : Dev nD) : Fin 4 → Fin 2048 → Fin 12 → Fin 128 → EReal :=
  KvSpec.kv (fun s l => a5 m c (ix2 s l)) (fun s l => a6 m c (ix2 s l)) (pz m c)

/-- A head left as it is. -/
theorem flat_eq (c : Dev nD) (t : Fin cfg0.N) (r : Fin 512) (q : Fin 12) (hq : ¬(q.val = 4 ∨ q.val = 5 ∨ q.val = 8 ∨ q.val = 9)) (l : Fin 128) (y : EReal)
    (hy : y = pz m c (bq t) (ps t r) ⟨4120 + (q.val * 128 + l.val), by omega⟩) : y = kvs m c (bq t) (ps t r) q l := by
  unfold kvs KvSpec.kv
  rw [if_neg hq]
  exact hy

/-- A head turned. -/
theorem turned_eq (c : Dev nD) (t : Fin cfg0.N) (r : Fin 512) (q : Fin 12) (hq : q.val = 4 ∨ q.val = 5 ∨ q.val = 8 ∨ q.val = 9) (y : Fin 128 → EReal)
    (hy : ∀ l : Fin 128, y l = pz m c (bq t) (ps t r) ⟨4120 + (q.val * 128 + l.val), by omega⟩) (l : Fin 128) :
    turned y (fun l => iblk m c 2 t (ix2 r l)) (fun l => iblk m c 3 t (ix2 r l)) (fun l => iblk m c 4 t (ix2 r l)) l
      = kvs m c (bq t) (ps t r) q l := by
  unfold kvs KvSpec.kv turned
  rw [if_pos hq]
  beta_reduce
  rw [cos_blk, s1_blk, s2_blk]
  refine (rope3 y (fun l => a5 m c (ix2 (ps t r) l)) (fun l => a6 m c (ix2 (ps t r) l)) l).trans ?_
  rw [funext hy]
  rfl

/-- The memory's keys and values of a sequence. -/
abbrev mem (c : Dev nD) (b : Fin 4) : Fin 2048 → Fin 128 → EReal := fun i l => m ((c : Thread nD τ).loc main_arg7) (ix3 b i l)

/-- One head's attention, where every number is real. -/
theorem mix_eq (c : Dev nD) (t : Fin cfg0.N) (r : Fin 512) (h : Fin 4) (l : Fin 128) (g : EReal) (y : Fin 128 → EReal) (K : Fin 256 → Fin 128 → EReal) (V : Fin 256 → EReal) (j : Fin 512)
    (hj : j.val = h.val * 128 + l.val)
    (hz : ∀ i, KvSpec.IsReal (pz m c (bq t) (ps t r) i)) (hM : ∀ i d, KvSpec.IsReal (mem m c (bq t) i d))
    (hg : g = pz m c (bq t) (ps t r) ⟨6168 + j.val, by omega⟩)
    (hy : ∀ d : Fin 128, y d = pz m c (bq t) (ps t r) ⟨5656 + (h.val * 128 + d.val), by omega⟩)
    (hK : ∀ k d, K k d = mem m c (bq t) ⟨k.val * 8 + h.val, by omega⟩ d)
    (hV : ∀ k : Fin 256, V k = mem m c (bq t) ⟨k.val * 8 + (4 + h.val), by omega⟩ l) :
    mix g (raw y K) V = KvSpec.ym (pz m c (bq t) (ps t r)) (mem m c (bq t)) j := by
  have e1 : (⟨j.val / 128, by omega⟩ : Fin 4) = h := Fin.ext (by simp only; omega)
  have e2 : (⟨j.val % 128, by omega⟩ : Fin 128) = l := Fin.ext (by simp only; omega)
  have es : raw y K = KvSpec.score (pz m c (bq t) (ps t r)) (mem m c (bq t)) h := by
    funext k
    unfold raw
    simp only [hy, hK]
    exact KvSpec.score_eq _ _ h k
  unfold mix KvSpec.ym
  rw [es, KvSpec.soft_eq (fun k => KvSpec.score_real hz hM h k), hg, e1, e2]
  refine congrArg (fun v => _ * KvSpec.soft _ v) (funext fun k => ?_)
  rw [hV]
  exact congrArg (fun q => mem m c (bq t) q l) (Fin.ext (by simp only; omega))

end Cert.KvIdeal.Value
-- ==== Proof.KvPre.lean ====
module

public import proofs.«01_k».proof.Defs
public import proofs.«01_k».proof.Proof.KvPay
public import proofs.«01_k».proof.Proof.KvSpec

/-! Finite arguments: the memory's entries and the prompt's projections are real numbers. -/

@[expose] public section

set_option maxRecDepth 16384

noncomputable section

namespace Cert.KvIdeal.Value

open Cert.KvIdeal Cert.KvIdeal.Gen Idealize.ShloMosaic Idealize.ShloMosaic.TcCoe Idealize.SL.Sem

theorem inf_eq : Ideal.ofBits .f32 0x7F800000#32 = ⊤ := by simp [Ideal.ofBits, Ideal.ieee]

/-- A number whose absolute value is compared below infinity is real. -/
theorem real_of_lt {x : EReal} (h : Ideal.cmp .olt (max x (-x)) (Ideal.ofBits .f32 0x7F800000#32) = 1#1) : KvSpec.IsReal x := by
  refine KvSpec.real_of_abs ?_
  rw [inf_eq] at h
  by_contra hn
  simp [Ideal.cmp, hn] at h

variable (m : (ℓ : Loc nD τ sig) → Buf (Elt Ideal) ℓ)

section
variable [hPre_finite_args : Cert.Pre_finite_args.Facts]

theorem real_args (h : Cert.Pre_KvIdeal_finite_args m) (c : Dev nD) :
    (∀ j, KvSpec.IsReal (m ((c : Thread nD τ).loc main_arg0) j)) ∧ (∀ j, KvSpec.IsReal (m ((c : Thread nD τ).loc main_arg2) j))
    ∧ (∀ j, KvSpec.IsReal (m ((c : Thread nD τ).loc main_arg3) j)) ∧ (∀ j, KvSpec.IsReal (m ((c : Thread nD τ).loc main_arg7) j)) :=
  ⟨fun j => real_of_lt (congrFun (h c).1 j), fun j => real_of_lt (congrFun (h c).2.1 j),
    fun j => real_of_lt (congrFun (h c).2.2.1 j), fun j => real_of_lt (congrFun (h c).2.2.2 j)⟩

theorem real_mem (h : Cert.Pre_KvIdeal_finite_args m) (c : Dev nD) (b : Fin 4) (i : Fin 2048) (d : Fin 128) : KvSpec.IsReal (mem m c b i d) :=
  (real_args m h c).2.2.2 _

theorem real_pz (h : Cert.Pre_KvIdeal_finite_args m) (c : Dev nD) (b : Fin 4) (s : Fin 2048) (i : Fin 6680) : KvSpec.IsReal (pz m c b s i) := by
  obtain ⟨h0, h2, h3, _⟩ := real_args m h c
  unfold pz ProjSpec.z ProjSpec.zrow
  exact KvSpec.IsReal.sum _ fun k => KvSpec.IsReal.mul (KvSpec.normed_real (fun _ => h0 _) (fun _ => h2 _) k) (h3 _)

end

end Cert.KvIdeal.Value
-- ==== Proof.PrePre.lean ====
module

public import proofs.«01_k».proof.Proof.KvPre
public import proofs.«01_k».proof.Proof.PreB

/-! Finite arguments: the sample's first projections and the pooled keys are real numbers. -/

@[expose] public section

set_option maxRecDepth 16384

noncomputable section

namespace Cert.PreIdeal.Value

open Cert.PreIdeal Cert.PreIdeal.Gen Idealize.ShloMosaic Idealize.ShloMosaic.TcCoe Idealize.SL.Sem

variable (m : (ℓ : Loc nD τ sig) → Buf (Elt Ideal) ℓ)

section
variable [hPre_finite_sample : Cert.Pre_finite_sample.Facts]

theorem real_za (h : Cert.Pre_PreIdeal_finite_sample m) (c : Dev nD) (j : S8x8x4096.Idx) : KvSpec.IsReal (ZA m c j) :=
  Cert.KvIdeal.Value.real_of_lt (congrFun (h c).1 j)

theorem real_kc (h : Cert.Pre_PreIdeal_finite_sample m) (c : Dev nD) (j : S8x2x256x128.Idx) : KvSpec.IsReal (KC m c j) :=
  Cert.KvIdeal.Value.real_of_lt (congrFun (h c).2 j)

end

end Cert.PreIdeal.Value
-- ==== Proof.PreRefA.lean ====
module

public import proofs.«01_k».proof.Proof.PreSpec
public import proofs.«01_k».proof.Proof.Gen.PreRefIdeal.Run
public import Idealize.ShloMosaic.Lib.Pointwise
public import Idealize.ShloMosaic.Lib.Claim

/-! The reference's new rows of the cache and of the window, a head at a time. -/

@[expose] public section

set_option maxRecDepth 16384

noncomputable section

namespace Cert.PreRefIdeal.Value

open Cert.PreRefIdeal Cert.PreRefIdeal.Gen Idealize.ShloMosaic Idealize.ShloMosaic.TcCoe Idealize.SL.Sem

section

variable (Z : FVec Ideal S8x8x2560 .f32) (A3 A4 : FVec Ideal S8x16 .f32)

/-- The two heads of part 0 of the keys and values. -/
def P0 : FVec Ideal S8x8x2x128 .f32 :=
  shapeCast _ (extractStridedSlice S8x8x1x2x128 ![0, 0, 0, 0, 0] (shapeCast _ (extractStridedSlice S8x8x1536 ![0, 0, 0] Z slices_S8x8x2560_S8x8x1536_0_0_0) shapeCasts_S8x8x1536_S8x8x6x2x128) slices_S8x8x6x2x128_S8x8x1x2x128_0_0_0_0_0) shapeCasts_S8x8x1x2x128_S8x8x2x128

theorem P0_apply (b s : Fin 8) (g : Fin 2) (l : Fin 128) :
    P0 Z (ix4 b s g l) = Z (ix3 b s ⟨(0 + g.val) * 128 + l.val, by omega⟩) := by
  pointwise [P0]
  first | done | exact congrArg (fun n => Z (ix3 b s n)) (Fin.ext (by simp only; omega))

/-- The two heads of part 1 of the keys and values. -/
def P1 : FVec Ideal S8x8x2x128 .f32 :=
  shapeCast _ (extractStridedSlice S8x8x1x2x128 ![0, 0, 1, 0, 0] (shapeCast _ (extractStridedSlice S8x8x1536 ![0, 0, 0] Z slices_S8x8x2560_S8x8x1536_0_0_0) shapeCasts_S8x8x1536_S8x8x6x2x128) slices_S8x8x6x2x128_S8x8x1x2x128_0_0_1_0_0) shapeCasts_S8x8x1x2x128_S8x8x2x128

theorem P1_apply (b s : Fin 8) (g : Fin 2) (l : Fin 128) :
    P1 Z (ix4 b s g l) = Z (ix3 b s ⟨(2 + g.val) * 128 + l.val, by omega⟩) := by
  pointwise [P1]
  first | done | exact congrArg (fun n => Z (ix3 b s n)) (Fin.ext (by simp only; omega))

/-- The two heads of part 2 of the keys and values. -/
def P2 : FVec Ideal S8x8x2x128 .f32 :=
  shapeCast _ (extractStridedSlice S8x8x1x2x128 ![0, 0, 2, 0, 0] (shapeCast _ (extractStridedSlice S8x8x1536 ![0, 0, 0] Z slices_S8x8x2560_S8x8x1536_0_0_0) shapeCasts_S8x8x1536_S8x8x6x2x128) slices_S8x8x6x2x128_S8x8x1x2x128_0_0_2_0_0) shapeCasts_S8x8x1x2x128_S8x8x2x128

theorem P2_apply (b s : Fin 8) (g : Fin 2) (l : Fin 128) :
    P2 Z (ix4 b s g l) = Z (ix3 b s ⟨(4 + g.val) * 128 + l.val, by omega⟩) := by
  pointwise [P2]
  first | done | exact congrArg (fun n => Z (ix3 b s n)) (Fin.ext (by simp only; omega))

/-- The two heads of part 3 of the keys and values. -/
def P3 : FVec Ideal S8x8x2x128 .f32 :=
  shapeCast _ (extractStridedSlice S8x8x1x2x128 ![0, 0, 3, 0, 0] (shapeCast _ (extractStridedSlice S8x8x1536 ![0, 0, 0] Z slices_S8x8x2560_S8x8x1536_0_0_0) shapeCasts_S8x8x1536_S8x8x6x2x128) slices_S8x8x6x2x128_S8x8x1x2x128_0_0_3_0_0) shapeCasts_S8x8x1x2x128_S8x8x2x128

theorem P3_apply (b s : Fin 8) (g : Fin 2) (l : Fin 128) :
    P3 Z (ix4 b s g l) = Z (ix3 b s ⟨(6 + g.val) * 128 + l.val, by omega⟩) := by
  pointwise [P3]
  first | done | exact congrArg (fun n => Z (ix3 b s n)) (Fin.ext (by simp only; omega))

/-- The two heads of part 4 of the keys and values. -/
def P4 : FVec Ideal S8x8x2x128 .f32 :=
  shapeCast _ (extractStridedSlice S8x8x1x2x128 ![0, 0, 4, 0, 0] (shapeCast _ (extractStridedSlice S8x8x1536 ![0, 0, 0] Z slices_S8x8x2560_S8x8x1536_0_0_0) shapeCasts_S8x8x1536_S8x8x6x2x128) slices_S8x8x6x2x128_S8x8x1x2x128_0_0_4_0_0) shapeCasts_S8x8x1x2x128_S8x8x2x128

theorem P4_apply (b s : Fin 8) (g : Fin 2) (l : Fin 128) :
    P4 Z (ix4 b s g l) = Z (ix3 b s ⟨(8 + g.val) * 128 + l.val, by omega⟩) := by
  pointwise [P4]
  first | done | exact congrArg (fun n => Z (ix3 b s n)) (Fin.ext (by simp only; omega))

/-- The two heads of part 5 of the keys and values. -/
def P5 : FVec Ideal S8x8x2x128 .f32 :=
  shapeCast _ (extractStridedSlice S8x8x1x2x128 ![0, 0, 5, 0, 0] (shapeCast _ (extractStridedSlice S8x8x1536 ![0, 0, 0] Z slices_S8x8x2560_S8x8x1536_0_0_0) shapeCasts_S8x8x1536_S8x8x6x2x128) slices_S8x8x6x2x128_S8x8x1x2x128_0_0_5_0_0) shapeCasts_S8x8x1x2x128_S8x8x2x128

theorem P5_apply (b s : Fin 8) (g : Fin 2) (l : Fin 128) :
    P5 Z (ix4 b s g l) = Z (ix3 b s ⟨(10 + g.val) * 128 + l.val, by omega⟩) := by
  pointwise [P5]
  first | done | exact congrArg (fun n => Z (ix3 b s n)) (Fin.ext (by simp only; omega))

/-- A pair of heads rotated. -/
def rp (P : FVec Ideal S8x8x2x128 .f32) (A3 A4 : FVec Ideal S8x16 .f32) : FVec Ideal S8x8x2x128 .f32 :=
  (concatenate S8x8x2x128 3 [⟨S8x8x2x16, ((subf (mulf (extractStridedSlice S8x8x2x16 ![0, 0, 0, 0] P slices_S8x8x2x128_S8x8x2x16_0_0_0_0) (broadcastInDim S8x8x2x16 ![0, 1, 2, 3] bcast_S1x8x1x16_S8x8x2x16_0_1_2_3 (broadcastInDim S1x8x1x16 ![1, 2, 3] bcast_S8x1x16_S1x8x1x16_1_2_3 (broadcastInDim S8x1x16 ![0, 2] bcast_S8x16_S8x1x16_0_2 A3)))) (mulf (extractStridedSlice S8x8x2x16 ![0, 0, 0, 16] P slices_S8x8x2x128_S8x8x2x16_0_0_0_16) (broadcastInDim S8x8x2x16 ![0, 1, 2, 3] bcast_S1x8x1x16_S8x8x2x16_0_1_2_3 (broadcastInDim S1x8x1x16 ![1, 2, 3] bcast_S8x1x16_S1x8x1x16_1_2_3 (broadcastInDim S8x1x16 ![0, 2] bcast_S8x16_S8x1x16_0_2 A4))))) : (⟨S8x8x2x16, .f32⟩ : BufTy).Contents (Elt Ideal))⟩, ⟨S8x8x2x16, ((addf (mulf (extractStridedSlice S8x8x2x16 ![0, 0, 0, 16] P slices_S8x8x2x128_S8x8x2x16_0_0_0_16) (broadcastInDim S8x8x2x16 ![0, 1, 2, 3] bcast_S1x8x1x16_S8x8x2x16_0_1_2_3 (broadcastInDim S1x8x1x16 ![1, 2, 3] bcast_S8x1x16_S1x8x1x16_1_2_3 (broadcastInDim S8x1x16 ![0, 2] bcast_S8x16_S8x1x16_0_2 A3)))) (mulf (extractStridedSlice S8x8x2x16 ![0, 0, 0, 0] P slices_S8x8x2x128_S8x8x2x16_0_0_0_0) (broadcastInDim S8x8x2x16 ![0, 1, 2, 3] bcast_S1x8x1x16_S8x8x2x16_0_1_2_3 (broadcastInDim S1x8x1x16 ![1, 2, 3] bcast_S8x1x16_S1x8x1x16_1_2_3 (broadcastInDim S8x1x16 ![0, 2] bcast_S8x16_S8x1x16_0_2 A4))))) : (⟨S8x8x2x16, .f32⟩ : BufTy).Contents (Elt Ideal))⟩, ⟨S8x8x2x96, ((extractStridedSlice S8x8x2x96 ![0, 0, 0, 32] P slices_S8x8x2x128_S8x8x2x96_0_0_0_32) : (⟨S8x8x2x96, .f32⟩ : BufTy).Contents (Elt Ideal))⟩] concatenates_S8x8x2x16_S8x8x2x16_S8x8x2x96_S8x8x2x128_d3 : (⟨S8x8x2x128, .f32⟩ : BufTy).Contents (Elt Ideal))

theorem rp_apply (P : FVec Ideal S8x8x2x128 .f32) (b s : Fin 8) (g : Fin 2) (l : Fin 128) :
    rp P A3 A4 (ix4 b s g l) = ProjSpec.rot (fun l => P (ix4 b s g l)) (fun l => A3 (ix2 s l)) (fun l => A4 (ix2 s l)) l := by
  pointwise [rp]
  exact ProjSpec.rot_form (fun l => P (ix4 b s g l)) (fun l => A3 (ix2 s l)) (fun l => A4 (ix2 s l)) l

/-- Four pairs of heads at a position. -/
def cat4 (X0 X1 X2 X3 : FVec Ideal S8x8x2x128 .f32) : FVec Ideal S8x8x4x2x128 .f32 :=
  (concatenate S8x8x4x2x128 2 [⟨S8x8x1x2x128, ((broadcastInDim S8x8x1x2x128 ![0, 1, 3, 4] bcast_S8x8x2x128_S8x8x1x2x128_0_1_3_4 X0) : (⟨S8x8x1x2x128, .f32⟩ : BufTy).Contents (Elt Ideal))⟩, ⟨S8x8x1x2x128, ((broadcastInDim S8x8x1x2x128 ![0, 1, 3, 4] bcast_S8x8x2x128_S8x8x1x2x128_0_1_3_4 X1) : (⟨S8x8x1x2x128, .f32⟩ : BufTy).Contents (Elt Ideal))⟩, ⟨S8x8x1x2x128, ((broadcastInDim S8x8x1x2x128 ![0, 1, 3, 4] bcast_S8x8x2x128_S8x8x1x2x128_0_1_3_4 X2) : (⟨S8x8x1x2x128, .f32⟩ : BufTy).Contents (Elt Ideal))⟩, ⟨S8x8x1x2x128, ((broadcastInDim S8x8x1x2x128 ![0, 1, 3, 4] bcast_S8x8x2x128_S8x8x1x2x128_0_1_3_4 X3) : (⟨S8x8x1x2x128, .f32⟩ : BufTy).Contents (Elt Ideal))⟩] concatenates_S8x8x1x2x128_S8x8x1x2x128_S8x8x1x2x128_S8x8x1x2x128_S8x8x4x2x128_d2 : (⟨S8x8x4x2x128, .f32⟩ : BufTy).Contents (Elt Ideal))

theorem cat4_apply (X0 X1 X2 X3 : FVec Ideal S8x8x2x128 .f32) (b s : Fin 8) (i : Fin 4) (g : Fin 2) (l : Fin 128) :
    cat4 X0 X1 X2 X3 (ix5 b s i g l) = (if i.val < 1 then X0 else if i.val < 2 then X1 else if i.val < 3 then X2 else X3) (ix4 b s g l) := by
  pointwise [cat4]
  fin_vals i with hi
  all_goals simp only [hi, Nat.reduceSub, Nat.reduceLT, ↓reduceDIte, ↓reduceIte]

/-- Two pairs of heads at a position. -/
def cat2 (X0 X1 : FVec Ideal S8x8x2x128 .f32) : FVec Ideal S8x8x2x2x128 .f32 :=
  (concatenate S8x8x2x2x128 2 [⟨S8x8x1x2x128, (broadcastInDim S8x8x1x2x128 ![0, 1, 3, 4] bcast_S8x8x2x128_S8x8x1x2x128_0_1_3_4 X0)⟩, ⟨S8x8x1x2x128, (broadcastInDim S8x8x1x2x128 ![0, 1, 3, 4] bcast_S8x8x2x128_S8x8x1x2x128_0_1_3_4 X1)⟩] concatenates_S8x8x1x2x128_S8x8x1x2x128_S8x8x2x2x128_d2)

theorem cat2_apply (X0 X1 : FVec Ideal S8x8x2x128 .f32) (b s : Fin 8) (i g : Fin 2) (l : Fin 128) :
    cat2 X0 X1 (ix5 b s i g l) = (if i.val < 1 then X0 else X1) (ix4 b s g l) := by
  pointwise [cat2]
  fin_vals i with hi
  all_goals simp only [hi, Nat.reduceSub, Nat.reduceLT, ↓reduceDIte, ↓reduceIte]

/-- The heads of a row, of the projections and the tables. -/
abbrev hd (b s : Fin 8) : Fin 12 → Fin 128 → EReal :=
  PreSpec.kv (fun n => Z (ix3 b s n)) (fun l => A3 (ix2 s l)) (fun l => A4 (ix2 s l))

theorem hd_col (b s : Fin 8) (q : Fin 12) (l : Fin 128) (n : Fin 2560) (e : n.val = q.val * 128 + l.val)
    (h : ¬(q.val = 4 ∨ q.val = 5 ∨ q.val = 8 ∨ q.val = 9)) : Z (ix3 b s n) = hd Z A3 A4 b s q l :=
  PreSpec.kv_plain (fun n => Z (ix3 b s n)) _ _ q l n e h

theorem hd_rot (P : FVec Ideal S8x8x2x128 .f32) (b s : Fin 8) (g : Fin 2) (q : Fin 12) (l : Fin 128)
    (hP : ∀ l : Fin 128, P (ix4 b s g l) = Z (ix3 b s ⟨q.val * 128 + l.val, by omega⟩)) (h : q.val = 4 ∨ q.val = 5 ∨ q.val = 8 ∨ q.val = 9) :
    rp P A3 A4 (ix4 b s g l) = hd Z A3 A4 b s q l :=
  (rp_apply A3 A4 P b s g l).trans (PreSpec.kv_rot (fun n => Z (ix3 b s n)) _ _ q l _ hP h)

theorem kcat (b s : Fin 8) (i : Fin 4) (g : Fin 2) (l : Fin 128) :
    cat4 (P0 Z) (P1 Z) (rp (P2 Z) A3 A4) (P3 Z) (ix5 b s i g l) = hd Z A3 A4 b s ⟨2 * i.val + g.val, by omega⟩ l := by
  rw [cat4_apply]
  split_ifs with h1 h2 h3
  · exact (P0_apply Z b s g l).trans (hd_col Z A3 A4 b s _ _ _ (by simp only; omega) (by simp only; omega))
  · exact (P1_apply Z b s g l).trans (hd_col Z A3 A4 b s _ _ _ (by simp only; omega) (by simp only; omega))
  · exact hd_rot Z A3 A4 _ b s g _ l (fun l => (P2_apply Z b s g l).trans (congrArg (fun n => Z (ix3 b s n)) (Fin.ext (by simp only; omega)))) (by simp only; omega)
  · exact (P3_apply Z b s g l).trans (hd_col Z A3 A4 b s _ _ _ (by simp only; omega) (by simp only; omega))

theorem wcat (b s : Fin 8) (i g : Fin 2) (l : Fin 128) :
    cat2 (rp (P4 Z) A3 A4) (P5 Z) (ix5 b s i g l) = hd Z A3 A4 b s ⟨8 + 2 * i.val + g.val, by omega⟩ l := by
  rw [cat2_apply]
  split_ifs with h1
  · exact hd_rot Z A3 A4 _ b s g _ l (fun l => (P4_apply Z b s g l).trans (congrArg (fun n => Z (ix3 b s n)) (Fin.ext (by simp only; omega)))) (by simp only; omega)
  · exact (P5_apply Z b s g l).trans (hd_col Z A3 A4 b s _ _ _ (by simp only; omega) (by simp only; omega))

theorem r4 (X : FVec Ideal S8x8x4x2x128 .f32) (b s : Fin 8) (j : Fin 1024) :
    shapeCast S8x8x1024 X shapeCasts_S8x8x4x2x128_S8x8x1024 (ix3 b s j) = X (ix5 b s ⟨j.val / 256, by omega⟩ ⟨j.val / 128 % 2, by omega⟩ ⟨j.val % 128, by omega⟩) := by
  pointwise
  first | done | (congr 1; done)

theorem r2 (X : FVec Ideal S8x8x2x2x128 .f32) (b s : Fin 8) (j : Fin 512) :
    shapeCast S8x8x512 X shapeCasts_S8x8x2x2x128_S8x8x512 (ix3 b s j) = X (ix5 b s ⟨j.val / 256, by omega⟩ ⟨j.val / 128 % 2, by omega⟩ ⟨j.val % 128, by omega⟩) := by
  pointwise
  first | done | (congr 1; done)

theorem cache_eq (b s : Fin 8) (j : Fin 1024) :
    shapeCast S8x8x1024 (cat4 (P0 Z) (P1 Z) (rp (P2 Z) A3 A4) (P3 Z)) shapeCasts_S8x8x4x2x128_S8x8x1024 (ix3 b s j)
      = PreSpec.cache (fun n => Z (ix3 b s n)) (fun l => A3 (ix2 s l)) (fun l => A4 (ix2 s l)) j := by
  rw [r4, kcat]
  exact congrArg (fun q => hd Z A3 A4 b s q _) (Fin.ext (by simp only; omega))

theorem win_eq (b s : Fin 8) (j : Fin 512) :
    shapeCast S8x8x512 (cat2 (rp (P4 Z) A3 A4) (P5 Z)) shapeCasts_S8x8x2x2x128_S8x8x512 (ix3 b s j)
      = PreSpec.win (fun n => Z (ix3 b s n)) (fun l => A3 (ix2 s l)) (fun l => A4 (ix2 s l)) j := by
  rw [r2, wcat]
  exact congrArg (fun q => hd Z A3 A4 b s q _) (Fin.ext (by simp only; omega))

end

end Cert.PreRefIdeal.Value
-- ==== Proof.PreRef.lean ====
module

public import proofs.«01_k».proof.Proof.PreRefA

/-! The reference's queries and gates. -/

@[expose] public section

set_option maxRecDepth 16384

noncomputable section

namespace Cert.PreRefIdeal.Value

open Cert.PreRefIdeal Cert.PreRefIdeal.Gen Idealize.ShloMosaic Idealize.ShloMosaic.TcCoe Idealize.SL.Sem

section

variable (Z : FVec Ideal S8x8x4096 .f32) (W : FVec Ideal S8x8x128 .f32) (A3 A4 : FVec Ideal S8x16 .f32)

/-- Rows by head and position, head groups apart. -/
theorem rows_apply (X : FVec Ideal S8x8x2x4x128 .f32) (f : Fin 8 → Fin 8 → Fin 128 → EReal) (b : Fin 8) (g : Fin 2) (R : Fin 32) (l : Fin 128)
    (hX : ∀ (s : Fin 8) (g : Fin 2) (h : Fin 4) (l : Fin 128), X (ix5 b s g h l) = f ⟨4 * g.val + h.val, by omega⟩ s l) :
    shapeCast S8x2x32x128 (transpose S8x2x4x8x128 [0, 2, 3, 1, 4] X transposes_S8x8x2x4x128_S8x2x4x8x128_0_2_3_1_4) shapeCasts_S8x2x4x8x128_S8x2x32x128 (ix4 b g R l)
      = PreSpec.rows f g R l := by
  trans X (ix5 b ⟨R.val % 8, by omega⟩ g ⟨R.val / 8, by omega⟩ l)
  · pointwise
    first | done | (congr 1; done)
  · exact hX _ _ _ _

/-- The queries, a head at a time. -/
abbrev Qh : FVec Ideal S8x8x8x128 .f32 :=
  shapeCast _ (extractStridedSlice S8x8x1024 ![0, 0, 2048] Z slices_S8x8x4096_S8x8x1024_0_0_2048) shapeCasts_S8x8x1024_S8x8x8x128

theorem Qh_apply (b s q : Fin 8) (l : Fin 128) : Qh Z (ix4 b s q l) = PreSpec.qrow (fun n => Z (ix3 b s n)) q l := by
  pointwise [PreSpec.qrow]
  first | done | exact congrArg (fun n => Z (ix3 b s n)) (Fin.ext (by simp only; omega))

/-- Eight heads rotated. -/
def rq (P : FVec Ideal S8x8x8x128 .f32) : FVec Ideal S8x8x8x128 .f32 :=
  concatenate S8x8x8x128 3 [⟨S8x8x8x16, ((subf (mulf (extractStridedSlice S8x8x8x16 ![0, 0, 0, 0] P slices_S8x8x8x128_S8x8x8x16_0_0_0_0) (broadcastInDim S8x8x8x16 ![0, 1, 2, 3] bcast_S1x8x1x16_S8x8x8x16_0_1_2_3 (broadcastInDim S1x8x1x16 ![1, 2, 3] bcast_S8x1x16_S1x8x1x16_1_2_3 (broadcastInDim S8x1x16 ![0, 2] bcast_S8x16_S8x1x16_0_2 A3)))) (mulf (extractStridedSlice S8x8x8x16 ![0, 0, 0, 16] P slices_S8x8x8x128_S8x8x8x16_0_0_0_16) (broadcastInDim S8x8x8x16 ![0, 1, 2, 3] bcast_S1x8x1x16_S8x8x8x16_0_1_2_3 (broadcastInDim S1x8x1x16 ![1, 2, 3] bcast_S8x1x16_S1x8x1x16_1_2_3 (broadcastInDim S8x1x16 ![0, 2] bcast_S8x16_S8x1x16_0_2 A4))))) : (⟨S8x8x8x16, .f32⟩ : BufTy).Contents (Elt Ideal))⟩,
    ⟨S8x8x8x16, ((addf (mulf (extractStridedSlice S8x8x8x16 ![0, 0, 0, 16] P slices_S8x8x8x128_S8x8x8x16_0_0_0_16) (broadcastInDim S8x8x8x16 ![0, 1, 2, 3] bcast_S1x8x1x16_S8x8x8x16_0_1_2_3 (broadcastInDim S1x8x1x16 ![1, 2, 3] bcast_S8x1x16_S1x8x1x16_1_2_3 (broadcastInDim S8x1x16 ![0, 2] bcast_S8x16_S8x1x16_0_2 A3)))) (mulf (extractStridedSlice S8x8x8x16 ![0, 0, 0, 0] P slices_S8x8x8x128_S8x8x8x16_0_0_0_0) (broadcastInDim S8x8x8x16 ![0, 1, 2, 3] bcast_S1x8x1x16_S8x8x8x16_0_1_2_3 (broadcastInDim S1x8x1x16 ![1, 2, 3] bcast_S8x1x16_S1x8x1x16_1_2_3 (broadcastInDim S8x1x16 ![0, 2] bcast_S8x16_S8x1x16_0_2 A4))))) : (⟨S8x8x8x16, .f32⟩ : BufTy).Contents (Elt Ideal))⟩,
    ⟨S8x8x8x96, ((extractStridedSlice S8x8x8x96 ![0, 0, 0, 32] P slices_S8x8x8x128_S8x8x8x96_0_0_0_32) : (⟨S8x8x8x96, .f32⟩ : BufTy).Contents (Elt Ideal))⟩] concatenates_S8x8x8x16_S8x8x8x16_S8x8x8x96_S8x8x8x128_d3

theorem rq_apply (P : FVec Ideal S8x8x8x128 .f32) (b s q : Fin 8) (l : Fin 128) :
    rq A3 A4 P (ix4 b s q l) = ProjSpec.rot (fun l => P (ix4 b s q l)) (fun l => A3 (ix2 s l)) (fun l => A4 (ix2 s l)) l := by
  pointwise [rq]
  exact ProjSpec.rot_form (fun l => P (ix4 b s q l)) (fun l => A3 (ix2 s l)) (fun l => A4 (ix2 s l)) l

theorem scaled_apply (X : FVec Ideal S8x8x8x128 .f32) (b s : Fin 8) (g : Fin 2) (h : Fin 4) (l : Fin 128) :
    mulf (shapeCast _ X shapeCasts_S8x8x8x128_S8x8x2x4x128) (broadcastInDim S8x8x2x4x128 ![] bcast_S_S8x8x2x4x128 (constant S_ .f32 0x3DB504F3#32)) (ix5 b s g h l)
      = X (ix4 b s ⟨4 * g.val + h.val, by omega⟩ l) * KvSpec.ascale := by
  pointwise [KvSpec.ascale]
  first | done | (congr 2; done) | exact congrArg (fun q => X (ix4 b s q l) * _) (Fin.ext (by simp only; omega))

theorem q_eq (b : Fin 8) (g : Fin 2) (R : Fin 32) (l : Fin 128) :
    shapeCast S8x2x32x128 (transpose S8x2x4x8x128 [0, 2, 3, 1, 4] (mulf (shapeCast _ (rq A3 A4 (Qh Z)) shapeCasts_S8x8x8x128_S8x8x2x4x128) (broadcastInDim S8x8x2x4x128 ![] bcast_S_S8x8x2x4x128 (constant S_ .f32 0x3DB504F3#32))) transposes_S8x8x2x4x128_S8x2x4x8x128_0_2_3_1_4) shapeCasts_S8x2x4x8x128_S8x2x32x128 (ix4 b g R l)
      = PreSpec.rows (fun q s l => PreSpec.qrot (fun n => Z (ix3 b s n)) (fun k => A3 (ix2 s k)) (fun k => A4 (ix2 s k)) q l) g R l := by
  refine rows_apply _ _ b g R l fun s g h l => ?_
  rw [scaled_apply, rq_apply]
  exact congrArg (fun x => ProjSpec.rot x _ _ l * _) (funext fun l => Qh_apply Z b s _ l)

theorem n_eq (b : Fin 8) (g : Fin 2) (R : Fin 32) (l : Fin 128) :
    shapeCast S8x2x32x128 (transpose S8x2x4x8x128 [0, 2, 3, 1, 4] (shapeCast _ (extractStridedSlice S8x8x1024 ![0, 0, 3072] Z slices_S8x8x4096_S8x8x1024_0_0_3072) shapeCasts_S8x8x1024_S8x8x2x4x128) transposes_S8x8x2x4x128_S8x2x4x8x128_0_2_3_1_4) shapeCasts_S8x2x4x8x128_S8x2x32x128 (ix4 b g R l)
      = PreSpec.rows (fun q s l => PreSpec.gate (fun n => Z (ix3 b s n)) q l) g R l := by
  refine rows_apply _ _ b g R l fun s g h l => ?_
  pointwise [PreSpec.gate]
  first | done | exact congrArg (fun n => Z (ix3 b s n)) (Fin.ext (by simp only; omega))

theorem g_eq (b : Fin 8) (g : Fin 2) (a : Fin 3) (R : Fin 32) (l : Fin 128) :
    broadcastInDim S8x2x3x32x128 ![0, 1, 2, 3, 4] bcast_S8x2x3x32x1_S8x2x3x32x128_0_1_2_3_4 (shapeCast _ (transpose S8x2x3x4x8 [0, 2, 4, 3, 1] (Host.divf (F := Ideal) (broadcastInDim S8x8x2x4x3 ![] bcast_S_S8x8x2x4x3 (constant S_ .f32 0x3F800000#32)) (addf (broadcastInDim S8x8x2x4x3 ![] bcast_S_S8x8x2x4x3 (constant S_ .f32 0x3F800000#32)) (Host.exp (Host.negf (shapeCast _ (extractStridedSlice S8x8x24 ![0, 0, 0] W slices_S8x8x128_S8x8x24_0_0_0) shapeCasts_S8x8x24_S8x8x2x4x3))))) transposes_S8x8x2x4x3_S8x2x3x4x8_0_2_4_3_1) shapeCasts_S8x2x3x4x8_S8x2x3x32x1) (ix5 b g a R l)
      = PreSpec.rows (fun q s a => PreSpec.bgate (fun n => W (ix3 b s n)) q a) g R a := by
  pointwise [PreSpec.rows, PreSpec.bgate]
  exact congrArg (fun n => Ideal.logistic (W (ix3 b ⟨R.val % 8, by omega⟩ n))) (Fin.ext (by simp only; omega))

end

end Cert.PreRefIdeal.Value
-- ==== Proof.PreRefB.lean ====
module

public import proofs.«01_k».proof.Proof.PreRef
public import proofs.«01_k».proof.Proof.PreAttSpec

/-! The reference's attention of the sample over the pooled keys, and its blocks' importance. -/

@[expose] public section

set_option maxRecDepth 16384

noncomputable section

namespace Cert.PreRefIdeal.Value

open Cert.PreRefIdeal Cert.PreRefIdeal.Gen Idealize.ShloMosaic Idealize.ShloMosaic.TcCoe Idealize.SL.Sem

section

variable (Z : FVec Ideal S8x8x4096 .f32) (K V : FVec Ideal S8x2x256x128 .bf16)

/-- The positions of the sample's tokens. -/
abbrev ps : IVec S8 32 := addi (broadcastInDim S8 ![] bcast_S_S8 (constantI S_ 32 16384#32)) (iotaInDim S8 32 0)

/-- Which pooled keys end before a token. -/
abbrev m8 : IVec S8x256 1 :=
  cmpi .sle (broadcastInDim S8x256 ![0, 1] bcast_S1x256_S8x256_0_1 (broadcastInDim S1x256 ![1] bcast_S256_S1x256_1 (muli (addi (iotaInDim S256 32 0) (broadcastInDim S256 ![] bcast_S_S256 (constantI S_ 32 1#32))) (broadcastInDim S256 ![] bcast_S_S256 (constantI S_ 32 64#32))))) (broadcastInDim S8x256 ![0, 1] bcast_S8x1_S8x256_0_1 (addi (broadcastInDim S8x1 ![0] bcast_S8_S8x1_0 ps) (broadcastInDim S8x1 ![] bcast_S_S8x1 (constantI S_ 32 1#32))))

/-- All of them. -/
theorem m8_eq : m8 = fun _ => 1#1 := by
  funext j
  idx_vars j
  exact (by decide +kernel : ∀ (s : Fin 8) (n : Fin 256), m8 (ix2 s n) = 1#1) _ _

/-- The same for every head. -/
abbrev m5 : IVec S8x2x4x8x256 1 :=
  broadcastInDim S8x2x4x8x256 ![0, 1, 2, 3, 4] bcast_S1x1x1x8x256_S8x2x4x8x256_0_1_2_3_4 (broadcastInDim S1x1x1x8x256 ![3, 4] bcast_S8x256_S1x1x1x8x256_3_4 m8)

theorem m5_eq : m5 = fun _ => 1#1 := by
  unfold m5
  rw [m8_eq]
  rfl

theorem all_one {s : Shape} {α : Type} (c : IVec s 1) (h : c = fun _ => 1#1) (x y : s.Idx → α) : select c x y = x := by
  subst h
  funext j
  rfl

/-- The scaled scores. -/
def scr : FVec Ideal S8x2x4x8x256 .f32 :=
  mulf (transpose S8x2x4x8x256 [0, 1, 4, 3, 2] (Host.dotGeneral dot_S8x2x256x128_S8x8x2x4x128_S8x2x256x8x4_3_4_2_13_01_02 none (extf .f32 K bitsLt_bf16_f32) (shapeCast _ (Qh Z) shapeCasts_S8x8x8x128_S8x8x2x4x128)) transposes_S8x2x256x8x4_S8x2x4x8x256_0_1_4_3_2) (broadcastInDim S8x2x4x8x256 ![] bcast_S_S8x2x4x8x256 (constant S_ .f32 0x3DB504F3#32))

/-- The queries, head groups apart. -/
theorem Qg_apply (b s : Fin 8) (g : Fin 2) (h : Fin 4) (d : Fin 128) :
    shapeCast S8x8x2x4x128 (Qh Z) shapeCasts_S8x8x8x128_S8x8x2x4x128 (ix5 b s g h d) = PreSpec.qrow (fun n => Z (ix3 b s n)) ⟨4 * g.val + h.val, by omega⟩ d := by
  trans Qh Z (ix4 b s ⟨4 * g.val + h.val, by omega⟩ d)
  · generalize Qh Z = X
    pointwise
    first | done | exact congrArg (fun q => X (ix4 b s q d)) (Fin.ext (by simp only; omega))
  · exact Qh_apply Z b s _ d

theorem scr_form (Q : FVec Ideal S8x8x2x4x128 .f32) (b : Fin 8) (g : Fin 2) (h : Fin 4) (s : Fin 8) (n : Fin 256) :
    mulf (transpose S8x2x4x8x256 [0, 1, 4, 3, 2] (Host.dotGeneral dot_S8x2x256x128_S8x8x2x4x128_S8x2x256x8x4_3_4_2_13_01_02 none (extf .f32 K bitsLt_bf16_f32) Q) transposes_S8x2x256x8x4_S8x2x4x8x256_0_1_4_3_2) (broadcastInDim S8x2x4x8x256 ![] bcast_S_S8x2x4x8x256 (constant S_ .f32 0x3DB504F3#32)) (ix5 b g h s n)
      = (∑ d : Fin 128, K (ix4 b g n d) * Q (ix5 b s g h d)) * KvSpec.ascale := by
  pointwise [KvSpec.ascale]

theorem scr_apply (b : Fin 8) (g : Fin 2) (h : Fin 4) (s : Fin 8) (n : Fin 256) :
    scr Z K (ix5 b g h s n) = PreSpec.sco (fun k => Z (ix3 b s k)) (fun n d => K (ix4 b g n d)) ⟨4 * g.val + h.val, by omega⟩ n := by
  unfold scr PreSpec.sco
  rw [scr_form]
  refine congrArg (· * KvSpec.ascale) (Finset.sum_congr rfl fun d _ => ?_)
  rw [Qg_apply]
  exact mul_comm _ _

/-- The largest score. -/
def smx (S : FVec Ideal S8x2x4x8x256 .f32) : FVec Ideal S8x2x4x8 .f32 :=
  Host.reduce FloatOps.maximumf S (constant S_ .f32 0xFF800000#32) reducesTo_S8x2x4x8x256_S8x2x4x8_d4 h_S_

theorem bot32 : Ideal.ofBits .f32 0xFF800000#32 = ⊥ := by simp [Ideal.ofBits, Ideal.ieee]

theorem smx_apply (S : FVec Ideal S8x2x4x8x256 .f32) (b : Fin 8) (g : Fin 2) (h : Fin 4) (s : Fin 8) :
    smx S (ix4 b g h s) = KvSpec.top (fun n => S (ix5 b g h s n)) := by
  unfold smx KvSpec.top
  have hr : S8x2x4x8x256.Reduces [4] S8x2x4x8 := by decide
  refine (Host.reduce_eq_fold_single FloatOps.maximumf S _ reducesTo_S8x2x4x8x256_S8x2x4x8_d4 hr h_S_ (ix4 b g h s)).trans ?_
  have e : S ∘ hr.lift (ix4 b g h s) = fun n : Fin 256 => S (ix5 b g h s n) := by
    funext n
    refine congrArg S (funext fun a => ?_)
    fin_cases a <;> rfl
  rw [e]
  exact congrArg (fun i => Finset.fold max i (fun n : Fin 256 => S (ix5 b g h s n)) Finset.univ) bot32

/-- The scores' exponentials, less a number. -/
def seo (S : FVec Ideal S8x2x4x8x256 .f32) (M : FVec Ideal S8x2x4x8 .f32) : FVec Ideal S8x2x4x8x256 .f32 :=
  Host.exp (subf S (broadcastInDim S8x2x4x8x256 ![0, 1, 2, 3, 4] bcast_S8x2x4x8x1_S8x2x4x8x256_0_1_2_3_4 (broadcastInDim S8x2x4x8x1 ![0, 1, 2, 3] bcast_S8x2x4x8_S8x2x4x8x1_0_1_2_3 (maximumf (broadcastInDim S8x2x4x8 ![] bcast_S_S8x2x4x8 (constant S_ .f32 0xFF800000#32)) M))))

theorem seo_apply (S : FVec Ideal S8x2x4x8x256 .f32) (M : FVec Ideal S8x2x4x8 .f32) (b : Fin 8) (g : Fin 2) (h : Fin 4) (s : Fin 8) (n : Fin 256) :
    seo S M (ix5 b g h s n) = Ideal.exp (S (ix5 b g h s n) - M (ix4 b g h s)) := by
  pointwise [seo]
  rw [bot32, max_eq_right bot_le]

/-- Their exponentials, less the largest. -/
theorem see_apply (S : FVec Ideal S8x2x4x8x256 .f32) (b : Fin 8) (g : Fin 2) (h : Fin 4) (s : Fin 8) (n : Fin 256) :
    seo S (smx S) (ix5 b g h s n) = KvSpec.ex (fun n => S (ix5 b g h s n)) n := by
  rw [seo_apply, smx_apply]
  rfl

/-- The weights. -/
def sww (E : FVec Ideal S8x2x4x8x256 .f32) : FVec Ideal S8x2x4x8x256 .f32 :=
  Host.divf E (broadcastInDim S8x2x4x8x256 ![0, 1, 2, 3, 4] bcast_S8x2x4x8x1_S8x2x4x8x256_0_1_2_3_4 (broadcastInDim S8x2x4x8x1 ![0, 1, 2, 3] bcast_S8x2x4x8_S8x2x4x8x1_0_1_2_3 (Host.reduceAdd E (constant S_ .f32 0x00000000#32) reducesTo_S8x2x4x8x256_S8x2x4x8_d4 h_S_)))

theorem sww_apply (E : FVec Ideal S8x2x4x8x256 .f32) (b : Fin 8) (g : Fin 2) (h : Fin 4) (s : Fin 8) (n : Fin 256) :
    sww E (ix5 b g h s n) = Ideal.div (E (ix5 b g h s n)) (∑ n : Fin 256, E (ix5 b g h s n)) := by
  pointwise [sww]

/-- The masked scores, and the masked weights. -/
def msc : FVec Ideal S8x2x4x8x256 .f32 :=
  select m5 (scr Z K) (broadcastInDim S8x2x4x8x256 ![] bcast_S_S8x2x4x8x256 (id (constant S_ .f32 0xF149F2CA#32)))

def mww : FVec Ideal S8x2x4x8x256 .f32 :=
  select m5 (sww (seo (msc Z K) (smx (msc Z K)))) (broadcastInDim S8x2x4x8x256 ![] bcast_S_S8x2x4x8x256 (id (constant S_ .f32 0x00000000#32)))

theorem mww_apply (b : Fin 8) (g : Fin 2) (h : Fin 4) (s : Fin 8) (n : Fin 256) :
    mww Z K (ix5 b g h s n) = PreSpec.wt (fun k => Z (ix3 b s k)) (fun n d => K (ix4 b g n d)) ⟨4 * g.val + h.val, by omega⟩ n := by
  unfold mww msc PreSpec.wt
  rw [all_one _ m5_eq, all_one _ m5_eq, sww_apply]
  simp only [see_apply, scr_apply]

theorem oc_form (W : FVec Ideal S8x2x4x8x256 .f32) (b : Fin 8) (g : Fin 2) (R : Fin 32) (l : Fin 128) :
    shapeCast S8x2x32x128 (Host.dotGeneral dot_S8x2x4x8x256_S8x2x256x128_S8x2x4x8x128_4_2_23_3_01_01 none W (extf .f32 V bitsLt_bf16_f32)) shapeCasts_S8x2x4x8x128_S8x2x32x128 (ix4 b g R l)
      = ∑ n : Fin 256, W (ix5 b g ⟨R.val / 8, by omega⟩ ⟨R.val % 8, by omega⟩ n) * V (ix4 b g n l) := by
  pointwise

theorem oc_eq (b : Fin 8) (g : Fin 2) (R : Fin 32) (l : Fin 128) :
    shapeCast S8x2x32x128 (Host.dotGeneral dot_S8x2x4x8x256_S8x2x256x128_S8x2x4x8x128_4_2_23_3_01_01 none (mww Z K) (extf .f32 V bitsLt_bf16_f32)) shapeCasts_S8x2x4x8x128_S8x2x32x128 (ix4 b g R l)
      = PreSpec.rows (fun q s l => PreSpec.att (fun k => Z (ix3 b s k)) (fun n d => K (ix4 b g n d)) (fun n d => V (ix4 b g n d)) q l) g R l := by
  rw [oc_form]
  unfold PreSpec.rows PreSpec.att
  exact Finset.sum_congr rfl fun n _ => congrArg (· * _) (mww_apply Z K b g _ _ n)

end

/-- The block of a token. -/
abbrev cb : IVec S8x1 32 :=
  broadcastInDim S8x1 ![0] bcast_S8_S8x1_0 (select (andi (cmpi .ne (signi ps) (broadcastInDim S8 ![] bcast_S_S8 (signi (id (constantI S_ 32 64#32))))) (cmpi .ne (Host.remsi ps (broadcastInDim S8 ![] bcast_S_S8 (id (constantI S_ 32 64#32)))) (broadcastInDim S8 ![] bcast_S_S8 (constantI S_ 32 0#32)))) (subi (Host.divsi ps (broadcastInDim S8 ![] bcast_S_S8 (id (constantI S_ 32 64#32)))) (broadcastInDim S8 ![] bcast_S_S8 (constantI S_ 32 1#32))) (Host.divsi ps (broadcastInDim S8 ![] bcast_S_S8 (id (constantI S_ 32 64#32)))))

/-- The blocks after the token's own: none. -/
abbrev ma : IVec S8x256 1 :=
  cmpi .sgt (broadcastInDim S8x256 ![0, 1] bcast_S1x256_S8x256_0_1 (broadcastInDim S1x256 ![1] bcast_S256_S1x256_1 (iotaInDim S256 32 0))) (broadcastInDim S8x256 ![0, 1] bcast_S8x1_S8x256_0_1 cb)

/-- The blocks taken in any case. -/
abbrev mb : IVec S8x256 1 :=
  ori (ori (broadcastInDim S8x256 ![0, 1] bcast_S1x256_S8x256_0_1 (cmpi .eq (broadcastInDim S1x256 ![1] bcast_S256_S1x256_1 (iotaInDim S256 32 0)) (broadcastInDim S1x256 ![] bcast_S_S1x256 (constantI S_ 32 0#32)))) (cmpi .eq (broadcastInDim S8x256 ![0, 1] bcast_S1x256_S8x256_0_1 (broadcastInDim S1x256 ![1] bcast_S256_S1x256_1 (iotaInDim S256 32 0))) (broadcastInDim S8x256 ![0, 1] bcast_S8x1_S8x256_0_1 cb))) (cmpi .eq (broadcastInDim S8x256 ![0, 1] bcast_S1x256_S8x256_0_1 (broadcastInDim S1x256 ![1] bcast_S256_S1x256_1 (iotaInDim S256 32 0))) (broadcastInDim S8x256 ![0, 1] bcast_S8x1_S8x256_0_1 (subi cb (broadcastInDim S8x1 ![] bcast_S_S8x1 (constantI S_ 32 1#32)))))

theorem ma_eq : ∀ (s : Fin 8) (n : Fin 256), ma (ix2 s n) = 0#1 := by
  decide +kernel

theorem mb_eq : ∀ (s : Fin 8) (n : Fin 256), mb (ix2 s n) = if n.val = 0 ∨ n.val = 255 then 1#1 else 0#1 := by
  decide +kernel

theorem val_form (A B : IVec S8x256 1) (W : FVec Ideal S8x2x4x8x256 .f32) (b : Fin 8) (g : Fin 2) (s : Fin 8) (n : Fin 256) :
    select (broadcastInDim S8x2x8x256 ![0, 1, 2, 3] bcast_S1x1x8x256_S8x2x8x256_0_1_2_3 (broadcastInDim S1x1x8x256 ![2, 3] bcast_S8x256_S1x1x8x256_2_3 A)) (broadcastInDim S8x2x8x256 ![] bcast_S_S8x2x8x256 (id (constant S_ .f32 0xBF800000#32))) (select (broadcastInDim S8x2x8x256 ![0, 1, 2, 3] bcast_S1x1x8x256_S8x2x8x256_0_1_2_3 (broadcastInDim S1x1x8x256 ![2, 3] bcast_S8x256_S1x1x8x256_2_3 B)) (broadcastInDim S8x2x8x256 ![] bcast_S_S8x2x8x256 (id (constant S_ .f32 0x4E6E6B28#32))) (Host.reduceAdd W (constant S_ .f32 0x00000000#32) reducesTo_S8x2x4x8x256_S8x2x8x256_d2 h_S_)) (ix4 b g s n)
      = Scalar.select (A (ix2 s n)) (Ideal.ofBits .f32 0xBF800000#32) (Scalar.select (B (ix2 s n)) (Ideal.ofBits .f32 0x4E6E6B28#32) (∑ h : Fin 4, W (ix5 b g h s n))) := by
  pointwise
  rfl

theorem val_eq (Z : FVec Ideal S8x8x4096 .f32) (K : FVec Ideal S8x2x256x128 .bf16) (b : Fin 8) (g : Fin 2) (s : Fin 8) (n : Fin 256) :
    select (broadcastInDim S8x2x8x256 ![0, 1, 2, 3] bcast_S1x1x8x256_S8x2x8x256_0_1_2_3 (broadcastInDim S1x1x8x256 ![2, 3] bcast_S8x256_S1x1x8x256_2_3 ma)) (broadcastInDim S8x2x8x256 ![] bcast_S_S8x2x8x256 (id (constant S_ .f32 0xBF800000#32))) (select (broadcastInDim S8x2x8x256 ![0, 1, 2, 3] bcast_S1x1x8x256_S8x2x8x256_0_1_2_3 (broadcastInDim S1x1x8x256 ![2, 3] bcast_S8x256_S1x1x8x256_2_3 mb)) (broadcastInDim S8x2x8x256 ![] bcast_S_S8x2x8x256 (id (constant S_ .f32 0x4E6E6B28#32))) (Host.reduceAdd (mww Z K) (constant S_ .f32 0x00000000#32) reducesTo_S8x2x4x8x256_S8x2x8x256_d2 h_S_)) (ix4 b g s n)
      = PreSpec.imp (fun k => Z (ix3 b s k)) (fun n d => K (ix4 b g n d)) g n := by
  rw [val_form, ma_eq, mb_eq]
  unfold PreSpec.imp
  split
  · rfl
  · refine Eq.trans (show _ = ∑ h : Fin 4, mww Z K (ix5 b g h s n) from rfl) ?_
    exact Finset.sum_congr rfl fun h _ => mww_apply Z K b g h s n

end Cert.PreRefIdeal.Value
-- ==== Proof.PreRefC.lean ====
module

public import proofs.«01_k».proof.Proof.PreRefB

/-! What the reference leaves. -/

@[expose] public section

set_option maxRecDepth 16384

noncomputable section

namespace Cert.PreRefIdeal.Value

open Cert.PreRefIdeal Cert.PreRefIdeal.Gen Idealize.ShloMosaic Idealize.ShloMosaic.TcCoe Idealize.SL.Sem

variable (m : (ℓ : Loc nD τ sig) → Buf (Elt Ideal) ℓ)

/-- What the reference leaves in its results; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v161) = fun j : S8x8x1024.Idx => PreSpec.cache (fun n => (m ((c.tc : Thread nD τ).loc main_arg1)) (ix3 (j 0) (j 1) n)) (fun k => (m ((c.tc : Thread nD τ).loc main_arg3)) (ix2 (j 1) k)) (fun k => (m ((c.tc : Thread nD τ).loc main_arg4)) (ix2 (j 1) k)) (j 2))
      ∧ (r.2.mem ((c.tc : Thread nD τ).loc main_v162) = fun j : S8x8x512.Idx => PreSpec.win (fun n => (m ((c.tc : Thread nD τ).loc main_arg1)) (ix3 (j 0) (j 1) n)) (fun k => (m ((c.tc : Thread nD τ).loc main_arg3)) (ix2 (j 1) k)) (fun k => (m ((c.tc : Thread nD τ).loc main_arg4)) (ix2 (j 1) k)) (j 2))
      ∧ (r.2.mem ((c.tc : Thread nD τ).loc main_v167) = fun j : S8x2x32x128.Idx => PreSpec.rows (fun q s l => PreSpec.qrot (fun n => (m ((c.tc : Thread nD τ).loc main_arg0)) (ix3 (j 0) s n)) (fun k => (m ((c.tc : Thread nD τ).loc main_arg3)) (ix2 s k)) (fun k => (m ((c.tc : Thread nD τ).loc main_arg4)) (ix2 s k)) q l) (j 1) (j 2) (j 3))
      ∧ (r.2.mem ((c.tc : Thread nD τ).loc main_v168) = fun j : S8x2x32x128.Idx => PreSpec.rows (fun q s l => PreSpec.att (fun k => (m ((c.tc : Thread nD τ).loc main_arg0)) (ix3 (j 0) s k)) (fun n d => (m ((c.tc : Thread nD τ).loc main_arg5)) (ix4 (j 0) (j 1) n d)) (fun n d => (m ((c.tc : Thread nD τ).loc main_arg6)) (ix4 (j 0) (j 1) n d)) q l) (j 1) (j 2) (j 3))
      ∧ (r.2.mem ((c.tc : Thread nD τ).loc main_v170) = fun j : S8x2x32x128.Idx => PreSpec.rows (fun q s l => PreSpec.gate (fun n => (m ((c.tc : Thread nD τ).loc main_arg0)) (ix3 (j 0) s n)) q l) (j 1) (j 2) (j 3))
      ∧ (r.2.mem ((c.tc : Thread nD τ).loc main_v171) = fun j : S8x2x3x32x128.Idx => PreSpec.rows (fun q s a => PreSpec.bgate (fun n => (m ((c.tc : Thread nD τ).loc main_arg2)) (ix3 (j 0) s n)) q a) (j 1) (j 3) (j 2))
      ∧ (r.2.mem ((c.tc : Thread nD τ).loc main_v152) = fun j : S8x2x8x256.Idx => PreSpec.imp (fun k => (m ((c.tc : Thread nD τ).loc main_arg0)) (ix3 (j 0) (j 2) k)) (fun n d => (m ((c.tc : Thread nD τ).loc main_arg5)) (ix4 (j 0) (j 1) n d)) (j 1) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (run m ρ).mono ?_
  intro r h c
  obtain ⟨h1, h2, h3, h4, h5, h6, h7, h8⟩ := h c
  refine ⟨h1.trans (funext fun j => ?_), h2.trans (funext fun j => ?_), h3.trans (funext fun j => ?_), h4.trans (funext fun j => ?_), h5.trans (funext fun j => ?_), h6.trans (funext fun j => ?_), h7.trans (funext fun j => ?_), h8⟩
  · idx_vars j
    exact cache_eq (m ((c.tc : Thread nD τ).loc main_arg1)) (m ((c.tc : Thread nD τ).loc main_arg3)) (m ((c.tc : Thread nD τ).loc main_arg4)) _ _ _
  · idx_vars j
    exact win_eq (m ((c.tc : Thread nD τ).loc main_arg1)) (m ((c.tc : Thread nD τ).loc main_arg3)) (m ((c.tc : Thread nD τ).loc main_arg4)) _ _ _
  · idx_vars j
    exact q_eq (m ((c.tc : Thread nD τ).loc main_arg0)) (m ((c.tc : Thread nD τ).loc main_arg3)) (m ((c.tc : Thread nD τ).loc main_arg4)) _ _ _ _
  · idx_vars j
    exact oc_eq (m ((c.tc : Thread nD τ).loc main_arg0)) (m ((c.tc : Thread nD τ).loc main_arg5)) (m ((c.tc : Thread nD τ).loc main_arg6)) _ _ _ _
  · idx_vars j
    exact n_eq (m ((c.tc : Thread nD τ).loc main_arg0)) _ _ _ _
  · idx_vars j
    exact g_eq (m ((c.tc : Thread nD τ).loc main_arg2)) _ _ _ _ _
  · idx_vars j
    exact val_eq (m ((c.tc : Thread nD τ).loc main_arg0)) (m ((c.tc : Thread nD τ).loc main_arg5)) _ _ _ _

end Cert.PreRefIdeal.Value
-- ==== Proof.PreClaim.lean ====
module

public import proofs.«01_k».proof.Defs
public import proofs.«01_k».proof.Proof.PreRun
public import proofs.«01_k».proof.Proof.PrePre
public import proofs.«01_k».proof.Proof.PreRefC

@[expose] public section

set_option maxRecDepth 16384

noncomputable section

namespace Cert.Proof

open Idealize.ShloMosaic Idealize.ShloMosaic.TcCoe Idealize.SL.Sem

/-- The sample's new rows of the cache and of the window, its queries, its attention over the pooled keys, its gates and
its blocks' importance are their reference's. -/
theorem algebraic_Pre [Cert.Pre_finite_sample.Facts] : Cert.algebraic_PreIdeal_PreRefIdeal_pre_finite_sample := by
  intro m g m' g' hpre hagree
  refine ⟨fun c => (Cert.PreIdeal.Gen.dats m 0 c).arrAt 11 (Cert.PreIdeal.cfgs 0).N,
    fun c => (Cert.PreIdeal.Gen.dats m 0 c).arrAt 12 (Cert.PreIdeal.cfgs 0).N,
    fun c => (Cert.PreIdeal.Gen.dats m 0 c).arrAt 13 (Cert.PreIdeal.cfgs 0).N,
    fun c => (Cert.PreIdeal.Gen.dats m 0 c).arrAt 14 (Cert.PreIdeal.cfgs 0).N,
    fun c => (Cert.PreIdeal.Gen.dats m 0 c).arrAt 15 (Cert.PreIdeal.cfgs 0).N,
    fun c => (Cert.PreIdeal.Gen.dats m 0 c).arrAt 16 (Cert.PreIdeal.cfgs 0).N,
    fun c => (Cert.PreIdeal.Gen.dats m 0 c).arrAt 17 (Cert.PreIdeal.cfgs 0).N,
    (θ_run _ _ _).mono (fun r h c => ?_) (θ_run_and (Cert.PreIdeal.Value.run_outs m g) (Cert.PreIdeal.Gen.unchanged m g)), ?_⟩
  · exact ⟨(h.1 c).1, (h.1 c).2.1, (h.1 c).2.2.1, (h.1 c).2.2.2.1, (h.1 c).2.2.2.2.1, (h.1 c).2.2.2.2.2.1, (h.1 c).2.2.2.2.2.2, h.2 c⟩
  · refine (Cert.PreRefIdeal.Value.run_rows m' g').mono fun r h c => ?_
    obtain ⟨e0, e1, e2, e3, e4, e5, e6⟩ := hagree c
    have hz := fun c => Cert.PreIdeal.Value.real_za m hpre c
    have hk := fun c => Cert.PreIdeal.Value.real_kc m hpre c
    obtain ⟨h0, h1, h2, h3, h4, h5, h6, h7⟩ := h c
    rw [e1, e3, e4] at h0 h1
    rw [e0, e3, e4] at h2
    rw [e0, e5, e6] at h3
    rw [e0] at h4
    rw [e2] at h5
    rw [e0, e5] at h6
    exact ⟨h0.trans (Cert.PreIdeal.Value.out11 m c).symm, h1.trans (Cert.PreIdeal.Value.out12 m c).symm,
      h2.trans (Cert.PreIdeal.Value.out13 m c).symm, h3.trans (Cert.PreIdeal.Value.out14 m hz hk c).symm,
      h4.trans (Cert.PreIdeal.Value.out15 m c).symm, h5.trans (Cert.PreIdeal.Value.out16 m c).symm,
      h6.trans (Cert.PreIdeal.Value.out17 m hz hk c).symm, h7⟩

end Cert.Proof
-- ==== Proof.KvInv.lean ====
module

public import proofs.«01_k».proof.Proof.KvPay

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)

/-! What the weights' scratch holds after each grid point. -/

variable (m : (ℓ : Loc nD τ sig) → Buf (Elt Ideal) ℓ)

/-- A copied chunk of the transposed weights. -/
abbrev stage (c : Dev nD) (o : ℕ) (inb : ∀ a, (![0, o, 0] : Fin 3 → ℕ) a + (![1, 512, 2048] : Fin 3 → ℕ) a ≤ S1x6680x2048.size a) :
    Vec Ideal S1x512x2048 .f32 :=
  ReadAs.same.apply (View.read (Elt Ideal) ((View.whole main_v12).slice (Rect.unit ![0, o, 0] ![1, 512, 2048] inb)) (V m c main_v12))

theorem isW3 (c : Dev nD) : IsW m c 4120 (by omega) (k0_pay3 (F := Ideal) (stage m c 4120 inb_S1x6680x2048_S1x512x2048_0_4120_0)) := fun i k => by
  refine Eq.trans ?_ (stg m c 4120 (by omega) inb_S1x6680x2048_S1x512x2048_0_4120_0 i k)
  pointwise [k0_pay3]

theorem isW4 (c : Dev nD) : IsW m c 4632 (by omega) (k0_pay4 (F := Ideal) (stage m c 4632 inb_S1x6680x2048_S1x512x2048_0_4632_0)) := fun i k => by
  refine Eq.trans ?_ (stg m c 4632 (by omega) inb_S1x6680x2048_S1x512x2048_0_4632_0 i k)
  pointwise [k0_pay4]

theorem isW5 (c : Dev nD) : IsW m c 5144 (by omega) (k0_pay5 (F := Ideal) (stage m c 5144 inb_S1x6680x2048_S1x512x2048_0_5144_0)) := fun i k => by
  refine Eq.trans ?_ (stg m c 5144 (by omega) inb_S1x6680x2048_S1x512x2048_0_5144_0 i k)
  pointwise [k0_pay5]

theorem isW6 (c : Dev nD) : IsW m c 5656 (by omega) (k0_pay6 (F := Ideal) (stage m c 5656 inb_S1x6680x2048_S1x512x2048_0_5656_0)) := fun i k => by
  refine Eq.trans ?_ (stg m c 5656 (by omega) inb_S1x6680x2048_S1x512x2048_0_5656_0 i k)
  pointwise [k0_pay6]

theorem isW7 (c : Dev nD) : IsW m c 6168 (by omega) (k0_pay7 (F := Ideal) (stage m c 6168 inb_S1x6680x2048_S1x512x2048_0_6168_0)) := fun i k => by
  refine Eq.trans ?_ (stg m c 6168 (by omega) inb_S1x6680x2048_S1x512x2048_0_6168_0 i k)
  pointwise [k0_pay7]

/-- The rows loaded from the weights' scratch. -/
theorem isWld (c : Dev nD) (o : ℕ) (ho : o + 512 ≤ 2560) (o' : ℕ) (e : o' = 4120 + o) (inb : ∀ a, (![o, 0] : Fin 2 → ℕ) a + (![512, 2048] : Fin 2 → ℕ) a ≤ S2560x2048.size a) :
    IsW m c o' (by omega) (View.ld (Val := Elt Ideal) (e' := .bf16) (wts m c) (Rect.unit (s := S2560x2048) ![o, 0] ![512, 2048] inb)) := fun i k => by
  subst e
  trans m ((c : Thread nD τ).loc main_arg3) (ix3 0 k ⟨4120 + (o + i.val), by omega⟩)
  · pointwise [wts]
  · exact congrArg (fun a => m ((c : Thread nD τ).loc main_arg3) (ix3 0 k a)) (Fin.ext (by simp only; omega))

theorem wpiece (c : Dev nD) (o : ℕ) (ho : o + 512 ≤ 2560) (o' : ℕ) (e : o' = 4120 + o) (w : FVec Ideal S512x2048 .bf16) (hw : IsW m c o' (by omega) w) (y : S512x2048.Idx) (Y : S2560x2048.Idx)
    (h0 : (Y 0).val = o + (y 0).val) (h1 : (Y 1).val = (y 1).val) : w y = wts m c Y := by
  obtain ⟨i, k, rfl⟩ : ∃ (i : Fin 512) (k : Fin 2048), y = ix2 i k := ⟨y 0, y 1, eq_ix2 y⟩
  refine (hw i k).trans ?_
  exact congrArg₂ (fun a b => m ((c : Thread nD τ).loc main_arg3) (ix3 0 a b)) (Fin.ext h1.symm) (Fin.ext (by
    have h0' : (Y 0).val = o + i.val := h0
    simp only [h0']; omega))

theorem wscr (c : Dev nD) : ∀ (n : ℕ) (h : n < cfg0.N), (outsAt0 m c n h).2.2.2.2.2.2 = wts m c := by
  intro n
  induction n with
  | zero =>
    intro h
    rw [outsAt0_A m c ⟨0, h⟩ (Nat.zero_mod _) (by simp)]
    frame_out
    simp (disch := decide) only [View.readCov_skip, View.readCov_cons_toLoadRect, View.readCov_fill]
    funext y
    canon_tiles y
    · exact wpiece m c 2048 (by omega) 6168 (by omega) _ (isW7 m c) _ _ (by omega) h1
    · exact wpiece m c 1536 (by omega) 5656 (by omega) _ (isW6 m c) _ _ (by omega) h1
    · exact wpiece m c 1024 (by omega) 5144 (by omega) _ (isW5 m c) _ _ (by omega) h1
    · exact wpiece m c 512 (by omega) 4632 (by omega) _ (isW4 m c) _ _ (by omega) h1
    · exact wpiece m c 0 (by omega) 4120 (by omega) _ (isW3 m c) _ _ (by omega) h1
  | succ n ih =>
    intro h
    have hN : n + 1 < 16 := lt_of_lt_of_eq h N_0
    by_cases h1 : (n + 1) % 16 = 15
    · rw [outsAt0_C m c ⟨n + 1, h⟩ (by simp; omega) h1]
      unfold sout0_C_1
      simp only [Nat.add_sub_cancel, ih]
    · rw [outsAt0_B m c ⟨n + 1, h⟩ (by simp; omega) h1]
      unfold sout0_B_1
      simp only [Nat.add_sub_cancel, ih]

end Cert.KvIdeal.Value
-- ==== Proof.KvCore.lean ====
module

public import proofs.«01_k».proof.Proof.KvInv

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)

/-! What a grid point stores. -/

variable (m : (ℓ : Loc nD τ sig) → Buf (Elt Ideal) ℓ)

theorem atRow_blk {α : Type} (f : Fin 4 → Fin 2048 → α) (t : Fin cfg0.N) (r : Fin 512) (R : Fin 8192) (h : R.val = 512 * t.val + r.val) :
    ProjSpec.atRow f R = f (bq t) (ps t r) :=
  congrArg₂ f (Fin.ext (by simp only [bq]; omega)) (Fin.ext (by simp only [ps]; omega))

/-- A head of a grid point's projections. -/
theorem headw (c : Dev nD) (t : Fin cfg0.N) (v : FVec Ideal S512x512 .f32) (o d g : ℕ) (ho : o + 512 ≤ 6680) (hd : d + 128 ≤ 512) (e : o + d = g) (hg : g + 128 ≤ 6680)
    (hv : ∀ r i : Fin 512, v (ix2 r i) = pz m c (bq t) (ps t r) ⟨o + i.val, by omega⟩) (r : Fin 512) (l : Fin 128) :
    v (ix2 r ⟨d + l.val, by omega⟩) = pz m c (bq t) (ps t r) ⟨g + l.val, by omega⟩ := by
  rw [hv]
  exact congrArg (fun q => pz m c (bq t) (ps t r) q) (Fin.ext (by simp only; omega))

theorem flath (c : Dev nD) (t : Fin cfg0.N) (v : FVec Ideal S512x512 .f32) (o d : ℕ) (q : Fin 12) (hq : ¬(q.val = 4 ∨ q.val = 5 ∨ q.val = 8 ∨ q.val = 9)) (ho : o + 512 ≤ 6680) (hd : d + 128 ≤ 512) (e : o + d = 4120 + q.val * 128)
    (hv : ∀ r i : Fin 512, v (ix2 r i) = pz m c (bq t) (ps t r) ⟨o + i.val, by omega⟩) (r : Fin 512) (l : Fin 128) :
    v (ix2 r ⟨d + l.val, by omega⟩) = kvs m c (bq t) (ps t r) q l :=
  flat_eq m c t r q hq l _ ((headw m c t v o d _ ho hd e (by omega) hv r l).trans
    (congrArg (fun q => pz m c (bq t) (ps t r) q) (Fin.ext (by simp only; omega))))

theorem turnh (c : Dev nD) (t : Fin cfg0.N) (v : FVec Ideal S512x512 .f32) (o d : ℕ) (q : Fin 12) (hq : q.val = 4 ∨ q.val = 5 ∨ q.val = 8 ∨ q.val = 9) (ho : o + 512 ≤ 6680) (hd : d + 128 ≤ 512) (e : o + d = 4120 + q.val * 128)
    (hv : ∀ r i : Fin 512, v (ix2 r i) = pz m c (bq t) (ps t r) ⟨o + i.val, by omega⟩) (r : Fin 512) (l : Fin 128) :
    turned (fun l => v (ix2 r ⟨d + l.val, by omega⟩)) (fun l => iblk m c 2 t (ix2 r l)) (fun l => iblk m c 3 t (ix2 r l)) (fun l => iblk m c 4 t (ix2 r l)) l
      = kvs m c (bq t) (ps t r) q l :=
  turned_eq m c t r q hq _ (fun l => (headw m c t v o d _ ho hd e (by omega) hv r l).trans
    (congrArg (fun q => pz m c (bq t) (ps t r) q) (Fin.ext (by simp only; omega)))) l

/-- A head's columns, put together with the others'. -/
theorem piece (f : Fin 12 → Fin 128 → Fin 512 → EReal) (o : ℕ) (ho : o + 128 ≤ 1024) (q : Fin 12) (hq : o + 512 = q.val * 128) (w : S512x128.Idx → EReal)
    (hw : ∀ (r : Fin 512) (l : Fin 128), w (ix2 r l) = f q l r) (y : S512x128.Idx) (Y : S512x1024.Idx)
    (h0 : (Y 0).val = (y 0).val) (h1 : (Y 1).val = o + (y 1).val) : w y = f ⟨4 + (Y 1).val / 128, by have : (Y 1).val < 1024 := (Y 1).isLt; omega⟩ ⟨(Y 1).val % 128, by omega⟩ (Y 0) := by
  obtain ⟨r, l, rfl⟩ : ∃ (r : Fin 512) (l : Fin 128), y = ix2 r l := ⟨y 0, y 1, eq_ix2 y⟩
  have h1' : (Y 1).val = o + l.val := h1
  have e1 : (⟨4 + (Y 1).val / 128, by have : (Y 1).val < 1024 := (Y 1).isLt; omega⟩ : Fin 12) = q := Fin.ext (by simp only [h1']; omega)
  have e2 : (⟨(Y 1).val % 128, by omega⟩ : Fin 128) = l := Fin.ext (by simp only [h1']; omega)
  rw [e1, e2]
  exact (hw r l).trans (congrArg (f q l) (Fin.ext h0.symm))

/-- A memory head's columns. -/
theorem piece12 (f : Fin 512 → Fin 512 → EReal) (o : ℕ) (ho : o + 128 ≤ 512) (w : S512x128.Idx → EReal)
    (hw : ∀ (r : Fin 512) (l : Fin 128), w (ix2 r l) = f ⟨o + l.val, by omega⟩ r) (y : S512x128.Idx) (Y : S512x512.Idx)
    (h0 : (Y 0).val = (y 0).val) (h1 : (Y 1).val = o + (y 1).val) : w y = f (Y 1) (Y 0) := by
  obtain ⟨r, l, rfl⟩ : ∃ (r : Fin 512) (l : Fin 128), y = ix2 r l := ⟨y 0, y 1, eq_ix2 y⟩
  exact (hw r l).trans (congrArg₂ f (Fin.ext h1.symm) (Fin.ext h0.symm))

/-- A fifth of the sample's rows. -/
theorem piece13 (f : Fin 2560 → Fin 64 → EReal) (o : ℕ) (ho : o + 512 ≤ 2560) (w : S64x512.Idx → EReal)
    (hw : ∀ (r : Fin 64) (l : Fin 512), w (ix2 r l) = f ⟨o + l.val, by omega⟩ r) (y : S64x512.Idx) (Y : S64x2560.Idx)
    (h0 : (Y 0).val = (y 0).val) (h1 : (Y 1).val = o + (y 1).val) : w y = f (Y 1) (Y 0) := by
  obtain ⟨r, l, rfl⟩ : ∃ (r : Fin 64) (l : Fin 512), y = ix2 r l := ⟨y 0, y 1, eq_ix2 y⟩
  exact (hw r l).trans (congrArg₂ f (Fin.ext h1.symm) (Fin.ext h0.symm))

theorem pay17_pz (c : Dev nD) (t : Fin cfg0.N) (w : FVec Ideal S512x2048 .bf16) (hw : IsW m c 4120 (by omega) w) (r i : Fin 512) :
    k0_pay17 (F := Ideal) (xn m c t) w (ix2 r i) = pz m c (bq t) (ps t r) ⟨4120 + i.val, by omega⟩ :=
  (pay17_apply _ _ r i).trans (mm m c t _ _ w hw r i)

theorem pay18_pz (c : Dev nD) (t : Fin cfg0.N) (w : FVec Ideal S512x2048 .bf16) (hw : IsW m c 4632 (by omega) w) (r i : Fin 512) :
    k0_pay18 (F := Ideal) (xn m c t) w (ix2 r i) = pz m c (bq t) (ps t r) ⟨4632 + i.val, by omega⟩ :=
  (pay18_apply _ _ r i).trans (mm m c t _ _ w hw r i)

theorem pay19_pz (c : Dev nD) (t : Fin cfg0.N) (w : FVec Ideal S512x2048 .bf16) (hw : IsW m c 5144 (by omega) w) (r i : Fin 512) :
    k0_pay19 (F := Ideal) (xn m c t) w (ix2 r i) = pz m c (bq t) (ps t r) ⟨5144 + i.val, by omega⟩ :=
  (pay19_apply _ _ r i).trans (mm m c t _ _ w hw r i)

theorem pay44_pz (c : Dev nD) (t : Fin cfg0.N) (w : FVec Ideal S512x2048 .bf16) (hw : IsW m c 5656 (by omega) w) (r i : Fin 512) :
    k0_pay44 (F := Ideal) (xn m c t) w (ix2 r i) = pz m c (bq t) (ps t r) ⟨5656 + i.val, by omega⟩ :=
  (pay44_apply _ _ r i).trans (mm m c t _ _ w hw r i)

theorem pay45_pz (c : Dev nD) (t : Fin cfg0.N) (w : FVec Ideal S512x2048 .bf16) (hw : IsW m c 6168 (by omega) w) (r i : Fin 512) :
    k0_pay45 (F := Ideal) (xn m c t) w (ix2 r i) = pz m c (bq t) (ps t r) ⟨6168 + i.val, by omega⟩ :=
  (pay45_apply _ _ r i).trans (mm m c t _ _ w hw r i)

theorem h24 (c : Dev nD) (t : Fin cfg0.N) (w1 : FVec Ideal S512x2048 .bf16) (g1 : IsW m c 4120 (by omega) w1) (r : Fin 512) (l : Fin 128) :
    k0_pay24 (F := Ideal) (k0_pay17 (F := Ideal) (xn m c t) w1) (ix2 r l) = kvs m c (bq t) (ps t r) 0 l :=
  (pay24_apply _ r l).trans (flath m c t _ 4120 0 0 (by decide) (by omega) (by omega) rfl (pay17_pz m c t _ g1) r l)

theorem h25 (c : Dev nD) (t : Fin cfg0.N) (w1 : FVec Ideal S512x2048 .bf16) (g1 : IsW m c 4120 (by omega) w1) (r : Fin 512) (l : Fin 128) :
    k0_pay25 (F := Ideal) (k0_pay17 (F := Ideal) (xn m c t) w1) (ix2 r l) = kvs m c (bq t) (ps t r) 2 l :=
  (pay25_apply _ r l).trans (flath m c t _ 4120 256 2 (by decide) (by omega) (by omega) rfl (pay17_pz m c t _ g1) r l)

theorem h20 (c : Dev nD) (t : Fin cfg0.N) (w2 : FVec Ideal S512x2048 .bf16) (g2 : IsW m c 4632 (by omega) w2) (r : Fin 512) (l : Fin 128) :
    k0_pay20 (F := Ideal) (iblk m c 2 t) (iblk m c 3 t) (iblk m c 4 t) (xn m c t) w2 (ix2 r l) = kvs m c (bq t) (ps t r) 4 l :=
  (pay20_apply _ _ _ _ _ r l).trans (turnh m c t _ 4632 0 4 (by decide) (by omega) (by omega) rfl (pay18_pz m c t _ g2) r l)

theorem h32 (c : Dev nD) (t : Fin cfg0.N) (w2 : FVec Ideal S512x2048 .bf16) (g2 : IsW m c 4632 (by omega) w2) (r : Fin 512) (l : Fin 128) :
    k0_pay32 (F := Ideal) (iblk m c 3 t) (iblk m c 4 t) (k0_pay30 (F := Ideal) (xn m c t) w2) (k0_pay31 (F := Ideal) (iblk m c 2 t) (xn m c t) w2) 16#32 (ix2 r l) = kvs m c (bq t) (ps t r) 5 l :=
  (pay32_apply _ _ _ _ _ r l).trans (turnh m c t _ 4632 128 5 (by decide) (by omega) (by omega) rfl (pay18_pz m c t _ g2) r l)

theorem h22 (c : Dev nD) (t : Fin cfg0.N) (w2 : FVec Ideal S512x2048 .bf16) (g2 : IsW m c 4632 (by omega) w2) (r : Fin 512) (l : Fin 128) :
    k0_pay22 (F := Ideal) (xn m c t) w2 (ix2 r l) = kvs m c (bq t) (ps t r) 6 l :=
  (pay22_apply _ _ r l).trans (flath m c t _ 4632 256 6 (by decide) (by omega) (by omega) rfl (pay18_pz m c t _ g2) r l)

theorem h34 (c : Dev nD) (t : Fin cfg0.N) (w2 : FVec Ideal S512x2048 .bf16) (g2 : IsW m c 4632 (by omega) w2) (r : Fin 512) (l : Fin 128) :
    k0_pay34 (F := Ideal) (k0_pay18 (F := Ideal) (xn m c t) w2) (ix2 r l) = kvs m c (bq t) (ps t r) 7 l :=
  (pay34_apply _ r l).trans (flath m c t _ 4632 384 7 (by decide) (by omega) (by omega) rfl (pay18_pz m c t _ g2) r l)

theorem h21 (c : Dev nD) (t : Fin cfg0.N) (w3 : FVec Ideal S512x2048 .bf16) (g3 : IsW m c 5144 (by omega) w3) (r : Fin 512) (l : Fin 128) :
    k0_pay21 (F := Ideal) (iblk m c 2 t) (iblk m c 3 t) (iblk m c 4 t) (xn m c t) w3 (ix2 r l) = kvs m c (bq t) (ps t r) 8 l :=
  (pay21_apply _ _ _ _ _ r l).trans (turnh m c t _ 5144 0 8 (by decide) (by omega) (by omega) rfl (pay19_pz m c t _ g3) r l)

theorem h33 (c : Dev nD) (t : Fin cfg0.N) (w3 : FVec Ideal S512x2048 .bf16) (g3 : IsW m c 5144 (by omega) w3) (r : Fin 512) (l : Fin 128) :
    k0_pay33 (F := Ideal) (iblk m c 2 t) (iblk m c 3 t) (iblk m c 4 t) (k0_pay19 (F := Ideal) (xn m c t) w3) (ix2 r l) = kvs m c (bq t) (ps t r) 9 l :=
  (pay33_apply _ _ _ _ r l).trans (turnh m c t _ 5144 128 9 (by decide) (by omega) (by omega) rfl (pay19_pz m c t _ g3) r l)

theorem h23 (c : Dev nD) (t : Fin cfg0.N) (w3 : FVec Ideal S512x2048 .bf16) (g3 : IsW m c 5144 (by omega) w3) (r : Fin 512) (l : Fin 128) :
    k0_pay23 (F := Ideal) (xn m c t) w3 (ix2 r l) = kvs m c (bq t) (ps t r) 10 l :=
  (pay23_apply _ _ r l).trans (flath m c t _ 5144 256 10 (by decide) (by omega) (by omega) rfl (pay19_pz m c t _ g3) r l)

theorem h35 (c : Dev nD) (t : Fin cfg0.N) (w3 : FVec Ideal S512x2048 .bf16) (g3 : IsW m c 5144 (by omega) w3) (r : Fin 512) (l : Fin 128) :
    k0_pay35 (F := Ideal) (k0_pay19 (F := Ideal) (xn m c t) w3) (ix2 r l) = kvs m c (bq t) (ps t r) 11 l :=
  (pay35_apply _ r l).trans (flath m c t _ 5144 384 11 (by decide) (by omega) (by omega) rfl (pay19_pz m c t _ g3) r l)

theorem h26 (c : Dev nD) (t : Fin cfg0.N) (w2 : FVec Ideal S512x2048 .bf16) (g2 : IsW m c 4632 (by omega) w2) (r : Fin 512) (l : Fin 128) :
    k0_pay26 (F := Ideal) (iblk m c 2 t) (iblk m c 3 t) (iblk m c 4 t) (xn m c t) w2 (ix2 r l) = kvs m c (bq t) (ps t r) 4 l :=
  (pay26_apply _ _ _ _ _ r l).trans (turnh m c t _ 4632 0 4 (by decide) (by omega) (by omega) rfl (pay18_pz m c t _ g2) r l)

theorem h36 (c : Dev nD) (t : Fin cfg0.N) (w2 : FVec Ideal S512x2048 .bf16) (g2 : IsW m c 4632 (by omega) w2) (r : Fin 512) (l : Fin 128) :
    k0_pay36 (F := Ideal) (iblk m c 3 t) (iblk m c 4 t) (k0_pay30 (F := Ideal) (xn m c t) w2) (k0_pay31 (F := Ideal) (iblk m c 2 t) (xn m c t) w2) 16#32 (ix2 r l) = kvs m c (bq t) (ps t r) 5 l :=
  (pay36_apply _ _ _ _ _ r l).trans (turnh m c t _ 4632 128 5 (by decide) (by omega) (by omega) rfl (pay18_pz m c t _ g2) r l)

theorem h27 (c : Dev nD) (t : Fin cfg0.N) (w2 : FVec Ideal S512x2048 .bf16) (g2 : IsW m c 4632 (by omega) w2) (r : Fin 512) (l : Fin 128) :
    k0_pay27 (F := Ideal) (xn m c t) w2 (ix2 r l) = kvs m c (bq t) (ps t r) 6 l :=
  (pay27_apply _ _ r l).trans (flath m c t _ 4632 256 6 (by decide) (by omega) (by omega) rfl (pay18_pz m c t _ g2) r l)

theorem h37 (c : Dev nD) (t : Fin cfg0.N) (w2 : FVec Ideal S512x2048 .bf16) (g2 : IsW m c 4632 (by omega) w2) (r : Fin 512) (l : Fin 128) :
    k0_pay37 (F := Ideal) (k0_pay18 (F := Ideal) (xn m c t) w2) (ix2 r l) = kvs m c (bq t) (ps t r) 7 l :=
  (pay37_apply _ r l).trans (flath m c t _ 4632 384 7 (by decide) (by omega) (by omega) rfl (pay18_pz m c t _ g2) r l)

theorem h28 (c : Dev nD) (t : Fin cfg0.N) (w3 : FVec Ideal S512x2048 .bf16) (g3 : IsW m c 5144 (by omega) w3) (r : Fin 512) (l : Fin 128) :
    k0_pay28 (F := Ideal) (iblk m c 2 t) (iblk m c 3 t) (iblk m c 4 t) (xn m c t) w3 (ix2 r l) = kvs m c (bq t) (ps t r) 8 l :=
  (pay28_apply _ _ _ _ _ r l).trans (turnh m c t _ 5144 0 8 (by decide) (by omega) (by omega) rfl (pay19_pz m c t _ g3) r l)

theorem h38 (c : Dev nD) (t : Fin cfg0.N) (w3 : FVec Ideal S512x2048 .bf16) (g3 : IsW m c 5144 (by omega) w3) (r : Fin 512) (l : Fin 128) :
    k0_pay38 (F := Ideal) (iblk m c 2 t) (iblk m c 3 t) (iblk m c 4 t) (k0_pay19 (F := Ideal) (xn m c t) w3) (ix2 r l) = kvs m c (bq t) (ps t r) 9 l :=
  (pay38_apply _ _ _ _ r l).trans (turnh m c t _ 5144 128 9 (by decide) (by omega) (by omega) rfl (pay19_pz m c t _ g3) r l)

theorem h29 (c : Dev nD) (t : Fin cfg0.N) (w3 : FVec Ideal S512x2048 .bf16) (g3 : IsW m c 5144 (by omega) w3) (r : Fin 512) (l : Fin 128) :
    k0_pay29 (F := Ideal) (xn m c t) w3 (ix2 r l) = kvs m c (bq t) (ps t r) 10 l :=
  (pay29_apply _ _ r l).trans (flath m c t _ 5144 256 10 (by decide) (by omega) (by omega) rfl (pay19_pz m c t _ g3) r l)

theorem h39 (c : Dev nD) (t : Fin cfg0.N) (w3 : FVec Ideal S512x2048 .bf16) (g3 : IsW m c 5144 (by omega) w3) (r : Fin 512) (l : Fin 128) :
    k0_pay39 (F := Ideal) (k0_pay19 (F := Ideal) (xn m c t) w3) (ix2 r l) = kvs m c (bq t) (ps t r) 11 l :=
  (pay39_apply _ r l).trans (flath m c t _ 5144 384 11 (by decide) (by omega) (by omega) rfl (pay19_pz m c t _ g3) r l)

/-- The cache's rows. -/
theorem core8 (c : Dev nD) (t : Fin cfg0.N) (w1 w2 : FVec Ideal S512x2048 .bf16) (g1 : IsW m c 4120 (by omega) w1) (g2 : IsW m c 4632 (by omega) w2) (R : Fin 4096) (l : Fin 128) :
    k0_pay40 (F := Ideal) (iblk m c 3 t) (iblk m c 4 t) (k0_pay17 (F := Ideal) (xn m c t) w1) (k0_pay18 (F := Ideal) (xn m c t) w2) (k0_pay20 (F := Ideal) (iblk m c 2 t) (iblk m c 3 t) (iblk m c 4 t) (xn m c t) w2) (k0_pay22 (F := Ideal) (xn m c t) w2)
      (k0_pay24 (F := Ideal) (k0_pay17 (F := Ideal) (xn m c t) w1)) (k0_pay25 (F := Ideal) (k0_pay17 (F := Ideal) (xn m c t) w1)) (k0_pay30 (F := Ideal) (xn m c t) w2) (k0_pay31 (F := Ideal) (iblk m c 2 t) (xn m c t) w2) 16#32 (ix2 R l)
      = kvs m c (bq t) (ps t ⟨R.val / 8, by omega⟩) ⟨R.val % 8, by omega⟩ l := by
  rw [pay40_apply]
  have h : R.val % 8 = 0 ∨ R.val % 8 = 1 ∨ R.val % 8 = 2 ∨ R.val % 8 = 3 ∨ R.val % 8 = 4 ∨ R.val % 8 = 5 ∨ R.val % 8 = 6 ∨ R.val % 8 = 7 := by omega
  rcases h with h | h | h | h | h | h | h | h <;> simp only [h, Nat.reduceEqDiff, ↓reduceIte]
  · exact h24 m c t _ g1 _ l
  · exact flath m c t _ 4120 128 1 (by decide) (by omega) (by omega) rfl (pay17_pz m c t _ g1) _ l
  · exact h25 m c t _ g1 _ l
  · exact flath m c t _ 4120 384 3 (by decide) (by omega) (by omega) rfl (pay17_pz m c t _ g1) _ l
  · exact h20 m c t _ g2 _ l
  · exact h32 m c t _ g2 _ l
  · exact h22 m c t _ g2 _ l
  · exact h34 m c t _ g2 _ l

/-- The rows the attention reads. -/
theorem core9 (c : Dev nD) (t : Fin cfg0.N) (w2 w3 : FVec Ideal S512x2048 .bf16) (g2 : IsW m c 4632 (by omega) w2) (g3 : IsW m c 5144 (by omega) w3) (Y : S512x1024.Idx) :
    View.canon (Val := Elt Ideal) (s := S512x1024) (e := .bf16) [⟨Rect.unit ![0, 896] ![512, 128] inb_S512x1024_S512x128_0_896, k0_pay39 (F := Ideal) (k0_pay19 (F := Ideal) (xn m c t) w3)⟩,
      ⟨Rect.unit ![0, 640] ![512, 128] inb_S512x1024_S512x128_0_640, k0_pay38 (F := Ideal) (iblk m c 2 t) (iblk m c 3 t) (iblk m c 4 t) (k0_pay19 (F := Ideal) (xn m c t) w3)⟩,
      ⟨Rect.unit ![0, 384] ![512, 128] inb_S512x1024_S512x128_0_384, k0_pay37 (F := Ideal) (k0_pay18 (F := Ideal) (xn m c t) w2)⟩,
      ⟨Rect.unit ![0, 128] ![512, 128] inb_S512x1024_S512x128_0_128, k0_pay36 (F := Ideal) (iblk m c 3 t) (iblk m c 4 t) (k0_pay30 (F := Ideal) (xn m c t) w2) (k0_pay31 (F := Ideal) (iblk m c 2 t) (xn m c t) w2) 16#32⟩,
      ⟨Rect.unit ![0, 768] ![512, 128] inb_S512x1024_S512x128_0_768, k0_pay29 (F := Ideal) (xn m c t) w3⟩,
      ⟨Rect.unit ![0, 512] ![512, 128] inb_S512x1024_S512x128_0_512, k0_pay28 (F := Ideal) (iblk m c 2 t) (iblk m c 3 t) (iblk m c 4 t) (xn m c t) w3⟩,
      ⟨Rect.unit ![0, 256] ![512, 128] inb_S512x1024_S512x128_0_256, k0_pay27 (F := Ideal) (xn m c t) w2⟩,
      ⟨Rect.unit ![0, 0] ![512, 128] inb_S512x1024_S512x128_0_0, k0_pay26 (F := Ideal) (iblk m c 2 t) (iblk m c 3 t) (iblk m c 4 t) (xn m c t) w2⟩] Y
      = kvs m c (bq t) (ps t (Y 0)) ⟨4 + (Y 1).val / 128, by have : (Y 1).val < 1024 := (Y 1).isLt; omega⟩ ⟨(Y 1).val % 128, by omega⟩ := by
  canon_tiles Y
  · exact piece (fun q l r => kvs m c (bq t) (ps t r) q l) 896 (by omega) 11 rfl _ (fun r l => h39 m c t _ g3 r l) _ _ (by omega) (by omega)
  · exact piece (fun q l r => kvs m c (bq t) (ps t r) q l) 640 (by omega) 9 rfl _ (fun r l => h38 m c t _ g3 r l) _ _ (by omega) (by omega)
  · exact piece (fun q l r => kvs m c (bq t) (ps t r) q l) 384 (by omega) 7 rfl _ (fun r l => h37 m c t _ g2 r l) _ _ (by omega) (by omega)
  · exact piece (fun q l r => kvs m c (bq t) (ps t r) q l) 128 (by omega) 5 rfl _ (fun r l => h36 m c t _ g2 r l) _ _ (by omega) (by omega)
  · exact piece (fun q l r => kvs m c (bq t) (ps t r) q l) 768 (by omega) 10 rfl _ (fun r l => h29 m c t _ g3 r l) _ _ (by omega) (by omega)
  · exact piece (fun q l r => kvs m c (bq t) (ps t r) q l) 512 (by omega) 8 rfl _ (fun r l => h28 m c t _ g3 r l) _ _ (by omega) (by omega)
  · exact piece (fun q l r => kvs m c (bq t) (ps t r) q l) 256 (by omega) 6 rfl _ (fun r l => h27 m c t _ g2 r l) _ _ (by omega) (by omega)
  · exact piece (fun q l r => kvs m c (bq t) (ps t r) q l) 0 (by omega) 4 rfl _ (fun r l => h26 m c t _ g2 r l) _ _ (by omega) (by omega)

/-- The window's rows. -/
theorem core10 (c : Dev nD) (t : Fin cfg0.N) (w3 : FVec Ideal S512x2048 .bf16) (g3 : IsW m c 5144 (by omega) w3) (R : Fin 2048) (l : Fin 128) :
    k0_pay42 (F := Ideal) (k0_pay41 (F := Ideal) (iblk m c 2 t) (iblk m c 3 t) (iblk m c 4 t) (k0_pay19 (F := Ideal) (xn m c t) w3) (k0_pay21 (F := Ideal) (iblk m c 2 t) (iblk m c 3 t) (iblk m c 4 t) (xn m c t) w3) (k0_pay23 (F := Ideal) (xn m c t) w3)) (ix2 R l)
      = kvs m c (bq t) (ps t ⟨R.val / 4, by omega⟩) ⟨8 + R.val % 4, by omega⟩ l := by
  rw [pay42_apply]
  have h : R.val % 4 = 0 ∨ R.val % 4 = 1 ∨ R.val % 4 = 2 ∨ R.val % 4 = 3 := by omega
  rcases h with h | h | h | h <;> simp only [h, Nat.reduceEqDiff, ↓reduceIte]
  · exact h21 m c t _ g3 _ l
  · exact h33 m c t _ g3 _ l
  · exact h23 m c t _ g3 _ l
  · exact h35 m c t _ g3 _ l

/-- The pooled blocks. -/
theorem core11 (c : Dev nD) (t : Fin cfg0.N) (w1 : FVec Ideal S512x2048 .bf16) (g1 : IsW m c 4120 (by omega) w1) (i : Fin 8) (j : Fin 512) (R : Fin 128) (hR : R.val = 8 * t.val + i.val) :
    k0_pay43 (F := Ideal) (k0_pay17 (F := Ideal) (xn m c t) w1) (iblk m c 5 t) (ix2 i j)
      = KvSpec.pool (fun i k l => a4 m c (ix4 0 i k l)) (pz m c) R j := by
  rw [pay43_apply]
  unfold KvSpec.pool
  refine Finset.sum_congr rfl fun k _ => ?_
  rw [pay17_pz m c t _ g1, ablk]
  refine congrArg (· * _) (congrArg₂ (fun b s => pz m c b s _) (Fin.ext (by simp only [bq]; omega)) (Fin.ext (by simp only [ps]; omega)))

/-- Loaded rows of the memory: one head's. -/
def IsM (c : Dev nD) (b : Fin 4) (h : ℕ) (hh : h < 8) (K : Vec Ideal S1x256x128 .f32) : Prop :=
  ∀ (k : Fin 256) (d : Fin 128), K (ix3 0 k d) = mem m c b ⟨k.val * 8 + h, by omega⟩ d

theorem isM (c : Dev nD) (t : Fin cfg0.N) (h : ℕ) (hh : h < 8) (inb : _) (hw : (ms0_7 t).IsWhole) :
    IsM m c (bq t) h hh (View.readAt (Elt Ideal) (ms0_7 t).view
      ⟨![0, h, 0], ![1, 256, 128], ![1, 8, 1], inb⟩ (hw.unread (iblk m c 7 t))) := fun k d => by
  trans iblk m c 7 t (ix3 0 ⟨k.val * 8 + h, by omega⟩ d)
  · trans View.read (Elt Ideal) (ms0_7 t).view (hw.unread (iblk m c 7 t)) (ix3 0 ⟨k.val * 8 + h, by omega⟩ d)
    · refine congrArg (View.read (Elt Ideal) (ms0_7 t).view (hw.unread (iblk m c 7 t))) (funext fun a => Fin.ext ?_)
      fin_cases a
      · rfl
      · show h + 8 * k.val = k.val * 8 + h
        omega
      · show 0 + 1 * d.val = d.val
        omega
    · exact congrFun (hw.read_unread (iblk m c 7 t)) _
  · exact mblk m c t _ d

/-- The attention over the memory, where every number is real. -/
theorem core12 (c : Dev nD) (t : Fin cfg0.N) (w4 w5 : FVec Ideal S512x2048 .bf16) (g4 : IsW m c 5656 (by omega) w4) (g5 : IsW m c 6168 (by omega) w5) (K0 K1 K2 K3 V0 V1 V2 V3 : Vec Ideal S1x256x128 .f32)
    (k0 : IsM m c (bq t) 0 (by omega) K0) (k1 : IsM m c (bq t) 1 (by omega) K1) (k2 : IsM m c (bq t) 2 (by omega) K2) (k3 : IsM m c (bq t) 3 (by omega) K3)
    (v0 : IsM m c (bq t) 4 (by omega) V0) (v1 : IsM m c (bq t) 5 (by omega) V1) (v2 : IsM m c (bq t) 6 (by omega) V2) (v3 : IsM m c (bq t) 7 (by omega) V3)
    (hz : ∀ b s i, KvSpec.IsReal (pz m c b s i)) (hM : ∀ b i d, KvSpec.IsReal (mem m c b i d)) (Y : S512x512.Idx) :
    View.canon (Val := Elt Ideal) (s := S512x512) (e := .bf16) [⟨Rect.unit ![0, 384] ![512, 128] inb_S512x512_S512x128_0_384, k0_pay1 (F := Ideal) (k0_pay45 (F := Ideal) (xn m c t) w5) (k0_pay51 (F := Ideal) V3) (k0_pay52 (F := Ideal) (k0_pay44 (F := Ideal) (xn m c t) w4) K3)⟩,
      ⟨Rect.unit ![0, 256] ![512, 128] inb_S512x512_S512x128_0_256, k0_pay50 (F := Ideal) (k0_pay44 (F := Ideal) (xn m c t) w4) (k0_pay45 (F := Ideal) (xn m c t) w5) K2 V2⟩,
      ⟨Rect.unit ![0, 128] ![512, 128] inb_S512x512_S512x128_0_128, k0_pay49 (F := Ideal) (k0_pay44 (F := Ideal) (xn m c t) w4) (k0_pay45 (F := Ideal) (xn m c t) w5) K1 V1⟩,
      ⟨Rect.unit ![0, 0] ![512, 128] inb_S512x512_S512x128_0_0, k0_pay48 (F := Ideal) (k0_pay45 (F := Ideal) (xn m c t) w5) (k0_pay46 (F := Ideal) V0) (k0_pay47 (F := Ideal) (xn m c t) w4 K0)⟩] Y
      = KvSpec.ym (pz m c (bq t) (ps t (Y 0))) (mem m c (bq t)) (Y 1) := by
  canon_tiles Y
  · exact piece12 (fun j r => KvSpec.ym (pz m c (bq t) (ps t r)) (mem m c (bq t)) j) 384 (by omega) _ (fun r l => (pay1_apply _ _ _ _ r l).trans
      (mix_eq m c t r 3 l _ _ _ _ _ rfl (hz _ _) (hM _)
        ((headw m c t _ 6168 384 _ (by omega) (by omega) rfl (by omega) (pay45_pz m c t _ g5) r l).trans (congrArg (fun q => pz m c (bq t) (ps t r) q) (Fin.ext (by simp only; omega))))
        (fun d => (headw m c t _ 5656 384 _ (by omega) (by omega) rfl (by omega) (pay44_pz m c t _ g4) r d).trans (congrArg (fun q => pz m c (bq t) (ps t r) q) (Fin.ext (by simp only [Fin.val_ofNat]; omega))))
        k3 (fun k => v3 k l))) _ _ (by omega) (by omega)
  · exact piece12 (fun j r => KvSpec.ym (pz m c (bq t) (ps t r)) (mem m c (bq t)) j) 256 (by omega) _ (fun r l => (pay50_apply _ _ _ _ r l).trans
      (mix_eq m c t r 2 l _ _ _ _ _ rfl (hz _ _) (hM _)
        ((headw m c t _ 6168 256 _ (by omega) (by omega) rfl (by omega) (pay45_pz m c t _ g5) r l).trans (congrArg (fun q => pz m c (bq t) (ps t r) q) (Fin.ext (by simp only; omega))))
        (fun d => (headw m c t _ 5656 256 _ (by omega) (by omega) rfl (by omega) (pay44_pz m c t _ g4) r d).trans (congrArg (fun q => pz m c (bq t) (ps t r) q) (Fin.ext (by simp only [Fin.val_ofNat]; omega))))
        k2 (fun k => v2 k l))) _ _ (by omega) (by omega)
  · exact piece12 (fun j r => KvSpec.ym (pz m c (bq t) (ps t r)) (mem m c (bq t)) j) 128 (by omega) _ (fun r l => (pay49_apply _ _ _ _ r l).trans
      (mix_eq m c t r 1 l _ _ _ _ _ rfl (hz _ _) (hM _)
        ((headw m c t _ 6168 128 _ (by omega) (by omega) rfl (by omega) (pay45_pz m c t _ g5) r l).trans (congrArg (fun q => pz m c (bq t) (ps t r) q) (Fin.ext (by simp only; omega))))
        (fun d => (headw m c t _ 5656 128 _ (by omega) (by omega) rfl (by omega) (pay44_pz m c t _ g4) r d).trans (congrArg (fun q => pz m c (bq t) (ps t r) q) (Fin.ext (by simp only [Fin.val_ofNat]; omega))))
        k1 (fun k => v1 k l))) _ _ (by omega) (by omega)
  · exact piece12 (fun j r => KvSpec.ym (pz m c (bq t) (ps t r)) (mem m c (bq t)) j) 0 (by omega) _ (fun r l => (pay48_apply _ _ _ _ _ r l).trans
      (mix_eq m c t r 0 l _ _ _ _ _ rfl (hz _ _) (hM _)
        ((headw m c t _ 6168 0 _ (by omega) (by omega) rfl (by omega) (pay45_pz m c t _ g5) r l).trans (congrArg (fun q => pz m c (bq t) (ps t r) q) (Fin.ext (by simp only; omega))))
        (fun d => (headw m c t _ 5656 0 _ (by omega) (by omega) rfl (by omega) (pay44_pz m c t _ g4) r d).trans (congrArg (fun q => pz m c (bq t) (ps t r) q) (Fin.ext (by simp only [Fin.val_ofNat]; omega))))
        k0 (fun k => v0 k l))) _ _ (by omega) (by omega)

/-- The sample's projections. -/
theorem core13 (c : Dev nD) (t : Fin cfg0.N) (w1 w2 w3 w4 w5 : FVec Ideal S512x2048 .bf16) (g1 : IsW m c 4120 (by omega) w1) (g2 : IsW m c 4632 (by omega) w2) (g3 : IsW m c 5144 (by omega) w3) (g4 : IsW m c 5656 (by omega) w4) (g5 : IsW m c 6168 (by omega) w5) (Y : S64x2560.Idx) :
    View.canon (Val := Elt Ideal) (s := S64x2560) (e := .f32) [⟨Rect.unit ![0, 2048] ![64, 512] inb_S64x2560_S64x512_0_2048, k0_pay2 (F := Ideal) (k0_pay8 (F := Ideal) (iblk m c 6 t) (iblk m c 1 t)) w5⟩,
      ⟨Rect.unit ![0, 1536] ![64, 512] inb_S64x2560_S64x512_0_1536, k0_pay12 (F := Ideal) (iblk m c 6 t) (iblk m c 1 t) w4⟩,
      ⟨Rect.unit ![0, 1024] ![64, 512] inb_S64x2560_S64x512_0_1024, k0_pay11 (F := Ideal) (iblk m c 6 t) (iblk m c 1 t) w3⟩,
      ⟨Rect.unit ![0, 512] ![64, 512] inb_S64x2560_S64x512_0_512, k0_pay10 (F := Ideal) (iblk m c 6 t) (iblk m c 1 t) w2⟩,
      ⟨Rect.unit ![0, 0] ![64, 512] inb_S64x2560_S64x512_0_0, k0_pay9 (F := Ideal) (iblk m c 6 t) (iblk m c 1 t) w1⟩] Y
      = sz m c (Y 0) ⟨4120 + (Y 1).val, by have : (Y 1).val < 2560 := (Y 1).isLt; omega⟩ := by
  canon_tiles Y
  · exact piece13 (fun j r => sz m c r ⟨4120 + j.val, by omega⟩) 2048 (by omega) _ (fun r l => (pay2_apply _ _ r l).trans ((mms m c t 6168 (by omega) _ g5 r l).trans
      (congrArg (fun q => sz m c r q) (Fin.ext (by simp only; omega))))) _ _ (by omega) (by omega)
  · exact piece13 (fun j r => sz m c r ⟨4120 + j.val, by omega⟩) 1536 (by omega) _ (fun r l => (pay12_apply _ _ _ r l).trans ((mms m c t 5656 (by omega) _ g4 r l).trans
      (congrArg (fun q => sz m c r q) (Fin.ext (by simp only; omega))))) _ _ (by omega) (by omega)
  · exact piece13 (fun j r => sz m c r ⟨4120 + j.val, by omega⟩) 1024 (by omega) _ (fun r l => (pay11_apply _ _ _ r l).trans ((mms m c t 5144 (by omega) _ g3 r l).trans
      (congrArg (fun q => sz m c r q) (Fin.ext (by simp only; omega))))) _ _ (by omega) (by omega)
  · exact piece13 (fun j r => sz m c r ⟨4120 + j.val, by omega⟩) 512 (by omega) _ (fun r l => (pay10_apply _ _ _ r l).trans ((mms m c t 4632 (by omega) _ g2 r l).trans
      (congrArg (fun q => sz m c r q) (Fin.ext (by simp only; omega))))) _ _ (by omega) (by omega)
  · exact piece13 (fun j r => sz m c r ⟨4120 + j.val, by omega⟩) 0 (by omega) _ (fun r l => (pay9_apply _ _ _ r l).trans ((mms m c t 4120 (by omega) _ g1 r l).trans
      (congrArg (fun q => sz m c r q) (Fin.ext (by simp only; omega))))) _ _ (by omega) (by omega)

end Cert.KvIdeal.Value
-- ==== Proof.KvOut.lean ====
module

public import proofs.«01_k».proof.Proof.KvCore

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)

/-! The arrays the kernel leaves, put together from its grid points. -/

variable (m : (ℓ : Loc nD τ sig) → Buf (Elt Ideal) ℓ)

theorem point8 (c : Dev nD) (t : Fin cfg0.N) (R : Fin 4096) (l : Fin 128) :
    (outsAt0 m c t.val t.isLt).1 (ix2 R l) = kvs m c (bq t) (ps t ⟨R.val / 8, by omega⟩) ⟨R.val % 8, by omega⟩ l := by
  have hN := lt16 t
  by_cases h0 : t.val % 16 = 0
  · rw [outsAt0_A m c t h0 (by omega)]
    frame_out
    simp (disch := decide) only [View.readCov_skip, View.readCov_cons_toLoadRect, View.readCov_fill, pay14_eq, pay15_eq, pay16_eq]
    exact core8 m c t _ _ (isW3 m c) (isW4 m c) R l
  · by_cases h1 : t.val % 16 = 15
    · rw [outsAt0_C m c t h0 h1]
      frame_out
      simp only [read_unread_whole, wscr, pay14_eq, pay15_eq, pay16_eq]
      exact core8 m c t _ _ (isWld m c 0 (by omega) 4120 rfl _) (isWld m c 512 (by omega) 4632 rfl _) R l
    · rw [outsAt0_B m c t h0 h1]
      frame_out
      simp only [read_unread_whole, wscr, pay14_eq, pay15_eq, pay16_eq]
      exact core8 m c t _ _ (isWld m c 0 (by omega) 4120 rfl _) (isWld m c 512 (by omega) 4632 rfl _) R l

theorem point9 (c : Dev nD) (t : Fin cfg0.N) (Y : S512x1024.Idx) :
    (outsAt0 m c t.val t.isLt).2.1 Y = kvs m c (bq t) (ps t (Y 0)) ⟨4 + (Y 1).val / 128, by have : (Y 1).val < 1024 := (Y 1).isLt; omega⟩ ⟨(Y 1).val % 128, by omega⟩ := by
  have hN := lt16 t
  by_cases h0 : t.val % 16 = 0
  · rw [outsAt0_A m c t h0 (by omega)]
    frame_out
    simp (disch := decide) only [View.readCov_skip, View.readCov_cons_toLoadRect, View.readCov_fill, pay14_eq, pay15_eq, pay16_eq]
    exact core9 m c t _ _ (isW4 m c) (isW5 m c) Y
  · by_cases h1 : t.val % 16 = 15
    · rw [outsAt0_C m c t h0 h1]
      frame_out
      simp only [read_unread_whole, wscr, pay14_eq, pay15_eq, pay16_eq]
      exact core9 m c t _ _ (isWld m c 512 (by omega) 4632 rfl _) (isWld m c 1024 (by omega) 5144 rfl _) Y
    · rw [outsAt0_B m c t h0 h1]
      frame_out
      simp only [read_unread_whole, wscr, pay14_eq, pay15_eq, pay16_eq]
      exact core9 m c t _ _ (isWld m c 512 (by omega) 4632 rfl _) (isWld m c 1024 (by omega) 5144 rfl _) Y

theorem point10 (c : Dev nD) (t : Fin cfg0.N) (R : Fin 2048) (l : Fin 128) :
    (outsAt0 m c t.val t.isLt).2.2.1 (ix2 R l) = kvs m c (bq t) (ps t ⟨R.val / 4, by omega⟩) ⟨8 + R.val % 4, by omega⟩ l := by
  have hN := lt16 t
  by_cases h0 : t.val % 16 = 0
  · rw [outsAt0_A m c t h0 (by omega)]
    frame_out
    simp (disch := decide) only [View.readCov_skip, View.readCov_cons_toLoadRect, View.readCov_fill, pay14_eq, pay15_eq, pay16_eq]
    exact core10 m c t _ (isW5 m c) R l
  · by_cases h1 : t.val % 16 = 15
    · rw [outsAt0_C m c t h0 h1]
      frame_out
      simp only [read_unread_whole, wscr, pay14_eq, pay15_eq, pay16_eq]
      exact core10 m c t _ (isWld m c 1024 (by omega) 5144 rfl _) R l
    · rw [outsAt0_B m c t h0 h1]
      frame_out
      simp only [read_unread_whole, wscr, pay14_eq, pay15_eq, pay16_eq]
      exact core10 m c t _ (isWld m c 1024 (by omega) 5144 rfl _) R l

theorem point11 (c : Dev nD) (t : Fin cfg0.N) (i : Fin 8) (j : Fin 512) (R : Fin 128) (hR : R.val = 8 * t.val + i.val) :
    (outsAt0 m c t.val t.isLt).2.2.2.1 (ix2 i j) = KvSpec.pool (fun i k l => a4 m c (ix4 0 i k l)) (pz m c) R j := by
  have hN := lt16 t
  by_cases h0 : t.val % 16 = 0
  · rw [outsAt0_A m c t h0 (by omega)]
    frame_out
    simp (disch := decide) only [View.readCov_skip, View.readCov_cons_toLoadRect, View.readCov_fill, pay14_eq, pay15_eq, pay16_eq]
    exact core11 m c t _ (isW3 m c) i j R hR
  · by_cases h1 : t.val % 16 = 15
    · rw [outsAt0_C m c t h0 h1]
      frame_out
      simp only [read_unread_whole, wscr, pay14_eq, pay15_eq, pay16_eq]
      exact core11 m c t _ (isWld m c 0 (by omega) 4120 rfl _) i j R hR
    · rw [outsAt0_B m c t h0 h1]
      frame_out
      simp only [read_unread_whole, wscr, pay14_eq, pay15_eq, pay16_eq]
      exact core11 m c t _ (isWld m c 0 (by omega) 4120 rfl _) i j R hR

theorem point12 (c : Dev nD) (t : Fin cfg0.N) (hz : ∀ b s i, KvSpec.IsReal (pz m c b s i)) (hM : ∀ b i d, KvSpec.IsReal (mem m c b i d)) (Y : S512x512.Idx) :
    (outsAt0 m c t.val t.isLt).2.2.2.2.1 Y = KvSpec.ym (pz m c (bq t) (ps t (Y 0))) (mem m c (bq t)) (Y 1) := by
  have hN := lt16 t
  by_cases h0 : t.val % 16 = 0
  · rw [outsAt0_A m c t h0 (by omega)]
    frame_out
    simp (disch := decide) only [View.readCov_skip, View.readCov_cons_toLoadRect, View.readCov_fill, pay14_eq, pay15_eq, pay16_eq]
    exact core12 m c t _ _ (isW6 m c) (isW7 m c) _ _ _ _ _ _ _ _  (isM m c t 0 (by omega) _ _) (isM m c t 1 (by omega) _ _) (isM m c t 2 (by omega) _ _) (isM m c t 3 (by omega) _ _) (isM m c t 4 (by omega) _ _) (isM m c t 5 (by omega) _ _) (isM m c t 6 (by omega) _ _) (isM m c t 7 (by omega) _ _) hz hM Y
  · by_cases h1 : t.val % 16 = 15
    · rw [outsAt0_C m c t h0 h1]
      frame_out
      simp only [read_unread_whole, wscr, pay14_eq, pay15_eq, pay16_eq]
      exact core12 m c t _ _ (isWld m c 1536 (by omega) 5656 rfl _) (isWld m c 2048 (by omega) 6168 rfl _) _ _ _ _ _ _ _ _  (isM m c t 0 (by omega) _ _) (isM m c t 1 (by omega) _ _) (isM m c t 2 (by omega) _ _) (isM m c t 3 (by omega) _ _) (isM m c t 4 (by omega) _ _) (isM m c t 5 (by omega) _ _) (isM m c t 6 (by omega) _ _) (isM m c t 7 (by omega) _ _) hz hM Y
    · rw [outsAt0_B m c t h0 h1]
      frame_out
      simp only [read_unread_whole, wscr, pay14_eq, pay15_eq, pay16_eq]
      exact core12 m c t _ _ (isWld m c 1536 (by omega) 5656 rfl _) (isWld m c 2048 (by omega) 6168 rfl _) _ _ _ _ _ _ _ _  (isM m c t 0 (by omega) _ _) (isM m c t 1 (by omega) _ _) (isM m c t 2 (by omega) _ _) (isM m c t 3 (by omega) _ _) (isM m c t 4 (by omega) _ _) (isM m c t 5 (by omega) _ _) (isM m c t 6 (by omega) _ _) (isM m c t 7 (by omega) _ _) hz hM Y

theorem point13 (c : Dev nD) (t : Fin cfg0.N) (h1 : t.val % 16 = 15) (Y : S64x2560.Idx) :
    (outsAt0 m c t.val t.isLt).2.2.2.2.2.1 Y = sz m c (Y 0) ⟨4120 + (Y 1).val, by have : (Y 1).val < 2560 := (Y 1).isLt; omega⟩ := by
  rw [outsAt0_C m c t (by omega) h1]
  frame_out
  simp only [read_unread_whole, wscr]
  exact core13 m c t _ _ _ _ _ (isWld m c 0 (by omega) 4120 rfl _) (isWld m c 512 (by omega) 4632 rfl _) (isWld m c 1024 (by omega) 5144 rfl _) (isWld m c 1536 (by omega) 5656 rfl _) (isWld m c 2048 (by omega) 6168 rfl _) Y

theorem out8 (c : Dev nD) : (dats m 0 c).arrAt 8 (cfgs 0).N
    = fun j : S65536x128.Idx => KvSpec.kvn (kvs m c) (j 0) (j 1) := by
  refine (dats m 0 c).arrAt_eq_of_covers 8 _ (by decide +kernel) fun t _ y => ?_
  rw [after0_8]
  obtain ⟨r, l, rfl⟩ : ∃ (r : Fin 4096) (l : Fin 128), y = ix2 r l := ⟨y 0, y 1, eq_ix2 y⟩
  have e : ((cfg0.win 8).blk t).view.emb (ix2 r l) = (ix2 ⟨4096 * t.val + r.val, by have := lt16 t; omega⟩ l : S65536x128.Idx) := by
    blk_point [idx t]
  refine Eq.trans ?_ (congrArg (fun j : S65536x128.Idx => KvSpec.kvn (kvs m c) (j 0) (j 1)) e.symm)
  refine (point8 m c t r l).trans ?_
  show _ = KvSpec.kvn (kvs m c) ⟨4096 * t.val + r.val, _⟩ l
  unfold KvSpec.kvn
  rw [atRow_blk _ t ⟨r.val / 8, by omega⟩ _ (by simp only; omega)]
  exact congrArg (fun q => kvs m c (bq t) (ps t ⟨r.val / 8, by omega⟩) q l) (Fin.ext (by simp only; omega))

theorem out9 (c : Dev nD) : (dats m 0 c).arrAt 9 (cfgs 0).N
    = fun j : S8192x1024.Idx => KvSpec.kvb (kvs m c) (j 0) (j 1) := by
  refine (dats m 0 c).arrAt_eq_of_covers 9 _ (by decide +kernel) fun t _ y => ?_
  rw [after0_9]
  obtain ⟨r, l, rfl⟩ : ∃ (r : Fin 512) (l : Fin 1024), y = ix2 r l := ⟨y 0, y 1, eq_ix2 y⟩
  have e : ((cfg0.win 9).blk t).view.emb (ix2 r l) = (ix2 ⟨512 * t.val + r.val, by have := lt16 t; omega⟩ l : S8192x1024.Idx) := by
    blk_point [idx t]
  refine Eq.trans ?_ (congrArg (fun j : S8192x1024.Idx => KvSpec.kvb (kvs m c) (j 0) (j 1)) e.symm)
  refine (point9 m c t (ix2 r l)).trans ?_
  show _ = KvSpec.kvb (kvs m c) ⟨512 * t.val + r.val, _⟩ l
  unfold KvSpec.kvb
  rw [atRow_blk _ t r _ rfl]
  rfl

theorem out10 (c : Dev nD) : (dats m 0 c).arrAt 10 (cfgs 0).N
    = fun j : S8192x128.Idx => KvSpec.win (kvs m c) (j 0) (j 1) := by
  refine (dats m 0 c).arrAt_eq_of_covers 10 _ (by decide +kernel) fun t hf y => ?_
  rw [after0_10]
  obtain ⟨r, l, rfl⟩ : ∃ (r : Fin 2048) (l : Fin 128), y = ix2 r l := ⟨y 0, y 1, eq_ix2 y⟩
  have h3 : t.val % 4 = 3 := (flush0_10 t).mp hf
  have e : ((cfg0.win 10).blk t).view.emb (ix2 r l) = (ix2 ⟨2048 * (t.val / 4) + r.val, by have := lt16 t; omega⟩ l : S8192x128.Idx) := by
    blk_point [idx t]
  refine Eq.trans ?_ (congrArg (fun j : S8192x128.Idx => KvSpec.win (kvs m c) (j 0) (j 1)) e.symm)
  refine (point10 m c t r l).trans ?_
  show _ = KvSpec.win (kvs m c) ⟨2048 * (t.val / 4) + r.val, _⟩ l
  unfold KvSpec.win
  have e1 : (⟨(2048 * (t.val / 4) + r.val) / 2048, by have := lt16 t; omega⟩ : Fin 4) = bq t := Fin.ext (by simp only [bq]; omega)
  have e2 : (⟨1536 + (2048 * (t.val / 4) + r.val) % 2048 / 4, by omega⟩ : Fin 2048) = ps t ⟨r.val / 4, by omega⟩ := Fin.ext (by simp only [ps]; omega)
  have e3 : (⟨8 + (2048 * (t.val / 4) + r.val) % 4, by omega⟩ : Fin 12) = ⟨8 + r.val % 4, by omega⟩ := Fin.ext (by simp only; omega)
  rw [e1, e2, e3]

theorem out11 (c : Dev nD) : (dats m 0 c).arrAt 11 (cfgs 0).N
    = fun j : S128x512.Idx => KvSpec.pool (fun i k l => a4 m c (ix4 0 i k l)) (pz m c) (j 0) (j 1) := by
  refine (dats m 0 c).arrAt_eq_of_covers 11 _ (by decide +kernel) fun t _ y => ?_
  rw [after0_11]
  obtain ⟨r, l, rfl⟩ : ∃ (r : Fin 8) (l : Fin 512), y = ix2 r l := ⟨y 0, y 1, eq_ix2 y⟩
  have e : ((cfg0.win 11).blk t).view.emb (ix2 r l) = (ix2 ⟨8 * t.val + r.val, by have := lt16 t; omega⟩ l : S128x512.Idx) := by
    blk_point [idx t]
  refine Eq.trans ?_ (congrArg (fun j : S128x512.Idx => KvSpec.pool (fun i k l => a4 m c (ix4 0 i k l)) (pz m c) (j 0) (j 1)) e.symm)
  exact point11 m c t r l _ rfl

theorem out12 (c : Dev nD) (hz : ∀ b s i, KvSpec.IsReal (pz m c b s i)) (hM : ∀ b i d, KvSpec.IsReal (mem m c b i d)) : (dats m 0 c).arrAt 12 (cfgs 0).N
    = fun j : S8192x512.Idx => ProjSpec.atRow (fun b s => KvSpec.ym (pz m c b s) (mem m c b) (j 1)) (j 0) := by
  refine (dats m 0 c).arrAt_eq_of_covers 12 _ (by decide +kernel) fun t _ y => ?_
  rw [after0_12]
  obtain ⟨r, l, rfl⟩ : ∃ (r : Fin 512) (l : Fin 512), y = ix2 r l := ⟨y 0, y 1, eq_ix2 y⟩
  have e : ((cfg0.win 12).blk t).view.emb (ix2 r l) = (ix2 ⟨512 * t.val + r.val, by have := lt16 t; omega⟩ l : S8192x512.Idx) := by
    blk_point [idx t]
  refine Eq.trans ?_ (congrArg (fun j : S8192x512.Idx => ProjSpec.atRow (fun b s => KvSpec.ym (pz m c b s) (mem m c b) (j 1)) (j 0)) e.symm)
  refine (point12 m c t hz hM (ix2 r l)).trans ?_
  show _ = ProjSpec.atRow (fun b s => KvSpec.ym (pz m c b s) (mem m c b) l) ⟨512 * t.val + r.val, _⟩
  rw [atRow_blk _ t r _ rfl]
  rfl

theorem out13 (c : Dev nD) : (dats m 0 c).arrAt 13 (cfgs 0).N
    = fun j : S64x2560.Idx => sz m c (j 0) ⟨4120 + (j 1).val, by have : (j 1).val < 2560 := (j 1).isLt; omega⟩ := by
  refine (dats m 0 c).arrAt_eq_of_covers 13 _ (by decide +kernel) fun t hf y => ?_
  rw [after0_13]
  obtain ⟨r, l, rfl⟩ : ∃ (r : Fin 64) (l : Fin 2560), y = ix2 r l := ⟨y 0, y 1, eq_ix2 y⟩
  have e : ((cfg0.win 13).blk t).view.emb (ix2 r l) = (ix2 r l : S64x2560.Idx) := by
    blk_point [idx t]
  refine Eq.trans ?_ (congrArg (fun j : S64x2560.Idx => sz m c (j 0) ⟨4120 + (j 1).val, by have : (j 1).val < 2560 := (j 1).isLt; omega⟩) e.symm)
  exact point13 m c t ((flush0_13 t).mp hf) (ix2 r l)

end Cert.KvIdeal.Value
-- ==== Proof.KvRun.lean ====
module

public import proofs.«01_k».proof.Proof.KvOut

@[expose] public section

set_option maxRecDepth 16384

noncomputable section

namespace Cert.KvIdeal.Value

open Cert.KvIdeal Cert.KvIdeal.Gen Idealize.ShloMosaic Idealize.ShloMosaic.TcCoe Idealize.SL.Sem

variable (m : (ℓ : Loc nD τ sig) → Buf (Elt Ideal) ℓ)

/-- What the kernel leaves in its six results. -/
theorem run_outs (ρ : Dev nD → PrngReg) :
    θ_run defs (onTc (τ := τ) (main (F := Ideal))) ⟨m, fun _ => 0, ρ⟩ fun r => ∀ c : Dev nD,
      (r.2.mem ((c.tc : Thread nD τ).loc main_v23_0) = (dats m 0 c).arrAt 8 (cfgs 0).N)
      ∧ (r.2.mem ((c.tc : Thread nD τ).loc main_v23_1) = (dats m 0 c).arrAt 9 (cfgs 0).N)
      ∧ (r.2.mem ((c.tc : Thread nD τ).loc main_v23_2) = (dats m 0 c).arrAt 10 (cfgs 0).N)
      ∧ (r.2.mem ((c.tc : Thread nD τ).loc main_v23_3) = (dats m 0 c).arrAt 11 (cfgs 0).N)
      ∧ (r.2.mem ((c.tc : Thread nD τ).loc main_v23_4) = (dats m 0 c).arrAt 12 (cfgs 0).N)
      ∧ (r.2.mem ((c.tc : Thread nD τ).loc main_v23_5) = (dats m 0 c).arrAt 13 (cfgs 0).N) :=
  (θ_run defs _ _).mono (fun _ h c => ⟨(h c).1 8, (h c).1 9, (h c).1 10, (h c).1 11, (h c).1 12, (h c).1 13⟩)
    (run_main m ρ)

end Cert.KvIdeal.Value
-- ==== Proof.KvRefA.lean ====
module

public import proofs.«01_k».proof.Proof.KvSpec
public import proofs.«01_k».proof.Proof.Gen.KvRefIdeal.Run
public import Idealize.ShloMosaic.Lib.Pointwise
public import Idealize.ShloMosaic.Lib.Pipeline.ValueKit

@[expose] public section

set_option maxRecDepth 16384

noncomputable section

namespace Cert.KvRefIdeal.Value

open Cert.KvRefIdeal Cert.KvRefIdeal.Gen Idealize.ShloMosaic Idealize.ShloMosaic.TcCoe Idealize.SL.Sem

/-- The rms norm of the prompt, at an entry. -/
theorem norm1 (A0 : FVec Ideal S4x2048x2048 .f32) (A2 : FVec Ideal S1x2048 .f32) (b : Fin 4) (s l : Fin 2048) :
    mulf (mulf A0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A0 A0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ A2 shapeCasts_S1x2048_S2048))) (ix3 b s l)
      = OutSpec.normed (fun l => A0 (ix3 b s l)) (fun l => A2 (ix2 0 l)) l := by
  pointwise [OutSpec.normed]

/-- A product with `w_in`. -/
def dot1 (N : FVec Ideal S4x2048x2048 .f32) (A3 : FVec Ideal S1x2048x6680 .f32) : FVec Ideal S4x2048x6680 .f32 :=
  Host.dotGeneral dot_S4x2048x2048_S2048x6680_S4x2048x6680_2_0_01_1_n_n none N (shapeCast _ A3 shapeCasts_S1x2048x6680_S2048x6680)

theorem dot1_apply (N : FVec Ideal S4x2048x2048 .f32) (A3 : FVec Ideal S1x2048x6680 .f32) (b : Fin 4) (s : Fin 2048) (n : Fin 6680) :
    dot1 N A3 (ix3 b s n) = ∑ k : Fin 2048, N (ix3 b s k) * A3 (ix3 0 k n) := by
  pointwise [dot1]

/-- The prompt's projections. -/
def Z (A0 : FVec Ideal S4x2048x2048 .f32) (A2 : FVec Ideal S1x2048 .f32) (A3 : FVec Ideal S1x2048x6680 .f32) : FVec Ideal S4x2048x6680 .f32 :=
  dot1 (mulf (mulf A0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A0 A0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ A2 shapeCasts_S1x2048_S2048)))) A3

theorem Z_apply (A0 : FVec Ideal S4x2048x2048 .f32) (A2 : FVec Ideal S1x2048 .f32) (A3 : FVec Ideal S1x2048x6680 .f32) :
    (fun b s n => Z A0 A2 A3 (ix3 b s n)) = ProjSpec.z A0 A2 A3 := by
  funext b s n
  unfold Z
  rw [dot1_apply]
  exact Finset.sum_congr rfl fun k _ => congrArg (· * A3 (ix3 0 k n)) (norm1 A0 A2 b s k)

theorem sitofp0 : FloatOps.sitofp (F := Ideal) FTy.f32 0#32 = (0 : EReal) := by
  change (((0#32 : BitVec 32).toInt : ℝ) : EReal) = 0
  simp

/-- The sample padded. -/
def pad1 (A1 : FVec Ideal S8x4x2048 .f32) : FVec Ideal S8x8x2048 .f32 :=
  pad S8x8x2048 ![0, 0, 0] ![0, 4, 0] ![0, 0, 0] A1 (sitofp .f32 (constantI S_ 32 0#32)) pads_S8x4x2048_S8x8x2048_000_040_000 h_S_

theorem pad1_apply (A1 : FVec Ideal S8x4x2048 .f32) (r : Fin 64) (l : Fin 2048) :
    pad1 A1 (ix3 ⟨r.val / 8, by omega⟩ ⟨r.val % 8, by omega⟩ l) = ProjSpec.srow A1 r l := by
  pointwise [pad1, ProjSpec.srow]
  split_ifs <;> first | rfl | omega | simp [sitofp0]

theorem norm2 (A1 : FVec Ideal S8x8x2048 .f32) (A2 : FVec Ideal S1x2048 .f32) (b s : Fin 8) (l : Fin 2048) :
    mulf (mulf A1 (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf A1 A1) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 (shapeCast _ A2 shapeCasts_S1x2048_S2048))) (ix3 b s l)
      = OutSpec.normed (fun l => A1 (ix3 b s l)) (fun l => A2 (ix2 0 l)) l := by
  pointwise [OutSpec.normed]

/-- A product with `w_in`. -/
def dot2 (N : FVec Ideal S8x8x2048 .f32) (A3 : FVec Ideal S1x2048x6680 .f32) : FVec Ideal S8x8x6680 .f32 :=
  Host.dotGeneral dot_S8x8x2048_S2048x6680_S8x8x6680_2_0_01_1_n_n none N (shapeCast _ A3 shapeCasts_S1x2048x6680_S2048x6680)

theorem dot2_apply (N : FVec Ideal S8x8x2048 .f32) (A3 : FVec Ideal S1x2048x6680 .f32) (b s : Fin 8) (n : Fin 6680) :
    dot2 N A3 (ix3 b s n) = ∑ k : Fin 2048, N (ix3 b s k) * A3 (ix3 0 k n) := by
  pointwise [dot2]

/-- The sample's projections. -/
def ZS (A1 : FVec Ideal S8x8x2048 .f32) (A2 : FVec Ideal S1x2048 .f32) (A3 : FVec Ideal S1x2048x6680 .f32) : FVec Ideal S8x8x6680 .f32 :=
  dot2 (mulf (mulf A1 (broadcastInDim S8x8x2048 ![0, 1, 2] bcast_S8x8x1_S8x8x2048_0_1_2 (Host.rsqrt (addf (Host.divf (broadcastInDim S8x8x1 ![0, 1] bcast_S8x8_S8x8x1_0_1 (Host.reduceAdd (mulf A1 A1) (constant S_ .f32 0x00000000#32) reducesTo_S8x8x2048_S8x8_d2 h_S_)) (broadcastInDim S8x8x1 ![] bcast_S_S8x8x1 (constant S_ .f32 0x45000000#32))) (broadcastInDim S8x8x1 ![] bcast_S_S8x8x1 (constant S_ .f32 0x358637BD#32)))))) (broadcastInDim S8x8x2048 ![0, 1, 2] bcast_S1x1x2048_S8x8x2048_0_1_2 (broadcastInDim S1x1x2048 ![2] bcast_S2048_S1x1x2048_2 (shapeCast _ A2 shapeCasts_S1x2048_S2048)))) A3

theorem ZS_apply (A1 : FVec Ideal S8x4x2048 .f32) (A2 : FVec Ideal S1x2048 .f32) (A3 : FVec Ideal S1x2048x6680 .f32) (r : Fin 64) (n : Fin 6680) :
    ZS (pad1 A1) A2 A3 (ix3 ⟨r.val / 8, by omega⟩ ⟨r.val % 8, by omega⟩ n) = ProjSpec.zrow (ProjSpec.srow A1 r) A2 A3 n := by
  unfold ZS
  rw [dot2_apply]
  refine Finset.sum_congr rfl fun k _ => congrArg (· * A3 (ix3 0 k n)) ((norm2 (pad1 A1) A2 _ _ k).trans ?_)
  simp only [pad1_apply]

/-- The two heads of part 0 of the keys and values. -/
def P0 (T : FVec Ideal S4x2048x6680 .f32) : FVec Ideal S4x2048x2x128 .f32 :=
  shapeCast _ (extractStridedSlice S4x2048x1x2x128 ![0, 0, 0, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_0_0_0) shapeCasts_S4x2048x1x2x128_S4x2048x2x128

theorem P0_apply (T : FVec Ideal S4x2048x6680 .f32) (b : Fin 4) (s : Fin 2048) (g : Fin 2) (l : Fin 128) :
    P0 T (ix4 b s g l) = KvSpec.col (fun n => T (ix3 b s n)) ⟨0 + g.val, by omega⟩ l := by
  pointwise [P0, KvSpec.col]
  first | done | exact congrArg (fun n => T (ix3 b s n)) (Fin.ext (by simp only; omega))

/-- The two heads of part 1 of the keys and values. -/
def P1 (T : FVec Ideal S4x2048x6680 .f32) : FVec Ideal S4x2048x2x128 .f32 :=
  shapeCast _ (extractStridedSlice S4x2048x1x2x128 ![0, 0, 1, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_1_0_0) shapeCasts_S4x2048x1x2x128_S4x2048x2x128

theorem P1_apply (T : FVec Ideal S4x2048x6680 .f32) (b : Fin 4) (s : Fin 2048) (g : Fin 2) (l : Fin 128) :
    P1 T (ix4 b s g l) = KvSpec.col (fun n => T (ix3 b s n)) ⟨2 + g.val, by omega⟩ l := by
  pointwise [P1, KvSpec.col]
  first | done | exact congrArg (fun n => T (ix3 b s n)) (Fin.ext (by simp only; omega))

/-- The two heads of part 2 of the keys and values. -/
def P2 (T : FVec Ideal S4x2048x6680 .f32) : FVec Ideal S4x2048x2x128 .f32 :=
  shapeCast _ (extractStridedSlice S4x2048x1x2x128 ![0, 0, 2, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_2_0_0) shapeCasts_S4x2048x1x2x128_S4x2048x2x128

theorem P2_apply (T : FVec Ideal S4x2048x6680 .f32) (b : Fin 4) (s : Fin 2048) (g : Fin 2) (l : Fin 128) :
    P2 T (ix4 b s g l) = KvSpec.col (fun n => T (ix3 b s n)) ⟨4 + g.val, by omega⟩ l := by
  pointwise [P2, KvSpec.col]
  first | done | exact congrArg (fun n => T (ix3 b s n)) (Fin.ext (by simp only; omega))

/-- The two heads of part 3 of the keys and values. -/
def P3 (T : FVec Ideal S4x2048x6680 .f32) : FVec Ideal S4x2048x2x128 .f32 :=
  shapeCast _ (extractStridedSlice S4x2048x1x2x128 ![0, 0, 3, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_3_0_0) shapeCasts_S4x2048x1x2x128_S4x2048x2x128

theorem P3_apply (T : FVec Ideal S4x2048x6680 .f32) (b : Fin 4) (s : Fin 2048) (g : Fin 2) (l : Fin 128) :
    P3 T (ix4 b s g l) = KvSpec.col (fun n => T (ix3 b s n)) ⟨6 + g.val, by omega⟩ l := by
  pointwise [P3, KvSpec.col]
  first | done | exact congrArg (fun n => T (ix3 b s n)) (Fin.ext (by simp only; omega))

/-- The two heads of part 4 of the keys and values. -/
def P4 (T : FVec Ideal S4x2048x6680 .f32) : FVec Ideal S4x2048x2x128 .f32 :=
  shapeCast _ (extractStridedSlice S4x2048x1x2x128 ![0, 0, 4, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_4_0_0) shapeCasts_S4x2048x1x2x128_S4x2048x2x128

theorem P4_apply (T : FVec Ideal S4x2048x6680 .f32) (b : Fin 4) (s : Fin 2048) (g : Fin 2) (l : Fin 128) :
    P4 T (ix4 b s g l) = KvSpec.col (fun n => T (ix3 b s n)) ⟨8 + g.val, by omega⟩ l := by
  pointwise [P4, KvSpec.col]
  first | done | exact congrArg (fun n => T (ix3 b s n)) (Fin.ext (by simp only; omega))

/-- The two heads of part 5 of the keys and values. -/
def P5 (T : FVec Ideal S4x2048x6680 .f32) : FVec Ideal S4x2048x2x128 .f32 :=
  shapeCast _ (extractStridedSlice S4x2048x1x2x128 ![0, 0, 5, 0, 0] (shapeCast _ (extractStridedSlice S4x2048x1536 ![0, 0, 4120] T slices_S4x2048x6680_S4x2048x1536_0_0_4120) shapeCasts_S4x2048x1536_S4x2048x6x2x128) slices_S4x2048x6x2x128_S4x2048x1x2x128_0_0_5_0_0) shapeCasts_S4x2048x1x2x128_S4x2048x2x128

theorem P5_apply (T : FVec Ideal S4x2048x6680 .f32) (b : Fin 4) (s : Fin 2048) (g : Fin 2) (l : Fin 128) :
    P5 T (ix4 b s g l) = KvSpec.col (fun n => T (ix3 b s n)) ⟨10 + g.val, by omega⟩ l := by
  pointwise [P5, KvSpec.col]
  first | done | exact congrArg (fun n => T (ix3 b s n)) (Fin.ext (by simp only; omega))

/-- A pair of heads rotated. -/
def rp (P : FVec Ideal S4x2048x2x128 .f32) (A5 A6 : FVec Ideal S2048x16 .f32) : FVec Ideal S4x2048x2x128 .f32 :=
  (concatenate S4x2048x2x128 3 [⟨S4x2048x2x16, ((subf (mulf (extractStridedSlice S4x2048x2x16 ![0, 0, 0, 0] P slices_S4x2048x2x128_S4x2048x2x16_0_0_0_0) (broadcastInDim S4x2048x2x16 ![0, 1, 2, 3] bcast_S1x2048x1x16_S4x2048x2x16_0_1_2_3 (broadcastInDim S1x2048x1x16 ![1, 2, 3] bcast_S2048x1x16_S1x2048x1x16_1_2_3 (broadcastInDim S2048x1x16 ![0, 2] bcast_S2048x16_S2048x1x16_0_2 A5)))) (mulf (extractStridedSlice S4x2048x2x16 ![0, 0, 0, 16] P slices_S4x2048x2x128_S4x2048x2x16_0_0_0_16) (broadcastInDim S4x2048x2x16 ![0, 1, 2, 3] bcast_S1x2048x1x16_S4x2048x2x16_0_1_2_3 (broadcastInDim S1x2048x1x16 ![1, 2, 3] bcast_S2048x1x16_S1x2048x1x16_1_2_3 (broadcastInDim S2048x1x16 ![0, 2] bcast_S2048x16_S2048x1x16_0_2 A6))))) : (⟨S4x2048x2x16, .f32⟩ : BufTy).Contents (Elt Ideal))⟩, ⟨S4x2048x2x16, ((addf (mulf (extractStridedSlice S4x2048x2x16 ![0, 0, 0, 16] P slices_S4x2048x2x128_S4x2048x2x16_0_0_0_16) (broadcastInDim S4x2048x2x16 ![0, 1, 2, 3] bcast_S1x2048x1x16_S4x2048x2x16_0_1_2_3 (broadcastInDim S1x2048x1x16 ![1, 2, 3] bcast_S2048x1x16_S1x2048x1x16_1_2_3 (broadcastInDim S2048x1x16 ![0, 2] bcast_S2048x16_S2048x1x16_0_2 A5)))) (mulf (extractStridedSlice S4x2048x2x16 ![0, 0, 0, 0] P slices_S4x2048x2x128_S4x2048x2x16_0_0_0_0) (broadcastInDim S4x2048x2x16 ![0, 1, 2, 3] bcast_S1x2048x1x16_S4x2048x2x16_0_1_2_3 (broadcastInDim S1x2048x1x16 ![1, 2, 3] bcast_S2048x1x16_S1x2048x1x16_1_2_3 (broadcastInDim S2048x1x16 ![0, 2] bcast_S2048x16_S2048x1x16_0_2 A6))))) : (⟨S4x2048x2x16, .f32⟩ : BufTy).Contents (Elt Ideal))⟩, ⟨S4x2048x2x96, ((extractStridedSlice S4x2048x2x96 ![0, 0, 0, 32] P slices_S4x2048x2x128_S4x2048x2x96_0_0_0_32) : (⟨S4x2048x2x96, .f32⟩ : BufTy).Contents (Elt Ideal))⟩] concatenates_S4x2048x2x16_S4x2048x2x16_S4x2048x2x96_S4x2048x2x128_d3 : (⟨S4x2048x2x128, .f32⟩ : BufTy).Contents (Elt Ideal))

theorem rp_apply (P : FVec Ideal S4x2048x2x128 .f32) (A5 A6 : FVec Ideal S2048x16 .f32) (b : Fin 4) (s : Fin 2048) (g : Fin 2) (l : Fin 128) :
    rp P A5 A6 (ix4 b s g l) = ProjSpec.rot (fun l => P (ix4 b s g l)) (fun l => A5 (ix2 s l)) (fun l => A6 (ix2 s l)) l := by
  pointwise [rp]
  exact ProjSpec.rot_form (fun l => P (ix4 b s g l)) (fun l => A5 (ix2 s l)) (fun l => A6 (ix2 s l)) l

/-- Four pairs of heads at a position. -/
def cat4 (X0 X1 X2 X3 : FVec Ideal S4x2048x2x128 .f32) : FVec Ideal S4x2048x4x2x128 .f32 :=
  (concatenate S4x2048x4x2x128 2 [⟨S4x2048x1x2x128, ((broadcastInDim S4x2048x1x2x128 ![0, 1, 3, 4] bcast_S4x2048x2x128_S4x2048x1x2x128_0_1_3_4 X0) : (⟨S4x2048x1x2x128, .f32⟩ : BufTy).Contents (Elt Ideal))⟩, ⟨S4x2048x1x2x128, ((broadcastInDim S4x2048x1x2x128 ![0, 1, 3, 4] bcast_S4x2048x2x128_S4x2048x1x2x128_0_1_3_4 X1) : (⟨S4x2048x1x2x128, .f32⟩ : BufTy).Contents (Elt Ideal))⟩, ⟨S4x2048x1x2x128, ((broadcastInDim S4x2048x1x2x128 ![0, 1, 3, 4] bcast_S4x2048x2x128_S4x2048x1x2x128_0_1_3_4 X2) : (⟨S4x2048x1x2x128, .f32⟩ : BufTy).Contents (Elt Ideal))⟩, ⟨S4x2048x1x2x128, ((broadcastInDim S4x2048x1x2x128 ![0, 1, 3, 4] bcast_S4x2048x2x128_S4x2048x1x2x128_0_1_3_4 X3) : (⟨S4x2048x1x2x128, .f32⟩ : BufTy).Contents (Elt Ideal))⟩] concatenates_S4x2048x1x2x128_S4x2048x1x2x128_S4x2048x1x2x128_S4x2048x1x2x128_S4x2048x4x2x128_d2 : (⟨S4x2048x4x2x128, .f32⟩ : BufTy).Contents (Elt Ideal))

theorem cat4_apply (X0 X1 X2 X3 : FVec Ideal S4x2048x2x128 .f32) (b : Fin 4) (s : Fin 2048) (i : Fin 4) (g : Fin 2) (l : Fin 128) :
    cat4 X0 X1 X2 X3 (ix5 b s i g l) = (if i.val < 1 then X0 else if i.val < 2 then X1 else if i.val < 3 then X2 else X3) (ix4 b s g l) := by
  pointwise [cat4]
  fin_vals i with hi
  all_goals simp only [hi, Nat.reduceSub, Nat.reduceLT, ↓reduceDIte, ↓reduceIte]

/-- Two pairs of heads at a position. -/
def cat2 (X0 X1 : FVec Ideal S4x2048x2x128 .f32) : FVec Ideal S4x2048x2x2x128 .f32 :=
  (concatenate S4x2048x2x2x128 2 [⟨S4x2048x1x2x128, (broadcastInDim S4x2048x1x2x128 ![0, 1, 3, 4] bcast_S4x2048x2x128_S4x2048x1x2x128_0_1_3_4 X0)⟩, ⟨S4x2048x1x2x128, (broadcastInDim S4x2048x1x2x128 ![0, 1, 3, 4] bcast_S4x2048x2x128_S4x2048x1x2x128_0_1_3_4 X1)⟩] concatenates_S4x2048x1x2x128_S4x2048x1x2x128_S4x2048x2x2x128_d2)

theorem cat2_apply (X0 X1 : FVec Ideal S4x2048x2x128 .f32) (b : Fin 4) (s : Fin 2048) (i g : Fin 2) (l : Fin 128) :
    cat2 X0 X1 (ix5 b s i g l) = (if i.val < 1 then X0 else X1) (ix4 b s g l) := by
  pointwise [cat2]
  fin_vals i with hi
  all_goals simp only [hi, Nat.reduceSub, Nat.reduceLT, ↓reduceDIte, ↓reduceIte]

theorem kvn_apply (K : FVec Ideal S4x2048x4x2x128 .f32) (R : Fin 65536) (l : Fin 128) :
    shapeCast S65536x128 K shapeCasts_S4x2048x4x2x128_S65536x128 (ix2 R l)
      = K (ix5 ⟨R.val / 16384, by omega⟩ ⟨R.val / 8 % 2048, by omega⟩ ⟨R.val / 2 % 4, by omega⟩ ⟨R.val % 2, by omega⟩ l) := by
  pointwise

theorem kvb_apply (K : FVec Ideal S4x2048x4x2x128 .f32) (r : Fin 8192) (j : Fin 1024) :
    truncf .bf16 (shapeCast S8192x1024 K shapeCasts_S4x2048x4x2x128_S8192x1024) bitsLt_bf16_f32 (ix2 r j)
      = K (ix5 ⟨r.val / 2048, by omega⟩ ⟨r.val % 2048, by omega⟩ ⟨j.val / 256, by omega⟩ ⟨j.val / 128 % 2, by omega⟩ ⟨j.val % 128, by omega⟩) := by
  pointwise

theorem win_apply (K : FVec Ideal S4x2048x2x2x128 .f32) (R : Fin 8192) (l : Fin 128) :
    shapeCast S8192x128 (extractStridedSlice S4x512x2x2x128 ![0, 1536, 0, 0, 0] K slices_S4x2048x2x2x128_S4x512x2x2x128_0_1536_0_0_0) shapeCasts_S4x512x2x2x128_S8192x128 (ix2 R l)
      = K (ix5 ⟨R.val / 2048, by omega⟩ ⟨1536 + R.val % 2048 / 4, by omega⟩ ⟨R.val / 2 % 2, by omega⟩ ⟨R.val % 2, by omega⟩ l) := by
  pointwise
  exact congrArg (fun s => K (ix5 _ s _ _ l)) (Fin.ext (by simp only; omega))

/-- The pooled blocks of the first two pairs. -/
theorem pool_apply (K : FVec Ideal S4x2048x4x2x128 .f32) (A4 : FVec Ideal S1x2x64x128 .f32) (R : Fin 128) (j : Fin 512) :
    shapeCast S128x512 (Host.reduceAdd (mulf (shapeCast _ (extractStridedSlice S4x2048x2x2x128 ![0, 0, 0, 0, 0] K slices_S4x2048x4x2x128_S4x2048x2x2x128_0_0_0_0_0) shapeCasts_S4x2048x2x2x128_S128x64x2x2x128) (broadcastInDim S128x64x2x2x128 ![0, 1, 2, 3, 4] bcast_S1x64x2x1x128_S128x64x2x2x128_0_1_2_3_4 (broadcastInDim S1x64x2x1x128 ![1, 2, 4] bcast_S64x2x128_S1x64x2x1x128_1_2_4 (transpose S64x2x128 [1, 0, 2] (shapeCast _ A4 shapeCasts_S1x2x64x128_S2x64x128) transposes_S2x64x128_S64x2x128_1_0_2)))) (constant S_ .f32 0x00000000#32) reducesTo_S128x64x2x2x128_S128x2x2x128_d1 h_S_) shapeCasts_S128x2x2x128_S128x512 (ix2 R j)
      = ∑ k : Fin 64, K (ix5 ⟨R.val / 32, by omega⟩ ⟨R.val % 32 * 64 + k.val, by omega⟩ ⟨j.val / 256, by omega⟩ ⟨j.val / 128 % 2, by omega⟩ ⟨j.val % 128, by omega⟩)
          * A4 (ix4 0 ⟨j.val / 256, by omega⟩ k ⟨j.val % 128, by omega⟩) := by
  pointwise

/-- The sample's keys, values, queries and gates. -/
theorem zs_apply (U : FVec Ideal S8x8x6680 .f32) (r : Fin 64) (j : Fin 2560) :
    shapeCast S64x2560 (extractStridedSlice S8x8x2560 ![0, 0, 4120] U slices_S8x8x6680_S8x8x2560_0_0_4120) shapeCasts_S8x8x2560_S64x2560 (ix2 r j)
      = U (ix3 ⟨r.val / 8, by omega⟩ ⟨r.val % 8, by omega⟩ ⟨4120 + j.val, by omega⟩) := by
  pointwise

end Cert.KvRefIdeal.Value

end
-- ==== Proof.KvRefB.lean ====
module

public import proofs.«01_k».proof.Proof.KvRefA

@[expose] public section

set_option maxRecDepth 16384

noncomputable section

namespace Cert.KvRefIdeal.Value

open Cert.KvRefIdeal Cert.KvRefIdeal.Gen Idealize.ShloMosaic Idealize.ShloMosaic.TcCoe Idealize.SL.Sem

/-- The scores of the memory's keys. -/
def sc (T : FVec Ideal S4x2048x6680 .f32) (A7 : FVec Ideal S4x2048x128 .f32) : FVec Ideal S4x4x2048x256 .f32 :=
  (mulf (Host.dotGeneral dot_S4x2048x4x128_S4x256x4x128_S4x4x2048x256_3_3_1_1_02_02 none (shapeCast _ (extractStridedSlice S4x2048x512 ![0, 0, 5656] T slices_S4x2048x6680_S4x2048x512_0_0_5656) shapeCasts_S4x2048x512_S4x2048x4x128) (shapeCast _ (extractStridedSlice S4x256x1x4x128 ![0, 0, 0, 0, 0] (shapeCast _ A7 shapeCasts_S4x2048x128_S4x256x2x4x128) slices_S4x256x2x4x128_S4x256x1x4x128_0_0_0_0_0) shapeCasts_S4x256x1x4x128_S4x256x4x128)) (broadcastInDim S4x4x2048x256 ![] bcast_S_S4x4x2048x256 (constant S_ .f32 0x3DB504F3#32)))

theorem sc_apply (T : FVec Ideal S4x2048x6680 .f32) (A7 : FVec Ideal S4x2048x128 .f32) (b h : Fin 4) (s : Fin 2048) (k : Fin 256) :
    sc T A7 (ix4 b h s k) = KvSpec.score (fun n => T (ix3 b s n)) (fun i l => A7 (ix3 b i l)) h k := by
  pointwise [sc, KvSpec.score, KvSpec.ascale]

/-- The largest score. -/
def mx (S : FVec Ideal S4x4x2048x256 .f32) : FVec Ideal S4x4x2048 .f32 :=
  (Host.reduce FloatOps.maximumf S (constant S_ .f32 0xFF800000#32) reducesTo_S4x4x2048x256_S4x4x2048_d3 h_S_)

theorem bot32 : Ideal.ofBits .f32 0xFF800000#32 = ⊥ := by simp [Ideal.ofBits, Ideal.ieee]

theorem mx_apply (S : FVec Ideal S4x4x2048x256 .f32) (b h : Fin 4) (s : Fin 2048) :
    mx S (ix3 b h s) = KvSpec.top (fun k => S (ix4 b h s k)) := by
  unfold mx KvSpec.top
  have hr : S4x4x2048x256.Reduces [3] S4x4x2048 := by decide
  refine (Host.reduce_eq_fold_single FloatOps.maximumf S _ reducesTo_S4x4x2048x256_S4x4x2048_d3 hr h_S_ (ix3 b h s)).trans ?_
  have e : S ∘ hr.lift (ix3 b h s) = fun k : Fin 256 => S (ix4 b h s k) := by
    funext k
    refine congrArg S (funext fun a => ?_)
    fin_cases a <;> rfl
  rw [e]
  exact congrArg (fun i => Finset.fold max i (fun k : Fin 256 => S (ix4 b h s k)) Finset.univ) bot32

/-- The scores' exponentials, less a number. -/
def eo (S : FVec Ideal S4x4x2048x256 .f32) (M : FVec Ideal S4x4x2048 .f32) : FVec Ideal S4x4x2048x256 .f32 :=
  (Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M)))))

theorem eo_apply (S : FVec Ideal S4x4x2048x256 .f32) (M : FVec Ideal S4x4x2048 .f32) (b h : Fin 4) (s : Fin 2048) (k : Fin 256) :
    eo S M (ix4 b h s k) = Ideal.exp (S (ix4 b h s k) - M (ix3 b h s)) := by
  pointwise [eo]
  rw [bot32, max_eq_right bot_le]

/-- Their exponentials, less the largest. -/
def ee (S : FVec Ideal S4x4x2048x256 .f32) : FVec Ideal S4x4x2048x256 .f32 := eo S (mx S)

theorem ee_apply (S : FVec Ideal S4x4x2048x256 .f32) (b h : Fin 4) (s : Fin 2048) (k : Fin 256) :
    ee S (ix4 b h s k) = KvSpec.ex (fun k => S (ix4 b h s k)) k := by
  unfold ee
  rw [eo_apply, mx_apply]
  rfl

/-- The weights. -/
def ww (E : FVec Ideal S4x4x2048x256 .f32) : FVec Ideal S4x4x2048x256 .f32 :=
  (Host.divf E (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd E (constant S_ .f32 0x00000000#32) reducesTo_S4x4x2048x256_S4x4x2048_d3 h_S_))))

theorem ww_apply (E : FVec Ideal S4x4x2048x256 .f32) (b h : Fin 4) (s : Fin 2048) (k : Fin 256) :
    ww E (ix4 b h s k) = Ideal.div (E (ix4 b h s k)) (∑ k : Fin 256, E (ix4 b h s k)) := by
  pointwise [ww]

/-- The values under the weights. -/
def vd (W : FVec Ideal S4x4x2048x256 .f32) (A7 : FVec Ideal S4x2048x128 .f32) : FVec Ideal S4x4x128x2048 .f32 :=
  (Host.dotGeneral dot_S4x256x4x128_S4x4x2048x256_S4x4x128x2048_1_3_3_2_02_01 none (shapeCast _ (extractStridedSlice S4x256x1x4x128 ![0, 0, 1, 0, 0] (shapeCast _ A7 shapeCasts_S4x2048x128_S4x256x2x4x128) slices_S4x256x2x4x128_S4x256x1x4x128_0_0_1_0_0) shapeCasts_S4x256x1x4x128_S4x256x4x128) W)

theorem vd_apply (W : FVec Ideal S4x4x2048x256 .f32) (A7 : FVec Ideal S4x2048x128 .f32) (b h : Fin 4) (l : Fin 128) (s : Fin 2048) :
    vd W A7 (ix4 b h l s) = ∑ k : Fin 256, A7 (ix3 b ⟨k.val * 8 + (4 + h.val), by omega⟩ l) * W (ix4 b h s k) := by
  pointwise [vd]
  exact Finset.sum_congr rfl fun k _ => congrArg (fun q => A7 (ix3 b q l) * _) (Fin.ext (by simp only; omega))

/-- The gate times the attention. -/
theorem ym_apply (T : FVec Ideal S4x2048x6680 .f32) (D : FVec Ideal S4x4x128x2048 .f32) (r : Fin 8192) (j : Fin 512) :
    truncf .bf16 (shapeCast _ (mulf (mulf (extractStridedSlice S4x2048x512 ![0, 0, 6168] T slices_S4x2048x6680_S4x2048x512_0_0_6168) (Host.divf (broadcastInDim S4x2048x512 ![] bcast_S_S4x2048x512 (constant S_ .f32 0x3F800000#32)) (addf (broadcastInDim S4x2048x512 ![] bcast_S_S4x2048x512 (constant S_ .f32 0x3F800000#32)) (Host.exp (Host.negf (extractStridedSlice S4x2048x512 ![0, 0, 6168] T slices_S4x2048x6680_S4x2048x512_0_0_6168)))))) (shapeCast _ (transpose S4x2048x4x128 [0, 3, 1, 2] D transposes_S4x4x128x2048_S4x2048x4x128_0_3_1_2) shapeCasts_S4x2048x4x128_S4x2048x512)) shapeCasts_S4x2048x512_S8192x512) bitsLt_bf16_f32 (ix2 r j)
      = ProjSpec.atRow (fun b s => ProjSpec.silu (T (ix3 b s ⟨6168 + j.val, by omega⟩)) * D (ix4 b ⟨j.val / 128, by omega⟩ ⟨j.val % 128, by omega⟩ s)) r := by
  pointwise [ProjSpec.atRow, ProjSpec.silu]
  rfl

/-- The same of the projections. -/
theorem ym_eq (T : FVec Ideal S4x2048x6680 .f32) (A7 : FVec Ideal S4x2048x128 .f32) (r : Fin 8192) (j : Fin 512) :
    ProjSpec.atRow (fun b s => ProjSpec.silu (T (ix3 b s ⟨6168 + j.val, by omega⟩)) * vd (ww (ee (sc T A7))) A7 (ix4 b ⟨j.val / 128, by omega⟩ ⟨j.val % 128, by omega⟩ s)) r
      = ProjSpec.atRow (fun b s => KvSpec.ym (fun n => T (ix3 b s n)) (fun i l => A7 (ix3 b i l)) j) r := by
  unfold ProjSpec.atRow KvSpec.ym KvSpec.soft
  simp only [vd_apply, ww_apply, ee_apply, sc_apply]

end Cert.KvRefIdeal.Value

end
-- ==== Proof.KvRef.lean ====
module

public import proofs.«01_k».proof.Proof.KvRefB

@[expose] public section

set_option maxRecDepth 16384

noncomputable section

namespace Cert.KvRefIdeal.Value

open Cert.KvRefIdeal Cert.KvRefIdeal.Gen Idealize.ShloMosaic Idealize.ShloMosaic.TcCoe Idealize.SL.Sem

section

variable (T : FVec Ideal S4x2048x6680 .f32) (A5 A6 : FVec Ideal S2048x16 .f32)

/-- The heads of a row's keys and values, of the projections and the tables. -/
abbrev hd : Fin 4 → Fin 2048 → Fin 12 → Fin 128 → EReal :=
  KvSpec.kv (fun s l => A5 (ix2 s l)) (fun s l => A6 (ix2 s l)) fun b s n => T (ix3 b s n)

theorem hd_col (b : Fin 4) (s : Fin 2048) (q q' : Fin 12) (l : Fin 128) (e : q' = q) (h : ¬(q.val = 4 ∨ q.val = 5 ∨ q.val = 8 ∨ q.val = 9)) :
    KvSpec.col (fun n => T (ix3 b s n)) q' l = hd T A5 A6 b s q l := by
  subst e
  exact (if_neg h).symm

theorem hd_rot (P : FVec Ideal S4x2048x2x128 .f32) (b : Fin 4) (s : Fin 2048) (g : Fin 2) (q q' : Fin 12) (l : Fin 128) (e : q' = q)
    (hP : ∀ l : Fin 128, P (ix4 b s g l) = KvSpec.col (fun n => T (ix3 b s n)) q' l) (h : q.val = 4 ∨ q.val = 5 ∨ q.val = 8 ∨ q.val = 9) :
    rp P A5 A6 (ix4 b s g l) = hd T A5 A6 b s q l := by
  subst e
  rw [rp_apply, funext hP]
  exact (if_pos h).symm

theorem kcat (b : Fin 4) (s : Fin 2048) (i : Fin 4) (g : Fin 2) (l : Fin 128) :
    cat4 (P0 T) (P1 T) (rp (P2 T) A5 A6) (P3 T) (ix5 b s i g l) = hd T A5 A6 b s ⟨2 * i.val + g.val, by omega⟩ l := by
  rw [cat4_apply]
  split_ifs with h1 h2 h3
  · exact (P0_apply T b s g l).trans (hd_col T A5 A6 b s _ _ l (Fin.ext (by simp only; omega)) (by simp only; omega))
  · exact (P1_apply T b s g l).trans (hd_col T A5 A6 b s _ _ l (Fin.ext (by simp only; omega)) (by simp only; omega))
  · exact hd_rot T A5 A6 _ b s g _ _ l (Fin.ext (by simp only; omega)) (P2_apply T b s g) (by simp only; omega)
  · exact (P3_apply T b s g l).trans (hd_col T A5 A6 b s _ _ l (Fin.ext (by simp only; omega)) (by simp only; omega))

theorem bcat (b : Fin 4) (s : Fin 2048) (i : Fin 4) (g : Fin 2) (l : Fin 128) :
    cat4 (rp (P2 T) A5 A6) (P3 T) (rp (P4 T) A5 A6) (P5 T) (ix5 b s i g l) = hd T A5 A6 b s ⟨4 + 2 * i.val + g.val, by omega⟩ l := by
  rw [cat4_apply]
  split_ifs with h1 h2 h3
  · exact hd_rot T A5 A6 _ b s g _ _ l (Fin.ext (by simp only; omega)) (P2_apply T b s g) (by simp only; omega)
  · exact (P3_apply T b s g l).trans (hd_col T A5 A6 b s _ _ l (Fin.ext (by simp only; omega)) (by simp only; omega))
  · exact hd_rot T A5 A6 _ b s g _ _ l (Fin.ext (by simp only; omega)) (P4_apply T b s g) (by simp only; omega)
  · exact (P5_apply T b s g l).trans (hd_col T A5 A6 b s _ _ l (Fin.ext (by simp only; omega)) (by simp only; omega))

theorem wcat (b : Fin 4) (s : Fin 2048) (i g : Fin 2) (l : Fin 128) :
    cat2 (rp (P4 T) A5 A6) (P5 T) (ix5 b s i g l) = hd T A5 A6 b s ⟨8 + 2 * i.val + g.val, by omega⟩ l := by
  rw [cat2_apply]
  split_ifs with h1
  · exact hd_rot T A5 A6 _ b s g _ _ l (Fin.ext (by simp only; omega)) (P4_apply T b s g) (by simp only; omega)
  · exact (P5_apply T b s g l).trans (hd_col T A5 A6 b s _ _ l (Fin.ext (by simp only; omega)) (by simp only; omega))

theorem fkvn (R : Fin 65536) (l : Fin 128) :
    shapeCast S65536x128 (cat4 (P0 T) (P1 T) (rp (P2 T) A5 A6) (P3 T)) shapeCasts_S4x2048x4x2x128_S65536x128 (ix2 R l) = KvSpec.kvn (hd T A5 A6) R l := by
  rw [kvn_apply, kcat]
  unfold KvSpec.kvn ProjSpec.atRow
  congr 1 <;> first | rfl | (exact Fin.ext (by simp only; omega)) | skip

theorem fkvb (r : Fin 8192) (j : Fin 1024) :
    truncf .bf16 (shapeCast S8192x1024 (cat4 (rp (P2 T) A5 A6) (P3 T) (rp (P4 T) A5 A6) (P5 T)) shapeCasts_S4x2048x4x2x128_S8192x1024) bitsLt_bf16_f32 (ix2 r j)
      = KvSpec.kvb (hd T A5 A6) r j := by
  rw [kvb_apply, bcat]
  unfold KvSpec.kvb ProjSpec.atRow
  exact congrArg (fun q => hd T A5 A6 _ _ q _) (Fin.ext (by simp only; omega))

theorem fwin (R : Fin 8192) (l : Fin 128) :
    shapeCast S8192x128 (extractStridedSlice S4x512x2x2x128 ![0, 1536, 0, 0, 0] (cat2 (rp (P4 T) A5 A6) (P5 T)) slices_S4x2048x2x2x128_S4x512x2x2x128_0_1536_0_0_0) shapeCasts_S4x512x2x2x128_S8192x128 (ix2 R l)
      = KvSpec.win (hd T A5 A6) R l := by
  rw [win_apply, wcat]
  unfold KvSpec.win
  exact congrArg (fun q => hd T A5 A6 _ _ q _) (Fin.ext (by simp only; omega))

theorem fpool (A4 : FVec Ideal S1x2x64x128 .f32) (R : Fin 128) (j : Fin 512) :
    shapeCast S128x512 (Host.reduceAdd (mulf (shapeCast _ (extractStridedSlice S4x2048x2x2x128 ![0, 0, 0, 0, 0] (cat4 (P0 T) (P1 T) (rp (P2 T) A5 A6) (P3 T)) slices_S4x2048x4x2x128_S4x2048x2x2x128_0_0_0_0_0) shapeCasts_S4x2048x2x2x128_S128x64x2x2x128) (broadcastInDim S128x64x2x2x128 ![0, 1, 2, 3, 4] bcast_S1x64x2x1x128_S128x64x2x2x128_0_1_2_3_4 (broadcastInDim S1x64x2x1x128 ![1, 2, 4] bcast_S64x2x128_S1x64x2x1x128_1_2_4 (transpose S64x2x128 [1, 0, 2] (shapeCast _ A4 shapeCasts_S1x2x64x128_S2x64x128) transposes_S2x64x128_S64x2x128_1_0_2)))) (constant S_ .f32 0x00000000#32) reducesTo_S128x64x2x2x128_S128x2x2x128_d1 h_S_) shapeCasts_S128x2x2x128_S128x512 (ix2 R j)
      = KvSpec.pool (fun i k l => A4 (ix4 0 i k l)) (fun b s n => T (ix3 b s n)) R j := by
  rw [pool_apply]
  unfold KvSpec.pool
  refine Finset.sum_congr rfl fun k _ => ?_
  rw [kcat]
  refine congrArg (· * _) ?_
  refine (if_neg (by simp only; omega)).trans ?_
  unfold KvSpec.col
  exact congrArg (fun n => T (ix3 _ _ n)) (Fin.ext (by simp only; omega))

end

variable (m : (ℓ : Loc nD τ sig) → Buf (Elt Ideal) ℓ)

/-- The prompt's projections, of the arguments. -/
abbrev pz (c : Dev nD) : Fin 4 → Fin 2048 → Fin 6680 → EReal :=
  ProjSpec.z (m ((c.tc : Thread nD τ).loc main_arg0)) (m ((c.tc : Thread nD τ).loc main_arg2)) (m ((c.tc : Thread nD τ).loc main_arg3))

/-- The sample's projections, of the arguments. -/
abbrev sz (c : Dev nD) (r : Fin 64) : Fin 6680 → EReal :=
  ProjSpec.zrow (ProjSpec.srow (m ((c.tc : Thread nD τ).loc main_arg1)) r) (m ((c.tc : Thread nD τ).loc main_arg2)) (m ((c.tc : Thread nD τ).loc main_arg3))

/-- The heads of the keys and values, of the arguments. -/
abbrev kvs (c : Dev nD) : Fin 4 → Fin 2048 → Fin 12 → Fin 128 → EReal :=
  KvSpec.kv (fun s l => m ((c.tc : Thread nD τ).loc main_arg5) (ix2 s l)) (fun s l => m ((c.tc : Thread nD τ).loc main_arg6) (ix2 s l)) (pz m c)

/-- What the reference leaves in its results; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v145) = fun j : S65536x128.Idx => KvSpec.kvn (kvs m c) (j 0) (j 1))
      ∧ (r.2.mem ((c.tc : Thread nD τ).loc main_v147) = fun j : S8192x1024.Idx => KvSpec.kvb (kvs m c) (j 0) (j 1))
      ∧ (r.2.mem ((c.tc : Thread nD τ).loc main_v149) = fun j : S8192x128.Idx => KvSpec.win (kvs m c) (j 0) (j 1))
      ∧ (r.2.mem ((c.tc : Thread nD τ).loc main_v150) = fun j : S128x512.Idx =>
          KvSpec.pool (fun i k l => m ((c.tc : Thread nD τ).loc main_arg4) (ix4 0 i k l)) (pz m c) (j 0) (j 1))
      ∧ (r.2.mem ((c.tc : Thread nD τ).loc main_v152) = fun j : S8192x512.Idx => ProjSpec.atRow (fun b s =>
          KvSpec.ym (pz m c b s) (fun i l => m ((c.tc : Thread nD τ).loc main_arg7) (ix3 b i l)) (j 1)) (j 0))
      ∧ (r.2.mem ((c.tc : Thread nD τ).loc main_v154) = fun j : S64x2560.Idx => sz m c (j 0) ⟨4120 + (j 1).val, by have := (j 1).isLt; simp at this; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (run m ρ).mono ?_
  intro r h c
  obtain ⟨h1, h2, h3, h4, h5, h6, h7⟩ := h c
  have hz := Z_apply (m ((c.tc : Thread nD τ).loc main_arg0)) (m ((c.tc : Thread nD τ).loc main_arg2)) (m ((c.tc : Thread nD τ).loc main_arg3))
  refine ⟨h1.trans (funext fun j => ?_), h2.trans (funext fun j => ?_), h3.trans (funext fun j => ?_), h4.trans (funext fun j => ?_),
    h5.trans (funext fun j => ?_), h6.trans (funext fun j => ?_), h7⟩
  · idx_vars j
    unfold res_main_v145
    refine (fkvn (Z _ _ _) _ _ _ _).trans ?_
    unfold hd
    rw [hz]
  · idx_vars j
    unfold res_main_v147
    refine (fkvb (Z _ _ _) _ _ _ _).trans ?_
    unfold hd
    rw [hz]
  · idx_vars j
    unfold res_main_v149
    refine (fwin (Z _ _ _) _ _ _ _).trans ?_
    unfold hd
    rw [hz]
  · idx_vars j
    unfold res_main_v150
    refine (fpool (Z _ _ _) _ _ _ _ _).trans ?_
    rw [hz]
  · idx_vars j
    unfold res_main_v152
    refine (ym_apply (Z _ _ _) (vd (ww (ee (sc (Z _ _ _) _))) _) _ _).trans ?_
    rw [ym_eq]
    have hz' : ∀ b s, (fun n => Z (m ((c.tc : Thread nD τ).loc main_arg0)) (m ((c.tc : Thread nD τ).loc main_arg2)) (m ((c.tc : Thread nD τ).loc main_arg3)) (ix3 b s n))
        = pz m c b s := fun b s => congrFun (congrFun hz b) s
    simp only [hz']
  · idx_vars j
    refine (zs_apply (ZS (pad1 _) _ _) _ _).trans ?_
    rw [ZS_apply]

end Cert.KvRefIdeal.Value

end
-- ==== Proof.KvClaim.lean ====
module

public import proofs.«01_k».proof.Defs
public import proofs.«01_k».proof.Proof.KvPre
public import proofs.«01_k».proof.Proof.KvRun
public import proofs.«01_k».proof.Proof.KvRef

@[expose] public section

set_option maxRecDepth 16384

noncomputable section

namespace Cert.Proof

open Idealize.ShloMosaic Idealize.ShloMosaic.TcCoe Idealize.SL.Sem

/-- The keys and values, the pooled keys and values, the memory's attention and the sample's projections: the kernel
computes its reference's six results. -/
theorem algebraic_Kv [Cert.Pre_finite_args.Facts] : Cert.algebraic_KvIdeal_KvRefIdeal_pre_finite_args := by
  intro m g m' g' hpre hagree
  refine ⟨fun c => (Cert.KvIdeal.Gen.dats m 0 c).arrAt 8 (Cert.KvIdeal.cfgs 0).N,
    fun c => (Cert.KvIdeal.Gen.dats m 0 c).arrAt 9 (Cert.KvIdeal.cfgs 0).N,
    fun c => (Cert.KvIdeal.Gen.dats m 0 c).arrAt 10 (Cert.KvIdeal.cfgs 0).N,
    fun c => (Cert.KvIdeal.Gen.dats m 0 c).arrAt 11 (Cert.KvIdeal.cfgs 0).N,
    fun c => (Cert.KvIdeal.Gen.dats m 0 c).arrAt 12 (Cert.KvIdeal.cfgs 0).N,
    fun c => (Cert.KvIdeal.Gen.dats m 0 c).arrAt 13 (Cert.KvIdeal.cfgs 0).N,
    (θ_run _ _ _).mono (fun r h c => ?_) (θ_run_and (Cert.KvIdeal.Value.run_outs m g) (Cert.KvIdeal.Gen.unchanged m g)), ?_⟩
  · exact ⟨(h.1 c).1, (h.1 c).2.1, (h.1 c).2.2.1, (h.1 c).2.2.2.1, (h.1 c).2.2.2.2.1, (h.1 c).2.2.2.2.2, h.2 c⟩
  · refine (Cert.KvRefIdeal.Value.run_rows m' g').mono fun r h c => ?_
    obtain ⟨e0, e1, e2, e3, e4, e5, e6, e7⟩ := hagree c
    have hp : Cert.KvRefIdeal.Value.pz m' c = Cert.KvIdeal.Value.pz m c := by
      unfold Cert.KvRefIdeal.Value.pz Cert.KvIdeal.Value.pz
      rw [e0, e2, e3]
    have hs : Cert.KvRefIdeal.Value.sz m' c = Cert.KvIdeal.Value.sz m c := by
      funext i
      unfold Cert.KvRefIdeal.Value.sz Cert.KvIdeal.Value.sz
      rw [e1, e2, e3]
    have hk : Cert.KvRefIdeal.Value.kvs m' c = Cert.KvIdeal.Value.kvs m c := by
      unfold Cert.KvRefIdeal.Value.kvs Cert.KvIdeal.Value.kvs
      rw [hp, e5, e6]
    obtain ⟨h0, h1, h2, h3, h4, h5, h6⟩ := h c
    rw [hk] at h0 h1 h2
    rw [hp] at h3 h4
    rw [hs] at h5
    rw [e4] at h3
    rw [e7] at h4
    exact ⟨h0.trans (Cert.KvIdeal.Value.out8 m c).symm, h1.trans (Cert.KvIdeal.Value.out9 m c).symm,
      h2.trans (Cert.KvIdeal.Value.out10 m c).symm, h3.trans (Cert.KvIdeal.Value.out11 m c).symm,
      h4.trans (Cert.KvIdeal.Value.out12 m c (Cert.KvIdeal.Value.real_pz m hpre c) (Cert.KvIdeal.Value.real_mem m hpre c)).symm,
      h5.trans (Cert.KvIdeal.Value.out13 m c).symm, h6⟩

end Cert.Proof
-- ==== Proof.MkvRef.lean ====
module

public import proofs.«01_k».proof.Proof.OutSpec
public import proofs.«01_k».proof.Proof.Gen.MkvRefIdeal.Run
public import Idealize.ShloMosaic.Lib.Pointwise
public import Idealize.ShloMosaic.Lib.Pipeline.ValueKit

@[expose] public section

set_option maxRecDepth 16384

noncomputable section

namespace Cert.MkvSpec

open Idealize.ShloMosaic Idealize.ShloMosaic.TcCoe

/-- The memory's keys and values: a normed row of the memory times a column of its weights, eight heads of 128 lanes one below
another. -/
def row (X : FVec Ideal ⟨3, ![4, 256, 2048]⟩ .f32) (G : FVec Ideal ⟨2, ![1, 2048]⟩ .f32) (W : FVec Ideal ⟨3, ![1, 2048, 1024]⟩ .f32)
    (R : Fin 8192) (l : Fin 128) : EReal :=
  ∑ k : Fin 2048, OutSpec.normed (fun i => X (ix3 ⟨R.val / 2048, by omega⟩ ⟨R.val % 2048 / 8, by omega⟩ i)) (fun i => G (ix2 0 i)) k
    * W (ix3 0 k ⟨R.val % 8 * 128 + l.val, by omega⟩)

end Cert.MkvSpec

namespace Cert.MkvRefIdeal.Value

open Cert.MkvRefIdeal Cert.MkvRefIdeal.Gen Idealize.ShloMosaic Idealize.ShloMosaic.TcCoe Idealize.SL.Sem

/-- The rms norm of the memory, at an entry. -/
theorem norm_apply (T : FVec Ideal S4x256x2048 .f32) (g : FVec Ideal S1x2048 .f32) (b : Fin 4) (r : Fin 256) (l : Fin 2048) :
    mulf (mulf T (broadcastInDim S4x256x2048 ![0, 1, 2] bcast_S4x256x1_S4x256x2048_0_1_2 (Host.rsqrt (addf (Host.divf
      (broadcastInDim S4x256x1 ![0, 1] bcast_S4x256_S4x256x1_0_1 (Host.reduceAdd (mulf T T) (constant S_ .f32 0x00000000#32) reducesTo_S4x256x2048_S4x256_d2 h_S_))
      (broadcastInDim S4x256x1 ![] bcast_S_S4x256x1 (constant S_ .f32 0x45000000#32)))
      (broadcastInDim S4x256x1 ![] bcast_S_S4x256x1 (constant S_ .f32 0x358637BD#32))))))
      (broadcastInDim S4x256x2048 ![0, 1, 2] bcast_S1x1x2048_S4x256x2048_0_1_2 (broadcastInDim S1x1x2048 ![2] bcast_S2048_S1x1x2048_2
        (shapeCast _ g shapeCasts_S1x2048_S2048))) (ix3 b r l)
      = OutSpec.normed (fun i => T (ix3 b r i)) (fun i => g (ix2 0 i)) l := by
  pointwise [OutSpec.normed]

/-- The product, its rows cut into heads. -/
theorem prod_apply (N : FVec Ideal S4x256x2048 .f32) (W : FVec Ideal S1x2048x1024 .f32) (R : Fin 8192) (l : Fin 128) :
    shapeCast S8192x128 (Host.dotGeneral dot_S4x256x2048_S2048x1024_S4x256x1024_2_0_01_1_n_n none N
      (shapeCast _ W shapeCasts_S1x2048x1024_S2048x1024)) shapeCasts_S4x256x1024_S8192x128 (ix2 R l)
      = ∑ k : Fin 2048, N (ix3 ⟨R.val / 2048, by omega⟩ ⟨R.val % 2048 / 8, by omega⟩ k) * W (ix3 0 k ⟨R.val % 8 * 128 + l.val, by omega⟩) := by
  have e : (⟨R.val / 8 % 256, by omega⟩ : Fin 256) = ⟨R.val % 2048 / 8, by omega⟩ := Fin.ext (by simp only; omega)
  rw [← e]
  pointwise

variable (m : (ℓ : Loc nD τ sig) → Buf (Elt Ideal) ℓ)

/-- What the reference leaves in its result; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v16) = fun j : S8192x128.Idx => MkvSpec.row (m ((c.tc : Thread nD τ).loc main_arg0))
        (m ((c.tc : Thread nD τ).loc main_arg1)) (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (run m ρ).mono ?_
  intro r h c
  obtain ⟨h1, h3⟩ := h c
  refine ⟨h1.trans (funext fun j => ?_), h3⟩
  idx_vars j
  refine (prod_apply _ _ _ _).trans ?_
  exact Finset.sum_congr rfl fun k _ => congrArg (· * _) (norm_apply _ _ _ _ _)

end Cert.MkvRefIdeal.Value
-- ==== Proof.Mkv.lean ====
module

public import proofs.«01_k».proof.Proof.MkvRef
public import proofs.«01_k».proof.Proof.Gen.MkvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MkvIdeal.Value

open Cert.MkvIdeal Cert.MkvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands. -/
theorem idx : ∀ t : Fin cfg0.N, win0_0.index t = ![t.val, 0] ∧ win0_1.index t = ![0, 0]
    ∧ win0_2.index t = ![0, 0] ∧ win0_3.index t = ![t.val, 0]
    ∧ t.val < 2 := (by decide +kernel : ∀ t : Fin grid0.N, _)

theorem lt2 (t : Fin cfg0.N) : t.val < 2 := (idx t).2.2.2.2

/-- The memory's rows. -/
theorem V0_apply (c : Dev nD) (R : Fin 1024) (l : Fin 2048) :
    V m c main_v0 (ix2 R l) = m ((c : Thread nD τ).loc main_arg0) (ix3 ⟨R.val / 256, by omega⟩ ⟨R.val % 256, by omega⟩ l) := by
  unfold V
  simp only [hostOps0]
  after_results_simp
  pointwise

/-- The norm's gains. -/
theorem V3_apply (c : Dev nD) (l : Fin 2048) : V m c main_v3 (ix2 0 l) = m ((c : Thread nD τ).loc main_arg1) (ix2 0 l) := by
  unfold V
  simp only [hostOps0]
  after_results_simp
  pointwise

/-- The weights. -/
theorem V2_apply (c : Dev nD) (k : Fin 2048) (l : Fin 1024) : V m c main_v2 (ix2 k l) = m ((c : Thread nD τ).loc main_arg2) (ix3 0 k l) := by
  unfold V
  simp only [hostOps0]
  after_results_simp
  pointwise

theorem xblk (c : Dev nD) (t : Fin cfg0.N) (r : Fin 512) (l : Fin 2048) :
    iblk m c 0 t (ix2 r l) = m ((c : Thread nD τ).loc main_arg0) (ix3 ⟨(512 * t.val + r.val) / 256, by have := lt2 t; omega⟩
      ⟨(512 * t.val + r.val) % 256, by omega⟩ l) := by
  trans V m c main_v0 (ix2 ⟨512 * t.val + r.val, by have := lt2 t; omega⟩ l)
  · blk_point [iblk, idx t]
  · exact V0_apply m c _ l

theorem gblk (c : Dev nD) (t : Fin cfg0.N) (l : Fin 2048) :
    iblk m c 1 t (ix2 0 l) = m ((c : Thread nD τ).loc main_arg1) (ix2 0 l) := by
  trans V m c main_v3 (ix2 0 l)
  · blk_point [iblk, idx t]
  · exact V3_apply m c l

theorem wblk (c : Dev nD) (t : Fin cfg0.N) (k : Fin 2048) (l : Fin 1024) :
    iblk m c 2 t (ix2 k l) = m ((c : Thread nD τ).loc main_arg2) (ix3 0 k l) := by
  trans V m c main_v2 (ix2 k l)
  · blk_point [iblk, idx t]
  · exact V2_apply m c k l

theorem pay2_apply (x : FVec Ideal S512x2048 .f32) (g : FVec Ideal S1x2048 .f32) (r : Fin 512) (l : Fin 2048) :
    k0_pay2 (F := Ideal) x g (ix2 r l) = OutSpec.normed (fun i => x (ix2 r i)) (fun i => g (ix2 0 i)) l := by
  pointwise [k0_pay2, OutSpec.normed]

/-- A row of the scratch times a column of a half of the weights. -/
theorem pay3_apply (x : FVec Ideal S512x2048 .bf16) (w : FVec Ideal S2048x512 .f32) (r : Fin 512) (j : Fin 512) :
    k0_pay3 (F := Ideal) x w (ix2 r j) = ∑ k : Fin 2048, x (ix2 r k) * w (ix2 k j) := by
  pointwise [k0_pay3]

theorem pay7_apply (x : FVec Ideal S512x2048 .bf16) (w : FVec Ideal S2048x512 .f32) (r : Fin 512) (j : Fin 512) :
    k0_pay7 (F := Ideal) x w (ix2 r j) = ∑ k : Fin 2048, x (ix2 r k) * w (ix2 k j) := by
  pointwise [k0_pay7]

/-- The eight columns, one below another. -/
theorem pay1_apply (v26 v27 v28 v34 v35 v36 v37 : FVec Ideal S512x128 .f32) (v38 : FVec Ideal S512x1x128 .f32) (R : Fin 4096) (l : Fin 128) :
    k0_pay1 (F := Ideal) v26 v27 v28 v34 v35 v36 v37 v38 (ix2 R l)
      = if R.val % 8 = 0 then v38 (ix3 ⟨R.val / 8, by omega⟩ 0 l)
        else if R.val % 8 = 1 then v26 (ix2 ⟨R.val / 8, by omega⟩ l)
        else if R.val % 8 = 2 then v27 (ix2 ⟨R.val / 8, by omega⟩ l)
        else if R.val % 8 = 3 then v28 (ix2 ⟨R.val / 8, by omega⟩ l)
        else if R.val % 8 = 4 then v34 (ix2 ⟨R.val / 8, by omega⟩ l)
        else if R.val % 8 = 5 then v35 (ix2 ⟨R.val / 8, by omega⟩ l)
        else if R.val % 8 = 6 then v36 (ix2 ⟨R.val / 8, by omega⟩ l)
        else v37 (ix2 ⟨R.val / 8, by omega⟩ l) := by
  have h : R.val % 8 = 0 ∨ R.val % 8 = 1 ∨ R.val % 8 = 2 ∨ R.val % 8 = 3 ∨ R.val % 8 = 4 ∨ R.val % 8 = 5 ∨ R.val % 8 = 6 ∨ R.val % 8 = 7 := by omega
  pointwise [k0_pay1]
  rcases h with h | h | h | h | h | h | h | h <;> simp only [h, Nat.reduceSub, Nat.reduceLT, Nat.reduceEqDiff, ↓reduceDIte, ↓reduceIte]
  rfl

theorem pay4_apply (x : FVec Ideal S512x2048 .bf16) (w : FVec Ideal S2048x512 .f32) (r : Fin 512) (l : Fin 128) :
    k0_pay4 (F := Ideal) x w (ix2 r l) = ∑ k : Fin 2048, x (ix2 r k) * w (ix2 k ⟨128 + l.val, by omega⟩) := by
  pointwise [k0_pay4, pay3_apply]
theorem pay5_apply (x : FVec Ideal S512x2048 .bf16) (w : FVec Ideal S2048x512 .f32) (r : Fin 512) (l : Fin 128) :
    k0_pay5 (F := Ideal) x w (ix2 r l) = ∑ k : Fin 2048, x (ix2 r k) * w (ix2 k ⟨256 + l.val, by omega⟩) := by
  pointwise [k0_pay5, pay3_apply]
theorem pay6_apply (x : FVec Ideal S512x2048 .bf16) (w : FVec Ideal S2048x512 .f32) (r : Fin 512) (l : Fin 128) :
    k0_pay6 (F := Ideal) x w (ix2 r l) = ∑ k : Fin 2048, x (ix2 r k) * w (ix2 k ⟨384 + l.val, by omega⟩) := by
  pointwise [k0_pay6, pay3_apply]
theorem pay12_apply (x : FVec Ideal S512x2048 .bf16) (w : FVec Ideal S2048x512 .f32) (r : Fin 512) (l : Fin 128) :
    k0_pay12 (F := Ideal) x w (ix3 r 0 l) = ∑ k : Fin 2048, x (ix2 r k) * w (ix2 k ⟨l.val, by omega⟩) := by
  pointwise [k0_pay12, pay3_apply]
theorem pay8_apply (x : FVec Ideal S512x2048 .bf16) (w : FVec Ideal S2048x512 .f32) (r : Fin 512) (l : Fin 128) :
    k0_pay8 (F := Ideal) x w (ix2 r l) = ∑ k : Fin 2048, x (ix2 r k) * w (ix2 k ⟨l.val, by omega⟩) := by
  pointwise [k0_pay8, pay7_apply]
theorem pay9_apply (x : FVec Ideal S512x2048 .bf16) (w : FVec Ideal S2048x512 .f32) (r : Fin 512) (l : Fin 128) :
    k0_pay9 (F := Ideal) x w (ix2 r l) = ∑ k : Fin 2048, x (ix2 r k) * w (ix2 k ⟨128 + l.val, by omega⟩) := by
  pointwise [k0_pay9, pay7_apply]
theorem pay10_apply (x : FVec Ideal S512x2048 .bf16) (w : FVec Ideal S2048x512 .f32) (r : Fin 512) (l : Fin 128) :
    k0_pay10 (F := Ideal) x w (ix2 r l) = ∑ k : Fin 2048, x (ix2 r k) * w (ix2 k ⟨256 + l.val, by omega⟩) := by
  pointwise [k0_pay10, pay7_apply]
theorem pay11_apply (x : FVec Ideal S512x2048 .bf16) (w : FVec Ideal S2048x512 .f32) (r : Fin 512) (l : Fin 128) :
    k0_pay11 (F := Ideal) x w (ix2 r l) = ∑ k : Fin 2048, x (ix2 r k) * w (ix2 k ⟨384 + l.val, by omega⟩) := by
  pointwise [k0_pay11, pay7_apply]

/-- The scratch's rows against a column of the weights, as the result has it. -/
theorem entry (c : Dev nD) (t : Fin cfg0.N) (R : Fin 4096) (l : Fin 128) (q : ℕ) (hq : R.val % 8 = q) (w : Fin 2048 → EReal)
    (hw : ∀ k, w k = m ((c : Thread nD τ).loc main_arg2) (ix3 0 k ⟨q * 128 + l.val, by omega⟩)) :
    ∑ k : Fin 2048, k0_pay2 (F := Ideal) (iblk m c 0 t) (iblk m c 1 t) (ix2 ⟨R.val / 8, by omega⟩ k) * w k
      = MkvSpec.row (m ((c : Thread nD τ).loc main_arg0)) (m ((c : Thread nD τ).loc main_arg1)) (m ((c : Thread nD τ).loc main_arg2))
        ⟨4096 * t.val + R.val, by have := lt2 t; omega⟩ l := by
  subst hq
  unfold MkvSpec.row
  have e1 : (⟨(512 * t.val + R.val / 8) / 256, by have := lt2 t; omega⟩ : Fin 4) = ⟨(4096 * t.val + R.val) / 2048, by have := lt2 t; omega⟩ :=
    Fin.ext (by simp only; omega)
  have e2 : (⟨(512 * t.val + R.val / 8) % 256, by omega⟩ : Fin 256) = ⟨(4096 * t.val + R.val) % 2048 / 8, by omega⟩ :=
    Fin.ext (by simp only; omega)
  have e3 : (⟨R.val % 8 * 128 + l.val, by omega⟩ : Fin 1024) = ⟨(4096 * t.val + R.val) % 8 * 128 + l.val, by omega⟩ :=
    Fin.ext (by simp only; omega)
  refine Finset.sum_congr rfl fun k _ => ?_
  rw [pay2_apply, hw, e3]
  simp only [xblk, gblk, e1, e2]

/-- A half of the weights, as loaded. -/
def IsW (c : Dev nD) (o : ℕ) (w : FVec Ideal S2048x512 .f32) : Prop :=
  ∀ (k : Fin 2048) (j : Fin 512) (h : o + j.val < 1024), w (ix2 k j) = m ((c : Thread nD τ).loc main_arg2) (ix3 0 k ⟨o + j.val, h⟩)

theorem ld (c : Dev nD) (t : Fin cfg0.N) (o : ℕ) (ho : o + 512 ≤ 1024) (inb : ∀ a, (![0, o] : Fin 2 → ℕ) a + (![2048, 512] : Fin 2 → ℕ) a ≤ S2048x1024.size a) :
    IsW m c o (View.ld (Val := Elt Ideal) (e' := .f32) (iblk m c 2 t) (Rect.unit (s := S2048x1024) ![0, o] ![2048, 512] inb)) := fun k j h => by
  trans iblk m c 2 t (ix2 k ⟨o + j.val, h⟩)
  · pointwise
  · exact wblk m c t k _

theorem entry2 (c : Dev nD) (t : Fin cfg0.N) (R : Fin 4096) (l : Fin 128) (o : ℕ) (w : FVec Ideal S2048x512 .f32) (g : IsW m c o w)
    (j : Fin 512) (h : o + j.val = R.val % 8 * 128 + l.val) :
    ∑ k : Fin 2048, k0_pay2 (F := Ideal) (iblk m c 0 t) (iblk m c 1 t) (ix2 ⟨R.val / 8, by omega⟩ k) * w (ix2 k j)
      = MkvSpec.row (m ((c : Thread nD τ).loc main_arg0)) (m ((c : Thread nD τ).loc main_arg1)) (m ((c : Thread nD τ).loc main_arg2))
        ⟨4096 * t.val + R.val, by have := lt2 t; omega⟩ l :=
  entry m c t R l _ rfl (fun k => w (ix2 k j)) fun k =>
    (g k j (by omega)).trans (congrArg (fun q => m ((c : Thread nD τ).loc main_arg2) (ix3 0 k q)) (Fin.ext h))

theorem core (c : Dev nD) (t : Fin cfg0.N) (w1 w2 : FVec Ideal S2048x512 .f32) (g1 : IsW m c 0 w1) (g2 : IsW m c 512 w2) (R : Fin 4096) (l : Fin 128) :
    k0_pay1 (F := Ideal) (k0_pay4 (F := Ideal) (k0_pay2 (F := Ideal) (iblk m c 0 t) (iblk m c 1 t)) w1) (k0_pay5 (F := Ideal) (k0_pay2 (F := Ideal) (iblk m c 0 t) (iblk m c 1 t)) w1)
        (k0_pay6 (F := Ideal) (k0_pay2 (F := Ideal) (iblk m c 0 t) (iblk m c 1 t)) w1) (k0_pay8 (F := Ideal) (k0_pay2 (F := Ideal) (iblk m c 0 t) (iblk m c 1 t)) w2)
        (k0_pay9 (F := Ideal) (k0_pay2 (F := Ideal) (iblk m c 0 t) (iblk m c 1 t)) w2) (k0_pay10 (F := Ideal) (k0_pay2 (F := Ideal) (iblk m c 0 t) (iblk m c 1 t)) w2)
        (k0_pay11 (F := Ideal) (k0_pay2 (F := Ideal) (iblk m c 0 t) (iblk m c 1 t)) w2) (k0_pay12 (F := Ideal) (k0_pay2 (F := Ideal) (iblk m c 0 t) (iblk m c 1 t)) w1) (ix2 R l)
      = MkvSpec.row (m ((c : Thread nD τ).loc main_arg0)) (m ((c : Thread nD τ).loc main_arg1)) (m ((c : Thread nD τ).loc main_arg2))
        ⟨4096 * t.val + R.val, by have := lt2 t; omega⟩ l := by
  have h : R.val % 8 = 0 ∨ R.val % 8 = 1 ∨ R.val % 8 = 2 ∨ R.val % 8 = 3 ∨ R.val % 8 = 4 ∨ R.val % 8 = 5 ∨ R.val % 8 = 6 ∨ R.val % 8 = 7 := by omega
  rw [pay1_apply]
  rcases h with h | h | h | h | h | h | h | h <;> simp only [h, Nat.reduceEqDiff, ↓reduceIte]
  · exact (pay12_apply _ w1 _ l).trans (entry2 m c t R l 0 w1 g1 ⟨l.val, by omega⟩ (by simp only [h] <;> omega))
  · exact (pay4_apply _ w1 _ l).trans (entry2 m c t R l 0 w1 g1 ⟨128 + l.val, by omega⟩ (by simp only [h] <;> omega))
  · exact (pay5_apply _ w1 _ l).trans (entry2 m c t R l 0 w1 g1 ⟨256 + l.val, by omega⟩ (by simp only [h] <;> omega))
  · exact (pay6_apply _ w1 _ l).trans (entry2 m c t R l 0 w1 g1 ⟨384 + l.val, by omega⟩ (by simp only [h] <;> omega))
  · exact (pay8_apply _ w2 _ l).trans (entry2 m c t R l 512 w2 g2 ⟨l.val, by omega⟩ (by simp only [h] <;> omega))
  · exact (pay9_apply _ w2 _ l).trans (entry2 m c t R l 512 w2 g2 ⟨128 + l.val, by omega⟩ (by simp only [h] <;> omega))
  · exact (pay10_apply _ w2 _ l).trans (entry2 m c t R l 512 w2 g2 ⟨256 + l.val, by omega⟩ (by simp only [h] <;> omega))
  · exact (pay11_apply _ w2 _ l).trans (entry2 m c t R l 512 w2 g2 ⟨384 + l.val, by omega⟩ (by simp only [h] <;> omega))

/-- The memory's keys and values, of the arguments. -/
def res (c : Dev nD) (R : Fin 8192) (l : Fin 128) : EReal :=
  MkvSpec.row (m ((c : Thread nD τ).loc main_arg0)) (m ((c : Thread nD τ).loc main_arg1)) (m ((c : Thread nD τ).loc main_arg2)) R l

theorem point (c : Dev nD) (t : Fin cfg0.N) (R : Fin 4096) (l : Fin 128) :
    outsAt0 m c t (ix2 R l) = res m c
        ⟨4096 * t.val + R.val, by have := lt2 t; omega⟩ l := by
  unfold outsAt0
  frame_out
  exact core m c t _ _ (ld m c t 0 (by omega) _) (ld m c t 512 (by omega) _) R l

theorem out (c : Dev nD) : (dats m 0 c).arrAt 3 (cfgs 0).N = fun j : S8192x128.Idx => res m c (j 0) (j 1) := by
  refine (dats m 0 c).arrAt_eq_of_covers 3 _ (by decide +kernel) fun t _ y => ?_
  rw [after0_3]
  obtain ⟨r, l, rfl⟩ : ∃ (r : Fin 4096) (l : Fin 128), y = ix2 r l := ⟨y 0, y 1, eq_ix2 y⟩
  have e : ((cfg0.win 3).blk t).view.emb (ix2 r l) = (ix2 ⟨4096 * t.val + r.val, by have := lt2 t; omega⟩ l : S8192x128.Idx) := by
    blk_point [idx t]
  refine Eq.trans ?_ (congrArg (fun j : S8192x128.Idx => res m c (j 0) (j 1)) e.symm)
  have hp := point m c t r l
  generalize outsAt0 m c t = o at hp ⊢
  exact hp

end Cert.MkvIdeal.Value
-- ==== Proof.MkvClaim.lean ====
module

public import proofs.«01_k».proof.Defs
public import proofs.«01_k».proof.Proof.Mkv
public import proofs.«01_k».proof.Proof.MkvRef

@[expose] public section

set_option maxRecDepth 16384

noncomputable section

namespace Cert.Proof

open Idealize.ShloMosaic Idealize.ShloMosaic.TcCoe Idealize.SL.Sem

/-- The memory's keys and values are its reference's. -/
theorem algebraic_Mkv : Cert.algebraic_MkvIdeal_MkvRefIdeal := by
  pair_intro
  · run_from Cert.MkvIdeal.Gen.run_main m g
  · run_from Cert.MkvRefIdeal.Value.run_rows m' g'
    exact (Cert.MkvIdeal.Value.out m c).symm

end Cert.Proof
-- ==== Proof.ConvRef.lean ====
module

public import proofs.«01_k».proof.Proof.ProjSpec
public import proofs.«01_k».proof.Proof.Gen.ConvRefIdeal.Run
public import Idealize.ShloMosaic.Lib.Pointwise
public import Idealize.ShloMosaic.Lib.Pipeline.ValueKit

@[expose] public section

set_option maxRecDepth 16384

noncomputable section

namespace Cert.ConvSpec

open Idealize.ShloMosaic Idealize.ShloMosaic.TcCoe

variable (Z : FVec Ideal ⟨3, ![8, 8, 4096]⟩ .f32) (S : FVec Ideal ⟨4, ![1, 8, 2, 512]⟩ .f32) (W : FVec Ideal ⟨3, ![1, 3, 512]⟩ .f32)

/-- The sample's gated input of the convolution, its two state rows before it. -/
def up (b : Fin 8) (p : Fin 10) (l : Fin 512) : EReal :=
  if h : p.val < 2 then S (ix4 0 b ⟨p.val, h⟩ l) else Z (ix3 b ⟨p.val - 2, by omega⟩ ⟨1024 + l.val, by omega⟩) * Z (ix3 b ⟨p.val - 2, by omega⟩ ⟨l.val, by omega⟩)

/-- The gated convolution of three taps. -/
def gated (b : Fin 8) (s : Fin 8) (l : Fin 512) : EReal :=
  ProjSpec.silu (Z (ix3 b s ⟨1536 + l.val, by omega⟩)) * (Z (ix3 b s ⟨512 + l.val, by omega⟩) *
    (W (ix3 0 0 l) * up Z S b ⟨s.val, by omega⟩ l + W (ix3 0 1 l) * up Z S b ⟨1 + s.val, by omega⟩ l + W (ix3 0 2 l) * up Z S b ⟨2 + s.val, by omega⟩ l))

/-- The state after four tokens. -/
def state (b : Fin 8) (i : Fin 2) (l : Fin 512) : EReal := up Z S b ⟨4 + i.val, by omega⟩ l

end Cert.ConvSpec

namespace Cert.ConvRefIdeal.Value

open Cert.ConvRefIdeal Cert.ConvRefIdeal.Gen Idealize.ShloMosaic Idealize.ShloMosaic.TcCoe Idealize.SL.Sem

/-- The convolution's input rows. -/
def P (Z : FVec Ideal S8x8x4096 .f32) (S : FVec Ideal S1x8x2x512 .f32) : FVec Ideal S8x10x512 .f32 :=
  concatenate S8x10x512 1 [⟨S8x2x512, (shapeCast _ S shapeCasts_S1x8x2x512_S8x2x512)⟩, ⟨S8x8x512, (mulf
    (extractStridedSlice S8x8x512 ![0, 0, 1024] Z slices_S8x8x4096_S8x8x512_0_0_1024)
    (extractStridedSlice S8x8x512 ![0, 0, 0] Z slices_S8x8x4096_S8x8x512_0_0_0))⟩] concatenates_S8x2x512_S8x8x512_S8x10x512_d1

theorem P_apply (Z : FVec Ideal S8x8x4096 .f32) (S : FVec Ideal S1x8x2x512 .f32) (b : Fin 8) (p : Fin 10) (l : Fin 512) :
    P Z S (ix3 b p l) = ConvSpec.up Z S b p l := by
  pointwise [P, ConvSpec.up]

/-- A tap, spread over the rows. -/
theorem tap0 (W : FVec Ideal S1x3x512 .f32) (b s : Fin 8) (l : Fin 512) :
    broadcastInDim S8x8x512 ![0, 1, 2] bcast_S1x1x512_S8x8x512_0_1_2 (broadcastInDim S1x1x512 ![2] bcast_S512_S1x1x512_2 (shapeCast _
      (extractStridedSlice S1x1x512 ![0, 0, 0] W slices_S1x3x512_S1x1x512_0_0_0) shapeCasts_S1x1x512_S512)) (ix3 b s l) = W (ix3 0 0 l) := by
  pointwise

theorem tap1 (W : FVec Ideal S1x3x512 .f32) (b s : Fin 8) (l : Fin 512) :
    broadcastInDim S8x8x512 ![0, 1, 2] bcast_S1x1x512_S8x8x512_0_1_2 (broadcastInDim S1x1x512 ![2] bcast_S512_S1x1x512_2 (shapeCast _
      (extractStridedSlice S1x1x512 ![0, 1, 0] W slices_S1x3x512_S1x1x512_0_1_0) shapeCasts_S1x1x512_S512)) (ix3 b s l) = W (ix3 0 1 l) := by
  pointwise

theorem tap2 (W : FVec Ideal S1x3x512 .f32) (b s : Fin 8) (l : Fin 512) :
    broadcastInDim S8x8x512 ![0, 1, 2] bcast_S1x1x512_S8x8x512_0_1_2 (broadcastInDim S1x1x512 ![2] bcast_S512_S1x1x512_2 (shapeCast _
      (extractStridedSlice S1x1x512 ![0, 2, 0] W slices_S1x3x512_S1x1x512_0_2_0) shapeCasts_S1x1x512_S512)) (ix3 b s l) = W (ix3 0 2 l) := by
  pointwise

/-- The gate, times the second input, times the three taps' sum. -/
theorem out_apply (Z : FVec Ideal S8x8x4096 .f32) (T0 T1 T2 : FVec Ideal S8x8x512 .f32) (U : FVec Ideal S8x10x512 .f32) (b s : Fin 8) (l : Fin 512) :
    truncf (F := Ideal) .bf16 (mulf (mulf (extractStridedSlice S8x8x512 ![0, 0, 1536] Z slices_S8x8x4096_S8x8x512_0_0_1536)
      (Host.divf (broadcastInDim S8x8x512 ![] bcast_S_S8x8x512 (constant S_ .f32 0x3F800000#32)) (addf (broadcastInDim S8x8x512 ![] bcast_S_S8x8x512
        (constant S_ .f32 0x3F800000#32)) (Host.exp (Host.negf (extractStridedSlice S8x8x512 ![0, 0, 1536] Z slices_S8x8x4096_S8x8x512_0_0_1536))))))
      (mulf (extractStridedSlice S8x8x512 ![0, 0, 512] Z slices_S8x8x4096_S8x8x512_0_0_512)
        (addf (addf (mulf T0 (extractStridedSlice S8x8x512 ![0, 0, 0] U slices_S8x10x512_S8x8x512_0_0_0))
          (mulf T1 (extractStridedSlice S8x8x512 ![0, 1, 0] U slices_S8x10x512_S8x8x512_0_1_0)))
          (mulf T2 (extractStridedSlice S8x8x512 ![0, 2, 0] U slices_S8x10x512_S8x8x512_0_2_0))))) bitsLt_bf16_f32 (ix3 b s l)
      = ProjSpec.silu (Z (ix3 b s ⟨1536 + l.val, by omega⟩)) * (Z (ix3 b s ⟨512 + l.val, by omega⟩) *
        (T0 (ix3 b s l) * U (ix3 b ⟨s.val, by omega⟩ l) + T1 (ix3 b s l) * U (ix3 b ⟨1 + s.val, by omega⟩ l) + T2 (ix3 b s l) * U (ix3 b ⟨2 + s.val, by omega⟩ l))) := by
  pointwise [ProjSpec.silu]
  rfl

theorem state_apply (U : FVec Ideal S8x10x512 .f32) (b : Fin 8) (i : Fin 2) (l : Fin 512) :
    extractStridedSlice S8x2x512 ![0, 4, 0] U slices_S8x10x512_S8x2x512_0_4_0 (ix3 b i l) = U (ix3 b ⟨4 + i.val, by omega⟩ l) := by
  pointwise

variable (m : (ℓ : Loc nD τ sig) → Buf (Elt Ideal) ℓ)

/-- What the reference leaves in its two results; its arguments stay. -/
theorem run_rows (ρ : Dev nD → PrngReg) :
    θ_run defs (onTc (τ := τ) (main (F := Ideal))) ⟨m, fun _ => 0, ρ⟩ fun r => ∀ c : Dev nD,
      (r.2.mem ((c.tc : Thread nD τ).loc main_v36) = fun j : S8x8x512.Idx => ConvSpec.gated (m ((c.tc : Thread nD τ).loc main_arg0))
        (m ((c.tc : Thread nD τ).loc main_arg1)) (m ((c.tc : Thread nD τ).loc main_arg2)) (j 0) (j 1) (j 2))
      ∧ (r.2.mem ((c.tc : Thread nD τ).loc main_v37) = fun j : S8x2x512.Idx => ConvSpec.state (m ((c.tc : Thread nD τ).loc main_arg0))
        (m ((c.tc : Thread nD τ).loc main_arg1)) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (run m ρ).mono ?_
  intro r h c
  obtain ⟨h1, h2, h3⟩ := h c
  refine ⟨h1.trans (funext fun j => ?_), h2.trans (funext fun j => ?_), h3⟩
  · idx_vars j
    refine (out_apply (m ((c.tc : Thread nD τ).loc main_arg0)) _ _ _ (P (m ((c.tc : Thread nD τ).loc main_arg0)) (m ((c.tc : Thread nD τ).loc main_arg1))) _ _ _).trans ?_
    rw [tap0, tap1, tap2, P_apply, P_apply, P_apply]
    rfl
  · idx_vars j
    exact (state_apply (P (m ((c.tc : Thread nD τ).loc main_arg0)) (m ((c.tc : Thread nD τ).loc main_arg1))) _ _ _).trans (P_apply _ _ _ _ _)

end Cert.ConvRefIdeal.Value
-- ==== Proof.Conv.lean ====
module

public import proofs.«01_k».proof.Proof.ConvRef
public import proofs.«01_k».proof.Proof.Gen.ConvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

/-- Where each window's block stands. -/
theorem idx : ∀ t : Fin cfg0.N, win0_0.index t = ![0, 0, t.val] ∧ win0_1.index t = ![0, 0, 4 + t.val]
    ∧ win0_2.index t = ![0, 0, 8 + t.val] ∧ win0_3.index t = ![0, 0, 12 + t.val]
    ∧ win0_4.index t = ![0, 0, t.val] ∧ win0_5.index t = ![0, t.val] ∧ win0_6.index t = ![0, 0, t.val]
    ∧ win0_7.index t = ![0, 0, t.val] ∧ t.val < 4 := (by decide +kernel : ∀ t : Fin grid0.N, _)

theorem lt4 (t : Fin cfg0.N) : t.val < 4 := (idx t).2.2.2.2.2.2.2.2

/-- The state's rows. -/
theorem V0_apply (c : Dev nD) (b : Fin 8) (i : Fin 2) (l : Fin 512) :
    V m c main_v0 (ix3 b i l) = m ((c : Thread nD τ).loc main_arg1) (ix4 0 b i l) := by
  unfold V
  simp only [hostOps0]
  after_results_simp
  pointwise

/-- The taps. -/
theorem V1_apply (c : Dev nD) (i : Fin 3) (l : Fin 512) : V m c main_v1 (ix2 i l) = m ((c : Thread nD τ).loc main_arg2) (ix3 0 i l) := by
  unfold V
  simp only [hostOps0]
  after_results_simp
  pointwise

/-- The sample's projections. -/
abbrev Z (c : Dev nD) : FVec Ideal ⟨3, ![8, 8, 4096]⟩ .f32 := m ((c : Thread nD τ).loc main_arg0)
/-- The state before the sample. -/
abbrev S (c : Dev nD) : FVec Ideal ⟨4, ![1, 8, 2, 512]⟩ .f32 := m ((c : Thread nD τ).loc main_arg1)
/-- The convolution's weights. -/
abbrev W (c : Dev nD) : FVec Ideal ⟨3, ![1, 3, 512]⟩ .f32 := m ((c : Thread nD τ).loc main_arg2)

theorem Va_apply (c : Dev nD) (b s : Fin 8) (l : Fin 4096) : V m c main_arg0 (ix3 b s l) = Z m c (ix3 b s l) := by
  unfold V
  simp only [hostOps0]
  after_results_simp

/-- Where a block's column stands in the whole. -/
abbrev cl (t : Fin cfg0.N) (l : Fin 128) : Fin 512 := ⟨128 * t.val + l.val, by have := lt4 t; omega⟩

theorem blk0 (c : Dev nD) (t : Fin cfg0.N) (b s : Fin 8) (l : Fin 128) :
    iblk m c 0 t (ix3 b s l) = Z m c (ix3 b s ⟨(cl t l).val, by omega⟩) := by
  trans V m c main_arg0 (ix3 b s ⟨128 * t.val + l.val, by have := lt4 t; omega⟩)
  · blk_point [iblk, idx t]
  · exact Va_apply m c _ _ _

theorem blk1 (c : Dev nD) (t : Fin cfg0.N) (b s : Fin 8) (l : Fin 128) :
    iblk m c 1 t (ix3 b s l) = Z m c (ix3 b s ⟨512 + (cl t l).val, by omega⟩) := by
  trans V m c main_arg0 (ix3 b s ⟨512 + (128 * t.val + l.val), by have := lt4 t; omega⟩)
  · blk_point [iblk, idx t]
  · exact Va_apply m c _ _ _

theorem blk2 (c : Dev nD) (t : Fin cfg0.N) (b s : Fin 8) (l : Fin 128) :
    iblk m c 2 t (ix3 b s l) = Z m c (ix3 b s ⟨1024 + (cl t l).val, by omega⟩) := by
  trans V m c main_arg0 (ix3 b s ⟨1024 + (128 * t.val + l.val), by have := lt4 t; omega⟩)
  · blk_point [iblk, idx t]
  · exact Va_apply m c _ _ _

theorem blk3 (c : Dev nD) (t : Fin cfg0.N) (b s : Fin 8) (l : Fin 128) :
    iblk m c 3 t (ix3 b s l) = Z m c (ix3 b s ⟨1536 + (cl t l).val, by omega⟩) := by
  trans V m c main_arg0 (ix3 b s ⟨1536 + (128 * t.val + l.val), by have := lt4 t; omega⟩)
  · blk_point [iblk, idx t]
  · exact Va_apply m c _ _ _

theorem blk4 (c : Dev nD) (t : Fin cfg0.N) (b : Fin 8) (i : Fin 2) (l : Fin 128) :
    iblk m c 4 t (ix3 b i l) = S m c (ix4 0 b i (cl t l)) := by
  trans V m c main_v0 (ix3 b i (cl t l))
  · blk_point [iblk, idx t]
  · exact V0_apply m c _ _ _

theorem blk5 (c : Dev nD) (t : Fin cfg0.N) (i : Fin 3) (l : Fin 128) :
    iblk m c 5 t (ix2 i l) = W m c (ix3 0 i (cl t l)) := by
  trans V m c main_v1 (ix2 i (cl t l))
  · blk_point [iblk, idx t]
  · exact V1_apply m c _ _

theorem pay1_apply (v30 v31 : FVec Ideal S8x8x128 .f32) (b s : Fin 8) (l : Fin 128) :
    k0_pay1 (F := Ideal) v30 v31 (ix3 b s l) = ProjSpec.silu (v31 (ix3 b s l)) * v30 (ix3 b s l) := by
  pointwise [k0_pay1, ProjSpec.silu]

theorem pay3_apply (v3 : FVec Ideal S8x2x128 .f32) (b : Fin 8) (i : Fin 2) (l : Fin 128) :
    k0_pay3 (F := Ideal) v3 (ix3 b i l) = v3 (ix3 b i l) := by
  pointwise [k0_pay3]

theorem pay4_apply (v0 v1 : FVec Ideal S8x8x128 .f32) (b s : Fin 8) (l : Fin 128) :
    k0_pay4 (F := Ideal) v0 v1 (ix3 b s l) = v0 (ix3 b s l) * v1 (ix3 b s l) := by
  pointwise [k0_pay4, k0_pay2]

theorem pay5_apply (v0 v1 : FVec Ideal S8x8x128 .f32) (v11 : FVec Ideal S3x128 .f32) (v15 v20 v29 : FVec Ideal S8x8x128 .f32) (b s : Fin 8) (l : Fin 128) :
    k0_pay5 (F := Ideal) v0 v1 v11 v15 v20 v29 (ix3 b s l) = v29 (ix3 b s l) * (v11 (ix2 0 l) * v15 (ix3 b s l) + v11 (ix2 1 l) * v20 (ix3 b s l)
      + v11 (ix2 2 l) * (v0 (ix3 b s l) * v1 (ix3 b s l))) := by
  pointwise [k0_pay5, k0_pay2]

/-- What a grid point leaves in the scratch, from the state's rows on. -/
theorem u_canon (c : Dev nD) (t : Fin cfg0.N) (b : Fin 8) (p : Fin 10) (l : Fin 128) :
    View.canon (Val := Elt Ideal) (s := S8x16x128) (e := .f32)
      [⟨Rect.unit ![0, 8, 0] ![8, 8, 128] inb_S8x16x128_S8x8x128_0_8_0, k0_pay4 (F := Ideal) (iblk m c 2 t) (iblk m c 0 t)⟩,
        ⟨Rect.unit ![0, 6, 0] ![8, 2, 128] inb_S8x16x128_S8x2x128_0_6_0, k0_pay3 (F := Ideal) (iblk m c 4 t)⟩] (ix3 b ⟨6 + p.val, by omega⟩ l)
      = ConvSpec.up (Z m c) (S m c) b p (cl t l) := by
  unfold ConvSpec.up
  by_cases h : p.val < 2
  · have e : ix3 b ⟨6 + p.val, by omega⟩ l = (Rect.unit (s := S8x16x128) ![0, 6, 0] ![8, 2, 128] inb_S8x16x128_S8x2x128_0_6_0).emb (ix3 b ⟨p.val, h⟩ l) := by
      blk_point
    rw [dif_pos h, View.canon_cons_of_not_mem _ _ (Rect.not_mem_set_of_axis _ _ 1 8 8 rfl rfl rfl (Or.inl (by show 6 + p.val < 8; omega))), e,
      View.canon_cons_emb, pay3_apply, blk4]
  · have e : ix3 b ⟨6 + p.val, by omega⟩ l = (Rect.unit (s := S8x16x128) ![0, 8, 0] ![8, 8, 128] inb_S8x16x128_S8x8x128_0_8_0).emb (ix3 b ⟨p.val - 2, by omega⟩ l) := by
      blk_point
    rw [dif_neg h, e, View.canon_cons_emb, pay4_apply, blk0, blk2]

/-- From the third on, a row of the convolution's input is a token's. -/
theorem up_late (Z : FVec Ideal ⟨3, ![8, 8, 4096]⟩ .f32) (S : FVec Ideal ⟨4, ![1, 8, 2, 512]⟩ .f32) (b s : Fin 8) (l : Fin 512) :
    ConvSpec.up Z S b ⟨2 + s.val, by omega⟩ l = Z (ix3 b s ⟨1024 + l.val, by omega⟩) * Z (ix3 b s ⟨l.val, by omega⟩) := by
  unfold ConvSpec.up
  rw [dif_neg (by simp only; omega)]
  have e : (⟨2 + s.val - 2, by omega⟩ : Fin 8) = s := Fin.ext (by simp only; omega)
  rw [e]

theorem point6 (c : Dev nD) (t : Fin cfg0.N) (b s : Fin 8) (l : Fin 128) :
    (outsAt0 m c t).1 (ix3 b s l) = ConvSpec.gated (Z m c) (S m c) (W m c) b s (cl t l) := by
  unfold outsAt0
  frame_out
  rw [pay1_apply, pay5_apply, View.readCov_eq_canon', View.readCov_eq_canon']
  beta_reduce
  have e6 : (Rect.unit (s := S8x16x128) ![0, 6, 0] ![8, 8, 128] inb_S8x16x128_S8x8x128_0_6_0).toLoadRect.idx (ix3 b s l) = ix3 b ⟨6 + (⟨s.val, by omega⟩ : Fin 10).val, by omega⟩ l := by
    show (Rect.unit (s := S8x16x128) ![0, 6, 0] ![8, 8, 128] inb_S8x16x128_S8x8x128_0_6_0).emb (ix3 b s l) = _
    blk_point
  have e7 : (Rect.unit (s := S8x16x128) ![0, 7, 0] ![8, 8, 128] inb_S8x16x128_S8x8x128_0_7_0).toLoadRect.idx (ix3 b s l) = ix3 b ⟨6 + (⟨1 + s.val, by omega⟩ : Fin 10).val, by simp only; omega⟩ l := by
    show (Rect.unit (s := S8x16x128) ![0, 7, 0] ![8, 8, 128] inb_S8x16x128_S8x8x128_0_7_0).emb (ix3 b s l) = _
    blk_point
  rw [e6, e7, u_canon, u_canon, blk0, blk1, blk2, blk3, blk5, blk5, blk5]
  unfold ConvSpec.gated
  rw [up_late]

theorem point7 (c : Dev nD) (t : Fin cfg0.N) (b : Fin 8) (i : Fin 2) (l : Fin 128) :
    (outsAt0 m c t).2 (ix3 b i l) = ConvSpec.state (Z m c) (S m c) b i (cl t l) := by
  unfold outsAt0
  frame_out
  rw [View.readCov_eq_canon']
  beta_reduce
  have e : (Rect.unit (s := S8x16x128) ![0, 10, 0] ![8, 2, 128] inb_S8x16x128_S8x2x128_0_10_0).toLoadRect.idx (ix3 b i l) = ix3 b ⟨6 + (⟨4 + i.val, by omega⟩ : Fin 10).val, by simp only; omega⟩ l := by
    show (Rect.unit (s := S8x16x128) ![0, 10, 0] ![8, 2, 128] inb_S8x16x128_S8x2x128_0_10_0).emb (ix3 b i l) = _
    blk_point
  rw [e, u_canon]
  rfl

/-- The gated convolution, of the arguments. -/
def res6 (c : Dev nD) (b s : Fin 8) (l : Fin 512) : EReal := ConvSpec.gated (Z m c) (S m c) (W m c) b s l
/-- The state left, of the arguments. -/
def res7 (c : Dev nD) (b : Fin 8) (i : Fin 2) (l : Fin 512) : EReal := ConvSpec.state (Z m c) (S m c) b i l

theorem out6 (c : Dev nD) : (dats m 0 c).arrAt 6 (cfgs 0).N = fun j : S8x8x512.Idx => res6 m c (j 0) (j 1) (j 2) := by
  refine (dats m 0 c).arrAt_eq_of_covers 6 _ (by decide +kernel) fun t _ y => ?_
  rw [after0_6]
  obtain ⟨b, s, l, rfl⟩ : ∃ (b s : Fin 8) (l : Fin 128), y = ix3 b s l := ⟨y 0, y 1, y 2, eq_ix3 y⟩
  have e : ((cfg0.win 6).blk t).view.emb (ix3 b s l) = (ix3 b s (cl t l) : S8x8x512.Idx) := by
    blk_point [idx t]
  refine Eq.trans ?_ (congrArg (fun j : S8x8x512.Idx => res6 m c (j 0) (j 1) (j 2)) e.symm)
  have hp := point6 m c t b s l
  generalize outsAt0 m c t = o at hp ⊢
  exact hp

theorem out7 (c : Dev nD) : (dats m 0 c).arrAt 7 (cfgs 0).N = fun j : S8x2x512.Idx => res7 m c (j 0) (j 1) (j 2) := by
  refine (dats m 0 c).arrAt_eq_of_covers 7 _ (by decide +kernel) fun t _ y => ?_
  rw [after0_7]
  obtain ⟨b, i, l, rfl⟩ : ∃ (b : Fin 8) (i : Fin 2) (l : Fin 128), y = ix3 b i l := ⟨y 0, y 1, y 2, eq_ix3 y⟩
  have e : ((cfg0.win 7).blk t).view.emb (ix3 b i l) = (ix3 b i (cl t l) : S8x2x512.Idx) := by
    blk_point [idx t]
  refine Eq.trans ?_ (congrArg (fun j : S8x2x512.Idx => res7 m c (j 0) (j 1) (j 2)) e.symm)
  have hp := point7 m c t b i l
  generalize outsAt0 m c t = o at hp ⊢
  exact hp

end Cert.ConvIdeal.Value
-- ==== Proof.ConvClaim.lean ====
module

public import proofs.«01_k».proof.Defs
public import proofs.«01_k».proof.Proof.Conv
public import proofs.«01_k».proof.Proof.ConvRef

@[expose] public section

set_option maxRecDepth 16384

noncomputable section

namespace Cert.Proof

open Idealize.ShloMosaic Idealize.ShloMosaic.TcCoe Idealize.SL.Sem

/-- The sample's gated convolution and the state it leaves are its reference's. -/
theorem algebraic_Conv : Cert.algebraic_ConvIdeal_ConvRefIdeal := by
  pair_intro
  · run_from Cert.ConvIdeal.Gen.run_main m g
  · run_from Cert.ConvRefIdeal.Value.run_rows m' g'
    · exact (Cert.ConvIdeal.Value.out6 m c).symm
    · exact (Cert.ConvIdeal.Value.out7 m c).symm

end Cert.Proof
-- ==== Proof.lean ====
module

public import proofs.«01_k».proof.Proof.Gen.Nsa.Frame
public import proofs.«01_k».proof.Proof.Gen.NsaIdeal.Frame
public import proofs.«01_k».proof.Proof.Gen.NsaIdeal.Value
public import proofs.«01_k».proof.Proof.Gen.PreIdeal.Value
public import proofs.«01_k».proof.Proof.Gen.OutIdeal.Value
public import proofs.«01_k».proof.Proof.Gen.ProjIdeal.Value
public import proofs.«01_k».proof.Proof.Gen.PreRefIdeal.Run
public import proofs.«01_k».proof.Proof.Gen.ProjRefIdeal.Run
public import proofs.«01_k».proof.Proof.Gen.OutRefIdeal.Run
public import proofs.«01_k».proof.Defs
public import proofs.«01_k».proof.Proof.OutClaim
public import proofs.«01_k».proof.Proof.ProjClaim
public import proofs.«01_k».proof.Proof.PreClaim
public import proofs.«01_k».proof.Proof.KvClaim
public import proofs.«01_k».proof.Proof.MkvClaim
public import proofs.«01_k».proof.Proof.ConvClaim
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.MkvIdeal.Value
public import proofs.«01_k».proof.Proof.Gen.MkvRefIdeal.Run
public import proofs.«01_k».proof.Proof.Gen.Mkv
public import proofs.«01_k».proof.Proof.Gen.Mkv.Skeleton
public import proofs.«01_k».proof.Proof.Gen.Mkv.Launch
public import proofs.«01_k».proof.Proof.Gen.Mkv.Points
public import proofs.«01_k».proof.Proof.Gen.Mkv.Frame
public import proofs.«01_k».proof.Proof.Gen.MkvIdeal
public import proofs.«01_k».proof.Proof.Gen.MkvIdeal.Skeleton
public import proofs.«01_k».proof.Proof.Gen.MkvIdeal.Launch
public import proofs.«01_k».proof.Proof.Gen.MkvIdeal.Points
public import proofs.«01_k».proof.Proof.Gen.MkvIdeal.Frame
public import proofs.«01_k».proof.Proof.Gen.MkvRefIdeal
public import proofs.«01_k».proof.Proof.Gen.KvIdeal.Value
public import proofs.«01_k».proof.Proof.Gen.KvRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.ConvIdeal.Value
public import proofs.«01_k».proof.Proof.Gen.ConvRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import Idealize.ShloMosaic.Adequacy
public import Idealize.ShloMosaic.Init

@[expose] public section

noncomputable section

namespace Cert.Proof

open Idealize.ShloMosaic Idealize.SL.Sem Cert.Pre

theorem quiescent_Pre : Cert.quiescent_Pre := fun m ρ _ => Cert.Pre.Gen.frame m ρ

theorem quiescent_PreIdeal : Cert.quiescent_PreIdeal := fun m ρ _ => Cert.PreIdeal.Gen.frame m ρ

theorem quiescent_PreRefIdeal : Cert.quiescent_PreRefIdeal := fun m ρ _ =>
  (Cert.PreRefIdeal.Value.run (F := Ideal) m ρ).mono fun r h => ⟨fun c => (h c).2.2.2.2.2.2.2, sem_eq_zero_of_no_sems (by decide) r⟩

theorem quiescent_PreIdeal_pre [Cert.Pre_finite_sample.Facts] : Cert.quiescent_PreIdeal_pre_finite_sample := fun m ρ _ => Cert.PreIdeal.Gen.frame m ρ

theorem quiescent_PreRefIdeal_pre [Cert.Pre_finite_sample.Facts] : Cert.quiescent_PreRefIdeal_pre_finite_sample := fun m ρ _ =>
  (Cert.PreRefIdeal.Value.run (F := Ideal) m ρ).mono fun r h => ⟨fun c => (h c).2.2.2.2.2.2.2, sem_eq_zero_of_no_sems (by decide) r⟩

theorem quiescent_Proj : Cert.quiescent_Proj := fun m ρ _ => Cert.Proj.Gen.frame m ρ

theorem quiescent_ProjIdeal : Cert.quiescent_ProjIdeal := fun m ρ _ => Cert.ProjIdeal.Gen.frame m ρ

theorem quiescent_ProjRefIdeal : Cert.quiescent_ProjRefIdeal := fun m ρ _ =>
  (Cert.ProjRefIdeal.Value.run (F := Ideal) m ρ).mono fun r h => ⟨fun c => (h c).2.2.2.2.2.2.2.2, sem_eq_zero_of_no_sems (by decide) r⟩

theorem quiescent_Out : Cert.quiescent_Out := fun m ρ _ => Cert.Out.Gen.frame m ρ

theorem quiescent_OutIdeal : Cert.quiescent_OutIdeal := fun m ρ _ => Cert.OutIdeal.Gen.frame m ρ

theorem quiescent_OutRefIdeal : Cert.quiescent_OutRefIdeal := fun m ρ _ =>
  (Cert.OutRefIdeal.Value.run (F := Ideal) m ρ).mono fun r h => ⟨fun c => (h c).2.2, sem_eq_zero_of_no_sems (by decide) r⟩

/-- The side conditions of the preconditions' operations. -/
theorem facts_pre : Cert.Pre_finite_args.Facts :=
  ⟨by decide, by decide, by decide, by decide⟩

theorem facts_sample : Cert.Pre_finite_sample.Facts :=
  ⟨by decide, by decide, by decide⟩

theorem quiescent_Mkv : Cert.quiescent_Mkv := fun m ρ _ => Cert.Mkv.Gen.frame m ρ

theorem quiescent_MkvIdeal : Cert.quiescent_MkvIdeal := fun m ρ _ => Cert.MkvIdeal.Gen.frame m ρ

theorem quiescent_MkvRefIdeal : Cert.quiescent_MkvRefIdeal := fun m ρ _ =>
  (Cert.MkvRefIdeal.Value.run (F := Ideal) m ρ).mono fun r h => ⟨fun c => (h c).2, sem_eq_zero_of_no_sems (by decide) r⟩

theorem quiescent_Kv : Cert.quiescent_Kv := fun m ρ _ => Cert.Kv.Gen.frame m ρ

theorem quiescent_KvIdeal : Cert.quiescent_KvIdeal := fun m ρ _ => Cert.KvIdeal.Gen.frame m ρ

theorem quiescent_KvRefIdeal : Cert.quiescent_KvRefIdeal := fun m ρ _ =>
  (Cert.KvRefIdeal.Value.run (F := Ideal) m ρ).mono fun r h => ⟨fun c => (h c).2.2.2.2.2.2, sem_eq_zero_of_no_sems (by decide) r⟩

theorem quiescent_KvIdeal_pre [Cert.Pre_finite_args.Facts] : Cert.quiescent_KvIdeal_pre_finite_args := fun m ρ _ => Cert.KvIdeal.Gen.frame m ρ

theorem quiescent_KvRefIdeal_pre [Cert.Pre_finite_args.Facts] : Cert.quiescent_KvRefIdeal_pre_finite_args := fun m ρ _ =>
  (Cert.KvRefIdeal.Value.run (F := Ideal) m ρ).mono fun r h => ⟨fun c => (h c).2.2.2.2.2.2, sem_eq_zero_of_no_sems (by decide) r⟩

theorem quiescent_Conv : Cert.quiescent_Conv := fun m ρ _ => Cert.Conv.Gen.frame m ρ

theorem quiescent_ConvIdeal : Cert.quiescent_ConvIdeal := fun m ρ _ => Cert.ConvIdeal.Gen.frame m ρ

theorem quiescent_ConvRefIdeal : Cert.quiescent_ConvRefIdeal := fun m ρ _ =>
  (Cert.ConvRefIdeal.Value.run (F := Ideal) m ρ).mono fun r h => ⟨fun c => (h c).2.2, sem_eq_zero_of_no_sems (by decide) r⟩

theorem quiescent_Nsa : Cert.quiescent_Nsa := fun m ρ _ => Cert.Nsa.Gen.frame m ρ

theorem quiescent_NsaIdeal : Cert.quiescent_NsaIdeal := fun m ρ _ => Cert.NsaIdeal.Gen.frame m ρ

theorem claim : Cert.Claim :=
  ⟨Cert.Nsa.Gen.facts, Cert.NsaIdeal.Gen.facts, Cert.Pre.Gen.facts, Cert.PreIdeal.Gen.facts, Cert.PreRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Mkv.Gen.facts, Cert.MkvIdeal.Gen.facts, Cert.MkvRefIdeal.Gen.facts, Cert.Kv.Gen.facts, Cert.KvIdeal.Gen.facts, Cert.KvRefIdeal.Gen.facts, Cert.Conv.Gen.facts, Cert.ConvIdeal.Gen.facts, Cert.ConvRefIdeal.Gen.facts, facts_sample, facts_pre,
   quiescent_Nsa, quiescent_NsaIdeal, quiescent_Pre, quiescent_PreIdeal, @quiescent_PreIdeal_pre facts_sample, quiescent_PreRefIdeal, @quiescent_PreRefIdeal_pre facts_sample, quiescent_Proj, quiescent_ProjIdeal, quiescent_ProjRefIdeal, quiescent_Out, quiescent_OutIdeal, quiescent_OutRefIdeal, quiescent_Mkv, quiescent_MkvIdeal, quiescent_MkvRefIdeal, quiescent_Kv, quiescent_KvIdeal, @quiescent_KvIdeal_pre facts_pre, quiescent_KvRefIdeal, @quiescent_KvRefIdeal_pre facts_pre, quiescent_Conv, quiescent_ConvIdeal, quiescent_ConvRefIdeal,
   trivial, trivial, @algebraic_Pre facts_sample, trivial, algebraic_Proj, trivial, algebraic_Out, trivial, algebraic_Mkv, trivial, @algebraic_Kv facts_pre, trivial, algebraic_Conv⟩

end Cert.Proof

end
